-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Da (m : (ℓ : Loc Cert.Da.nD Cert.Da.τ Cert.Da.sig) → Buf (Elt Bits) ℓ) : Prop :=
  True

def Pre_DaIdeal (m : (ℓ : Loc Cert.DaIdeal.nD Cert.DaIdeal.τ Cert.DaIdeal.sig) → Buf (Elt Ideal) ℓ) : Prop :=
  True

def Pre_DaRefIdeal (m : (ℓ : Loc Cert.DaRefIdeal.nD Cert.DaRefIdeal.τ Cert.DaRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_O (m : (ℓ : Loc Cert.O.nD Cert.O.τ Cert.O.sig) → Buf (Elt Bits) ℓ) : Prop :=
  True

def Pre_OIdeal (m : (ℓ : Loc Cert.OIdeal.nD Cert.OIdeal.τ Cert.OIdeal.sig) → Buf (Elt Ideal) ℓ) : Prop :=
  True

def Pre_ORefIdeal (m : (ℓ : Loc Cert.ORefIdeal.nD Cert.ORefIdeal.τ Cert.ORefIdeal.sig) → Buf (Elt Ideal) ℓ) : Prop :=
  True

def Pre_Dmixed (m : (ℓ : Loc Cert.Dmixed.nD Cert.Dmixed.τ Cert.Dmixed.sig) → Buf (Elt Bits) ℓ) : Prop :=
  True

def Pre_DmixedIdeal (m : (ℓ : Loc Cert.DmixedIdeal.nD Cert.DmixedIdeal.τ Cert.DmixedIdeal.sig) → Buf (Elt Ideal) ℓ) : Prop :=
  True

def Pre_DmixedRefIdeal (m : (ℓ : Loc Cert.DmixedRefIdeal.nD Cert.DmixedRefIdeal.τ Cert.DmixedRefIdeal.sig) → Buf (Elt Ideal) ℓ) : Prop :=
  True

def Pre_DwO (m : (ℓ : Loc Cert.DwO.nD Cert.DwO.τ Cert.DwO.sig) → Buf (Elt Bits) ℓ) : Prop :=
  True

def Pre_DwOIdeal (m : (ℓ : Loc Cert.DwOIdeal.nD Cert.DwOIdeal.τ Cert.DwOIdeal.sig) → Buf (Elt Ideal) ℓ) : Prop :=
  True

def Pre_DwORefIdeal (m : (ℓ : Loc Cert.DwORefIdeal.nD Cert.DwORefIdeal.τ Cert.DwORefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_Uq (m : (ℓ : Loc Cert.Uq.nD Cert.Uq.τ Cert.Uq.sig) → Buf (Elt Bits) ℓ) : Prop :=
  True

def Pre_UqIdeal (m : (ℓ : Loc Cert.UqIdeal.nD Cert.UqIdeal.τ Cert.UqIdeal.sig) → Buf (Elt Ideal) ℓ) : Prop :=
  True

def Pre_UqRefIdeal (m : (ℓ : Loc Cert.UqRefIdeal.nD Cert.UqRefIdeal.τ Cert.UqRefIdeal.sig) → Buf (Elt Ideal) ℓ) : Prop :=
  True

def Pre_Dqln (m : (ℓ : Loc Cert.Dqln.nD Cert.Dqln.τ Cert.Dqln.sig) → Buf (Elt Bits) ℓ) : Prop :=
  True

def Pre_DqlnIdeal (m : (ℓ : Loc Cert.DqlnIdeal.nD Cert.DqlnIdeal.τ Cert.DqlnIdeal.sig) → Buf (Elt Ideal) ℓ) : Prop :=
  True

def Pre_DqlnRefIdeal (m : (ℓ : Loc Cert.DqlnRefIdeal.nD Cert.DqlnRefIdeal.τ Cert.DqlnRefIdeal.sig) → Buf (Elt Ideal) ℓ) : Prop :=
  True

def Pre_DwUq (m : (ℓ : Loc Cert.DwUq.nD Cert.DwUq.τ Cert.DwUq.sig) → Buf (Elt Bits) ℓ) : Prop :=
  True

def Pre_DwUqIdeal (m : (ℓ : Loc Cert.DwUqIdeal.nD Cert.DwUqIdeal.τ Cert.DwUqIdeal.sig) → Buf (Elt Ideal) ℓ) : Prop :=
  True

def Pre_DwUqRefIdeal (m : (ℓ : Loc Cert.DwUqRefIdeal.nD Cert.DwUqRefIdeal.τ Cert.DwUqRefIdeal.sig) → Buf (Elt Ideal) ℓ) : Prop :=
  True

def Pre_Ukv (m : (ℓ : Loc Cert.Ukv.nD Cert.Ukv.τ Cert.Ukv.sig) → Buf (Elt Bits) ℓ) : Prop :=
  True

def Pre_UkvIdeal (m : (ℓ : Loc Cert.UkvIdeal.nD Cert.UkvIdeal.τ Cert.UkvIdeal.sig) → Buf (Elt Ideal) ℓ) : Prop :=
  True

def Pre_UkvRefIdeal (m : (ℓ : Loc Cert.UkvRefIdeal.nD Cert.UkvRefIdeal.τ Cert.UkvRefIdeal.sig) → Buf (Elt Ideal) ℓ) : Prop :=
  True

def Pre_Dkvln (m : (ℓ : Loc Cert.Dkvln.nD Cert.Dkvln.τ Cert.Dkvln.sig) → Buf (Elt Bits) ℓ) : Prop :=
  True

def Pre_DkvlnIdeal (m : (ℓ : Loc Cert.DkvlnIdeal.nD Cert.DkvlnIdeal.τ Cert.DkvlnIdeal.sig) → Buf (Elt Ideal) ℓ) : Prop :=
  True

def Pre_DkvlnRefIdeal (m : (ℓ : Loc Cert.DkvlnRefIdeal.nD Cert.DkvlnRefIdeal.τ Cert.DkvlnRefIdeal.sig) → Buf (Elt Ideal) ℓ) : Prop :=
  True

def Pre_DwUkv (m : (ℓ : Loc Cert.DwUkv.nD Cert.DwUkv.τ Cert.DwUkv.sig) → Buf (Elt Bits) ℓ) : Prop :=
  True

def Pre_DwUkvIdeal (m : (ℓ : Loc Cert.DwUkvIdeal.nD Cert.DwUkvIdeal.τ Cert.DwUkvIdeal.sig) → Buf (Elt Ideal) ℓ) : Prop :=
  True

def Pre_DwUkvRefIdeal (m : (ℓ : Loc Cert.DwUkvRefIdeal.nD Cert.DwUkvRefIdeal.τ Cert.DwUkvRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2RefIdeal (m : (ℓ : Loc Cert.Dh2RefIdeal.nD Cert.Dh2RefIdeal.τ Cert.Dh2RefIdeal.sig) → Buf (Elt Ideal) ℓ) : Prop :=
  True

def Pre_Dh3 (m : (ℓ : Loc Cert.Dh3.nD Cert.Dh3.τ Cert.Dh3.sig) → Buf (Elt Bits) ℓ) : Prop :=
  True

def Pre_Dh3Ideal (m : (ℓ : Loc Cert.Dh3Ideal.nD Cert.Dh3Ideal.τ Cert.Dh3Ideal.sig) → Buf (Elt Ideal) ℓ) : Prop :=
  True

def Pre_Dh3RefIdeal (m : (ℓ : Loc Cert.Dh3RefIdeal.nD Cert.Dh3RefIdeal.τ Cert.Dh3RefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_DwPle (m : (ℓ : Loc Cert.DwPle.nD Cert.DwPle.τ Cert.DwPle.sig) → Buf (Elt Bits) ℓ) : Prop :=
  True

def Pre_DwPleIdeal (m : (ℓ : Loc Cert.DwPleIdeal.nD Cert.DwPleIdeal.τ Cert.DwPleIdeal.sig) → Buf (Elt Ideal) ℓ) : Prop :=
  True

def Pre_DwPleRefIdeal (m : (ℓ : Loc Cert.DwPleRefIdeal.nD Cert.DwPleRefIdeal.τ Cert.DwPleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Da [hDa : Cert.Da.Facts] : Prop :=
  ∀ (m : (ℓ : Loc Cert.Da.nD Cert.Da.τ Cert.Da.sig) → Buf (Elt Bits) ℓ) (g : Dev Cert.Da.nD → PrngReg), Pre_Da m →
    θ_run (Cert.Da.defs (F := Bits)) (onTc (τ := Cert.Da.τ) (Cert.Da.main (F := Bits))) ⟨m, fun _ => 0, g⟩ (fun r => (∀ c : Dev Cert.Da.nD,
      r.2.mem ((c.tc : Thread Cert.Da.nD Cert.Da.τ).loc Cert.Da.main_arg0) = m ((c.tc : Thread Cert.Da.nD Cert.Da.τ).loc Cert.Da.main_arg0)
      ∧ r.2.mem ((c.tc : Thread Cert.Da.nD Cert.Da.τ).loc Cert.Da.main_arg1) = m ((c.tc : Thread Cert.Da.nD Cert.Da.τ).loc Cert.Da.main_arg1)
      ∧ r.2.mem ((c.tc : Thread Cert.Da.nD Cert.Da.τ).loc Cert.Da.main_arg2) = m ((c.tc : Thread Cert.Da.nD Cert.Da.τ).loc Cert.Da.main_arg2))
      ∧ r.2.sem = fun _ => 0)

def quiescent_DaIdeal [hDaIdeal : Cert.DaIdeal.Facts] : Prop :=
  ∀ (m : (ℓ : Loc Cert.DaIdeal.nD Cert.DaIdeal.τ Cert.DaIdeal.sig) → Buf (Elt Ideal) ℓ) (g : Dev Cert.DaIdeal.nD → PrngReg), Pre_DaIdeal m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2))
      ∧ r.2.sem = fun _ => 0)

def quiescent_DaRefIdeal [hDaRefIdeal : Cert.DaRefIdeal.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1)
      ∧ r.2.mem ((c.tc : Thread Cert.DaRefIdeal.nD Cert.DaRefIdeal.τ).loc Cert.DaRefIdeal.main_arg2) = m ((c.tc : Thread Cert.DaRefIdeal.nD Cert.DaRefIdeal.τ).loc Cert.DaRefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1)
      ∧ r.2.mem ((c.tc : Thread Cert.DwDown.nD Cert.DwDown.τ).loc Cert.DwDown.main_arg2) = m ((c.tc : Thread Cert.DwDown.nD Cert.DwDown.τ).loc Cert.DwDown.main_arg2))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
      ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1)
      ∧ r.2.mem ((c.tc : Thread Cert.DwDownRefIdeal.nD Cert.DwDownRefIdeal.τ).loc Cert.DwDownRefIdeal.main_arg2) = m ((c.tc : Thread Cert.DwDownRefIdeal.nD Cert.DwDownRefIdeal.τ).loc Cert.DwDownRefIdeal.main_arg2))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_O [hO : Cert.O.Facts] : Prop :=
  ∀ (m : (ℓ : Loc Cert.O.nD Cert.O.τ Cert.O.sig) → Buf (Elt Bits) ℓ) (g : Dev Cert.O.nD → PrngReg), Pre_O m →
    θ_run (Cert.O.defs (F := Bits)) (onTc (τ := Cert.O.τ) (Cert.O.main (F := Bits))) ⟨m, fun _ => 0, g⟩ (fun r => (∀ c : Dev Cert.O.nD,
      r.2.mem ((c.tc : Thread Cert.O.nD Cert.O.τ).loc Cert.O.main_arg0) = m ((c.tc : Thread Cert.O.nD Cert.O.τ).loc Cert.O.main_arg0)
      ∧ r.2.mem ((c.tc : Thread Cert.O.nD Cert.O.τ).loc Cert.O.main_arg1) = m ((c.tc : Thread Cert.O.nD Cert.O.τ).loc Cert.O.main_arg1)
      ∧ r.2.mem ((c.tc : Thread Cert.O.nD Cert.O.τ).loc Cert.O.main_arg2) = m ((c.tc : Thread Cert.O.nD Cert.O.τ).loc Cert.O.main_arg2)
      ∧ r.2.mem ((c.tc : Thread Cert.O.nD Cert.O.τ).loc Cert.O.main_arg3) = m ((c.tc : Thread Cert.O.nD Cert.O.τ).loc Cert.O.main_arg3))
      ∧ r.2.sem = fun _ => 0)

def quiescent_OIdeal [hOIdeal : Cert.OIdeal.Facts] : Prop :=
  ∀ (m : (ℓ : Loc Cert.OIdeal.nD Cert.OIdeal.τ Cert.OIdeal.sig) → Buf (Elt Ideal) ℓ) (g : Dev Cert.OIdeal.nD → PrngReg), Pre_OIdeal m →
    θ_run (Cert.OIdeal.defs (F := Ideal)) (onTc (τ := Cert.OIdeal.τ) (Cert.OIdeal.main (F := Ideal))) ⟨m, fun _ => 0, g⟩ (fun r => (∀ c : Dev Cert.OIdeal.nD,
      r.2.mem ((c.tc : Thread Cert.OIdeal.nD Cert.OIdeal.τ).loc Cert.OIdeal.main_arg0) = m ((c.tc : Thread Cert.OIdeal.nD Cert.OIdeal.τ).loc Cert.OIdeal.main_arg0)
      ∧ r.2.mem ((c.tc : Thread Cert.OIdeal.nD Cert.OIdeal.τ).loc Cert.OIdeal.main_arg1) = m ((c.tc : Thread Cert.OIdeal.nD Cert.OIdeal.τ).loc Cert.OIdeal.main_arg1)
      ∧ r.2.mem ((c.tc : Thread Cert.OIdeal.nD Cert.OIdeal.τ).loc Cert.OIdeal.main_arg2) = m ((c.tc : Thread Cert.OIdeal.nD Cert.OIdeal.τ).loc Cert.OIdeal.main_arg2)
      ∧ r.2.mem ((c.tc : Thread Cert.OIdeal.nD Cert.OIdeal.τ).loc Cert.OIdeal.main_arg3) = m ((c.tc : Thread Cert.OIdeal.nD Cert.OIdeal.τ).loc Cert.OIdeal.main_arg3))
      ∧ r.2.sem = fun _ => 0)

def quiescent_ORefIdeal [hORefIdeal : Cert.ORefIdeal.Facts] : Prop :=
  ∀ (m : (ℓ : Loc Cert.ORefIdeal.nD Cert.ORefIdeal.τ Cert.ORefIdeal.sig) → Buf (Elt Ideal) ℓ) (g : Dev Cert.ORefIdeal.nD → PrngReg), Pre_ORefIdeal m →
    θ_run (Cert.ORefIdeal.defs (F := Ideal)) (onTc (τ := Cert.ORefIdeal.τ) (Cert.ORefIdeal.main (F := Ideal))) ⟨m, fun _ => 0, g⟩ (fun r => (∀ c : Dev Cert.ORefIdeal.nD,
      r.2.mem ((c.tc : Thread Cert.ORefIdeal.nD Cert.ORefIdeal.τ).loc Cert.ORefIdeal.main_arg0) = m ((c.tc : Thread Cert.ORefIdeal.nD Cert.ORefIdeal.τ).loc Cert.ORefIdeal.main_arg0)
      ∧ r.2.mem ((c.tc : Thread Cert.ORefIdeal.nD Cert.ORefIdeal.τ).loc Cert.ORefIdeal.main_arg1) = m ((c.tc : Thread Cert.ORefIdeal.nD Cert.ORefIdeal.τ).loc Cert.ORefIdeal.main_arg1)
      ∧ r.2.mem ((c.tc : Thread Cert.ORefIdeal.nD Cert.ORefIdeal.τ).loc Cert.ORefIdeal.main_arg2) = m ((c.tc : Thread Cert.ORefIdeal.nD Cert.ORefIdeal.τ).loc Cert.ORefIdeal.main_arg2)
      ∧ r.2.mem ((c.tc : Thread Cert.ORefIdeal.nD Cert.ORefIdeal.τ).loc Cert.ORefIdeal.main_arg3) = m ((c.tc : Thread Cert.ORefIdeal.nD Cert.ORefIdeal.τ).loc Cert.ORefIdeal.main_arg3))
      ∧ r.2.sem = fun _ => 0)

def quiescent_Dmixed [hDmixed : Cert.Dmixed.Facts] : Prop :=
  ∀ (m : (ℓ : Loc Cert.Dmixed.nD Cert.Dmixed.τ Cert.Dmixed.sig) → Buf (Elt Bits) ℓ) (g : Dev Cert.Dmixed.nD → PrngReg), Pre_Dmixed m →
    θ_run (Cert.Dmixed.defs (F := Bits)) (onTc (τ := Cert.Dmixed.τ) (Cert.Dmixed.main (F := Bits))) ⟨m, fun _ => 0, g⟩ (fun r => (∀ c : Dev Cert.Dmixed.nD,
      r.2.mem ((c.tc : Thread Cert.Dmixed.nD Cert.Dmixed.τ).loc Cert.Dmixed.main_arg0) = m ((c.tc : Thread Cert.Dmixed.nD Cert.Dmixed.τ).loc Cert.Dmixed.main_arg0)
      ∧ r.2.mem ((c.tc : Thread Cert.Dmixed.nD Cert.Dmixed.τ).loc Cert.Dmixed.main_arg1) = m ((c.tc : Thread Cert.Dmixed.nD Cert.Dmixed.τ).loc Cert.Dmixed.main_arg1)
      ∧ r.2.mem ((c.tc : Thread Cert.Dmixed.nD Cert.Dmixed.τ).loc Cert.Dmixed.main_arg2) = m ((c.tc : Thread Cert.Dmixed.nD Cert.Dmixed.τ).loc Cert.Dmixed.main_arg2))
      ∧ r.2.sem = fun _ => 0)

def quiescent_DmixedIdeal [hDmixedIdeal : Cert.DmixedIdeal.Facts] : Prop :=
  ∀ (m : (ℓ : Loc Cert.DmixedIdeal.nD Cert.DmixedIdeal.τ Cert.DmixedIdeal.sig) → Buf (Elt Ideal) ℓ) (g : Dev Cert.DmixedIdeal.nD → PrngReg), Pre_DmixedIdeal m →
    θ_run (Cert.DmixedIdeal.defs (F := Ideal)) (onTc (τ := Cert.DmixedIdeal.τ) (Cert.DmixedIdeal.main (F := Ideal))) ⟨m, fun _ => 0, g⟩ (fun r => (∀ c : Dev Cert.DmixedIdeal.nD,
      r.2.mem ((c.tc : Thread Cert.DmixedIdeal.nD Cert.DmixedIdeal.τ).loc Cert.DmixedIdeal.main_arg0) = m ((c.tc : Thread Cert.DmixedIdeal.nD Cert.DmixedIdeal.τ).loc Cert.DmixedIdeal.main_arg0)
      ∧ r.2.mem ((c.tc : Thread Cert.DmixedIdeal.nD Cert.DmixedIdeal.τ).loc Cert.DmixedIdeal.main_arg1) = m ((c.tc : Thread Cert.DmixedIdeal.nD Cert.DmixedIdeal.τ).loc Cert.DmixedIdeal.main_arg1)
      ∧ r.2.mem ((c.tc : Thread Cert.DmixedIdeal.nD Cert.DmixedIdeal.τ).loc Cert.DmixedIdeal.main_arg2) = m ((c.tc : Thread Cert.DmixedIdeal.nD Cert.DmixedIdeal.τ).loc Cert.DmixedIdeal.main_arg2))
      ∧ r.2.sem = fun _ => 0)

def quiescent_DmixedRefIdeal [hDmixedRefIdeal : Cert.DmixedRefIdeal.Facts] : Prop :=
  ∀ (m : (ℓ : Loc Cert.DmixedRefIdeal.nD Cert.DmixedRefIdeal.τ Cert.DmixedRefIdeal.sig) → Buf (Elt Ideal) ℓ) (g : Dev Cert.DmixedRefIdeal.nD → PrngReg), Pre_DmixedRefIdeal m →
    θ_run (Cert.DmixedRefIdeal.defs (F := Ideal)) (onTc (τ := Cert.DmixedRefIdeal.τ) (Cert.DmixedRefIdeal.main (F := Ideal))) ⟨m, fun _ => 0, g⟩ (fun r => (∀ c : Dev Cert.DmixedRefIdeal.nD,
      r.2.mem ((c.tc : Thread Cert.DmixedRefIdeal.nD Cert.DmixedRefIdeal.τ).loc Cert.DmixedRefIdeal.main_arg0) = m ((c.tc : Thread Cert.DmixedRefIdeal.nD Cert.DmixedRefIdeal.τ).loc Cert.DmixedRefIdeal.main_arg0)
      ∧ r.2.mem ((c.tc : Thread Cert.DmixedRefIdeal.nD Cert.DmixedRefIdeal.τ).loc Cert.DmixedRefIdeal.main_arg1) = m ((c.tc : Thread Cert.DmixedRefIdeal.nD Cert.DmixedRefIdeal.τ).loc Cert.DmixedRefIdeal.main_arg1)
      ∧ r.2.mem ((c.tc : Thread Cert.DmixedRefIdeal.nD Cert.DmixedRefIdeal.τ).loc Cert.DmixedRefIdeal.main_arg2) = m ((c.tc : Thread Cert.DmixedRefIdeal.nD Cert.DmixedRefIdeal.τ).loc Cert.DmixedRefIdeal.main_arg2))
      ∧ r.2.sem = fun _ => 0)

def quiescent_DwO [hDwO : Cert.DwO.Facts] : Prop :=
  ∀ (m : (ℓ : Loc Cert.DwO.nD Cert.DwO.τ Cert.DwO.sig) → Buf (Elt Bits) ℓ) (g : Dev Cert.DwO.nD → PrngReg), Pre_DwO m →
    θ_run (Cert.DwO.defs (F := Bits)) (onTc (τ := Cert.DwO.τ) (Cert.DwO.main (F := Bits))) ⟨m, fun _ => 0, g⟩ (fun r => (∀ c : Dev Cert.DwO.nD,
      r.2.mem ((c.tc : Thread Cert.DwO.nD Cert.DwO.τ).loc Cert.DwO.main_arg0) = m ((c.tc : Thread Cert.DwO.nD Cert.DwO.τ).loc Cert.DwO.main_arg0)
      ∧ r.2.mem ((c.tc : Thread Cert.DwO.nD Cert.DwO.τ).loc Cert.DwO.main_arg1) = m ((c.tc : Thread Cert.DwO.nD Cert.DwO.τ).loc Cert.DwO.main_arg1)
      ∧ r.2.mem ((c.tc : Thread Cert.DwO.nD Cert.DwO.τ).loc Cert.DwO.main_arg2) = m ((c.tc : Thread Cert.DwO.nD Cert.DwO.τ).loc Cert.DwO.main_arg2))
      ∧ r.2.sem = fun _ => 0)

def quiescent_DwOIdeal [hDwOIdeal : Cert.DwOIdeal.Facts] : Prop :=
  ∀ (m : (ℓ : Loc Cert.DwOIdeal.nD Cert.DwOIdeal.τ Cert.DwOIdeal.sig) → Buf (Elt Ideal) ℓ) (g : Dev Cert.DwOIdeal.nD → PrngReg), Pre_DwOIdeal m →
    θ_run (Cert.DwOIdeal.defs (F := Ideal)) (onTc (τ := Cert.DwOIdeal.τ) (Cert.DwOIdeal.main (F := Ideal))) ⟨m, fun _ => 0, g⟩ (fun r => (∀ c : Dev Cert.DwOIdeal.nD,
      r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
      ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1)
      ∧ r.2.mem ((c.tc : Thread Cert.DwOIdeal.nD Cert.DwOIdeal.τ).loc Cert.DwOIdeal.main_arg2) = m ((c.tc : Thread Cert.DwOIdeal.nD Cert.DwOIdeal.τ).loc Cert.DwOIdeal.main_arg2))
      ∧ r.2.sem = fun _ => 0)

def quiescent_DwORefIdeal [hDwORefIdeal : Cert.DwORefIdeal.Facts] : Prop :=
  ∀ (m : (ℓ : Loc Cert.DwORefIdeal.nD Cert.DwORefIdeal.τ Cert.DwORefIdeal.sig) → Buf (Elt Ideal) ℓ) (g : Dev Cert.DwORefIdeal.nD → PrngReg), Pre_DwORefIdeal m →
    θ_run (Cert.DwORefIdeal.defs (F := Ideal)) (onTc (τ := Cert.DwORefIdeal.τ) (Cert.DwORefIdeal.main (F := Ideal))) ⟨m, fun _ => 0, g⟩ (fun r => (∀ c : Dev Cert.DwORefIdeal.nD,
      r.2.mem ((c.tc : Thread Cert.DwORefIdeal.nD Cert.DwORefIdeal.τ).loc Cert.DwORefIdeal.main_arg0) = m ((c.tc : Thread Cert.DwORefIdeal.nD Cert.DwORefIdeal.τ).loc Cert.DwORefIdeal.main_arg0)
      ∧ r.2.mem ((c.tc : Thread Cert.DwORefIdeal.nD Cert.DwORefIdeal.τ).loc Cert.DwORefIdeal.main_arg1) = m ((c.tc : Thread Cert.DwORefIdeal.nD Cert.DwORefIdeal.τ).loc Cert.DwORefIdeal.main_arg1)
      ∧ r.2.mem ((c.tc : Thread Cert.DwORefIdeal.nD Cert.DwORefIdeal.τ).loc Cert.DwORefIdeal.main_arg2) = m ((c.tc : Thread Cert.DwORefIdeal.nD Cert.DwORefIdeal.τ).loc Cert.DwORefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2))
      ∧ r.2.sem = fun _ => 0)

def quiescent_Uq [hUq : Cert.Uq.Facts] : Prop :=
  ∀ (m : (ℓ : Loc Cert.Uq.nD Cert.Uq.τ Cert.Uq.sig) → Buf (Elt Bits) ℓ) (g : Dev Cert.Uq.nD → PrngReg), Pre_Uq m →
    θ_run (Cert.Uq.defs (F := Bits)) (onTc (τ := Cert.Uq.τ) (Cert.Uq.main (F := Bits))) ⟨m, fun _ => 0, g⟩ (fun r => (∀ c : Dev Cert.Uq.nD,
      r.2.mem ((c.tc : Thread Cert.Uq.nD Cert.Uq.τ).loc Cert.Uq.main_arg0) = m ((c.tc : Thread Cert.Uq.nD Cert.Uq.τ).loc Cert.Uq.main_arg0)
      ∧ r.2.mem ((c.tc : Thread Cert.Uq.nD Cert.Uq.τ).loc Cert.Uq.main_arg1) = m ((c.tc : Thread Cert.Uq.nD Cert.Uq.τ).loc Cert.Uq.main_arg1))
      ∧ r.2.sem = fun _ => 0)

def quiescent_UqIdeal [hUqIdeal : Cert.UqIdeal.Facts] : Prop :=
  ∀ (m : (ℓ : Loc Cert.UqIdeal.nD Cert.UqIdeal.τ Cert.UqIdeal.sig) → Buf (Elt Ideal) ℓ) (g : Dev Cert.UqIdeal.nD → PrngReg), Pre_UqIdeal m →
    θ_run (Cert.UqIdeal.defs (F := Ideal)) (onTc (τ := Cert.UqIdeal.τ) (Cert.UqIdeal.main (F := Ideal))) ⟨m, fun _ => 0, g⟩ (fun r => (∀ c : Dev Cert.UqIdeal.nD,
      r.2.mem ((c.tc : Thread Cert.UqIdeal.nD Cert.UqIdeal.τ).loc Cert.UqIdeal.main_arg0) = m ((c.tc : Thread Cert.UqIdeal.nD Cert.UqIdeal.τ).loc Cert.UqIdeal.main_arg0)
      ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ r.2.sem = fun _ => 0)

def quiescent_UqRefIdeal [hUqRefIdeal : Cert.UqRefIdeal.Facts] : Prop :=
  ∀ (m : (ℓ : Loc Cert.UqRefIdeal.nD Cert.UqRefIdeal.τ Cert.UqRefIdeal.sig) → Buf (Elt Ideal) ℓ) (g : Dev Cert.UqRefIdeal.nD → PrngReg), Pre_UqRefIdeal m →
    θ_run (Cert.UqRefIdeal.defs (F := Ideal)) (onTc (τ := Cert.UqRefIdeal.τ) (Cert.UqRefIdeal.main (F := Ideal))) ⟨m, fun _ => 0, g⟩ (fun r => (∀ c : Dev Cert.UqRefIdeal.nD,
      r.2.mem ((c.tc : Thread Cert.UqRefIdeal.nD Cert.UqRefIdeal.τ).loc Cert.UqRefIdeal.main_arg0) = m ((c.tc : Thread Cert.UqRefIdeal.nD Cert.UqRefIdeal.τ).loc Cert.UqRefIdeal.main_arg0)
      ∧ r.2.mem ((c.tc : Thread Cert.UqRefIdeal.nD Cert.UqRefIdeal.τ).loc Cert.UqRefIdeal.main_arg1) = m ((c.tc : Thread Cert.UqRefIdeal.nD Cert.UqRefIdeal.τ).loc Cert.UqRefIdeal.main_arg1))
      ∧ r.2.sem = fun _ => 0)

def quiescent_Dqln [hDqln : Cert.Dqln.Facts] : Prop :=
  ∀ (m : (ℓ : Loc Cert.Dqln.nD Cert.Dqln.τ Cert.Dqln.sig) → Buf (Elt Bits) ℓ) (g : Dev Cert.Dqln.nD → PrngReg), Pre_Dqln m →
    θ_run (Cert.Dqln.defs (F := Bits)) (onTc (τ := Cert.Dqln.τ) (Cert.Dqln.main (F := Bits))) ⟨m, fun _ => 0, g⟩ (fun r => (∀ c : Dev Cert.Dqln.nD,
      r.2.mem ((c.tc : Thread Cert.Dqln.nD Cert.Dqln.τ).loc Cert.Dqln.main_arg0) = m ((c.tc : Thread Cert.Dqln.nD Cert.Dqln.τ).loc Cert.Dqln.main_arg0)
      ∧ r.2.mem ((c.tc : Thread Cert.Dqln.nD Cert.Dqln.τ).loc Cert.Dqln.main_arg1) = m ((c.tc : Thread Cert.Dqln.nD Cert.Dqln.τ).loc Cert.Dqln.main_arg1)
      ∧ r.2.mem ((c.tc : Thread Cert.Dqln.nD Cert.Dqln.τ).loc Cert.Dqln.main_arg2) = m ((c.tc : Thread Cert.Dqln.nD Cert.Dqln.τ).loc Cert.Dqln.main_arg2))
      ∧ r.2.sem = fun _ => 0)

def quiescent_DqlnIdeal [hDqlnIdeal : Cert.DqlnIdeal.Facts] : Prop :=
  ∀ (m : (ℓ : Loc Cert.DqlnIdeal.nD Cert.DqlnIdeal.τ Cert.DqlnIdeal.sig) → Buf (Elt Ideal) ℓ) (g : Dev Cert.DqlnIdeal.nD → PrngReg), Pre_DqlnIdeal m →
    θ_run (Cert.DqlnIdeal.defs (F := Ideal)) (onTc (τ := Cert.DqlnIdeal.τ) (Cert.DqlnIdeal.main (F := Ideal))) ⟨m, fun _ => 0, g⟩ (fun r => (∀ c : Dev Cert.DqlnIdeal.nD,
      r.2.mem ((c.tc : Thread Cert.DqlnIdeal.nD Cert.DqlnIdeal.τ).loc Cert.DqlnIdeal.main_arg0) = m ((c.tc : Thread Cert.DqlnIdeal.nD Cert.DqlnIdeal.τ).loc Cert.DqlnIdeal.main_arg0)
      ∧ r.2.mem ((c.tc : Thread Cert.DqlnIdeal.nD Cert.DqlnIdeal.τ).loc Cert.DqlnIdeal.main_arg1) = m ((c.tc : Thread Cert.DqlnIdeal.nD Cert.DqlnIdeal.τ).loc Cert.DqlnIdeal.main_arg1)
      ∧ r.2.mem ((c.tc : Thread Cert.DqlnIdeal.nD Cert.DqlnIdeal.τ).loc Cert.DqlnIdeal.main_arg2) = m ((c.tc : Thread Cert.DqlnIdeal.nD Cert.DqlnIdeal.τ).loc Cert.DqlnIdeal.main_arg2))
      ∧ r.2.sem = fun _ => 0)

def quiescent_DqlnRefIdeal [hDqlnRefIdeal : Cert.DqlnRefIdeal.Facts] : Prop :=
  ∀ (m : (ℓ : Loc Cert.DqlnRefIdeal.nD Cert.DqlnRefIdeal.τ Cert.DqlnRefIdeal.sig) → Buf (Elt Ideal) ℓ) (g : Dev Cert.DqlnRefIdeal.nD → PrngReg), Pre_DqlnRefIdeal m →
    θ_run (Cert.DqlnRefIdeal.defs (F := Ideal)) (onTc (τ := Cert.DqlnRefIdeal.τ) (Cert.DqlnRefIdeal.main (F := Ideal))) ⟨m, fun _ => 0, g⟩ (fun r => (∀ c : Dev Cert.DqlnRefIdeal.nD,
      r.2.mem ((c.tc : Thread Cert.DqlnRefIdeal.nD Cert.DqlnRefIdeal.τ).loc Cert.DqlnRefIdeal.main_arg0) = m ((c.tc : Thread Cert.DqlnRefIdeal.nD Cert.DqlnRefIdeal.τ).loc Cert.DqlnRefIdeal.main_arg0)
      ∧ r.2.mem ((c.tc : Thread Cert.DqlnRefIdeal.nD Cert.DqlnRefIdeal.τ).loc Cert.DqlnRefIdeal.main_arg1) = m ((c.tc : Thread Cert.DqlnRefIdeal.nD Cert.DqlnRefIdeal.τ).loc Cert.DqlnRefIdeal.main_arg1)
      ∧ r.2.mem ((c.tc : Thread Cert.DqlnRefIdeal.nD Cert.DqlnRefIdeal.τ).loc Cert.DqlnRefIdeal.main_arg2) = m ((c.tc : Thread Cert.DqlnRefIdeal.nD Cert.DqlnRefIdeal.τ).loc Cert.DqlnRefIdeal.main_arg2))
      ∧ r.2.sem = fun _ => 0)

def quiescent_DwUq [hDwUq : Cert.DwUq.Facts] : Prop :=
  ∀ (m : (ℓ : Loc Cert.DwUq.nD Cert.DwUq.τ Cert.DwUq.sig) → Buf (Elt Bits) ℓ) (g : Dev Cert.DwUq.nD → PrngReg), Pre_DwUq m →
    θ_run (Cert.DwUq.defs (F := Bits)) (onTc (τ := Cert.DwUq.τ) (Cert.DwUq.main (F := Bits))) ⟨m, fun _ => 0, g⟩ (fun r => (∀ c : Dev Cert.DwUq.nD,
      r.2.mem ((c.tc : Thread Cert.DwUq.nD Cert.DwUq.τ).loc Cert.DwUq.main_arg0) = m ((c.tc : Thread Cert.DwUq.nD Cert.DwUq.τ).loc Cert.DwUq.main_arg0)
      ∧ r.2.mem ((c.tc : Thread Cert.DwUq.nD Cert.DwUq.τ).loc Cert.DwUq.main_arg1) = m ((c.tc : Thread Cert.DwUq.nD Cert.DwUq.τ).loc Cert.DwUq.main_arg1)
      ∧ r.2.mem ((c.tc : Thread Cert.DwUq.nD Cert.DwUq.τ).loc Cert.DwUq.main_arg2) = m ((c.tc : Thread Cert.DwUq.nD Cert.DwUq.τ).loc Cert.DwUq.main_arg2))
      ∧ r.2.sem = fun _ => 0)

def quiescent_DwUqIdeal [hDwUqIdeal : Cert.DwUqIdeal.Facts] : Prop :=
  ∀ (m : (ℓ : Loc Cert.DwUqIdeal.nD Cert.DwUqIdeal.τ Cert.DwUqIdeal.sig) → Buf (Elt Ideal) ℓ) (g : Dev Cert.DwUqIdeal.nD → PrngReg), Pre_DwUqIdeal m →
    θ_run (Cert.DwUqIdeal.defs (F := Ideal)) (onTc (τ := Cert.DwUqIdeal.τ) (Cert.DwUqIdeal.main (F := Ideal))) ⟨m, fun _ => 0, g⟩ (fun r => (∀ c : Dev Cert.DwUqIdeal.nD,
      r.2.mem ((c.tc : Thread Cert.DwUqIdeal.nD Cert.DwUqIdeal.τ).loc Cert.DwUqIdeal.main_arg0) = m ((c.tc : Thread Cert.DwUqIdeal.nD Cert.DwUqIdeal.τ).loc Cert.DwUqIdeal.main_arg0)
      ∧ r.2.mem ((c.tc : Thread Cert.DwUqIdeal.nD Cert.DwUqIdeal.τ).loc Cert.DwUqIdeal.main_arg1) = m ((c.tc : Thread Cert.DwUqIdeal.nD Cert.DwUqIdeal.τ).loc Cert.DwUqIdeal.main_arg1)
      ∧ r.2.mem ((c.tc : Thread Cert.DwUqIdeal.nD Cert.DwUqIdeal.τ).loc Cert.DwUqIdeal.main_arg2) = m ((c.tc : Thread Cert.DwUqIdeal.nD Cert.DwUqIdeal.τ).loc Cert.DwUqIdeal.main_arg2))
      ∧ r.2.sem = fun _ => 0)

def quiescent_DwUqRefIdeal [hDwUqRefIdeal : Cert.DwUqRefIdeal.Facts] : Prop :=
  ∀ (m : (ℓ : Loc Cert.DwUqRefIdeal.nD Cert.DwUqRefIdeal.τ Cert.DwUqRefIdeal.sig) → Buf (Elt Ideal) ℓ) (g : Dev Cert.DwUqRefIdeal.nD → PrngReg), Pre_DwUqRefIdeal m →
    θ_run (Cert.DwUqRefIdeal.defs (F := Ideal)) (onTc (τ := Cert.DwUqRefIdeal.τ) (Cert.DwUqRefIdeal.main (F := Ideal))) ⟨m, fun _ => 0, g⟩ (fun r => (∀ c : Dev Cert.DwUqRefIdeal.nD,
      r.2.mem ((c.tc : Thread Cert.DwUqRefIdeal.nD Cert.DwUqRefIdeal.τ).loc Cert.DwUqRefIdeal.main_arg0) = m ((c.tc : Thread Cert.DwUqRefIdeal.nD Cert.DwUqRefIdeal.τ).loc Cert.DwUqRefIdeal.main_arg0)
      ∧ r.2.mem ((c.tc : Thread Cert.DwUqRefIdeal.nD Cert.DwUqRefIdeal.τ).loc Cert.DwUqRefIdeal.main_arg1) = m ((c.tc : Thread Cert.DwUqRefIdeal.nD Cert.DwUqRefIdeal.τ).loc Cert.DwUqRefIdeal.main_arg1)
      ∧ r.2.mem ((c.tc : Thread Cert.DwUqRefIdeal.nD Cert.DwUqRefIdeal.τ).loc Cert.DwUqRefIdeal.main_arg2) = m ((c.tc : Thread Cert.DwUqRefIdeal.nD Cert.DwUqRefIdeal.τ).loc Cert.DwUqRefIdeal.main_arg2))
      ∧ r.2.sem = fun _ => 0)

def quiescent_Ukv [hUkv : Cert.Ukv.Facts] : Prop :=
  ∀ (m : (ℓ : Loc Cert.Ukv.nD Cert.Ukv.τ Cert.Ukv.sig) → Buf (Elt Bits) ℓ) (g : Dev Cert.Ukv.nD → PrngReg), Pre_Ukv m →
    θ_run (Cert.Ukv.defs (F := Bits)) (onTc (τ := Cert.Ukv.τ) (Cert.Ukv.main (F := Bits))) ⟨m, fun _ => 0, g⟩ (fun r => (∀ c : Dev Cert.Ukv.nD,
      r.2.mem ((c.tc : Thread Cert.Ukv.nD Cert.Ukv.τ).loc Cert.Ukv.main_arg0) = m ((c.tc : Thread Cert.Ukv.nD Cert.Ukv.τ).loc Cert.Ukv.main_arg0)
      ∧ r.2.mem ((c.tc : Thread Cert.Ukv.nD Cert.Ukv.τ).loc Cert.Ukv.main_arg1) = m ((c.tc : Thread Cert.Ukv.nD Cert.Ukv.τ).loc Cert.Ukv.main_arg1))
      ∧ r.2.sem = fun _ => 0)

def quiescent_UkvIdeal [hUkvIdeal : Cert.UkvIdeal.Facts] : Prop :=
  ∀ (m : (ℓ : Loc Cert.UkvIdeal.nD Cert.UkvIdeal.τ Cert.UkvIdeal.sig) → Buf (Elt Ideal) ℓ) (g : Dev Cert.UkvIdeal.nD → PrngReg), Pre_UkvIdeal m →
    θ_run (Cert.UkvIdeal.defs (F := Ideal)) (onTc (τ := Cert.UkvIdeal.τ) (Cert.UkvIdeal.main (F := Ideal))) ⟨m, fun _ => 0, g⟩ (fun r => (∀ c : Dev Cert.UkvIdeal.nD,
      r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
      ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ r.2.sem = fun _ => 0)

def quiescent_UkvRefIdeal [hUkvRefIdeal : Cert.UkvRefIdeal.Facts] : Prop :=
  ∀ (m : (ℓ : Loc Cert.UkvRefIdeal.nD Cert.UkvRefIdeal.τ Cert.UkvRefIdeal.sig) → Buf (Elt Ideal) ℓ) (g : Dev Cert.UkvRefIdeal.nD → PrngReg), Pre_UkvRefIdeal m →
    θ_run (Cert.UkvRefIdeal.defs (F := Ideal)) (onTc (τ := Cert.UkvRefIdeal.τ) (Cert.UkvRefIdeal.main (F := Ideal))) ⟨m, fun _ => 0, g⟩ (fun r => (∀ c : Dev Cert.UkvRefIdeal.nD,
      r.2.mem ((c.tc : Thread Cert.UkvRefIdeal.nD Cert.UkvRefIdeal.τ).loc Cert.UkvRefIdeal.main_arg0) = m ((c.tc : Thread Cert.UkvRefIdeal.nD Cert.UkvRefIdeal.τ).loc Cert.UkvRefIdeal.main_arg0)
      ∧ r.2.mem ((c.tc : Thread Cert.UkvRefIdeal.nD Cert.UkvRefIdeal.τ).loc Cert.UkvRefIdeal.main_arg1) = m ((c.tc : Thread Cert.UkvRefIdeal.nD Cert.UkvRefIdeal.τ).loc Cert.UkvRefIdeal.main_arg1))
      ∧ r.2.sem = fun _ => 0)

def quiescent_Dkvln [hDkvln : Cert.Dkvln.Facts] : Prop :=
  ∀ (m : (ℓ : Loc Cert.Dkvln.nD Cert.Dkvln.τ Cert.Dkvln.sig) → Buf (Elt Bits) ℓ) (g : Dev Cert.Dkvln.nD → PrngReg), Pre_Dkvln m →
    θ_run (Cert.Dkvln.defs (F := Bits)) (onTc (τ := Cert.Dkvln.τ) (Cert.Dkvln.main (F := Bits))) ⟨m, fun _ => 0, g⟩ (fun r => (∀ c : Dev Cert.Dkvln.nD,
      r.2.mem ((c.tc : Thread Cert.Dkvln.nD Cert.Dkvln.τ).loc Cert.Dkvln.main_arg0) = m ((c.tc : Thread Cert.Dkvln.nD Cert.Dkvln.τ).loc Cert.Dkvln.main_arg0)
      ∧ r.2.mem ((c.tc : Thread Cert.Dkvln.nD Cert.Dkvln.τ).loc Cert.Dkvln.main_arg1) = m ((c.tc : Thread Cert.Dkvln.nD Cert.Dkvln.τ).loc Cert.Dkvln.main_arg1)
      ∧ r.2.mem ((c.tc : Thread Cert.Dkvln.nD Cert.Dkvln.τ).loc Cert.Dkvln.main_arg2) = m ((c.tc : Thread Cert.Dkvln.nD Cert.Dkvln.τ).loc Cert.Dkvln.main_arg2))
      ∧ r.2.sem = fun _ => 0)

def quiescent_DkvlnIdeal [hDkvlnIdeal : Cert.DkvlnIdeal.Facts] : Prop :=
  ∀ (m : (ℓ : Loc Cert.DkvlnIdeal.nD Cert.DkvlnIdeal.τ Cert.DkvlnIdeal.sig) → Buf (Elt Ideal) ℓ) (g : Dev Cert.DkvlnIdeal.nD → PrngReg), Pre_DkvlnIdeal m →
    θ_run (Cert.DkvlnIdeal.defs (F := Ideal)) (onTc (τ := Cert.DkvlnIdeal.τ) (Cert.DkvlnIdeal.main (F := Ideal))) ⟨m, fun _ => 0, g⟩ (fun r => (∀ c : Dev Cert.DkvlnIdeal.nD,
      r.2.mem ((c.tc : Thread Cert.DkvlnIdeal.nD Cert.DkvlnIdeal.τ).loc Cert.DkvlnIdeal.main_arg0) = m ((c.tc : Thread Cert.DkvlnIdeal.nD Cert.DkvlnIdeal.τ).loc Cert.DkvlnIdeal.main_arg0)
      ∧ r.2.mem ((c.tc : Thread Cert.DkvlnIdeal.nD Cert.DkvlnIdeal.τ).loc Cert.DkvlnIdeal.main_arg1) = m ((c.tc : Thread Cert.DkvlnIdeal.nD Cert.DkvlnIdeal.τ).loc Cert.DkvlnIdeal.main_arg1)
      ∧ r.2.mem ((c.tc : Thread Cert.DkvlnIdeal.nD Cert.DkvlnIdeal.τ).loc Cert.DkvlnIdeal.main_arg2) = m ((c.tc : Thread Cert.DkvlnIdeal.nD Cert.DkvlnIdeal.τ).loc Cert.DkvlnIdeal.main_arg2))
      ∧ r.2.sem = fun _ => 0)

def quiescent_DkvlnRefIdeal [hDkvlnRefIdeal : Cert.DkvlnRefIdeal.Facts] : Prop :=
  ∀ (m : (ℓ : Loc Cert.DkvlnRefIdeal.nD Cert.DkvlnRefIdeal.τ Cert.DkvlnRefIdeal.sig) → Buf (Elt Ideal) ℓ) (g : Dev Cert.DkvlnRefIdeal.nD → PrngReg), Pre_DkvlnRefIdeal m →
    θ_run (Cert.DkvlnRefIdeal.defs (F := Ideal)) (onTc (τ := Cert.DkvlnRefIdeal.τ) (Cert.DkvlnRefIdeal.main (F := Ideal))) ⟨m, fun _ => 0, g⟩ (fun r => (∀ c : Dev Cert.DkvlnRefIdeal.nD,
      r.2.mem ((c.tc : Thread Cert.DkvlnRefIdeal.nD Cert.DkvlnRefIdeal.τ).loc Cert.DkvlnRefIdeal.main_arg0) = m ((c.tc : Thread Cert.DkvlnRefIdeal.nD Cert.DkvlnRefIdeal.τ).loc Cert.DkvlnRefIdeal.main_arg0)
      ∧ r.2.mem ((c.tc : Thread Cert.DkvlnRefIdeal.nD Cert.DkvlnRefIdeal.τ).loc Cert.DkvlnRefIdeal.main_arg1) = m ((c.tc : Thread Cert.DkvlnRefIdeal.nD Cert.DkvlnRefIdeal.τ).loc Cert.DkvlnRefIdeal.main_arg1)
      ∧ r.2.mem ((c.tc : Thread Cert.DkvlnRefIdeal.nD Cert.DkvlnRefIdeal.τ).loc Cert.DkvlnRefIdeal.main_arg2) = m ((c.tc : Thread Cert.DkvlnRefIdeal.nD Cert.DkvlnRefIdeal.τ).loc Cert.DkvlnRefIdeal.main_arg2))
      ∧ r.2.sem = fun _ => 0)

def quiescent_DwUkv [hDwUkv : Cert.DwUkv.Facts] : Prop :=
  ∀ (m : (ℓ : Loc Cert.DwUkv.nD Cert.DwUkv.τ Cert.DwUkv.sig) → Buf (Elt Bits) ℓ) (g : Dev Cert.DwUkv.nD → PrngReg), Pre_DwUkv m →
    θ_run (Cert.DwUkv.defs (F := Bits)) (onTc (τ := Cert.DwUkv.τ) (Cert.DwUkv.main (F := Bits))) ⟨m, fun _ => 0, g⟩ (fun r => (∀ c : Dev Cert.DwUkv.nD,
      r.2.mem ((c.tc : Thread Cert.DwUkv.nD Cert.DwUkv.τ).loc Cert.DwUkv.main_arg0) = m ((c.tc : Thread Cert.DwUkv.nD Cert.DwUkv.τ).loc Cert.DwUkv.main_arg0)
      ∧ r.2.mem ((c.tc : Thread Cert.DwUkv.nD Cert.DwUkv.τ).loc Cert.DwUkv.main_arg1) = m ((c.tc : Thread Cert.DwUkv.nD Cert.DwUkv.τ).loc Cert.DwUkv.main_arg1)
      ∧ r.2.mem ((c.tc : Thread Cert.DwUkv.nD Cert.DwUkv.τ).loc Cert.DwUkv.main_arg2) = m ((c.tc : Thread Cert.DwUkv.nD Cert.DwUkv.τ).loc Cert.DwUkv.main_arg2))
      ∧ r.2.sem = fun _ => 0)

def quiescent_DwUkvIdeal [hDwUkvIdeal : Cert.DwUkvIdeal.Facts] : Prop :=
  ∀ (m : (ℓ : Loc Cert.DwUkvIdeal.nD Cert.DwUkvIdeal.τ Cert.DwUkvIdeal.sig) → Buf (Elt Ideal) ℓ) (g : Dev Cert.DwUkvIdeal.nD → PrngReg), Pre_DwUkvIdeal m →
    θ_run (Cert.DwUkvIdeal.defs (F := Ideal)) (onTc (τ := Cert.DwUkvIdeal.τ) (Cert.DwUkvIdeal.main (F := Ideal))) ⟨m, fun _ => 0, g⟩ (fun r => (∀ c : Dev Cert.DwUkvIdeal.nD,
      r.2.mem ((c.tc : Thread Cert.DwUkvIdeal.nD Cert.DwUkvIdeal.τ).loc Cert.DwUkvIdeal.main_arg0) = m ((c.tc : Thread Cert.DwUkvIdeal.nD Cert.DwUkvIdeal.τ).loc Cert.DwUkvIdeal.main_arg0)
      ∧ r.2.mem ((c.tc : Thread Cert.DwUkvIdeal.nD Cert.DwUkvIdeal.τ).loc Cert.DwUkvIdeal.main_arg1) = m ((c.tc : Thread Cert.DwUkvIdeal.nD Cert.DwUkvIdeal.τ).loc Cert.DwUkvIdeal.main_arg1)
      ∧ r.2.mem ((c.tc : Thread Cert.DwUkvIdeal.nD Cert.DwUkvIdeal.τ).loc Cert.DwUkvIdeal.main_arg2) = m ((c.tc : Thread Cert.DwUkvIdeal.nD Cert.DwUkvIdeal.τ).loc Cert.DwUkvIdeal.main_arg2))
      ∧ r.2.sem = fun _ => 0)

def quiescent_DwUkvRefIdeal [hDwUkvRefIdeal : Cert.DwUkvRefIdeal.Facts] : Prop :=
  ∀ (m : (ℓ : Loc Cert.DwUkvRefIdeal.nD Cert.DwUkvRefIdeal.τ Cert.DwUkvRefIdeal.sig) → Buf (Elt Ideal) ℓ) (g : Dev Cert.DwUkvRefIdeal.nD → PrngReg), Pre_DwUkvRefIdeal m →
    θ_run (Cert.DwUkvRefIdeal.defs (F := Ideal)) (onTc (τ := Cert.DwUkvRefIdeal.τ) (Cert.DwUkvRefIdeal.main (F := Ideal))) ⟨m, fun _ => 0, g⟩ (fun r => (∀ c : Dev Cert.DwUkvRefIdeal.nD,
      r.2.mem ((c.tc : Thread Cert.DwUkvRefIdeal.nD Cert.DwUkvRefIdeal.τ).loc Cert.DwUkvRefIdeal.main_arg0) = m ((c.tc : Thread Cert.DwUkvRefIdeal.nD Cert.DwUkvRefIdeal.τ).loc Cert.DwUkvRefIdeal.main_arg0)
      ∧ r.2.mem ((c.tc : Thread Cert.DwUkvRefIdeal.nD Cert.DwUkvRefIdeal.τ).loc Cert.DwUkvRefIdeal.main_arg1) = m ((c.tc : Thread Cert.DwUkvRefIdeal.nD Cert.DwUkvRefIdeal.τ).loc Cert.DwUkvRefIdeal.main_arg1)
      ∧ r.2.mem ((c.tc : Thread Cert.DwUkvRefIdeal.nD Cert.DwUkvRefIdeal.τ).loc Cert.DwUkvRefIdeal.main_arg2) = m ((c.tc : Thread Cert.DwUkvRefIdeal.nD Cert.DwUkvRefIdeal.τ).loc Cert.DwUkvRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1)
      ∧ r.2.mem ((c.tc : Thread Cert.DwGate.nD Cert.DwGate.τ).loc Cert.DwGate.main_arg2) = m ((c.tc : Thread Cert.DwGate.nD Cert.DwGate.τ).loc Cert.DwGate.main_arg2))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1)
      ∧ r.2.mem ((c.tc : Thread Cert.DwGateIdeal.nD Cert.DwGateIdeal.τ).loc Cert.DwGateIdeal.main_arg2) = m ((c.tc : Thread Cert.DwGateIdeal.nD Cert.DwGateIdeal.τ).loc Cert.DwGateIdeal.main_arg2))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1)
      ∧ r.2.mem ((c.tc : Thread Cert.DwGateRefIdeal.nD Cert.DwGateRefIdeal.τ).loc Cert.DwGateRefIdeal.main_arg2) = m ((c.tc : Thread Cert.DwGateRefIdeal.nD Cert.DwGateRefIdeal.τ).loc Cert.DwGateRefIdeal.main_arg2))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1)
      ∧ r.2.mem ((c.tc : Thread Cert.Dh2.nD Cert.Dh2.τ).loc Cert.Dh2.main_arg2) = m ((c.tc : Thread Cert.Dh2.nD Cert.Dh2.τ).loc Cert.Dh2.main_arg2)
      ∧ r.2.mem ((c.tc : Thread Cert.Dh2.nD Cert.Dh2.τ).loc Cert.Dh2.main_arg3) = m ((c.tc : Thread Cert.Dh2.nD Cert.Dh2.τ).loc Cert.Dh2.main_arg3)
      ∧ r.2.mem ((c.tc : Thread Cert.Dh2.nD Cert.Dh2.τ).loc Cert.Dh2.main_arg4) = m ((c.tc : Thread Cert.Dh2.nD Cert.Dh2.τ).loc Cert.Dh2.main_arg4))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
      ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2)
      ∧ r.2.mem ((c.tc : Thread Cert.Dh2Ideal.nD Cert.Dh2Ideal.τ).loc Cert.Dh2Ideal.main_arg3) = m ((c.tc : Thread Cert.Dh2Ideal.nD Cert.Dh2Ideal.τ).loc Cert.Dh2Ideal.main_arg3)
      ∧ r.2.mem ((c.tc : Thread Cert.Dh2Ideal.nD Cert.Dh2Ideal.τ).loc Cert.Dh2Ideal.main_arg4) = m ((c.tc : Thread Cert.Dh2Ideal.nD Cert.Dh2Ideal.τ).loc Cert.Dh2Ideal.main_arg4))
      ∧ r.2.sem = fun _ => 0)

def quiescent_Dh2RefIdeal [hDh2RefIdeal : Cert.Dh2RefIdeal.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1)
      ∧ r.2.mem ((c.tc : Thread Cert.Dh2RefIdeal.nD Cert.Dh2RefIdeal.τ).loc Cert.Dh2RefIdeal.main_arg2) = m ((c.tc : Thread Cert.Dh2RefIdeal.nD Cert.Dh2RefIdeal.τ).loc Cert.Dh2RefIdeal.main_arg2)
      ∧ r.2.mem ((c.tc : Thread Cert.Dh2RefIdeal.nD Cert.Dh2RefIdeal.τ).loc Cert.Dh2RefIdeal.main_arg3) = m ((c.tc : Thread Cert.Dh2RefIdeal.nD Cert.Dh2RefIdeal.τ).loc Cert.Dh2RefIdeal.main_arg3)
      ∧ r.2.mem ((c.tc : Thread Cert.Dh2RefIdeal.nD Cert.Dh2RefIdeal.τ).loc Cert.Dh2RefIdeal.main_arg4) = m ((c.tc : Thread Cert.Dh2RefIdeal.nD Cert.Dh2RefIdeal.τ).loc Cert.Dh2RefIdeal.main_arg4))
      ∧ r.2.sem = fun _ => 0)

def quiescent_Dh3 [hDh3 : Cert.Dh3.Facts] : Prop :=
  ∀ (m : (ℓ : Loc Cert.Dh3.nD Cert.Dh3.τ Cert.Dh3.sig) → Buf (Elt Bits) ℓ) (g : Dev Cert.Dh3.nD → PrngReg), Pre_Dh3 m →
    θ_run (Cert.Dh3.defs (F := Bits)) (onTc (τ := Cert.Dh3.τ) (Cert.Dh3.main (F := Bits))) ⟨m, fun _ => 0, g⟩ (fun r => (∀ c : Dev Cert.Dh3.nD,
      r.2.mem ((c.tc : Thread Cert.Dh3.nD Cert.Dh3.τ).loc Cert.Dh3.main_arg0) = m ((c.tc : Thread Cert.Dh3.nD Cert.Dh3.τ).loc Cert.Dh3.main_arg0)
      ∧ r.2.mem ((c.tc : Thread Cert.Dh3.nD Cert.Dh3.τ).loc Cert.Dh3.main_arg1) = m ((c.tc : Thread Cert.Dh3.nD Cert.Dh3.τ).loc Cert.Dh3.main_arg1)
      ∧ r.2.mem ((c.tc : Thread Cert.Dh3.nD Cert.Dh3.τ).loc Cert.Dh3.main_arg2) = m ((c.tc : Thread Cert.Dh3.nD Cert.Dh3.τ).loc Cert.Dh3.main_arg2)
      ∧ r.2.mem ((c.tc : Thread Cert.Dh3.nD Cert.Dh3.τ).loc Cert.Dh3.main_arg3) = m ((c.tc : Thread Cert.Dh3.nD Cert.Dh3.τ).loc Cert.Dh3.main_arg3)
      ∧ r.2.mem ((c.tc : Thread Cert.Dh3.nD Cert.Dh3.τ).loc Cert.Dh3.main_arg4) = m ((c.tc : Thread Cert.Dh3.nD Cert.Dh3.τ).loc Cert.Dh3.main_arg4))
      ∧ r.2.sem = fun _ => 0)

def quiescent_Dh3Ideal [hDh3Ideal : Cert.Dh3Ideal.Facts] : Prop :=
  ∀ (m : (ℓ : Loc Cert.Dh3Ideal.nD Cert.Dh3Ideal.τ Cert.Dh3Ideal.sig) → Buf (Elt Ideal) ℓ) (g : Dev Cert.Dh3Ideal.nD → PrngReg), Pre_Dh3Ideal m →
    θ_run (Cert.Dh3Ideal.defs (F := Ideal)) (onTc (τ := Cert.Dh3Ideal.τ) (Cert.Dh3Ideal.main (F := Ideal))) ⟨m, fun _ => 0, g⟩ (fun r => (∀ c : Dev Cert.Dh3Ideal.nD,
      r.2.mem ((c.tc : Thread Cert.Dh3Ideal.nD Cert.Dh3Ideal.τ).loc Cert.Dh3Ideal.main_arg0) = m ((c.tc : Thread Cert.Dh3Ideal.nD Cert.Dh3Ideal.τ).loc Cert.Dh3Ideal.main_arg0)
      ∧ r.2.mem ((c.tc : Thread Cert.Dh3Ideal.nD Cert.Dh3Ideal.τ).loc Cert.Dh3Ideal.main_arg1) = m ((c.tc : Thread Cert.Dh3Ideal.nD Cert.Dh3Ideal.τ).loc Cert.Dh3Ideal.main_arg1)
      ∧ r.2.mem ((c.tc : Thread Cert.Dh3Ideal.nD Cert.Dh3Ideal.τ).loc Cert.Dh3Ideal.main_arg2) = m ((c.tc : Thread Cert.Dh3Ideal.nD Cert.Dh3Ideal.τ).loc Cert.Dh3Ideal.main_arg2)
      ∧ r.2.mem ((c.tc : Thread Cert.Dh3Ideal.nD Cert.Dh3Ideal.τ).loc Cert.Dh3Ideal.main_arg3) = m ((c.tc : Thread Cert.Dh3Ideal.nD Cert.Dh3Ideal.τ).loc Cert.Dh3Ideal.main_arg3)
      ∧ r.2.mem ((c.tc : Thread Cert.Dh3Ideal.nD Cert.Dh3Ideal.τ).loc Cert.Dh3Ideal.main_arg4) = m ((c.tc : Thread Cert.Dh3Ideal.nD Cert.Dh3Ideal.τ).loc Cert.Dh3Ideal.main_arg4))
      ∧ r.2.sem = fun _ => 0)

def quiescent_Dh3RefIdeal [hDh3RefIdeal : Cert.Dh3RefIdeal.Facts] : Prop :=
  ∀ (m : (ℓ : Loc Cert.Dh3RefIdeal.nD Cert.Dh3RefIdeal.τ Cert.Dh3RefIdeal.sig) → Buf (Elt Ideal) ℓ) (g : Dev Cert.Dh3RefIdeal.nD → PrngReg), Pre_Dh3RefIdeal m →
    θ_run (Cert.Dh3RefIdeal.defs (F := Ideal)) (onTc (τ := Cert.Dh3RefIdeal.τ) (Cert.Dh3RefIdeal.main (F := Ideal))) ⟨m, fun _ => 0, g⟩ (fun r => (∀ c : Dev Cert.Dh3RefIdeal.nD,
      r.2.mem ((c.tc : Thread Cert.Dh3RefIdeal.nD Cert.Dh3RefIdeal.τ).loc Cert.Dh3RefIdeal.main_arg0) = m ((c.tc : Thread Cert.Dh3RefIdeal.nD Cert.Dh3RefIdeal.τ).loc Cert.Dh3RefIdeal.main_arg0)
      ∧ r.2.mem ((c.tc : Thread Cert.Dh3RefIdeal.nD Cert.Dh3RefIdeal.τ).loc Cert.Dh3RefIdeal.main_arg1) = m ((c.tc : Thread Cert.Dh3RefIdeal.nD Cert.Dh3RefIdeal.τ).loc Cert.Dh3RefIdeal.main_arg1)
      ∧ r.2.mem ((c.tc : Thread Cert.Dh3RefIdeal.nD Cert.Dh3RefIdeal.τ).loc Cert.Dh3RefIdeal.main_arg2) = m ((c.tc : Thread Cert.Dh3RefIdeal.nD Cert.Dh3RefIdeal.τ).loc Cert.Dh3RefIdeal.main_arg2)
      ∧ r.2.mem ((c.tc : Thread Cert.Dh3RefIdeal.nD Cert.Dh3RefIdeal.τ).loc Cert.Dh3RefIdeal.main_arg3) = m ((c.tc : Thread Cert.Dh3RefIdeal.nD Cert.Dh3RefIdeal.τ).loc Cert.Dh3RefIdeal.main_arg3)
      ∧ r.2.mem ((c.tc : Thread Cert.Dh3RefIdeal.nD Cert.Dh3RefIdeal.τ).loc Cert.Dh3RefIdeal.main_arg4) = m ((c.tc : Thread Cert.Dh3RefIdeal.nD Cert.Dh3RefIdeal.τ).loc Cert.Dh3RefIdeal.main_arg4))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1))
      ∧ r.2.sem = fun _ => 0)

def quiescent_DwPle [hDwPle : Cert.DwPle.Facts] : Prop :=
  ∀ (m : (ℓ : Loc Cert.DwPle.nD Cert.DwPle.τ Cert.DwPle.sig) → Buf (Elt Bits) ℓ) (g : Dev Cert.DwPle.nD → PrngReg), Pre_DwPle m →
    θ_run (Cert.DwPle.defs (F := Bits)) (onTc (τ := Cert.DwPle.τ) (Cert.DwPle.main (F := Bits))) ⟨m, fun _ => 0, g⟩ (fun r => (∀ c : Dev Cert.DwPle.nD,
      r.2.mem ((c.tc : Thread Cert.DwPle.nD Cert.DwPle.τ).loc Cert.DwPle.main_arg0) = m ((c.tc : Thread Cert.DwPle.nD Cert.DwPle.τ).loc Cert.DwPle.main_arg0)
      ∧ r.2.mem ((c.tc : Thread Cert.DwPle.nD Cert.DwPle.τ).loc Cert.DwPle.main_arg1) = m ((c.tc : Thread Cert.DwPle.nD Cert.DwPle.τ).loc Cert.DwPle.main_arg1)
      ∧ r.2.mem ((c.tc : Thread Cert.DwPle.nD Cert.DwPle.τ).loc Cert.DwPle.main_arg2) = m ((c.tc : Thread Cert.DwPle.nD Cert.DwPle.τ).loc Cert.DwPle.main_arg2))
      ∧ r.2.sem = fun _ => 0)

def quiescent_DwPleIdeal [hDwPleIdeal : Cert.DwPleIdeal.Facts] : Prop :=
  ∀ (m : (ℓ : Loc Cert.DwPleIdeal.nD Cert.DwPleIdeal.τ Cert.DwPleIdeal.sig) → Buf (Elt Ideal) ℓ) (g : Dev Cert.DwPleIdeal.nD → PrngReg), Pre_DwPleIdeal m →
    θ_run (Cert.DwPleIdeal.defs (F := Ideal)) (onTc (τ := Cert.DwPleIdeal.τ) (Cert.DwPleIdeal.main (F := Ideal))) ⟨m, fun _ => 0, g⟩ (fun r => (∀ c : Dev Cert.DwPleIdeal.nD,
      r.2.mem ((c.tc : Thread Cert.DwPleIdeal.nD Cert.DwPleIdeal.τ).loc Cert.DwPleIdeal.main_arg0) = m ((c.tc : Thread Cert.DwPleIdeal.nD Cert.DwPleIdeal.τ).loc Cert.DwPleIdeal.main_arg0)
      ∧ r.2.mem ((c.tc : Thread Cert.DwPleIdeal.nD Cert.DwPleIdeal.τ).loc Cert.DwPleIdeal.main_arg1) = m ((c.tc : Thread Cert.DwPleIdeal.nD Cert.DwPleIdeal.τ).loc Cert.DwPleIdeal.main_arg1)
      ∧ r.2.mem ((c.tc : Thread Cert.DwPleIdeal.nD Cert.DwPleIdeal.τ).loc Cert.DwPleIdeal.main_arg2) = m ((c.tc : Thread Cert.DwPleIdeal.nD Cert.DwPleIdeal.τ).loc Cert.DwPleIdeal.main_arg2))
      ∧ r.2.sem = fun _ => 0)

def quiescent_DwPleRefIdeal [hDwPleRefIdeal : Cert.DwPleRefIdeal.Facts] : Prop :=
  ∀ (m : (ℓ : Loc Cert.DwPleRefIdeal.nD Cert.DwPleRefIdeal.τ Cert.DwPleRefIdeal.sig) → Buf (Elt Ideal) ℓ) (g : Dev Cert.DwPleRefIdeal.nD → PrngReg), Pre_DwPleRefIdeal m →
    θ_run (Cert.DwPleRefIdeal.defs (F := Ideal)) (onTc (τ := Cert.DwPleRefIdeal.τ) (Cert.DwPleRefIdeal.main (F := Ideal))) ⟨m, fun _ => 0, g⟩ (fun r => (∀ c : Dev Cert.DwPleRefIdeal.nD,
      r.2.mem ((c.tc : Thread Cert.DwPleRefIdeal.nD Cert.DwPleRefIdeal.τ).loc Cert.DwPleRefIdeal.main_arg0) = m ((c.tc : Thread Cert.DwPleRefIdeal.nD Cert.DwPleRefIdeal.τ).loc Cert.DwPleRefIdeal.main_arg0)
      ∧ r.2.mem ((c.tc : Thread Cert.DwPleRefIdeal.nD Cert.DwPleRefIdeal.τ).loc Cert.DwPleRefIdeal.main_arg1) = m ((c.tc : Thread Cert.DwPleRefIdeal.nD Cert.DwPleRefIdeal.τ).loc Cert.DwPleRefIdeal.main_arg1)
      ∧ r.2.mem ((c.tc : Thread Cert.DwPleRefIdeal.nD Cert.DwPleRefIdeal.τ).loc Cert.DwPleRefIdeal.main_arg2) = m ((c.tc : Thread Cert.DwPleRefIdeal.nD Cert.DwPleRefIdeal.τ).loc Cert.DwPleRefIdeal.main_arg2))
      ∧ r.2.sem = fun _ => 0)

def preserves_Kernel_KernelIdeal : Prop :=
  IdealRules.named_const.Statement Cert.KernelIdeal.κ "att_scale_log2" .f32 0x3E16C740#32 (((3424635 / 33554432) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v61)) (v2 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_v65) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v2_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v2_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v1) = v0 c
          ∧ r.2.mem ((c.tc : Thread Cert.UpRefIdeal.nD Cert.UpRefIdeal.τ).loc Cert.UpRefIdeal.main_v4) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Da_DaIdeal : Prop :=
  True

def algebraic_DaIdeal_DaRefIdeal [hDaIdeal : Cert.DaIdeal.Facts] [hDaRefIdeal : Cert.DaRefIdeal.Facts] : Prop :=
  ∀ (m : (ℓ : Loc Cert.DaIdeal.nD Cert.DaIdeal.τ Cert.DaIdeal.sig) → Buf (Elt Ideal) ℓ) (g : Dev Cert.DaIdeal.nD → PrngReg)
    (m' : (ℓ : Loc Cert.DaRefIdeal.nD Cert.DaRefIdeal.τ Cert.DaRefIdeal.sig) → Buf (Elt Ideal) ℓ) (g' : Dev Cert.DaRefIdeal.nD → PrngReg), Pre_DaIdeal m →
    (∀ c : Dev Cert.DaIdeal.nD,
      m' ((c.tc : Thread Cert.DaRefIdeal.nD Cert.DaRefIdeal.τ).loc Cert.DaRefIdeal.main_arg0) = m ((c.tc : Thread Cert.DaIdeal.nD Cert.DaIdeal.τ).loc Cert.DaIdeal.main_arg0)
      ∧ m' ((c.tc : Thread Cert.DaRefIdeal.nD Cert.DaRefIdeal.τ).loc Cert.DaRefIdeal.main_arg1) = m ((c.tc : Thread Cert.DaIdeal.nD Cert.DaIdeal.τ).loc Cert.DaIdeal.main_arg1)
      ∧ m' ((c.tc : Thread Cert.DaRefIdeal.nD Cert.DaRefIdeal.τ).loc Cert.DaRefIdeal.main_arg2) = m ((c.tc : Thread Cert.DaIdeal.nD Cert.DaIdeal.τ).loc Cert.DaIdeal.main_arg2)) →
    ∃ (v0 : (c : Dev Cert.DaIdeal.nD) → Buf (Elt Ideal) ((c.tc : Thread Cert.DaIdeal.nD Cert.DaIdeal.τ).loc Cert.DaIdeal.main_v3)),
      θ_run (Cert.DaIdeal.defs (F := Ideal)) (onTc (τ := Cert.DaIdeal.τ) (Cert.DaIdeal.main (F := Ideal))) ⟨m, fun _ => 0, g⟩ (fun r => ∀ c : Dev Cert.DaIdeal.nD,
          r.2.mem ((c.tc : Thread Cert.DaIdeal.nD Cert.DaIdeal.τ).loc Cert.DaIdeal.main_v3) = v0 c
          ∧ r.2.mem ((c.tc : Thread Cert.DaIdeal.nD Cert.DaIdeal.τ).loc Cert.DaIdeal.main_arg0) = m ((c.tc : Thread Cert.DaIdeal.nD Cert.DaIdeal.τ).loc Cert.DaIdeal.main_arg0)
          ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
          ∧ r.2.mem ((c.tc : Thread Cert.DaIdeal.nD Cert.DaIdeal.τ).loc Cert.DaIdeal.main_arg2) = m ((c.tc : Thread Cert.DaIdeal.nD Cert.DaIdeal.τ).loc Cert.DaIdeal.main_arg2))
      ∧ θ_run (Cert.DaRefIdeal.defs (F := Ideal)) (onTc (τ := Cert.DaRefIdeal.τ) (Cert.DaRefIdeal.main (F := Ideal))) ⟨m', fun _ => 0, g'⟩ (fun r => ∀ c : Dev Cert.DaRefIdeal.nD,
          r.2.mem ((c.tc : Thread Cert.DaRefIdeal.nD Cert.DaRefIdeal.τ).loc Cert.DaRefIdeal.main_v14) = v0 c
          ∧ r.2.mem ((c.tc : Thread Cert.DaRefIdeal.nD Cert.DaRefIdeal.τ).loc Cert.DaRefIdeal.main_arg0) = m' ((c.tc : Thread Cert.DaRefIdeal.nD Cert.DaRefIdeal.τ).loc Cert.DaRefIdeal.main_arg0)
          ∧ r.2.mem ((c.tc : Thread Cert.DaRefIdeal.nD Cert.DaRefIdeal.τ).loc Cert.DaRefIdeal.main_arg1) = m' ((c.tc : Thread Cert.DaRefIdeal.nD Cert.DaRefIdeal.τ).loc Cert.DaRefIdeal.main_arg1)
          ∧ r.2.mem ((c.tc : Thread Cert.DaRefIdeal.nD Cert.DaRefIdeal.τ).loc Cert.DaRefIdeal.main_arg2) = m' ((c.tc : Thread Cert.DaRefIdeal.nD Cert.DaRefIdeal.τ).loc Cert.DaRefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)
      ∧ m' ((c.tc : Thread Cert.DwDownRefIdeal.nD Cert.DwDownRefIdeal.τ).loc Cert.DwDownRefIdeal.main_arg2) = m ((c.tc : Thread Cert.DwDownIdeal.nD Cert.DwDownIdeal.τ).loc Cert.DwDownIdeal.main_arg2)) →
    ∃ (v0 : (c : Dev Cert.DwDownIdeal.nD) → Buf (Elt Ideal) ((c.tc : Thread Cert.DwDownIdeal.nD Cert.DwDownIdeal.τ).loc Cert.DwDownIdeal.main_v4)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v4) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
          ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v6) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1)
          ∧ r.2.mem ((c.tc : Thread Cert.DwDownRefIdeal.nD Cert.DwDownRefIdeal.τ).loc Cert.DwDownRefIdeal.main_arg2) = m' ((c.tc : Thread Cert.DwDownRefIdeal.nD Cert.DwDownRefIdeal.τ).loc Cert.DwDownRefIdeal.main_arg2))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)
      ∧ m' ((c.tc : Thread Cert.DwUpRefIdeal.nD Cert.DwUpRefIdeal.τ).loc Cert.DwUpRefIdeal.main_arg2) = m ((c.tc : Thread Cert.DwUpIdeal.nD Cert.DwUpIdeal.τ).loc Cert.DwUpIdeal.main_arg2)) →
    ∃ (v0 : (c : Dev Cert.DwUpIdeal.nD) → Buf (Elt Ideal) ((c.tc : Thread Cert.DwUpIdeal.nD Cert.DwUpIdeal.τ).loc Cert.DwUpIdeal.main_v2)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v2) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v5) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1)
          ∧ r.2.mem ((c.tc : Thread Cert.DwUpRefIdeal.nD Cert.DwUpRefIdeal.τ).loc Cert.DwUpRefIdeal.main_arg2) = m' ((c.tc : Thread Cert.DwUpRefIdeal.nD Cert.DwUpRefIdeal.τ).loc Cert.DwUpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v3_0)) (v1 : (c : Dev Cert.DownIdeal.nD) → Buf (Elt Ideal) ((c.tc : Thread Cert.DownIdeal.nD Cert.DownIdeal.τ).loc Cert.DownIdeal.main_v3_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3_0) = v0 c
          ∧ r.2.mem ((c.tc : Thread Cert.DownIdeal.nD Cert.DownIdeal.τ).loc Cert.DownIdeal.main_v3_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_v17) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_O_OIdeal : Prop :=
  True

def algebraic_OIdeal_ORefIdeal [hOIdeal : Cert.OIdeal.Facts] [hORefIdeal : Cert.ORefIdeal.Facts] : Prop :=
  ∀ (m : (ℓ : Loc Cert.OIdeal.nD Cert.OIdeal.τ Cert.OIdeal.sig) → Buf (Elt Ideal) ℓ) (g : Dev Cert.OIdeal.nD → PrngReg)
    (m' : (ℓ : Loc Cert.ORefIdeal.nD Cert.ORefIdeal.τ Cert.ORefIdeal.sig) → Buf (Elt Ideal) ℓ) (g' : Dev Cert.ORefIdeal.nD → PrngReg), Pre_OIdeal m →
    (∀ c : Dev Cert.OIdeal.nD,
      m' ((c.tc : Thread Cert.ORefIdeal.nD Cert.ORefIdeal.τ).loc Cert.ORefIdeal.main_arg0) = m ((c.tc : Thread Cert.OIdeal.nD Cert.OIdeal.τ).loc Cert.OIdeal.main_arg0)
      ∧ m' ((c.tc : Thread Cert.ORefIdeal.nD Cert.ORefIdeal.τ).loc Cert.ORefIdeal.main_arg1) = m ((c.tc : Thread Cert.OIdeal.nD Cert.OIdeal.τ).loc Cert.OIdeal.main_arg1)
      ∧ m' ((c.tc : Thread Cert.ORefIdeal.nD Cert.ORefIdeal.τ).loc Cert.ORefIdeal.main_arg2) = m ((c.tc : Thread Cert.OIdeal.nD Cert.OIdeal.τ).loc Cert.OIdeal.main_arg2)
      ∧ m' ((c.tc : Thread Cert.ORefIdeal.nD Cert.ORefIdeal.τ).loc Cert.ORefIdeal.main_arg3) = m ((c.tc : Thread Cert.OIdeal.nD Cert.OIdeal.τ).loc Cert.OIdeal.main_arg3)) →
    ∃ (v0 : (c : Dev Cert.OIdeal.nD) → Buf (Elt Ideal) ((c.tc : Thread Cert.OIdeal.nD Cert.OIdeal.τ).loc Cert.OIdeal.main_v3_0)) (v1 : (c : Dev Cert.OIdeal.nD) → Buf (Elt Ideal) ((c.tc : Thread Cert.OIdeal.nD Cert.OIdeal.τ).loc Cert.OIdeal.main_v3_1)),
      θ_run (Cert.OIdeal.defs (F := Ideal)) (onTc (τ := Cert.OIdeal.τ) (Cert.OIdeal.main (F := Ideal))) ⟨m, fun _ => 0, g⟩ (fun r => ∀ c : Dev Cert.OIdeal.nD,
          r.2.mem ((c.tc : Thread Cert.OIdeal.nD Cert.OIdeal.τ).loc Cert.OIdeal.main_v3_0) = v0 c
          ∧ r.2.mem ((c.tc : Thread Cert.OIdeal.nD Cert.OIdeal.τ).loc Cert.OIdeal.main_v3_1) = v1 c
          ∧ r.2.mem ((c.tc : Thread Cert.OIdeal.nD Cert.OIdeal.τ).loc Cert.OIdeal.main_arg0) = m ((c.tc : Thread Cert.OIdeal.nD Cert.OIdeal.τ).loc Cert.OIdeal.main_arg0)
          ∧ r.2.mem ((c.tc : Thread Cert.OIdeal.nD Cert.OIdeal.τ).loc Cert.OIdeal.main_arg1) = m ((c.tc : Thread Cert.OIdeal.nD Cert.OIdeal.τ).loc Cert.OIdeal.main_arg1)
          ∧ r.2.mem ((c.tc : Thread Cert.OIdeal.nD Cert.OIdeal.τ).loc Cert.OIdeal.main_arg2) = m ((c.tc : Thread Cert.OIdeal.nD Cert.OIdeal.τ).loc Cert.OIdeal.main_arg2)
          ∧ r.2.mem ((c.tc : Thread Cert.OIdeal.nD Cert.OIdeal.τ).loc Cert.OIdeal.main_arg3) = m ((c.tc : Thread Cert.OIdeal.nD Cert.OIdeal.τ).loc Cert.OIdeal.main_arg3))
      ∧ θ_run (Cert.ORefIdeal.defs (F := Ideal)) (onTc (τ := Cert.ORefIdeal.τ) (Cert.ORefIdeal.main (F := Ideal))) ⟨m', fun _ => 0, g'⟩ (fun r => ∀ c : Dev Cert.ORefIdeal.nD,
          r.2.mem ((c.tc : Thread Cert.ORefIdeal.nD Cert.ORefIdeal.τ).loc Cert.ORefIdeal.main_v1) = v0 c
          ∧ r.2.mem ((c.tc : Thread Cert.ORefIdeal.nD Cert.ORefIdeal.τ).loc Cert.ORefIdeal.main_v15) = v1 c
          ∧ r.2.mem ((c.tc : Thread Cert.ORefIdeal.nD Cert.ORefIdeal.τ).loc Cert.ORefIdeal.main_arg0) = m' ((c.tc : Thread Cert.ORefIdeal.nD Cert.ORefIdeal.τ).loc Cert.ORefIdeal.main_arg0)
          ∧ r.2.mem ((c.tc : Thread Cert.ORefIdeal.nD Cert.ORefIdeal.τ).loc Cert.ORefIdeal.main_arg1) = m' ((c.tc : Thread Cert.ORefIdeal.nD Cert.ORefIdeal.τ).loc Cert.ORefIdeal.main_arg1)
          ∧ r.2.mem ((c.tc : Thread Cert.ORefIdeal.nD Cert.ORefIdeal.τ).loc Cert.ORefIdeal.main_arg2) = m' ((c.tc : Thread Cert.ORefIdeal.nD Cert.ORefIdeal.τ).loc Cert.ORefIdeal.main_arg2)
          ∧ r.2.mem ((c.tc : Thread Cert.ORefIdeal.nD Cert.ORefIdeal.τ).loc Cert.ORefIdeal.main_arg3) = m' ((c.tc : Thread Cert.ORefIdeal.nD Cert.ORefIdeal.τ).loc Cert.ORefIdeal.main_arg3))

def preserves_Dmixed_DmixedIdeal : Prop :=
  True

def algebraic_DmixedIdeal_DmixedRefIdeal [hDmixedIdeal : Cert.DmixedIdeal.Facts] [hDmixedRefIdeal : Cert.DmixedRefIdeal.Facts] : Prop :=
  ∀ (m : (ℓ : Loc Cert.DmixedIdeal.nD Cert.DmixedIdeal.τ Cert.DmixedIdeal.sig) → Buf (Elt Ideal) ℓ) (g : Dev Cert.DmixedIdeal.nD → PrngReg)
    (m' : (ℓ : Loc Cert.DmixedRefIdeal.nD Cert.DmixedRefIdeal.τ Cert.DmixedRefIdeal.sig) → Buf (Elt Ideal) ℓ) (g' : Dev Cert.DmixedRefIdeal.nD → PrngReg), Pre_DmixedIdeal m →
    (∀ c : Dev Cert.DmixedIdeal.nD,
      m' ((c.tc : Thread Cert.DmixedRefIdeal.nD Cert.DmixedRefIdeal.τ).loc Cert.DmixedRefIdeal.main_arg0) = m ((c.tc : Thread Cert.DmixedIdeal.nD Cert.DmixedIdeal.τ).loc Cert.DmixedIdeal.main_arg0)
      ∧ m' ((c.tc : Thread Cert.DmixedRefIdeal.nD Cert.DmixedRefIdeal.τ).loc Cert.DmixedRefIdeal.main_arg1) = m ((c.tc : Thread Cert.DmixedIdeal.nD Cert.DmixedIdeal.τ).loc Cert.DmixedIdeal.main_arg1)
      ∧ m' ((c.tc : Thread Cert.DmixedRefIdeal.nD Cert.DmixedRefIdeal.τ).loc Cert.DmixedRefIdeal.main_arg2) = m ((c.tc : Thread Cert.DmixedIdeal.nD Cert.DmixedIdeal.τ).loc Cert.DmixedIdeal.main_arg2)) →
    ∃ (v0 : (c : Dev Cert.DmixedIdeal.nD) → Buf (Elt Ideal) ((c.tc : Thread Cert.DmixedIdeal.nD Cert.DmixedIdeal.τ).loc Cert.DmixedIdeal.main_v2)),
      θ_run (Cert.DmixedIdeal.defs (F := Ideal)) (onTc (τ := Cert.DmixedIdeal.τ) (Cert.DmixedIdeal.main (F := Ideal))) ⟨m, fun _ => 0, g⟩ (fun r => ∀ c : Dev Cert.DmixedIdeal.nD,
          r.2.mem ((c.tc : Thread Cert.DmixedIdeal.nD Cert.DmixedIdeal.τ).loc Cert.DmixedIdeal.main_v2) = v0 c
          ∧ r.2.mem ((c.tc : Thread Cert.DmixedIdeal.nD Cert.DmixedIdeal.τ).loc Cert.DmixedIdeal.main_arg0) = m ((c.tc : Thread Cert.DmixedIdeal.nD Cert.DmixedIdeal.τ).loc Cert.DmixedIdeal.main_arg0)
          ∧ r.2.mem ((c.tc : Thread Cert.DmixedIdeal.nD Cert.DmixedIdeal.τ).loc Cert.DmixedIdeal.main_arg1) = m ((c.tc : Thread Cert.DmixedIdeal.nD Cert.DmixedIdeal.τ).loc Cert.DmixedIdeal.main_arg1)
          ∧ r.2.mem ((c.tc : Thread Cert.DmixedIdeal.nD Cert.DmixedIdeal.τ).loc Cert.DmixedIdeal.main_arg2) = m ((c.tc : Thread Cert.DmixedIdeal.nD Cert.DmixedIdeal.τ).loc Cert.DmixedIdeal.main_arg2))
      ∧ θ_run (Cert.DmixedRefIdeal.defs (F := Ideal)) (onTc (τ := Cert.DmixedRefIdeal.τ) (Cert.DmixedRefIdeal.main (F := Ideal))) ⟨m', fun _ => 0, g'⟩ (fun r => ∀ c : Dev Cert.DmixedRefIdeal.nD,
          r.2.mem ((c.tc : Thread Cert.DmixedRefIdeal.nD Cert.DmixedRefIdeal.τ).loc Cert.DmixedRefIdeal.main_v1) = v0 c
          ∧ r.2.mem ((c.tc : Thread Cert.DmixedRefIdeal.nD Cert.DmixedRefIdeal.τ).loc Cert.DmixedRefIdeal.main_arg0) = m' ((c.tc : Thread Cert.DmixedRefIdeal.nD Cert.DmixedRefIdeal.τ).loc Cert.DmixedRefIdeal.main_arg0)
          ∧ r.2.mem ((c.tc : Thread Cert.DmixedRefIdeal.nD Cert.DmixedRefIdeal.τ).loc Cert.DmixedRefIdeal.main_arg1) = m' ((c.tc : Thread Cert.DmixedRefIdeal.nD Cert.DmixedRefIdeal.τ).loc Cert.DmixedRefIdeal.main_arg1)
          ∧ r.2.mem ((c.tc : Thread Cert.DmixedRefIdeal.nD Cert.DmixedRefIdeal.τ).loc Cert.DmixedRefIdeal.main_arg2) = m' ((c.tc : Thread Cert.DmixedRefIdeal.nD Cert.DmixedRefIdeal.τ).loc Cert.DmixedRefIdeal.main_arg2))

def preserves_DwO_DwOIdeal : Prop :=
  True

def algebraic_DwOIdeal_DwORefIdeal [hDwOIdeal : Cert.DwOIdeal.Facts] [hDwORefIdeal : Cert.DwORefIdeal.Facts] : Prop :=
  ∀ (m : (ℓ : Loc Cert.DwOIdeal.nD Cert.DwOIdeal.τ Cert.DwOIdeal.sig) → Buf (Elt Ideal) ℓ) (g : Dev Cert.DwOIdeal.nD → PrngReg)
    (m' : (ℓ : Loc Cert.DwORefIdeal.nD Cert.DwORefIdeal.τ Cert.DwORefIdeal.sig) → Buf (Elt Ideal) ℓ) (g' : Dev Cert.DwORefIdeal.nD → PrngReg), Pre_DwOIdeal m →
    (∀ c : Dev Cert.DwOIdeal.nD,
      m' ((c.tc : Thread Cert.DwORefIdeal.nD Cert.DwORefIdeal.τ).loc Cert.DwORefIdeal.main_arg0) = m ((c.tc : Thread Cert.DwOIdeal.nD Cert.DwOIdeal.τ).loc Cert.DwOIdeal.main_arg0)
      ∧ m' ((c.tc : Thread Cert.DwORefIdeal.nD Cert.DwORefIdeal.τ).loc Cert.DwORefIdeal.main_arg1) = m ((c.tc : Thread Cert.DwOIdeal.nD Cert.DwOIdeal.τ).loc Cert.DwOIdeal.main_arg1)
      ∧ m' ((c.tc : Thread Cert.DwORefIdeal.nD Cert.DwORefIdeal.τ).loc Cert.DwORefIdeal.main_arg2) = m ((c.tc : Thread Cert.DwOIdeal.nD Cert.DwOIdeal.τ).loc Cert.DwOIdeal.main_arg2)) →
    ∃ (v0 : (c : Dev Cert.DwOIdeal.nD) → Buf (Elt Ideal) ((c.tc : Thread Cert.DwOIdeal.nD Cert.DwOIdeal.τ).loc Cert.DwOIdeal.main_v2)),
      θ_run (Cert.DwOIdeal.defs (F := Ideal)) (onTc (τ := Cert.DwOIdeal.τ) (Cert.DwOIdeal.main (F := Ideal))) ⟨m, fun _ => 0, g⟩ (fun r => ∀ c : Dev Cert.DwOIdeal.nD,
          r.2.mem ((c.tc : Thread Cert.DwOIdeal.nD Cert.DwOIdeal.τ).loc Cert.DwOIdeal.main_v2) = v0 c
          ∧ r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
          ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1)
          ∧ r.2.mem ((c.tc : Thread Cert.DwOIdeal.nD Cert.DwOIdeal.τ).loc Cert.DwOIdeal.main_arg2) = m ((c.tc : Thread Cert.DwOIdeal.nD Cert.DwOIdeal.τ).loc Cert.DwOIdeal.main_arg2))
      ∧ θ_run (Cert.DwORefIdeal.defs (F := Ideal)) (onTc (τ := Cert.DwORefIdeal.τ) (Cert.DwORefIdeal.main (F := Ideal))) ⟨m', fun _ => 0, g'⟩ (fun r => ∀ c : Dev Cert.DwORefIdeal.nD,
          r.2.mem ((c.tc : Thread Cert.DwORefIdeal.nD Cert.DwORefIdeal.τ).loc Cert.DwORefIdeal.main_v3) = v0 c
          ∧ r.2.mem ((c.tc : Thread Cert.DwORefIdeal.nD Cert.DwORefIdeal.τ).loc Cert.DwORefIdeal.main_arg0) = m' ((c.tc : Thread Cert.DwORefIdeal.nD Cert.DwORefIdeal.τ).loc Cert.DwORefIdeal.main_arg0)
          ∧ r.2.mem ((c.tc : Thread Cert.DwORefIdeal.nD Cert.DwORefIdeal.τ).loc Cert.DwORefIdeal.main_arg1) = m' ((c.tc : Thread Cert.DwORefIdeal.nD Cert.DwORefIdeal.τ).loc Cert.DwORefIdeal.main_arg1)
          ∧ r.2.mem ((c.tc : Thread Cert.DwORefIdeal.nD Cert.DwORefIdeal.τ).loc Cert.DwORefIdeal.main_arg2) = m' ((c.tc : Thread Cert.DwORefIdeal.nD Cert.DwORefIdeal.τ).loc Cert.DwORefIdeal.main_arg2))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v2) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v0) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)) →
    ∃ (v0 : (c : Dev Cert.DwInIdeal.nD) → Buf (Elt Ideal) ((c.tc : Thread Cert.DwInIdeal.nD Cert.DwInIdeal.τ).loc Cert.DwInIdeal.main_v2)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v2) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v3) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2))

def preserves_Uq_UqIdeal : Prop :=
  True

def algebraic_UqIdeal_UqRefIdeal [hUqIdeal : Cert.UqIdeal.Facts] [hUqRefIdeal : Cert.UqRefIdeal.Facts] : Prop :=
  ∀ (m : (ℓ : Loc Cert.UqIdeal.nD Cert.UqIdeal.τ Cert.UqIdeal.sig) → Buf (Elt Ideal) ℓ) (g : Dev Cert.UqIdeal.nD → PrngReg)
    (m' : (ℓ : Loc Cert.UqRefIdeal.nD Cert.UqRefIdeal.τ Cert.UqRefIdeal.sig) → Buf (Elt Ideal) ℓ) (g' : Dev Cert.UqRefIdeal.nD → PrngReg), Pre_UqIdeal m →
    (∀ c : Dev Cert.UqIdeal.nD,
      m' ((c.tc : Thread Cert.UqRefIdeal.nD Cert.UqRefIdeal.τ).loc Cert.UqRefIdeal.main_arg0) = m ((c.tc : Thread Cert.UqIdeal.nD Cert.UqIdeal.τ).loc Cert.UqIdeal.main_arg0)
      ∧ m' ((c.tc : Thread Cert.UqRefIdeal.nD Cert.UqRefIdeal.τ).loc Cert.UqRefIdeal.main_arg1) = m ((c.tc : Thread Cert.UqIdeal.nD Cert.UqIdeal.τ).loc Cert.UqIdeal.main_arg1)) →
    ∃ (v0 : (c : Dev Cert.UqIdeal.nD) → Buf (Elt Ideal) ((c.tc : Thread Cert.UqIdeal.nD Cert.UqIdeal.τ).loc Cert.UqIdeal.main_v2)),
      θ_run (Cert.UqIdeal.defs (F := Ideal)) (onTc (τ := Cert.UqIdeal.τ) (Cert.UqIdeal.main (F := Ideal))) ⟨m, fun _ => 0, g⟩ (fun r => ∀ c : Dev Cert.UqIdeal.nD,
          r.2.mem ((c.tc : Thread Cert.UqIdeal.nD Cert.UqIdeal.τ).loc Cert.UqIdeal.main_v2) = v0 c
          ∧ r.2.mem ((c.tc : Thread Cert.UqIdeal.nD Cert.UqIdeal.τ).loc Cert.UqIdeal.main_arg0) = m ((c.tc : Thread Cert.UqIdeal.nD Cert.UqIdeal.τ).loc Cert.UqIdeal.main_arg0)
          ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ θ_run (Cert.UqRefIdeal.defs (F := Ideal)) (onTc (τ := Cert.UqRefIdeal.τ) (Cert.UqRefIdeal.main (F := Ideal))) ⟨m', fun _ => 0, g'⟩ (fun r => ∀ c : Dev Cert.UqRefIdeal.nD,
          r.2.mem ((c.tc : Thread Cert.UqRefIdeal.nD Cert.UqRefIdeal.τ).loc Cert.UqRefIdeal.main_v0) = v0 c
          ∧ r.2.mem ((c.tc : Thread Cert.UqRefIdeal.nD Cert.UqRefIdeal.τ).loc Cert.UqRefIdeal.main_arg0) = m' ((c.tc : Thread Cert.UqRefIdeal.nD Cert.UqRefIdeal.τ).loc Cert.UqRefIdeal.main_arg0)
          ∧ r.2.mem ((c.tc : Thread Cert.UqRefIdeal.nD Cert.UqRefIdeal.τ).loc Cert.UqRefIdeal.main_arg1) = m' ((c.tc : Thread Cert.UqRefIdeal.nD Cert.UqRefIdeal.τ).loc Cert.UqRefIdeal.main_arg1))

def preserves_Dqln_DqlnIdeal : Prop :=
  True

def algebraic_DqlnIdeal_DqlnRefIdeal [hDqlnIdeal : Cert.DqlnIdeal.Facts] [hDqlnRefIdeal : Cert.DqlnRefIdeal.Facts] : Prop :=
  ∀ (m : (ℓ : Loc Cert.DqlnIdeal.nD Cert.DqlnIdeal.τ Cert.DqlnIdeal.sig) → Buf (Elt Ideal) ℓ) (g : Dev Cert.DqlnIdeal.nD → PrngReg)
    (m' : (ℓ : Loc Cert.DqlnRefIdeal.nD Cert.DqlnRefIdeal.τ Cert.DqlnRefIdeal.sig) → Buf (Elt Ideal) ℓ) (g' : Dev Cert.DqlnRefIdeal.nD → PrngReg), Pre_DqlnIdeal m →
    (∀ c : Dev Cert.DqlnIdeal.nD,
      m' ((c.tc : Thread Cert.DqlnRefIdeal.nD Cert.DqlnRefIdeal.τ).loc Cert.DqlnRefIdeal.main_arg0) = m ((c.tc : Thread Cert.DqlnIdeal.nD Cert.DqlnIdeal.τ).loc Cert.DqlnIdeal.main_arg0)
      ∧ m' ((c.tc : Thread Cert.DqlnRefIdeal.nD Cert.DqlnRefIdeal.τ).loc Cert.DqlnRefIdeal.main_arg1) = m ((c.tc : Thread Cert.DqlnIdeal.nD Cert.DqlnIdeal.τ).loc Cert.DqlnIdeal.main_arg1)
      ∧ m' ((c.tc : Thread Cert.DqlnRefIdeal.nD Cert.DqlnRefIdeal.τ).loc Cert.DqlnRefIdeal.main_arg2) = m ((c.tc : Thread Cert.DqlnIdeal.nD Cert.DqlnIdeal.τ).loc Cert.DqlnIdeal.main_arg2)) →
    ∃ (v0 : (c : Dev Cert.DqlnIdeal.nD) → Buf (Elt Ideal) ((c.tc : Thread Cert.DqlnIdeal.nD Cert.DqlnIdeal.τ).loc Cert.DqlnIdeal.main_v2)),
      θ_run (Cert.DqlnIdeal.defs (F := Ideal)) (onTc (τ := Cert.DqlnIdeal.τ) (Cert.DqlnIdeal.main (F := Ideal))) ⟨m, fun _ => 0, g⟩ (fun r => ∀ c : Dev Cert.DqlnIdeal.nD,
          r.2.mem ((c.tc : Thread Cert.DqlnIdeal.nD Cert.DqlnIdeal.τ).loc Cert.DqlnIdeal.main_v2) = v0 c
          ∧ r.2.mem ((c.tc : Thread Cert.DqlnIdeal.nD Cert.DqlnIdeal.τ).loc Cert.DqlnIdeal.main_arg0) = m ((c.tc : Thread Cert.DqlnIdeal.nD Cert.DqlnIdeal.τ).loc Cert.DqlnIdeal.main_arg0)
          ∧ r.2.mem ((c.tc : Thread Cert.DqlnIdeal.nD Cert.DqlnIdeal.τ).loc Cert.DqlnIdeal.main_arg1) = m ((c.tc : Thread Cert.DqlnIdeal.nD Cert.DqlnIdeal.τ).loc Cert.DqlnIdeal.main_arg1)
          ∧ r.2.mem ((c.tc : Thread Cert.DqlnIdeal.nD Cert.DqlnIdeal.τ).loc Cert.DqlnIdeal.main_arg2) = m ((c.tc : Thread Cert.DqlnIdeal.nD Cert.DqlnIdeal.τ).loc Cert.DqlnIdeal.main_arg2))
      ∧ θ_run (Cert.DqlnRefIdeal.defs (F := Ideal)) (onTc (τ := Cert.DqlnRefIdeal.τ) (Cert.DqlnRefIdeal.main (F := Ideal))) ⟨m', fun _ => 0, g'⟩ (fun r => ∀ c : Dev Cert.DqlnRefIdeal.nD,
          r.2.mem ((c.tc : Thread Cert.DqlnRefIdeal.nD Cert.DqlnRefIdeal.τ).loc Cert.DqlnRefIdeal.main_v1) = v0 c
          ∧ r.2.mem ((c.tc : Thread Cert.DqlnRefIdeal.nD Cert.DqlnRefIdeal.τ).loc Cert.DqlnRefIdeal.main_arg0) = m' ((c.tc : Thread Cert.DqlnRefIdeal.nD Cert.DqlnRefIdeal.τ).loc Cert.DqlnRefIdeal.main_arg0)
          ∧ r.2.mem ((c.tc : Thread Cert.DqlnRefIdeal.nD Cert.DqlnRefIdeal.τ).loc Cert.DqlnRefIdeal.main_arg1) = m' ((c.tc : Thread Cert.DqlnRefIdeal.nD Cert.DqlnRefIdeal.τ).loc Cert.DqlnRefIdeal.main_arg1)
          ∧ r.2.mem ((c.tc : Thread Cert.DqlnRefIdeal.nD Cert.DqlnRefIdeal.τ).loc Cert.DqlnRefIdeal.main_arg2) = m' ((c.tc : Thread Cert.DqlnRefIdeal.nD Cert.DqlnRefIdeal.τ).loc Cert.DqlnRefIdeal.main_arg2))

def preserves_DwUq_DwUqIdeal : Prop :=
  True

def algebraic_DwUqIdeal_DwUqRefIdeal [hDwUqIdeal : Cert.DwUqIdeal.Facts] [hDwUqRefIdeal : Cert.DwUqRefIdeal.Facts] : Prop :=
  ∀ (m : (ℓ : Loc Cert.DwUqIdeal.nD Cert.DwUqIdeal.τ Cert.DwUqIdeal.sig) → Buf (Elt Ideal) ℓ) (g : Dev Cert.DwUqIdeal.nD → PrngReg)
    (m' : (ℓ : Loc Cert.DwUqRefIdeal.nD Cert.DwUqRefIdeal.τ Cert.DwUqRefIdeal.sig) → Buf (Elt Ideal) ℓ) (g' : Dev Cert.DwUqRefIdeal.nD → PrngReg), Pre_DwUqIdeal m →
    (∀ c : Dev Cert.DwUqIdeal.nD,
      m' ((c.tc : Thread Cert.DwUqRefIdeal.nD Cert.DwUqRefIdeal.τ).loc Cert.DwUqRefIdeal.main_arg0) = m ((c.tc : Thread Cert.DwUqIdeal.nD Cert.DwUqIdeal.τ).loc Cert.DwUqIdeal.main_arg0)
      ∧ m' ((c.tc : Thread Cert.DwUqRefIdeal.nD Cert.DwUqRefIdeal.τ).loc Cert.DwUqRefIdeal.main_arg1) = m ((c.tc : Thread Cert.DwUqIdeal.nD Cert.DwUqIdeal.τ).loc Cert.DwUqIdeal.main_arg1)
      ∧ m' ((c.tc : Thread Cert.DwUqRefIdeal.nD Cert.DwUqRefIdeal.τ).loc Cert.DwUqRefIdeal.main_arg2) = m ((c.tc : Thread Cert.DwUqIdeal.nD Cert.DwUqIdeal.τ).loc Cert.DwUqIdeal.main_arg2)) →
    ∃ (v0 : (c : Dev Cert.DwUqIdeal.nD) → Buf (Elt Ideal) ((c.tc : Thread Cert.DwUqIdeal.nD Cert.DwUqIdeal.τ).loc Cert.DwUqIdeal.main_v2)),
      θ_run (Cert.DwUqIdeal.defs (F := Ideal)) (onTc (τ := Cert.DwUqIdeal.τ) (Cert.DwUqIdeal.main (F := Ideal))) ⟨m, fun _ => 0, g⟩ (fun r => ∀ c : Dev Cert.DwUqIdeal.nD,
          r.2.mem ((c.tc : Thread Cert.DwUqIdeal.nD Cert.DwUqIdeal.τ).loc Cert.DwUqIdeal.main_v2) = v0 c
          ∧ r.2.mem ((c.tc : Thread Cert.DwUqIdeal.nD Cert.DwUqIdeal.τ).loc Cert.DwUqIdeal.main_arg0) = m ((c.tc : Thread Cert.DwUqIdeal.nD Cert.DwUqIdeal.τ).loc Cert.DwUqIdeal.main_arg0)
          ∧ r.2.mem ((c.tc : Thread Cert.DwUqIdeal.nD Cert.DwUqIdeal.τ).loc Cert.DwUqIdeal.main_arg1) = m ((c.tc : Thread Cert.DwUqIdeal.nD Cert.DwUqIdeal.τ).loc Cert.DwUqIdeal.main_arg1)
          ∧ r.2.mem ((c.tc : Thread Cert.DwUqIdeal.nD Cert.DwUqIdeal.τ).loc Cert.DwUqIdeal.main_arg2) = m ((c.tc : Thread Cert.DwUqIdeal.nD Cert.DwUqIdeal.τ).loc Cert.DwUqIdeal.main_arg2))
      ∧ θ_run (Cert.DwUqRefIdeal.defs (F := Ideal)) (onTc (τ := Cert.DwUqRefIdeal.τ) (Cert.DwUqRefIdeal.main (F := Ideal))) ⟨m', fun _ => 0, g'⟩ (fun r => ∀ c : Dev Cert.DwUqRefIdeal.nD,
          r.2.mem ((c.tc : Thread Cert.DwUqRefIdeal.nD Cert.DwUqRefIdeal.τ).loc Cert.DwUqRefIdeal.main_v3) = v0 c
          ∧ r.2.mem ((c.tc : Thread Cert.DwUqRefIdeal.nD Cert.DwUqRefIdeal.τ).loc Cert.DwUqRefIdeal.main_arg0) = m' ((c.tc : Thread Cert.DwUqRefIdeal.nD Cert.DwUqRefIdeal.τ).loc Cert.DwUqRefIdeal.main_arg0)
          ∧ r.2.mem ((c.tc : Thread Cert.DwUqRefIdeal.nD Cert.DwUqRefIdeal.τ).loc Cert.DwUqRefIdeal.main_arg1) = m' ((c.tc : Thread Cert.DwUqRefIdeal.nD Cert.DwUqRefIdeal.τ).loc Cert.DwUqRefIdeal.main_arg1)
          ∧ r.2.mem ((c.tc : Thread Cert.DwUqRefIdeal.nD Cert.DwUqRefIdeal.τ).loc Cert.DwUqRefIdeal.main_arg2) = m' ((c.tc : Thread Cert.DwUqRefIdeal.nD Cert.DwUqRefIdeal.τ).loc Cert.DwUqRefIdeal.main_arg2))

def preserves_Ukv_UkvIdeal : Prop :=
  True

def algebraic_UkvIdeal_UkvRefIdeal [hUkvIdeal : Cert.UkvIdeal.Facts] [hUkvRefIdeal : Cert.UkvRefIdeal.Facts] : Prop :=
  ∀ (m : (ℓ : Loc Cert.UkvIdeal.nD Cert.UkvIdeal.τ Cert.UkvIdeal.sig) → Buf (Elt Ideal) ℓ) (g : Dev Cert.UkvIdeal.nD → PrngReg)
    (m' : (ℓ : Loc Cert.UkvRefIdeal.nD Cert.UkvRefIdeal.τ Cert.UkvRefIdeal.sig) → Buf (Elt Ideal) ℓ) (g' : Dev Cert.UkvRefIdeal.nD → PrngReg), Pre_UkvIdeal m →
    (∀ c : Dev Cert.UkvIdeal.nD,
      m' ((c.tc : Thread Cert.UkvRefIdeal.nD Cert.UkvRefIdeal.τ).loc Cert.UkvRefIdeal.main_arg0) = m ((c.tc : Thread Cert.UkvIdeal.nD Cert.UkvIdeal.τ).loc Cert.UkvIdeal.main_arg0)
      ∧ m' ((c.tc : Thread Cert.UkvRefIdeal.nD Cert.UkvRefIdeal.τ).loc Cert.UkvRefIdeal.main_arg1) = m ((c.tc : Thread Cert.UkvIdeal.nD Cert.UkvIdeal.τ).loc Cert.UkvIdeal.main_arg1)) →
    ∃ (v0 : (c : Dev Cert.UkvIdeal.nD) → Buf (Elt Ideal) ((c.tc : Thread Cert.UkvIdeal.nD Cert.UkvIdeal.τ).loc Cert.UkvIdeal.main_v2)),
      θ_run (Cert.UkvIdeal.defs (F := Ideal)) (onTc (τ := Cert.UkvIdeal.τ) (Cert.UkvIdeal.main (F := Ideal))) ⟨m, fun _ => 0, g⟩ (fun r => ∀ c : Dev Cert.UkvIdeal.nD,
          r.2.mem ((c.tc : Thread Cert.UkvIdeal.nD Cert.UkvIdeal.τ).loc Cert.UkvIdeal.main_v2) = v0 c
          ∧ r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
          ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ θ_run (Cert.UkvRefIdeal.defs (F := Ideal)) (onTc (τ := Cert.UkvRefIdeal.τ) (Cert.UkvRefIdeal.main (F := Ideal))) ⟨m', fun _ => 0, g'⟩ (fun r => ∀ c : Dev Cert.UkvRefIdeal.nD,
          r.2.mem ((c.tc : Thread Cert.UkvRefIdeal.nD Cert.UkvRefIdeal.τ).loc Cert.UkvRefIdeal.main_v0) = v0 c
          ∧ r.2.mem ((c.tc : Thread Cert.UkvRefIdeal.nD Cert.UkvRefIdeal.τ).loc Cert.UkvRefIdeal.main_arg0) = m' ((c.tc : Thread Cert.UkvRefIdeal.nD Cert.UkvRefIdeal.τ).loc Cert.UkvRefIdeal.main_arg0)
          ∧ r.2.mem ((c.tc : Thread Cert.UkvRefIdeal.nD Cert.UkvRefIdeal.τ).loc Cert.UkvRefIdeal.main_arg1) = m' ((c.tc : Thread Cert.UkvRefIdeal.nD Cert.UkvRefIdeal.τ).loc Cert.UkvRefIdeal.main_arg1))

def preserves_Dkvln_DkvlnIdeal : Prop :=
  True

def algebraic_DkvlnIdeal_DkvlnRefIdeal [hDkvlnIdeal : Cert.DkvlnIdeal.Facts] [hDkvlnRefIdeal : Cert.DkvlnRefIdeal.Facts] : Prop :=
  ∀ (m : (ℓ : Loc Cert.DkvlnIdeal.nD Cert.DkvlnIdeal.τ Cert.DkvlnIdeal.sig) → Buf (Elt Ideal) ℓ) (g : Dev Cert.DkvlnIdeal.nD → PrngReg)
    (m' : (ℓ : Loc Cert.DkvlnRefIdeal.nD Cert.DkvlnRefIdeal.τ Cert.DkvlnRefIdeal.sig) → Buf (Elt Ideal) ℓ) (g' : Dev Cert.DkvlnRefIdeal.nD → PrngReg), Pre_DkvlnIdeal m →
    (∀ c : Dev Cert.DkvlnIdeal.nD,
      m' ((c.tc : Thread Cert.DkvlnRefIdeal.nD Cert.DkvlnRefIdeal.τ).loc Cert.DkvlnRefIdeal.main_arg0) = m ((c.tc : Thread Cert.DkvlnIdeal.nD Cert.DkvlnIdeal.τ).loc Cert.DkvlnIdeal.main_arg0)
      ∧ m' ((c.tc : Thread Cert.DkvlnRefIdeal.nD Cert.DkvlnRefIdeal.τ).loc Cert.DkvlnRefIdeal.main_arg1) = m ((c.tc : Thread Cert.DkvlnIdeal.nD Cert.DkvlnIdeal.τ).loc Cert.DkvlnIdeal.main_arg1)
      ∧ m' ((c.tc : Thread Cert.DkvlnRefIdeal.nD Cert.DkvlnRefIdeal.τ).loc Cert.DkvlnRefIdeal.main_arg2) = m ((c.tc : Thread Cert.DkvlnIdeal.nD Cert.DkvlnIdeal.τ).loc Cert.DkvlnIdeal.main_arg2)) →
    ∃ (v0 : (c : Dev Cert.DkvlnIdeal.nD) → Buf (Elt Ideal) ((c.tc : Thread Cert.DkvlnIdeal.nD Cert.DkvlnIdeal.τ).loc Cert.DkvlnIdeal.main_v2)),
      θ_run (Cert.DkvlnIdeal.defs (F := Ideal)) (onTc (τ := Cert.DkvlnIdeal.τ) (Cert.DkvlnIdeal.main (F := Ideal))) ⟨m, fun _ => 0, g⟩ (fun r => ∀ c : Dev Cert.DkvlnIdeal.nD,
          r.2.mem ((c.tc : Thread Cert.DkvlnIdeal.nD Cert.DkvlnIdeal.τ).loc Cert.DkvlnIdeal.main_v2) = v0 c
          ∧ r.2.mem ((c.tc : Thread Cert.DkvlnIdeal.nD Cert.DkvlnIdeal.τ).loc Cert.DkvlnIdeal.main_arg0) = m ((c.tc : Thread Cert.DkvlnIdeal.nD Cert.DkvlnIdeal.τ).loc Cert.DkvlnIdeal.main_arg0)
          ∧ r.2.mem ((c.tc : Thread Cert.DkvlnIdeal.nD Cert.DkvlnIdeal.τ).loc Cert.DkvlnIdeal.main_arg1) = m ((c.tc : Thread Cert.DkvlnIdeal.nD Cert.DkvlnIdeal.τ).loc Cert.DkvlnIdeal.main_arg1)
          ∧ r.2.mem ((c.tc : Thread Cert.DkvlnIdeal.nD Cert.DkvlnIdeal.τ).loc Cert.DkvlnIdeal.main_arg2) = m ((c.tc : Thread Cert.DkvlnIdeal.nD Cert.DkvlnIdeal.τ).loc Cert.DkvlnIdeal.main_arg2))
      ∧ θ_run (Cert.DkvlnRefIdeal.defs (F := Ideal)) (onTc (τ := Cert.DkvlnRefIdeal.τ) (Cert.DkvlnRefIdeal.main (F := Ideal))) ⟨m', fun _ => 0, g'⟩ (fun r => ∀ c : Dev Cert.DkvlnRefIdeal.nD,
          r.2.mem ((c.tc : Thread Cert.DkvlnRefIdeal.nD Cert.DkvlnRefIdeal.τ).loc Cert.DkvlnRefIdeal.main_v1) = v0 c
          ∧ r.2.mem ((c.tc : Thread Cert.DkvlnRefIdeal.nD Cert.DkvlnRefIdeal.τ).loc Cert.DkvlnRefIdeal.main_arg0) = m' ((c.tc : Thread Cert.DkvlnRefIdeal.nD Cert.DkvlnRefIdeal.τ).loc Cert.DkvlnRefIdeal.main_arg0)
          ∧ r.2.mem ((c.tc : Thread Cert.DkvlnRefIdeal.nD Cert.DkvlnRefIdeal.τ).loc Cert.DkvlnRefIdeal.main_arg1) = m' ((c.tc : Thread Cert.DkvlnRefIdeal.nD Cert.DkvlnRefIdeal.τ).loc Cert.DkvlnRefIdeal.main_arg1)
          ∧ r.2.mem ((c.tc : Thread Cert.DkvlnRefIdeal.nD Cert.DkvlnRefIdeal.τ).loc Cert.DkvlnRefIdeal.main_arg2) = m' ((c.tc : Thread Cert.DkvlnRefIdeal.nD Cert.DkvlnRefIdeal.τ).loc Cert.DkvlnRefIdeal.main_arg2))

def preserves_DwUkv_DwUkvIdeal : Prop :=
  True

def algebraic_DwUkvIdeal_DwUkvRefIdeal [hDwUkvIdeal : Cert.DwUkvIdeal.Facts] [hDwUkvRefIdeal : Cert.DwUkvRefIdeal.Facts] : Prop :=
  ∀ (m : (ℓ : Loc Cert.DwUkvIdeal.nD Cert.DwUkvIdeal.τ Cert.DwUkvIdeal.sig) → Buf (Elt Ideal) ℓ) (g : Dev Cert.DwUkvIdeal.nD → PrngReg)
    (m' : (ℓ : Loc Cert.DwUkvRefIdeal.nD Cert.DwUkvRefIdeal.τ Cert.DwUkvRefIdeal.sig) → Buf (Elt Ideal) ℓ) (g' : Dev Cert.DwUkvRefIdeal.nD → PrngReg), Pre_DwUkvIdeal m →
    (∀ c : Dev Cert.DwUkvIdeal.nD,
      m' ((c.tc : Thread Cert.DwUkvRefIdeal.nD Cert.DwUkvRefIdeal.τ).loc Cert.DwUkvRefIdeal.main_arg0) = m ((c.tc : Thread Cert.DwUkvIdeal.nD Cert.DwUkvIdeal.τ).loc Cert.DwUkvIdeal.main_arg0)
      ∧ m' ((c.tc : Thread Cert.DwUkvRefIdeal.nD Cert.DwUkvRefIdeal.τ).loc Cert.DwUkvRefIdeal.main_arg1) = m ((c.tc : Thread Cert.DwUkvIdeal.nD Cert.DwUkvIdeal.τ).loc Cert.DwUkvIdeal.main_arg1)
      ∧ m' ((c.tc : Thread Cert.DwUkvRefIdeal.nD Cert.DwUkvRefIdeal.τ).loc Cert.DwUkvRefIdeal.main_arg2) = m ((c.tc : Thread Cert.DwUkvIdeal.nD Cert.DwUkvIdeal.τ).loc Cert.DwUkvIdeal.main_arg2)) →
    ∃ (v0 : (c : Dev Cert.DwUkvIdeal.nD) → Buf (Elt Ideal) ((c.tc : Thread Cert.DwUkvIdeal.nD Cert.DwUkvIdeal.τ).loc Cert.DwUkvIdeal.main_v2)),
      θ_run (Cert.DwUkvIdeal.defs (F := Ideal)) (onTc (τ := Cert.DwUkvIdeal.τ) (Cert.DwUkvIdeal.main (F := Ideal))) ⟨m, fun _ => 0, g⟩ (fun r => ∀ c : Dev Cert.DwUkvIdeal.nD,
          r.2.mem ((c.tc : Thread Cert.DwUkvIdeal.nD Cert.DwUkvIdeal.τ).loc Cert.DwUkvIdeal.main_v2) = v0 c
          ∧ r.2.mem ((c.tc : Thread Cert.DwUkvIdeal.nD Cert.DwUkvIdeal.τ).loc Cert.DwUkvIdeal.main_arg0) = m ((c.tc : Thread Cert.DwUkvIdeal.nD Cert.DwUkvIdeal.τ).loc Cert.DwUkvIdeal.main_arg0)
          ∧ r.2.mem ((c.tc : Thread Cert.DwUkvIdeal.nD Cert.DwUkvIdeal.τ).loc Cert.DwUkvIdeal.main_arg1) = m ((c.tc : Thread Cert.DwUkvIdeal.nD Cert.DwUkvIdeal.τ).loc Cert.DwUkvIdeal.main_arg1)
          ∧ r.2.mem ((c.tc : Thread Cert.DwUkvIdeal.nD Cert.DwUkvIdeal.τ).loc Cert.DwUkvIdeal.main_arg2) = m ((c.tc : Thread Cert.DwUkvIdeal.nD Cert.DwUkvIdeal.τ).loc Cert.DwUkvIdeal.main_arg2))
      ∧ θ_run (Cert.DwUkvRefIdeal.defs (F := Ideal)) (onTc (τ := Cert.DwUkvRefIdeal.τ) (Cert.DwUkvRefIdeal.main (F := Ideal))) ⟨m', fun _ => 0, g'⟩ (fun r => ∀ c : Dev Cert.DwUkvRefIdeal.nD,
          r.2.mem ((c.tc : Thread Cert.DwUkvRefIdeal.nD Cert.DwUkvRefIdeal.τ).loc Cert.DwUkvRefIdeal.main_v3) = v0 c
          ∧ r.2.mem ((c.tc : Thread Cert.DwUkvRefIdeal.nD Cert.DwUkvRefIdeal.τ).loc Cert.DwUkvRefIdeal.main_arg0) = m' ((c.tc : Thread Cert.DwUkvRefIdeal.nD Cert.DwUkvRefIdeal.τ).loc Cert.DwUkvRefIdeal.main_arg0)
          ∧ r.2.mem ((c.tc : Thread Cert.DwUkvRefIdeal.nD Cert.DwUkvRefIdeal.τ).loc Cert.DwUkvRefIdeal.main_arg1) = m' ((c.tc : Thread Cert.DwUkvRefIdeal.nD Cert.DwUkvRefIdeal.τ).loc Cert.DwUkvRefIdeal.main_arg1)
          ∧ r.2.mem ((c.tc : Thread Cert.DwUkvRefIdeal.nD Cert.DwUkvRefIdeal.τ).loc Cert.DwUkvRefIdeal.main_arg2) = m' ((c.tc : Thread Cert.DwUkvRefIdeal.nD Cert.DwUkvRefIdeal.τ).loc Cert.DwUkvRefIdeal.main_arg2))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v2) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_DwGate_DwGateIdeal : Prop :=
  True

def algebraic_DwGateIdeal_DwGateRefIdeal [hDwGateIdeal : Cert.DwGateIdeal.Facts] [hDwGateRefIdeal : Cert.DwGateRefIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateIdeal m →
    (∀ c : Dev Cert.DwGateIdeal.nD,
      m' ((c.tc : Thread Cert.DwGateRefIdeal.nD Cert.DwGateRefIdeal.τ).loc Cert.DwGateRefIdeal.main_arg0) = m ((c.tc : Thread Cert.DwGateIdeal.nD Cert.DwGateIdeal.τ).loc Cert.DwGateIdeal.main_arg0)
      ∧ m' ((c.tc : Thread Cert.DwGateRefIdeal.nD Cert.DwGateRefIdeal.τ).loc Cert.DwGateRefIdeal.main_arg1) = m ((c.tc : Thread Cert.DwGateIdeal.nD Cert.DwGateIdeal.τ).loc Cert.DwGateIdeal.main_arg1)
      ∧ m' ((c.tc : Thread Cert.DwGateRefIdeal.nD Cert.DwGateRefIdeal.τ).loc Cert.DwGateRefIdeal.main_arg2) = m ((c.tc : Thread Cert.DwGateIdeal.nD Cert.DwGateIdeal.τ).loc Cert.DwGateIdeal.main_arg2)) →
    ∃ (v0 : (c : Dev Cert.DwGateIdeal.nD) → Buf (Elt Ideal) ((c.tc : Thread Cert.DwGateIdeal.nD Cert.DwGateIdeal.τ).loc Cert.DwGateIdeal.main_v2)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v2) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1)
          ∧ r.2.mem ((c.tc : Thread Cert.DwGateIdeal.nD Cert.DwGateIdeal.τ).loc Cert.DwGateIdeal.main_arg2) = m ((c.tc : Thread Cert.DwGateIdeal.nD Cert.DwGateIdeal.τ).loc Cert.DwGateIdeal.main_arg2))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v4) = v0 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1)
          ∧ r.2.mem ((c.tc : Thread Cert.DwGateRefIdeal.nD Cert.DwGateRefIdeal.τ).loc Cert.DwGateRefIdeal.main_arg2) = m' ((c.tc : Thread Cert.DwGateRefIdeal.nD Cert.DwGateRefIdeal.τ).loc Cert.DwGateRefIdeal.main_arg2))

def preserves_Dh2_Dh2Ideal : Prop :=
  True

def algebraic_Dh2Ideal_Dh2RefIdeal [hDh2Ideal : Cert.Dh2Ideal.Facts] [hDh2RefIdeal : Cert.Dh2RefIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2RefIdeal.nD Cert.Dh2RefIdeal.τ Cert.Dh2RefIdeal.sig) → Buf (Elt Ideal) ℓ) (g' : Dev Cert.Dh2RefIdeal.nD → PrngReg), Pre_Dh2Ideal m →
    (∀ c : Dev Cert.Dh2Ideal.nD,
      m' ((c.tc : Thread Cert.Dh2RefIdeal.nD Cert.Dh2RefIdeal.τ).loc Cert.Dh2RefIdeal.main_arg0) = m ((c.tc : Thread Cert.Dh2Ideal.nD Cert.Dh2Ideal.τ).loc Cert.Dh2Ideal.main_arg0)
      ∧ m' ((c.tc : Thread Cert.Dh2RefIdeal.nD Cert.Dh2RefIdeal.τ).loc Cert.Dh2RefIdeal.main_arg1) = m ((c.tc : Thread Cert.Dh2Ideal.nD Cert.Dh2Ideal.τ).loc Cert.Dh2Ideal.main_arg1)
      ∧ m' ((c.tc : Thread Cert.Dh2RefIdeal.nD Cert.Dh2RefIdeal.τ).loc Cert.Dh2RefIdeal.main_arg2) = m ((c.tc : Thread Cert.Dh2Ideal.nD Cert.Dh2Ideal.τ).loc Cert.Dh2Ideal.main_arg2)
      ∧ m' ((c.tc : Thread Cert.Dh2RefIdeal.nD Cert.Dh2RefIdeal.τ).loc Cert.Dh2RefIdeal.main_arg3) = m ((c.tc : Thread Cert.Dh2Ideal.nD Cert.Dh2Ideal.τ).loc Cert.Dh2Ideal.main_arg3)
      ∧ m' ((c.tc : Thread Cert.Dh2RefIdeal.nD Cert.Dh2RefIdeal.τ).loc Cert.Dh2RefIdeal.main_arg4) = m ((c.tc : Thread Cert.Dh2Ideal.nD Cert.Dh2Ideal.τ).loc Cert.Dh2Ideal.main_arg4)) →
    ∃ (v0 : (c : Dev Cert.Dh2Ideal.nD) → Buf (Elt Ideal) ((c.tc : Thread Cert.Dh2Ideal.nD Cert.Dh2Ideal.τ).loc Cert.Dh2Ideal.main_v3_0)) (v1 : (c : Dev Cert.Dh2Ideal.nD) → Buf (Elt Ideal) ((c.tc : Thread Cert.Dh2Ideal.nD Cert.Dh2Ideal.τ).loc Cert.Dh2Ideal.main_v3_1)) (v2 : (c : Dev Cert.Dh2Ideal.nD) → Buf (Elt Ideal) ((c.tc : Thread Cert.Dh2Ideal.nD Cert.Dh2Ideal.τ).loc Cert.Dh2Ideal.main_v3_2)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v3_0) = v0 c
          ∧ r.2.mem ((c.tc : Thread Cert.Dh2Ideal.nD Cert.Dh2Ideal.τ).loc Cert.Dh2Ideal.main_v3_1) = v1 c
          ∧ r.2.mem ((c.tc : Thread Cert.Dh2Ideal.nD Cert.Dh2Ideal.τ).loc Cert.Dh2Ideal.main_v3_2) = v2 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
          ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2)
          ∧ r.2.mem ((c.tc : Thread Cert.Dh2Ideal.nD Cert.Dh2Ideal.τ).loc Cert.Dh2Ideal.main_arg3) = m ((c.tc : Thread Cert.Dh2Ideal.nD Cert.Dh2Ideal.τ).loc Cert.Dh2Ideal.main_arg3)
          ∧ r.2.mem ((c.tc : Thread Cert.Dh2Ideal.nD Cert.Dh2Ideal.τ).loc Cert.Dh2Ideal.main_arg4) = m ((c.tc : Thread Cert.Dh2Ideal.nD Cert.Dh2Ideal.τ).loc Cert.Dh2Ideal.main_arg4))
      ∧ θ_run (Cert.Dh2RefIdeal.defs (F := Ideal)) (onTc (τ := Cert.Dh2RefIdeal.τ) (Cert.Dh2RefIdeal.main (F := Ideal))) ⟨m', fun _ => 0, g'⟩ (fun r => ∀ c : Dev Cert.Dh2RefIdeal.nD,
          r.2.mem ((c.tc : Thread Cert.Dh2RefIdeal.nD Cert.Dh2RefIdeal.τ).loc Cert.Dh2RefIdeal.main_v38) = v0 c
          ∧ r.2.mem ((c.tc : Thread Cert.Dh2RefIdeal.nD Cert.Dh2RefIdeal.τ).loc Cert.Dh2RefIdeal.main_v40) = v1 c
          ∧ r.2.mem ((c.tc : Thread Cert.Dh2RefIdeal.nD Cert.Dh2RefIdeal.τ).loc Cert.Dh2RefIdeal.main_v41) = v2 c
          ∧ r.2.mem ((c.tc : Thread Cert.Dh2RefIdeal.nD Cert.Dh2RefIdeal.τ).loc Cert.Dh2RefIdeal.main_arg0) = m' ((c.tc : Thread Cert.Dh2RefIdeal.nD Cert.Dh2RefIdeal.τ).loc Cert.Dh2RefIdeal.main_arg0)
          ∧ r.2.mem ((c.tc : Thread Cert.Dh2RefIdeal.nD Cert.Dh2RefIdeal.τ).loc Cert.Dh2RefIdeal.main_arg1) = m' ((c.tc : Thread Cert.Dh2RefIdeal.nD Cert.Dh2RefIdeal.τ).loc Cert.Dh2RefIdeal.main_arg1)
          ∧ r.2.mem ((c.tc : Thread Cert.Dh2RefIdeal.nD Cert.Dh2RefIdeal.τ).loc Cert.Dh2RefIdeal.main_arg2) = m' ((c.tc : Thread Cert.Dh2RefIdeal.nD Cert.Dh2RefIdeal.τ).loc Cert.Dh2RefIdeal.main_arg2)
          ∧ r.2.mem ((c.tc : Thread Cert.Dh2RefIdeal.nD Cert.Dh2RefIdeal.τ).loc Cert.Dh2RefIdeal.main_arg3) = m' ((c.tc : Thread Cert.Dh2RefIdeal.nD Cert.Dh2RefIdeal.τ).loc Cert.Dh2RefIdeal.main_arg3)
          ∧ r.2.mem ((c.tc : Thread Cert.Dh2RefIdeal.nD Cert.Dh2RefIdeal.τ).loc Cert.Dh2RefIdeal.main_arg4) = m' ((c.tc : Thread Cert.Dh2RefIdeal.nD Cert.Dh2RefIdeal.τ).loc Cert.Dh2RefIdeal.main_arg4))

def preserves_Dh3_Dh3Ideal : Prop :=
  True

def algebraic_Dh3Ideal_Dh3RefIdeal [hDh3Ideal : Cert.Dh3Ideal.Facts] [hDh3RefIdeal : Cert.Dh3RefIdeal.Facts] : Prop :=
  ∀ (m : (ℓ : Loc Cert.Dh3Ideal.nD Cert.Dh3Ideal.τ Cert.Dh3Ideal.sig) → Buf (Elt Ideal) ℓ) (g : Dev Cert.Dh3Ideal.nD → PrngReg)
    (m' : (ℓ : Loc Cert.Dh3RefIdeal.nD Cert.Dh3RefIdeal.τ Cert.Dh3RefIdeal.sig) → Buf (Elt Ideal) ℓ) (g' : Dev Cert.Dh3RefIdeal.nD → PrngReg), Pre_Dh3Ideal m →
    (∀ c : Dev Cert.Dh3Ideal.nD,
      m' ((c.tc : Thread Cert.Dh3RefIdeal.nD Cert.Dh3RefIdeal.τ).loc Cert.Dh3RefIdeal.main_arg0) = m ((c.tc : Thread Cert.Dh3Ideal.nD Cert.Dh3Ideal.τ).loc Cert.Dh3Ideal.main_arg0)
      ∧ m' ((c.tc : Thread Cert.Dh3RefIdeal.nD Cert.Dh3RefIdeal.τ).loc Cert.Dh3RefIdeal.main_arg1) = m ((c.tc : Thread Cert.Dh3Ideal.nD Cert.Dh3Ideal.τ).loc Cert.Dh3Ideal.main_arg1)
      ∧ m' ((c.tc : Thread Cert.Dh3RefIdeal.nD Cert.Dh3RefIdeal.τ).loc Cert.Dh3RefIdeal.main_arg2) = m ((c.tc : Thread Cert.Dh3Ideal.nD Cert.Dh3Ideal.τ).loc Cert.Dh3Ideal.main_arg2)
      ∧ m' ((c.tc : Thread Cert.Dh3RefIdeal.nD Cert.Dh3RefIdeal.τ).loc Cert.Dh3RefIdeal.main_arg3) = m ((c.tc : Thread Cert.Dh3Ideal.nD Cert.Dh3Ideal.τ).loc Cert.Dh3Ideal.main_arg3)
      ∧ m' ((c.tc : Thread Cert.Dh3RefIdeal.nD Cert.Dh3RefIdeal.τ).loc Cert.Dh3RefIdeal.main_arg4) = m ((c.tc : Thread Cert.Dh3Ideal.nD Cert.Dh3Ideal.τ).loc Cert.Dh3Ideal.main_arg4)) →
    ∃ (v0 : (c : Dev Cert.Dh3Ideal.nD) → Buf (Elt Ideal) ((c.tc : Thread Cert.Dh3Ideal.nD Cert.Dh3Ideal.τ).loc Cert.Dh3Ideal.main_v3_0)) (v1 : (c : Dev Cert.Dh3Ideal.nD) → Buf (Elt Ideal) ((c.tc : Thread Cert.Dh3Ideal.nD Cert.Dh3Ideal.τ).loc Cert.Dh3Ideal.main_v3_1)) (v2 : (c : Dev Cert.Dh3Ideal.nD) → Buf (Elt Ideal) ((c.tc : Thread Cert.Dh3Ideal.nD Cert.Dh3Ideal.τ).loc Cert.Dh3Ideal.main_v3_2)),
      θ_run (Cert.Dh3Ideal.defs (F := Ideal)) (onTc (τ := Cert.Dh3Ideal.τ) (Cert.Dh3Ideal.main (F := Ideal))) ⟨m, fun _ => 0, g⟩ (fun r => ∀ c : Dev Cert.Dh3Ideal.nD,
          r.2.mem ((c.tc : Thread Cert.Dh3Ideal.nD Cert.Dh3Ideal.τ).loc Cert.Dh3Ideal.main_v3_0) = v0 c
          ∧ r.2.mem ((c.tc : Thread Cert.Dh3Ideal.nD Cert.Dh3Ideal.τ).loc Cert.Dh3Ideal.main_v3_1) = v1 c
          ∧ r.2.mem ((c.tc : Thread Cert.Dh3Ideal.nD Cert.Dh3Ideal.τ).loc Cert.Dh3Ideal.main_v3_2) = v2 c
          ∧ r.2.mem ((c.tc : Thread Cert.Dh3Ideal.nD Cert.Dh3Ideal.τ).loc Cert.Dh3Ideal.main_arg0) = m ((c.tc : Thread Cert.Dh3Ideal.nD Cert.Dh3Ideal.τ).loc Cert.Dh3Ideal.main_arg0)
          ∧ r.2.mem ((c.tc : Thread Cert.Dh3Ideal.nD Cert.Dh3Ideal.τ).loc Cert.Dh3Ideal.main_arg1) = m ((c.tc : Thread Cert.Dh3Ideal.nD Cert.Dh3Ideal.τ).loc Cert.Dh3Ideal.main_arg1)
          ∧ r.2.mem ((c.tc : Thread Cert.Dh3Ideal.nD Cert.Dh3Ideal.τ).loc Cert.Dh3Ideal.main_arg2) = m ((c.tc : Thread Cert.Dh3Ideal.nD Cert.Dh3Ideal.τ).loc Cert.Dh3Ideal.main_arg2)
          ∧ r.2.mem ((c.tc : Thread Cert.Dh3Ideal.nD Cert.Dh3Ideal.τ).loc Cert.Dh3Ideal.main_arg3) = m ((c.tc : Thread Cert.Dh3Ideal.nD Cert.Dh3Ideal.τ).loc Cert.Dh3Ideal.main_arg3)
          ∧ r.2.mem ((c.tc : Thread Cert.Dh3Ideal.nD Cert.Dh3Ideal.τ).loc Cert.Dh3Ideal.main_arg4) = m ((c.tc : Thread Cert.Dh3Ideal.nD Cert.Dh3Ideal.τ).loc Cert.Dh3Ideal.main_arg4))
      ∧ θ_run (Cert.Dh3RefIdeal.defs (F := Ideal)) (onTc (τ := Cert.Dh3RefIdeal.τ) (Cert.Dh3RefIdeal.main (F := Ideal))) ⟨m', fun _ => 0, g'⟩ (fun r => ∀ c : Dev Cert.Dh3RefIdeal.nD,
          r.2.mem ((c.tc : Thread Cert.Dh3RefIdeal.nD Cert.Dh3RefIdeal.τ).loc Cert.Dh3RefIdeal.main_v40) = v0 c
          ∧ r.2.mem ((c.tc : Thread Cert.Dh3RefIdeal.nD Cert.Dh3RefIdeal.τ).loc Cert.Dh3RefIdeal.main_v42) = v1 c
          ∧ r.2.mem ((c.tc : Thread Cert.Dh3RefIdeal.nD Cert.Dh3RefIdeal.τ).loc Cert.Dh3RefIdeal.main_v43) = v2 c
          ∧ r.2.mem ((c.tc : Thread Cert.Dh3RefIdeal.nD Cert.Dh3RefIdeal.τ).loc Cert.Dh3RefIdeal.main_arg0) = m' ((c.tc : Thread Cert.Dh3RefIdeal.nD Cert.Dh3RefIdeal.τ).loc Cert.Dh3RefIdeal.main_arg0)
          ∧ r.2.mem ((c.tc : Thread Cert.Dh3RefIdeal.nD Cert.Dh3RefIdeal.τ).loc Cert.Dh3RefIdeal.main_arg1) = m' ((c.tc : Thread Cert.Dh3RefIdeal.nD Cert.Dh3RefIdeal.τ).loc Cert.Dh3RefIdeal.main_arg1)
          ∧ r.2.mem ((c.tc : Thread Cert.Dh3RefIdeal.nD Cert.Dh3RefIdeal.τ).loc Cert.Dh3RefIdeal.main_arg2) = m' ((c.tc : Thread Cert.Dh3RefIdeal.nD Cert.Dh3RefIdeal.τ).loc Cert.Dh3RefIdeal.main_arg2)
          ∧ r.2.mem ((c.tc : Thread Cert.Dh3RefIdeal.nD Cert.Dh3RefIdeal.τ).loc Cert.Dh3RefIdeal.main_arg3) = m' ((c.tc : Thread Cert.Dh3RefIdeal.nD Cert.Dh3RefIdeal.τ).loc Cert.Dh3RefIdeal.main_arg3)
          ∧ r.2.mem ((c.tc : Thread Cert.Dh3RefIdeal.nD Cert.Dh3RefIdeal.τ).loc Cert.Dh3RefIdeal.main_arg4) = m' ((c.tc : Thread Cert.Dh3RefIdeal.nD Cert.Dh3RefIdeal.τ).loc Cert.Dh3RefIdeal.main_arg4))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)
      ∧ m' ((c.tc : Thread Cert.DhRefIdeal.nD Cert.DhRefIdeal.τ).loc Cert.DhRefIdeal.main_arg4) = m ((c.tc : Thread Cert.DhIdeal.nD Cert.DhIdeal.τ).loc Cert.DhIdeal.main_arg4)) →
    ∃ (v0 : (c : Dev Cert.DhIdeal.nD) → Buf (Elt Ideal) ((c.tc : Thread Cert.DhIdeal.nD Cert.DhIdeal.τ).loc Cert.DhIdeal.main_v3_0)) (v1 : (c : Dev Cert.DhIdeal.nD) → Buf (Elt Ideal) ((c.tc : Thread Cert.DhIdeal.nD Cert.DhIdeal.τ).loc Cert.DhIdeal.main_v3_1)) (v2 : (c : Dev Cert.DhIdeal.nD) → Buf (Elt Ideal) ((c.tc : Thread Cert.DhIdeal.nD Cert.DhIdeal.τ).loc Cert.DhIdeal.main_v3_2)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v3_0) = v0 c
          ∧ r.2.mem ((c.tc : Thread Cert.DhIdeal.nD Cert.DhIdeal.τ).loc Cert.DhIdeal.main_v3_1) = v1 c
          ∧ r.2.mem ((c.tc : Thread Cert.DhIdeal.nD Cert.DhIdeal.τ).loc Cert.DhIdeal.main_v3_2) = v2 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v38) = v0 c
          ∧ r.2.mem ((c.tc : Thread Cert.DhRefIdeal.nD Cert.DhRefIdeal.τ).loc Cert.DhRefIdeal.main_v40) = v1 c
          ∧ r.2.mem ((c.tc : Thread Cert.DhRefIdeal.nD Cert.DhRefIdeal.τ).loc Cert.DhRefIdeal.main_v41) = v2 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)) →
    ∃ (v0 : (c : Dev Cert.PleIdeal.nD) → Buf (Elt Ideal) ((c.tc : Thread Cert.PleIdeal.nD Cert.PleIdeal.τ).loc Cert.PleIdeal.main_v1)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v1) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v0) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1))

def preserves_DwPle_DwPleIdeal : Prop :=
  True

def algebraic_DwPleIdeal_DwPleRefIdeal [hDwPleIdeal : Cert.DwPleIdeal.Facts] [hDwPleRefIdeal : Cert.DwPleRefIdeal.Facts] : Prop :=
  ∀ (m : (ℓ : Loc Cert.DwPleIdeal.nD Cert.DwPleIdeal.τ Cert.DwPleIdeal.sig) → Buf (Elt Ideal) ℓ) (g : Dev Cert.DwPleIdeal.nD → PrngReg)
    (m' : (ℓ : Loc Cert.DwPleRefIdeal.nD Cert.DwPleRefIdeal.τ Cert.DwPleRefIdeal.sig) → Buf (Elt Ideal) ℓ) (g' : Dev Cert.DwPleRefIdeal.nD → PrngReg), Pre_DwPleIdeal m →
    (∀ c : Dev Cert.DwPleIdeal.nD,
      m' ((c.tc : Thread Cert.DwPleRefIdeal.nD Cert.DwPleRefIdeal.τ).loc Cert.DwPleRefIdeal.main_arg0) = m ((c.tc : Thread Cert.DwPleIdeal.nD Cert.DwPleIdeal.τ).loc Cert.DwPleIdeal.main_arg0)
      ∧ m' ((c.tc : Thread Cert.DwPleRefIdeal.nD Cert.DwPleRefIdeal.τ).loc Cert.DwPleRefIdeal.main_arg1) = m ((c.tc : Thread Cert.DwPleIdeal.nD Cert.DwPleIdeal.τ).loc Cert.DwPleIdeal.main_arg1)
      ∧ m' ((c.tc : Thread Cert.DwPleRefIdeal.nD Cert.DwPleRefIdeal.τ).loc Cert.DwPleRefIdeal.main_arg2) = m ((c.tc : Thread Cert.DwPleIdeal.nD Cert.DwPleIdeal.τ).loc Cert.DwPleIdeal.main_arg2)) →
    ∃ (v0 : (c : Dev Cert.DwPleIdeal.nD) → Buf (Elt Ideal) ((c.tc : Thread Cert.DwPleIdeal.nD Cert.DwPleIdeal.τ).loc Cert.DwPleIdeal.main_v1)),
      θ_run (Cert.DwPleIdeal.defs (F := Ideal)) (onTc (τ := Cert.DwPleIdeal.τ) (Cert.DwPleIdeal.main (F := Ideal))) ⟨m, fun _ => 0, g⟩ (fun r => ∀ c : Dev Cert.DwPleIdeal.nD,
          r.2.mem ((c.tc : Thread Cert.DwPleIdeal.nD Cert.DwPleIdeal.τ).loc Cert.DwPleIdeal.main_v1) = v0 c
          ∧ r.2.mem ((c.tc : Thread Cert.DwPleIdeal.nD Cert.DwPleIdeal.τ).loc Cert.DwPleIdeal.main_arg0) = m ((c.tc : Thread Cert.DwPleIdeal.nD Cert.DwPleIdeal.τ).loc Cert.DwPleIdeal.main_arg0)
          ∧ r.2.mem ((c.tc : Thread Cert.DwPleIdeal.nD Cert.DwPleIdeal.τ).loc Cert.DwPleIdeal.main_arg1) = m ((c.tc : Thread Cert.DwPleIdeal.nD Cert.DwPleIdeal.τ).loc Cert.DwPleIdeal.main_arg1)
          ∧ r.2.mem ((c.tc : Thread Cert.DwPleIdeal.nD Cert.DwPleIdeal.τ).loc Cert.DwPleIdeal.main_arg2) = m ((c.tc : Thread Cert.DwPleIdeal.nD Cert.DwPleIdeal.τ).loc Cert.DwPleIdeal.main_arg2))
      ∧ θ_run (Cert.DwPleRefIdeal.defs (F := Ideal)) (onTc (τ := Cert.DwPleRefIdeal.τ) (Cert.DwPleRefIdeal.main (F := Ideal))) ⟨m', fun _ => 0, g'⟩ (fun r => ∀ c : Dev Cert.DwPleRefIdeal.nD,
          r.2.mem ((c.tc : Thread Cert.DwPleRefIdeal.nD Cert.DwPleRefIdeal.τ).loc Cert.DwPleRefIdeal.main_v5) = v0 c
          ∧ r.2.mem ((c.tc : Thread Cert.DwPleRefIdeal.nD Cert.DwPleRefIdeal.τ).loc Cert.DwPleRefIdeal.main_arg0) = m' ((c.tc : Thread Cert.DwPleRefIdeal.nD Cert.DwPleRefIdeal.τ).loc Cert.DwPleRefIdeal.main_arg0)
          ∧ r.2.mem ((c.tc : Thread Cert.DwPleRefIdeal.nD Cert.DwPleRefIdeal.τ).loc Cert.DwPleRefIdeal.main_arg1) = m' ((c.tc : Thread Cert.DwPleRefIdeal.nD Cert.DwPleRefIdeal.τ).loc Cert.DwPleRefIdeal.main_arg1)
          ∧ r.2.mem ((c.tc : Thread Cert.DwPleRefIdeal.nD Cert.DwPleRefIdeal.τ).loc Cert.DwPleRefIdeal.main_arg2) = m' ((c.tc : Thread Cert.DwPleRefIdeal.nD Cert.DwPleRefIdeal.τ).loc Cert.DwPleRefIdeal.main_arg2))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDa : Cert.Da.Facts) (hDaIdeal : Cert.DaIdeal.Facts) (hDaRefIdeal : Cert.DaRefIdeal.Facts) (hDwDown : Cert.DwDown.Facts) (hDwDownIdeal : Cert.DwDownIdeal.Facts) (hDwDownRefIdeal : Cert.DwDownRefIdeal.Facts) (hDwUp : Cert.DwUp.Facts) (hDwUpIdeal : Cert.DwUpIdeal.Facts) (hDwUpRefIdeal : Cert.DwUpRefIdeal.Facts) (hDown : Cert.Down.Facts) (hDownIdeal : Cert.DownIdeal.Facts) (hDownRefIdeal : Cert.DownRefIdeal.Facts) (hO : Cert.O.Facts) (hOIdeal : Cert.OIdeal.Facts) (hORefIdeal : Cert.ORefIdeal.Facts) (hDmixed : Cert.Dmixed.Facts) (hDmixedIdeal : Cert.DmixedIdeal.Facts) (hDmixedRefIdeal : Cert.DmixedRefIdeal.Facts) (hDwO : Cert.DwO.Facts) (hDwOIdeal : Cert.DwOIdeal.Facts) (hDwORefIdeal : Cert.DwORefIdeal.Facts) (hIn : Cert.In.Facts) (hInIdeal : Cert.InIdeal.Facts) (hInRefIdeal : Cert.InRefIdeal.Facts) (hDwIn : Cert.DwIn.Facts) (hDwInIdeal : Cert.DwInIdeal.Facts) (hDwInRefIdeal : Cert.DwInRefIdeal.Facts) (hUq : Cert.Uq.Facts) (hUqIdeal : Cert.UqIdeal.Facts) (hUqRefIdeal : Cert.UqRefIdeal.Facts) (hDqln : Cert.Dqln.Facts) (hDqlnIdeal : Cert.DqlnIdeal.Facts) (hDqlnRefIdeal : Cert.DqlnRefIdeal.Facts) (hDwUq : Cert.DwUq.Facts) (hDwUqIdeal : Cert.DwUqIdeal.Facts) (hDwUqRefIdeal : Cert.DwUqRefIdeal.Facts) (hUkv : Cert.Ukv.Facts) (hUkvIdeal : Cert.UkvIdeal.Facts) (hUkvRefIdeal : Cert.UkvRefIdeal.Facts) (hDkvln : Cert.Dkvln.Facts) (hDkvlnIdeal : Cert.DkvlnIdeal.Facts) (hDkvlnRefIdeal : Cert.DkvlnRefIdeal.Facts) (hDwUkv : Cert.DwUkv.Facts) (hDwUkvIdeal : Cert.DwUkvIdeal.Facts) (hDwUkvRefIdeal : Cert.DwUkvRefIdeal.Facts) (hGate : Cert.Gate.Facts) (hGateIdeal : Cert.GateIdeal.Facts) (hGateRefIdeal : Cert.GateRefIdeal.Facts) (hDwGate : Cert.DwGate.Facts) (hDwGateIdeal : Cert.DwGateIdeal.Facts) (hDwGateRefIdeal : Cert.DwGateRefIdeal.Facts) (hDh2 : Cert.Dh2.Facts) (hDh2Ideal : Cert.Dh2Ideal.Facts) (hDh2RefIdeal : Cert.Dh2RefIdeal.Facts) (hDh3 : Cert.Dh3.Facts) (hDh3Ideal : Cert.Dh3Ideal.Facts) (hDh3RefIdeal : Cert.Dh3RefIdeal.Facts) (hDh : Cert.Dh.Facts) (hDhIdeal : Cert.DhIdeal.Facts) (hDhRefIdeal : Cert.DhRefIdeal.Facts) (hPle : Cert.Ple.Facts) (hPleIdeal : Cert.PleIdeal.Facts) (hPleRefIdeal : Cert.PleRefIdeal.Facts) (hDwPle : Cert.DwPle.Facts) (hDwPleIdeal : Cert.DwPleIdeal.Facts) (hDwPleRefIdeal : Cert.DwPleRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Da (hDa := hDa)
    ∧ quiescent_DaIdeal (hDaIdeal := hDaIdeal)
    ∧ quiescent_DaRefIdeal (hDaRefIdeal := hDaRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_Down (hDown := hDown)
    ∧ quiescent_DownIdeal (hDownIdeal := hDownIdeal)
    ∧ quiescent_DownRefIdeal (hDownRefIdeal := hDownRefIdeal)
    ∧ quiescent_O (hO := hO)
    ∧ quiescent_OIdeal (hOIdeal := hOIdeal)
    ∧ quiescent_ORefIdeal (hORefIdeal := hORefIdeal)
    ∧ quiescent_Dmixed (hDmixed := hDmixed)
    ∧ quiescent_DmixedIdeal (hDmixedIdeal := hDmixedIdeal)
    ∧ quiescent_DmixedRefIdeal (hDmixedRefIdeal := hDmixedRefIdeal)
    ∧ quiescent_DwO (hDwO := hDwO)
    ∧ quiescent_DwOIdeal (hDwOIdeal := hDwOIdeal)
    ∧ quiescent_DwORefIdeal (hDwORefIdeal := hDwORefIdeal)
    ∧ quiescent_In (hIn := hIn)
    ∧ quiescent_InIdeal (hInIdeal := hInIdeal)
    ∧ quiescent_InRefIdeal (hInRefIdeal := hInRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_Uq (hUq := hUq)
    ∧ quiescent_UqIdeal (hUqIdeal := hUqIdeal)
    ∧ quiescent_UqRefIdeal (hUqRefIdeal := hUqRefIdeal)
    ∧ quiescent_Dqln (hDqln := hDqln)
    ∧ quiescent_DqlnIdeal (hDqlnIdeal := hDqlnIdeal)
    ∧ quiescent_DqlnRefIdeal (hDqlnRefIdeal := hDqlnRefIdeal)
    ∧ quiescent_DwUq (hDwUq := hDwUq)
    ∧ quiescent_DwUqIdeal (hDwUqIdeal := hDwUqIdeal)
    ∧ quiescent_DwUqRefIdeal (hDwUqRefIdeal := hDwUqRefIdeal)
    ∧ quiescent_Ukv (hUkv := hUkv)
    ∧ quiescent_UkvIdeal (hUkvIdeal := hUkvIdeal)
    ∧ quiescent_UkvRefIdeal (hUkvRefIdeal := hUkvRefIdeal)
    ∧ quiescent_Dkvln (hDkvln := hDkvln)
    ∧ quiescent_DkvlnIdeal (hDkvlnIdeal := hDkvlnIdeal)
    ∧ quiescent_DkvlnRefIdeal (hDkvlnRefIdeal := hDkvlnRefIdeal)
    ∧ quiescent_DwUkv (hDwUkv := hDwUkv)
    ∧ quiescent_DwUkvIdeal (hDwUkvIdeal := hDwUkvIdeal)
    ∧ quiescent_DwUkvRefIdeal (hDwUkvRefIdeal := hDwUkvRefIdeal)
    ∧ quiescent_Gate (hGate := hGate)
    ∧ quiescent_GateIdeal (hGateIdeal := hGateIdeal)
    ∧ quiescent_GateRefIdeal (hGateRefIdeal := hGateRefIdeal)
    ∧ quiescent_DwGate (hDwGate := hDwGate)
    ∧ quiescent_DwGateIdeal (hDwGateIdeal := hDwGateIdeal)
    ∧ quiescent_DwGateRefIdeal (hDwGateRefIdeal := hDwGateRefIdeal)
    ∧ quiescent_Dh2 (hDh2 := hDh2)
    ∧ quiescent_Dh2Ideal (hDh2Ideal := hDh2Ideal)
    ∧ quiescent_Dh2RefIdeal (hDh2RefIdeal := hDh2RefIdeal)
    ∧ quiescent_Dh3 (hDh3 := hDh3)
    ∧ quiescent_Dh3Ideal (hDh3Ideal := hDh3Ideal)
    ∧ quiescent_Dh3RefIdeal (hDh3RefIdeal := hDh3RefIdeal)
    ∧ quiescent_Dh (hDh := hDh)
    ∧ quiescent_DhIdeal (hDhIdeal := hDhIdeal)
    ∧ quiescent_DhRefIdeal (hDhRefIdeal := hDhRefIdeal)
    ∧ quiescent_Ple (hPle := hPle)
    ∧ quiescent_PleIdeal (hPleIdeal := hPleIdeal)
    ∧ quiescent_PleRefIdeal (hPleRefIdeal := hPleRefIdeal)
    ∧ quiescent_DwPle (hDwPle := hDwPle)
    ∧ quiescent_DwPleIdeal (hDwPleIdeal := hDwPleIdeal)
    ∧ quiescent_DwPleRefIdeal (hDwPleRefIdeal := hDwPleRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_Da_DaIdeal
    ∧ algebraic_DaIdeal_DaRefIdeal (hDaIdeal := hDaIdeal) (hDaRefIdeal := hDaRefIdeal)
    ∧ preserves_DwDown_DwDownIdeal
    ∧ algebraic_DwDownIdeal_DwDownRefIdeal (hDwDownIdeal := hDwDownIdeal) (hDwDownRefIdeal := hDwDownRefIdeal)
    ∧ preserves_DwUp_DwUpIdeal
    ∧ algebraic_DwUpIdeal_DwUpRefIdeal (hDwUpIdeal := hDwUpIdeal) (hDwUpRefIdeal := hDwUpRefIdeal)
    ∧ preserves_Down_DownIdeal
    ∧ algebraic_DownIdeal_DownRefIdeal (hDownIdeal := hDownIdeal) (hDownRefIdeal := hDownRefIdeal)
    ∧ preserves_O_OIdeal
    ∧ algebraic_OIdeal_ORefIdeal (hOIdeal := hOIdeal) (hORefIdeal := hORefIdeal)
    ∧ preserves_Dmixed_DmixedIdeal
    ∧ algebraic_DmixedIdeal_DmixedRefIdeal (hDmixedIdeal := hDmixedIdeal) (hDmixedRefIdeal := hDmixedRefIdeal)
    ∧ preserves_DwO_DwOIdeal
    ∧ algebraic_DwOIdeal_DwORefIdeal (hDwOIdeal := hDwOIdeal) (hDwORefIdeal := hDwORefIdeal)
    ∧ preserves_In_InIdeal
    ∧ algebraic_InIdeal_InRefIdeal (hInIdeal := hInIdeal) (hInRefIdeal := hInRefIdeal)
    ∧ preserves_DwIn_DwInIdeal
    ∧ algebraic_DwInIdeal_DwInRefIdeal (hDwInIdeal := hDwInIdeal) (hDwInRefIdeal := hDwInRefIdeal)
    ∧ preserves_Uq_UqIdeal
    ∧ algebraic_UqIdeal_UqRefIdeal (hUqIdeal := hUqIdeal) (hUqRefIdeal := hUqRefIdeal)
    ∧ preserves_Dqln_DqlnIdeal
    ∧ algebraic_DqlnIdeal_DqlnRefIdeal (hDqlnIdeal := hDqlnIdeal) (hDqlnRefIdeal := hDqlnRefIdeal)
    ∧ preserves_DwUq_DwUqIdeal
    ∧ algebraic_DwUqIdeal_DwUqRefIdeal (hDwUqIdeal := hDwUqIdeal) (hDwUqRefIdeal := hDwUqRefIdeal)
    ∧ preserves_Ukv_UkvIdeal
    ∧ algebraic_UkvIdeal_UkvRefIdeal (hUkvIdeal := hUkvIdeal) (hUkvRefIdeal := hUkvRefIdeal)
    ∧ preserves_Dkvln_DkvlnIdeal
    ∧ algebraic_DkvlnIdeal_DkvlnRefIdeal (hDkvlnIdeal := hDkvlnIdeal) (hDkvlnRefIdeal := hDkvlnRefIdeal)
    ∧ preserves_DwUkv_DwUkvIdeal
    ∧ algebraic_DwUkvIdeal_DwUkvRefIdeal (hDwUkvIdeal := hDwUkvIdeal) (hDwUkvRefIdeal := hDwUkvRefIdeal)
    ∧ preserves_Gate_GateIdeal
    ∧ algebraic_GateIdeal_GateRefIdeal (hGateIdeal := hGateIdeal) (hGateRefIdeal := hGateRefIdeal)
    ∧ preserves_DwGate_DwGateIdeal
    ∧ algebraic_DwGateIdeal_DwGateRefIdeal (hDwGateIdeal := hDwGateIdeal) (hDwGateRefIdeal := hDwGateRefIdeal)
    ∧ preserves_Dh2_Dh2Ideal
    ∧ algebraic_Dh2Ideal_Dh2RefIdeal (hDh2Ideal := hDh2Ideal) (hDh2RefIdeal := hDh2RefIdeal)
    ∧ preserves_Dh3_Dh3Ideal
    ∧ algebraic_Dh3Ideal_Dh3RefIdeal (hDh3Ideal := hDh3Ideal) (hDh3RefIdeal := hDh3RefIdeal)
    ∧ preserves_Dh_DhIdeal
    ∧ algebraic_DhIdeal_DhRefIdeal (hDhIdeal := hDhIdeal) (hDhRefIdeal := hDhRefIdeal)
    ∧ preserves_Ple_PleIdeal
    ∧ algebraic_PleIdeal_PleRefIdeal (hPleIdeal := hPleIdeal) (hPleRefIdeal := hPleRefIdeal)
    ∧ preserves_DwPle_DwPleIdeal
    ∧ algebraic_DwPleIdeal_DwPleRefIdeal (hDwPleIdeal := hDwPleIdeal) (hDwPleRefIdeal := hDwPleRefIdeal)
-- ==== Pre_finite.lean ====
abbrev S4096x8x96 : Shape := ⟨3, ![4096, 8, 96]⟩
abbrev S4096x8x64 : Shape := ⟨3, ![4096, 8, 64]⟩
abbrev S4096x512 : Shape := ⟨2, ![4096, 512]⟩
abbrev S_ : Shape := ⟨0, ![]⟩

class Facts : Prop where
  bcast_S_S4096x8x96 : S_.BroadcastsInDim S4096x8x96 (![] : Fin 0 → Fin S4096x8x96.rank)
  bcast_S_S4096x8x64 : S_.BroadcastsInDim S4096x8x64 (![] : Fin 0 → Fin S4096x8x64.rank)
  bcast_S_S4096x512 : S_.BroadcastsInDim S4096x512 (![] : Fin 0 → Fin S4096x512.rank)

variable [Facts]

def fn {F : FTy → Type} [FloatOps F] (main_arg0 : FVec F S4096x8x96 .f32) (main_arg1 : FVec F S4096x8x96 .f32) (main_arg2 : FVec F S4096x8x64 .f32) (main_arg3 : FVec F S4096x512 .f32) : IVec S4096x8x96 1 × IVec S4096x8x96 1 × IVec S4096x8x64 1 × IVec S4096x512 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_v3 : FVec F S4096x8x96 .f32 := Host.absf main_arg1
  let main_cst_0 : FVec F S_ .f32 := constant S_ .f32 0x7F800000#32
  let main_v4 : FVec F S4096x8x96 .f32 := broadcastInDim S4096x8x96 ![] bcast_S_S4096x8x96 main_cst_0
  let main_v5 : IVec S4096x8x96 1 := cmpf .olt main_v3 main_v4
  let main_v6 : FVec F S4096x8x64 .f32 := Host.absf main_arg2
  let main_cst_1 : FVec F S_ .f32 := constant S_ .f32 0x7F800000#32
  let main_v7 : FVec F S4096x8x64 .f32 := broadcastInDim S4096x8x64 ![] bcast_S_S4096x8x64 main_cst_1
  let main_v8 : IVec S4096x8x64 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  (main_v2, main_v5, main_v8, main_v11)
-- ==== Kernel.lean ====
abbrev S4096x8x96 : Shape := ⟨3, ![4096, 8, 96]⟩
abbrev S4096x8x64 : Shape := ⟨3, ![4096, 8, 64]⟩
abbrev S4096x512 : Shape := ⟨2, ![4096, 512]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S4096x768 : Shape := ⟨2, ![4096, 768]⟩
abbrev S4096x8x128 : Shape := ⟨3, ![4096, 8, 128]⟩
abbrev S4096x1024 : Shape := ⟨2, ![4096, 1024]⟩
abbrev S4096x8x1 : Shape := ⟨3, ![4096, 8, 1]⟩
abbrev S4096x8x65 : Shape := ⟨3, ![4096, 8, 65]⟩
abbrev S4096x520 : Shape := ⟨2, ![4096, 520]⟩
abbrev S8x4096x128 : Shape := ⟨3, ![8, 4096, 128]⟩
abbrev S4096x128 : Shape := ⟨2, ![4096, 128]⟩
abbrev S2048x128 : Shape := ⟨2, ![2048, 128]⟩
abbrev S1x4096x128 : Shape := ⟨3, ![1, 4096, 128]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S256x256 : Shape := ⟨2, ![256, 256]⟩

abbrev nBuf : Space → Nat
  | .hbm => 91
  | .vmem => 18
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x512, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S1x4096, .i32⟩
  | .hbm, ⟨10, _⟩ => ⟨S4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S8x4096x4096, .f32⟩
  | .hbm, ⟨30, _⟩ => ⟨S8x4096x4096, .f32⟩
  | .hbm, ⟨31, _⟩ => ⟨S8x64x4096, .f32⟩
  | .hbm, ⟨32, _⟩ => ⟨S4096x8x64, .f32⟩
  | .hbm, ⟨33, _⟩ => ⟨S8x4096x1, .f32⟩
  | .hbm, ⟨34, _⟩ => ⟨S8x4096x1, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8x4096x1, .f32⟩
  | .hbm, ⟨39, _⟩ => ⟨S8x4096x1, .f32⟩
  | .hbm, ⟨40, _⟩ => ⟨S4096x512, .f32⟩
  | .hbm, ⟨41, _⟩ => ⟨S4096x768, .f32⟩
  | .hbm, ⟨42, _⟩ => ⟨S4096x8x96, .f32⟩
  | .hbm, ⟨43, _⟩ => ⟨S_, .i32⟩
  | .hbm, ⟨44, _⟩ => ⟨S_, .f32⟩
  | .hbm, ⟨45, _⟩ => ⟨S4096x8x128, .f32⟩
  | .hbm, ⟨46, _⟩ => ⟨S4096x1024, .f32⟩
  | .hbm, ⟨47, _⟩ => ⟨S4096x1024, .bf16⟩
  | .hbm, ⟨48, _⟩ => ⟨S4096x768, .f32⟩
  | .hbm, ⟨49, _⟩ => ⟨S4096x8x96, .f32⟩
  | .hbm, ⟨50, _⟩ => ⟨S_, .i32⟩
  | .hbm, ⟨51, _⟩ => ⟨S_, .f32⟩
  | .hbm, ⟨52, _⟩ => ⟨S4096x8x128, .f32⟩
  | .hbm, ⟨53, _⟩ => ⟨S4096x1024, .f32⟩
  | .hbm, ⟨54, _⟩ => ⟨S4096x1024, .bf16⟩
  | .hbm, ⟨55, _⟩ => ⟨S_, .f32⟩
  | .hbm, ⟨56, _⟩ => ⟨S4096x8x1, .f32⟩
  | .hbm, ⟨57, _⟩ => ⟨S4096x8x65, .f32⟩
  | .hbm, ⟨58, _⟩ => ⟨S4096x520, .f32⟩
  | .hbm, ⟨59, _⟩ => ⟨S4096x8x65, .f32⟩
  | .hbm, ⟨60, _⟩ => ⟨S_, .i32⟩
  | .hbm, ⟨61, _⟩ => ⟨S_, .f32⟩
  | .hbm, ⟨62, _⟩ => ⟨S4096x8x128, .f32⟩
  | .hbm, ⟨63, _⟩ => ⟨S4096x1024, .f32⟩
  | .hbm, ⟨64, _⟩ => ⟨S4096x1024, .bf16⟩
  | .hbm, ⟨65, _⟩ => ⟨S4096x8x64, .f32⟩
  | .hbm, ⟨66, _⟩ => ⟨S_, .i32⟩
  | .hbm, ⟨67, _⟩ => ⟨S_, .f32⟩
  | .hbm, ⟨68, _⟩ => ⟨S4096x8x128, .f32⟩
  | .hbm, ⟨69, _⟩ => ⟨S4096x1024, .f32⟩
  | .hbm, ⟨70, _⟩ => ⟨S4096x8x64, .f32⟩
  | .hbm, ⟨71, _⟩ => ⟨S_, .i32⟩
  | .hbm, ⟨72, _⟩ => ⟨S_, .f32⟩
  | .hbm, ⟨73, _⟩ => ⟨S4096x8x128, .f32⟩
  | .hbm, ⟨74, _⟩ => ⟨S4096x1024, .f32⟩
  | .hbm, ⟨75, _⟩ => ⟨S8x4096x128, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x8x128, .f32⟩
  | .hbm, ⟨80, _⟩ => ⟨S4096x8x96, .f32⟩
  | .hbm, ⟨81, _⟩ => ⟨S4096x768, .f32⟩
  | .hbm, ⟨82, _⟩ => ⟨S4096x8x96, .f32⟩
  | .hbm, ⟨83, _⟩ => ⟨S4096x8x128, .f32⟩
  | .hbm, ⟨84, _⟩ => ⟨S4096x8x96, .f32⟩
  | .hbm, ⟨85, _⟩ => ⟨S4096x768, .f32⟩
  | .hbm, ⟨86, _⟩ => ⟨S4096x8x96, .f32⟩
  | .hbm, ⟨87, _⟩ => ⟨S4096x8x128, .f32⟩
  | .hbm, ⟨88, _⟩ => ⟨S4096x8x64, .f32⟩
  | .hbm, ⟨89, _⟩ => ⟨S4096x512, .f32⟩
  | .hbm, ⟨90, _⟩ => ⟨S4096x8x64, .f32⟩
  | .local _ .vmem, ⟨0, _⟩ => ⟨S4096x128, .bf16⟩
  | .local _ .vmem, ⟨1, _⟩ => ⟨S4096x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S1x4096x128, .f32⟩
  | .local _ .vmem, ⟨11, _⟩ => ⟨S1x4096x128, .f32⟩
  | .local _ .vmem, ⟨12, _⟩ => ⟨S4096x128, .f32⟩
  | .local _ .vmem, ⟨13, _⟩ => ⟨S4096x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_call1_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_4 : Ref sig .tc := ⟨.hbm, 50, rfl⟩
abbrev main_call2_v0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_6 : Ref sig .tc := ⟨.hbm, 60, rfl⟩
abbrev main_call3_v0 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_7 : Ref sig .tc := ⟨.hbm, 66, rfl⟩
abbrev main_call4_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_call5_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53_0 : Ref sig .tc := ⟨.hbm, 76, rfl⟩
abbrev main_v53_1 : Ref sig .tc := ⟨.hbm, 77, rfl⟩
abbrev main_v53_2 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let c8_i32 : BitVec 32 := 8#32
  let arg1 : BitVec 32 := BitVec.ofNat 32 (i 1).val
  let v7 : BitVec 32 := Scalar.muli c8_i32 arg1
  let c0_i32_5 : BitVec 32 := 0#32
  let v8 : BitVec 32 := Scalar.addi v7 c0_i32_5
  let c256_i32 : BitVec 32 := 256#32
  let v9 : BitVec 32 := Scalar.muli v8 c256_i32
  v9
def k0_off1 (i : grid0.Coords) (c0_i32_5 : BitVec 32) : Fin 2 → Nat :=
  let c8_i32 : BitVec 32 := 8#32
  let arg1 : BitVec 32 := BitVec.ofNat 32 (i 1).val
  let v7 : BitVec 32 := Scalar.muli c8_i32 arg1
  let v8 : BitVec 32 := Scalar.addi v7 c0_i32_5
  let c256_i32 : BitVec 32 := 256#32
  let v9 : BitVec 32 := Scalar.muli v8 c256_i32
  let v10 : BitVec 32 := v9
  let v11 : Index := Scalar.indexCast v10
  let c0_6 : Index := 0#32
  ![v11.toNat, 0]
def k0_off2 (i : grid0.Coords) (c0_i32_5 : BitVec 32) : Fin 3 → Nat :=
  let c0_10 : Index := 0#32
  let c8_i32 : BitVec 32 := 8#32
  let arg1 : BitVec 32 := BitVec.ofNat 32 (i 1).val
  let v7 : BitVec 32 := Scalar.muli c8_i32 arg1
  let v8 : BitVec 32 := Scalar.addi v7 c0_i32_5
  let c256_i32 : BitVec 32 := 256#32
  let v9 : BitVec 32 := Scalar.muli v8 c256_i32
  let v10 : BitVec 32 := v9
  let v24 : Index := Scalar.indexCast v10
  let c0_11 : Index := 0#32
  ![0, v24.toNat, 0]
def k0_mult2 (i : grid0.Coords) : BitVec 32 :=
  let c8_i32_35 : BitVec 32 := 8#32
  let arg1 : BitVec 32 := BitVec.ofNat 32 (i 1).val
  let v70 : BitVec 32 := Scalar.muli c8_i32_35 arg1
  let c1_i32 : BitVec 32 := 1#32
  let v71 : BitVec 32 := Scalar.addi v70 c1_i32
  let c256_i32_36 : BitVec 32 := 256#32
  let v72 : BitVec 32 := Scalar.muli v71 c256_i32_36
  v72
def k0_mult3 (i : grid0.Coords) : BitVec 32 :=
  let c8_i32_84 : BitVec 32 := 8#32
  let arg1 : BitVec 32 := BitVec.ofNat 32 (i 1).val
  let v163 : BitVec 32 := Scalar.muli c8_i32_84 arg1
  let c2_i32 : BitVec 32 := 2#32
  let v164 : BitVec 32 := Scalar.addi v163 c2_i32
  let c256_i32_85 : BitVec 32 := 256#32
  let v165 : BitVec 32 := Scalar.muli v164 c256_i32_85
  v165
def k0_mult4 (i : grid0.Coords) : BitVec 32 :=
  let c8_i32_152 : BitVec 32 := 8#32
  let arg1 : BitVec 32 := BitVec.ofNat 32 (i 1).val
  let v286 : BitVec 32 := Scalar.muli c8_i32_152 arg1
  let c3_i32 : BitVec 32 := 3#32
  let v287 : BitVec 32 := Scalar.addi v286 c3_i32
  let c256_i32_153 : BitVec 32 := 256#32
  let v288 : BitVec 32 := Scalar.muli v287 c256_i32_153
  v288
def k0_mult5 (i : grid0.Coords) : BitVec 32 :=
  let c8_i32_239 : BitVec 32 := 8#32
  let arg1 : BitVec 32 := BitVec.ofNat 32 (i 1).val
  let v439 : BitVec 32 := Scalar.muli c8_i32_239 arg1
  let c4_i32 : BitVec 32 := 4#32
  let v440 : BitVec 32 := Scalar.addi v439 c4_i32
  let c256_i32_240 : BitVec 32 := 256#32
  let v441 : BitVec 32 := Scalar.muli v440 c256_i32_240
  v441
def k0_mult6 (i : grid0.Coords) : BitVec 32 :=
  let c8_i32_345 : BitVec 32 := 8#32
  let arg1 : BitVec 32 := BitVec.ofNat 32 (i 1).val
  let v622 : BitVec 32 := Scalar.muli c8_i32_345 arg1
  let c5_i32 : BitVec 32 := 5#32
  let v623 : BitVec 32 := Scalar.addi v622 c5_i32
  let c256_i32_346 : BitVec 32 := 256#32
  let v624 : BitVec 32 := Scalar.muli v623 c256_i32_346
  v624
def k0_mult7 (i : grid0.Coords) : BitVec 32 :=
  let c8_i32_470 : BitVec 32 := 8#32
  let arg1 : BitVec 32 := BitVec.ofNat 32 (i 1).val
  let v835 : BitVec 32 := Scalar.muli c8_i32_470 arg1
  let c6_i32 : BitVec 32 := 6#32
  let v836 : BitVec 32 := Scalar.addi v835 c6_i32
  let c256_i32_471 : BitVec 32 := 256#32
  let v837 : BitVec 32 := Scalar.muli v836 c256_i32_471
  v837
def k0_mult8 (i : grid0.Coords) : BitVec 32 :=
  let c8_i32_614 : BitVec 32 := 8#32
  let arg1 : BitVec 32 := BitVec.ofNat 32 (i 1).val
  let v1078 : BitVec 32 := Scalar.muli c8_i32_614 arg1
  let c7_i32 : BitVec 32 := 7#32
  let v1079 : BitVec 32 := Scalar.addi v1078 c7_i32
  let c256_i32_615 : BitVec 32 := 256#32
  let v1080 : BitVec 32 := Scalar.muli v1079 c256_i32_615
  v1080
@[reducible] def k0_t1_loop (i : grid0.Coords) : Scf.Loop 32 :=
  let c8_i32_778 : BitVec 32 := 8#32
  let arg1 : BitVec 32 := BitVec.ofNat 32 (i 1).val
  let c1_i32_777 : BitVec 32 := 1#32
  let v1351 : BitVec 32 := Scalar.addi arg1 c1_i32_777
  let v1352 : BitVec 32 := Scalar.muli c8_i32_778 v1351
  let c16_i32 : BitVec 32 := 16#32
  let v1353 : BitVec 32 := Scalar.subi c16_i32 v1352
  let c1_i32_780 : BitVec 32 := 1#32
  let v1355 : BitVec 32 := Scalar.divsi v1353 c1_i32_780
  let v1356 : BitVec 32 := Scalar.muli v1355 c1_i32_780
  let v1357 : BitVec 32 := Scalar.addi v1352 v1356
  let c1_i32_781 : BitVec 32 := 1#32
  ⟨v1352, v1357, c1_i32_781⟩
def k0_mult9 (i : grid0.Coords) (k0_t1 : Fin (k0_t1_loop i).trips) : BitVec 32 :=
  let c8_i32_778 : BitVec 32 := 8#32
  let arg1 : BitVec 32 := BitVec.ofNat 32 (i 1).val
  let c1_i32_777 : BitVec 32 := 1#32
  let v1351 : BitVec 32 := Scalar.addi arg1 c1_i32_777
  let v1352 : BitVec 32 := Scalar.muli c8_i32_778 v1351
  let c1_i32_781 : BitVec 32 := 1#32
  let arg11 : BitVec 32 := Scf.iv v1352 c1_i32_781 k0_t1
  let c256_i32_783 : BitVec 32 := 256#32
  let v1358 : BitVec 32 := Scalar.muli arg11 c256_i32_783
  v1358
def k0_off3 (i : grid0.Coords) (k0_t1 : Fin (k0_t1_loop i).trips) : Fin 2 → Nat :=
  let c8_i32_778 : BitVec 32 := 8#32
  let arg1 : BitVec 32 := BitVec.ofNat 32 (i 1).val
  let c1_i32_777 : BitVec 32 := 1#32
  let v1351 : BitVec 32 := Scalar.addi arg1 c1_i32_777
  let v1352 : BitVec 32 := Scalar.muli c8_i32_778 v1351
  let c1_i32_781 : BitVec 32 := 1#32
  let arg11 : BitVec 32 := Scf.iv v1352 c1_i32_781 k0_t1
  let c256_i32_783 : BitVec 32 := 256#32
  let v1358 : BitVec 32 := Scalar.muli arg11 c256_i32_783
  let v1359 : BitVec 32 := v1358
  let v1360 : Index := Scalar.indexCast v1359
  let c0_784 : Index := 0#32
  ![v1360.toNat, 0]
def k0_off4 (i : grid0.Coords) (k0_t1 : Fin (k0_t1_loop i).trips) : Fin 3 → Nat :=
  let c0_788 : Index := 0#32
  let c8_i32_778 : BitVec 32 := 8#32
  let arg1 : BitVec 32 := BitVec.ofNat 32 (i 1).val
  let c1_i32_777 : BitVec 32 := 1#32
  let v1351 : BitVec 32 := Scalar.addi arg1 c1_i32_777
  let v1352 : BitVec 32 := Scalar.muli c8_i32_778 v1351
  let c1_i32_781 : BitVec 32 := 1#32
  let arg11 : BitVec 32 := Scf.iv v1352 c1_i32_781 k0_t1
  let c256_i32_783 : BitVec 32 := 256#32
  let v1358 : BitVec 32 := Scalar.muli arg11 c256_i32_783
  let v1359 : BitVec 32 := v1358
  let v1373 : Index := Scalar.indexCast v1359
  let c0_789 : Index := 0#32
  ![0, v1373.toNat, 0]
@[reducible] def k0_t2_loop (i : grid0.Coords) : Scf.Loop 32 :=
  let c8_i32_778 : BitVec 32 := 8#32
  let arg1 : BitVec 32 := BitVec.ofNat 32 (i 1).val
  let c1_i32_777 : BitVec 32 := 1#32
  let v1351 : BitVec 32 := Scalar.addi arg1 c1_i32_777
  let v1352 : BitVec 32 := Scalar.muli c8_i32_778 v1351
  let c16_i32 : BitVec 32 := 16#32
  let v1353 : BitVec 32 := Scalar.subi c16_i32 v1352
  let c1_i32_780 : BitVec 32 := 1#32
  let v1355 : BitVec 32 := Scalar.divsi v1353 c1_i32_780
  let v1356 : BitVec 32 := Scalar.muli v1355 c1_i32_780
  let v1357 : BitVec 32 := Scalar.addi v1352 v1356
  let v1354 : BitVec 32 := Scalar.addi v1352 v1353
  let c1_i32_782 : BitVec 32 := 1#32
  ⟨v1357, v1354, c1_i32_782⟩
def k0_mult10 (i : grid0.Coords) (k0_t2 : Fin (k0_t2_loop i).trips) : BitVec 32 :=
  let c8_i32_778 : BitVec 32 := 8#32
  let arg1 : BitVec 32 := BitVec.ofNat 32 (i 1).val
  let c1_i32_777 : BitVec 32 := 1#32
  let v1351 : BitVec 32 := Scalar.addi arg1 c1_i32_777
  let v1352 : BitVec 32 := Scalar.muli c8_i32_778 v1351
  let c16_i32 : BitVec 32 := 16#32
  let v1353 : BitVec 32 := Scalar.subi c16_i32 v1352
  let c1_i32_780 : BitVec 32 := 1#32
  let v1355 : BitVec 32 := Scalar.divsi v1353 c1_i32_780
  let v1356 : BitVec 32 := Scalar.muli v1355 c1_i32_780
  let v1357 : BitVec 32 := Scalar.addi v1352 v1356
  let c1_i32_782 : BitVec 32 := 1#32
  let arg11 : BitVec 32 := Scf.iv v1357 c1_i32_782 k0_t2
  let c256_i32_783 : BitVec 32 := 256#32
  let v1358 : BitVec 32 := Scalar.muli arg11 c256_i32_783
  v1358
def k0_off5 (i : grid0.Coords) (k0_t2 : Fin (k0_t2_loop i).trips) : Fin 2 → Nat :=
  let c8_i32_778 : BitVec 32 := 8#32
  let arg1 : BitVec 32 := BitVec.ofNat 32 (i 1).val
  let c1_i32_777 : BitVec 32 := 1#32
  let v1351 : BitVec 32 := Scalar.addi arg1 c1_i32_777
  let v1352 : BitVec 32 := Scalar.muli c8_i32_778 v1351
  let c16_i32 : BitVec 32 := 16#32
  let v1353 : BitVec 32 := Scalar.subi c16_i32 v1352
  let c1_i32_780 : BitVec 32 := 1#32
  let v1355 : BitVec 32 := Scalar.divsi v1353 c1_i32_780
  let v1356 : BitVec 32 := Scalar.muli v1355 c1_i32_780
  let v1357 : BitVec 32 := Scalar.addi v1352 v1356
  let c1_i32_782 : BitVec 32 := 1#32
  let arg11 : BitVec 32 := Scf.iv v1357 c1_i32_782 k0_t2
  let c256_i32_783 : BitVec 32 := 256#32
  let v1358 : BitVec 32 := Scalar.muli arg11 c256_i32_783
  let v1359 : BitVec 32 := v1358
  let v1360 : Index := Scalar.indexCast v1359
  let c0_784 : Index := 0#32
  ![v1360.toNat, 0]
def k0_off6 (i : grid0.Coords) (k0_t2 : Fin (k0_t2_loop i).trips) : Fin 3 → Nat :=
  let c0_788 : Index := 0#32
  let c8_i32_778 : BitVec 32 := 8#32
  let arg1 : BitVec 32 := BitVec.ofNat 32 (i 1).val
  let c1_i32_777 : BitVec 32 := 1#32
  let v1351 : BitVec 32 := Scalar.addi arg1 c1_i32_777
  let v1352 : BitVec 32 := Scalar.muli c8_i32_778 v1351
  let c16_i32 : BitVec 32 := 16#32
  let v1353 : BitVec 32 := Scalar.subi c16_i32 v1352
  let c1_i32_780 : BitVec 32 := 1#32
  let v1355 : BitVec 32 := Scalar.divsi v1353 c1_i32_780
  let v1356 : BitVec 32 := Scalar.muli v1355 c1_i32_780
  let v1357 : BitVec 32 := Scalar.addi v1352 v1356
  let c1_i32_782 : BitVec 32 := 1#32
  let arg11 : BitVec 32 := Scf.iv v1357 c1_i32_782 k0_t2
  let c256_i32_783 : BitVec 32 := 256#32
  let v1358 : BitVec 32 := Scalar.muli arg11 c256_i32_783
  let v1359 : BitVec 32 := v1358
  let v1373 : Index := Scalar.indexCast v1359
  let c0_789 : Index := 0#32
  ![0, v1373.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "att_scale_log2" => some (((3424635 / 33554432) * (Real.log 2)⁻¹ : ℝ) : EReal)
  | _ => none
-- ==== ReferenceIdeal.lean ====
abbrev S4096x8x96 : Shape := ⟨3, ![4096, 8, 96]⟩
abbrev S4096x8x64 : Shape := ⟨3, ![4096, 8, 64]⟩
abbrev S4096x512 : Shape := ⟨2, ![4096, 512]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x96 : Shape := ⟨3, ![8, 4096, 96]⟩

abbrev nBuf : Space → Nat
  | .hbm => 92
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x512, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S1x4096, .i32⟩
  | .hbm, ⟨10, _⟩ => ⟨S4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .i1⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S_, .f32⟩
  | .hbm, ⟨31, _⟩ => ⟨S8x4096, .f32⟩
  | .hbm, ⟨32, _⟩ => ⟨S8x4096, .f32⟩
  | .hbm, ⟨33, _⟩ => ⟨S_, .f32⟩
  | .hbm, ⟨34, _⟩ => ⟨S8x4096, .f32⟩
  | .hbm, ⟨35, _⟩ => ⟨S8x4096, .i1⟩
  | .hbm, ⟨36, _⟩ => ⟨S_, .f32⟩
  | .hbm, ⟨37, _⟩ => ⟨S8x4096, .f32⟩
  | .hbm, ⟨38, _⟩ => ⟨S8x4096, .i1⟩
  | .hbm, ⟨39, _⟩ => ⟨S_, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S8x4096, .f32⟩
  | .hbm, ⟨47, _⟩ => ⟨S8x4096x1, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S8x4096x4096, .f32⟩
  | .hbm, ⟨55, _⟩ => ⟨S8x4096x4096, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S8x64x4096, .f32⟩
  | .hbm, ⟨61, _⟩ => ⟨S4096x8x64, .f32⟩
  | .hbm, ⟨62, _⟩ => ⟨S4096x512, .f32⟩
  | .hbm, ⟨63, _⟩ => ⟨S4096x8x64, .f32⟩
  | .hbm, ⟨64, _⟩ => ⟨S8x64x4096, .f32⟩
  | .hbm, ⟨65, _⟩ => ⟨S8x4096x4096, .f32⟩
  | .hbm, ⟨66, _⟩ => ⟨S8x64x4096, .f32⟩
  | .hbm, ⟨67, _⟩ => ⟨S4096x8x64, .f32⟩
  | .hbm, ⟨68, _⟩ => ⟨S8x4096x4096, .f32⟩
  | .hbm, ⟨69, _⟩ => ⟨S8x4096x4096, .f32⟩
  | .hbm, ⟨70, _⟩ => ⟨S8x4096x4096, .f32⟩
  | .hbm, ⟨71, _⟩ => ⟨S_, .f32⟩
  | .hbm, ⟨72, _⟩ => ⟨S8x4096, .f32⟩
  | .hbm, ⟨73, _⟩ => ⟨S8x4096x1, .f32⟩
  | .hbm, ⟨74, _⟩ => ⟨S8x4096x1, .f32⟩
  | .hbm, ⟨75, _⟩ => ⟨S8x4096x4096, .f32⟩
  | .hbm, ⟨76, _⟩ => ⟨S8x4096x4096, .f32⟩
  | .hbm, ⟨77, _⟩ => ⟨S_, .f32⟩
  | .hbm, ⟨78, _⟩ => ⟨S8x4096, .f32⟩
  | .hbm, ⟨79, _⟩ => ⟨S8x4096x4096, .f32⟩
  | .hbm, ⟨80, _⟩ => ⟨S8x4096x4096, .f32⟩
  | .hbm, ⟨81, _⟩ => ⟨S8x4096x4096, .f32⟩
  | .hbm, ⟨82, _⟩ => ⟨S_, .f32⟩
  | .hbm, ⟨83, _⟩ => ⟨S8x4096x4096, .f32⟩
  | .hbm, ⟨84, _⟩ => ⟨S8x4096x4096, .f32⟩
  | .hbm, ⟨85, _⟩ => ⟨S_, .f32⟩
  | .hbm, ⟨86, _⟩ => ⟨S8x4096x4096, .f32⟩
  | .hbm, ⟨87, _⟩ => ⟨S8x4096x4096, .f32⟩
  | .hbm, ⟨88, _⟩ => ⟨S8x4096x96, .f32⟩
  | .hbm, ⟨89, _⟩ => ⟨S4096x8x96, .f32⟩
  | .hbm, ⟨90, _⟩ => ⟨S8x4096x96, .f32⟩
  | .hbm, ⟨91, _⟩ => ⟨S4096x8x96, .f32⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]
-- ==== Up.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .bf16⟩
  | .hbm, ⟨3, _⟩ => ⟨S1024x4096, .bf16⟩
  | .hbm, ⟨4, _⟩ => ⟨S4096x4096, .bf16⟩
  | .hbm, ⟨5, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x4096, .bf16⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Da.lean ====
abbrev S4096x4096 : Shape := ⟨2, ![4096, 4096]⟩
abbrev S4x4096x1024 : Shape := ⟨3, ![4, 4096, 1024]⟩
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4x4096x1024, .f32⟩
  | .hbm, ⟨2, _⟩ => ⟨S4096x1024, .f32⟩
  | .hbm, ⟨3, _⟩ => ⟨S4096x1024, .bf16⟩
  | .hbm, ⟨4, _⟩ => ⟨S4x4096x1024, .bf16⟩
  | .hbm, ⟨5, _⟩ => ⟨S4096x4096, .bf16⟩
  | .hbm, ⟨6, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DaRefIdeal.lean ====
abbrev S4096x4096 : Shape := ⟨2, ![4096, 4096]⟩
abbrev S4x4096x1024 : Shape := ⟨3, ![4, 4096, 1024]⟩
abbrev S4096x1024 : Shape := ⟨2, ![4096, 1024]⟩
abbrev S_ : Shape := ⟨0, ![]⟩
abbrev S1x4096x1024 : Shape := ⟨3, ![1, 4096, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4x4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S1x4096x1024, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DwDown.lean ====
abbrev S4096x4096 : Shape := ⟨2, ![4096, 4096]⟩
abbrev S4096x1024 : Shape := ⟨2, ![4096, 1024]⟩
abbrev S_ : Shape := ⟨0, ![]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 10
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x1024, .bf16⟩
  | .hbm, ⟨9, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .bf16⟩
  | .local _ .vmem, ⟨4, _⟩ => ⟨S1x1024x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | .hbm, ⟨11, _⟩ => ⟨S4x1024x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== DwUp.lean ====
abbrev S4096x1024 : Shape := ⟨2, ![4096, 1024]⟩
abbrev S1024x4096 : Shape := ⟨2, ![1024, 4096]⟩
abbrev S4096x4096 : Shape := ⟨2, ![4096, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x1024, .bf16⟩
  | .hbm, ⟨4, _⟩ => ⟨S4096x4096, .bf16⟩
  | .hbm, ⟨5, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .bf16⟩
  | .local _ .vmem, ⟨4, _⟩ => ⟨S1x1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S4096x1024 : Shape := ⟨2, ![4096, 1024]⟩
abbrev S1024x4096 : Shape := ⟨2, ![1024, 4096]⟩
abbrev S4096x4096 : Shape := ⟨2, ![4096, 4096]⟩
abbrev S1024x4x1024 : Shape := ⟨3, ![1024, 4, 1024]⟩
abbrev S4x1024x1024 : Shape := ⟨3, ![4, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x4096, .f32⟩
  | .hbm, ⟨4, _⟩ => ⟨S4096x1024, .f32⟩
  | .hbm, ⟨5, _⟩ => ⟨S1024x4096, .f32⟩
  | .hbm, ⟨6, _⟩ => ⟨S1024x4096, .bf16⟩
  | .hbm, ⟨7, _⟩ => ⟨S1024x4x1024, .bf16⟩
  | .hbm, ⟨8, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Down.lean ====
abbrev S4096x4096 : Shape := ⟨2, ![4096, 4096]⟩
abbrev S4x4096x1024 : Shape := ⟨3, ![4, 4096, 1024]⟩
abbrev S4096x1024 : Shape := ⟨2, ![4096, 1024]⟩
abbrev S1024 : Shape := ⟨1, ![1024]⟩
abbrev S1x1024 : Shape := ⟨2, ![1, 1024]⟩
abbrev S512x4096 : Shape := ⟨2, ![512, 4096]⟩
abbrev S1x4096x1024 : Shape := ⟨3, ![1, 4096, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4x4096x1024, .f32⟩
  | .hbm, ⟨2, _⟩ => ⟨S4096x1024, .f32⟩
  | .hbm, ⟨3, _⟩ => ⟨S1024, .f32⟩
  | .hbm, ⟨4, _⟩ => ⟨S4096x4096, .bf16⟩
  | .hbm, ⟨5, _⟩ => ⟨S4x4096x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownRefIdeal.lean ====
abbrev S4096x4096 : Shape := ⟨2, ![4096, 4096]⟩
abbrev S4x4096x1024 : Shape := ⟨3, ![4, 4096, 1024]⟩
abbrev S4096x1024 : Shape := ⟨2, ![4096, 1024]⟩
abbrev S1024 : Shape := ⟨1, ![1024]⟩
abbrev S1x4096x1024 : Shape := ⟨3, ![1, 4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4x4096x1024, .f32⟩
  | .hbm, ⟨2, _⟩ => ⟨S4096x1024, .f32⟩
  | .hbm, ⟨3, _⟩ => ⟨S1024, .f32⟩
  | .hbm, ⟨4, _⟩ => ⟨S1x4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== O.lean ====
abbrev S4096x1536 : Shape := ⟨2, ![4096, 1536]⟩
abbrev S1536x1024 : Shape := ⟨2, ![1536, 1024]⟩
abbrev S4096x1024 : Shape := ⟨2, ![4096, 1024]⟩
abbrev S1024 : Shape := ⟨1, ![1024]⟩
abbrev S1x1024 : Shape := ⟨2, ![1, 1024]⟩
abbrev S512x1536 : Shape := ⟨2, ![512, 1536]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x1536, .f32⟩
  | .hbm, ⟨1, _⟩ => ⟨S1536x1024, .f32⟩
  | .hbm, ⟨2, _⟩ => ⟨S4096x1024, .f32⟩
  | .hbm, ⟨3, _⟩ => ⟨S1024, .f32⟩
  | .hbm, ⟨4, _⟩ => ⟨S4096x1536, .bf16⟩
  | .hbm, ⟨5, _⟩ => ⟨S1536x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S512x1536, .bf16⟩
  | .local _ .vmem, ⟨1, _⟩ => ⟨S512x1536, .bf16⟩
  | .local _ .vmem, ⟨2, _⟩ => ⟨S1536x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ORefIdeal.lean ====
abbrev S4096x1536 : Shape := ⟨2, ![4096, 1536]⟩
abbrev S1536x1024 : Shape := ⟨2, ![1536, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S1536x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Dmixed.lean ====
abbrev S4096x1536 : Shape := ⟨2, ![4096, 1536]⟩
abbrev S1536x1024 : Shape := ⟨2, ![1536, 1024]⟩
abbrev S4096x1024 : Shape := ⟨2, ![4096, 1024]⟩
abbrev S1024x1024 : Shape := ⟨2, ![1024, 1024]⟩
abbrev S768x1024 : Shape := ⟨2, ![768, 1024]⟩
abbrev S1024x768 : Shape := ⟨2, ![1024, 768]⟩

abbrev nBuf : Space → Nat
  | .hbm => 6
  | .vmem => 6
  | .smem => 0
  | _ => 0

abbrev bufTy : (tb : Table) → Fin (tcTables nBuf tb) → BufTy
  | .hbm, ⟨0, _⟩ => ⟨S4096x1536, .f32⟩
  | .hbm, ⟨1, _⟩ => ⟨S1536x1024, .f32⟩
  | .hbm, ⟨2, _⟩ => ⟨S4096x1024, .f32⟩
  | .hbm, ⟨3, _⟩ => ⟨S4096x1024, .bf16⟩
  | .hbm, ⟨4, _⟩ => ⟨S1536x1024, .bf16⟩
  | .hbm, ⟨5, _⟩ => ⟨S4096x1536, .f32⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x768, .f32⟩
  | .local _ .vmem, ⟨5, _⟩ => ⟨S1024x768, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmixedRefIdeal.lean ====
abbrev S4096x1536 : Shape := ⟨2, ![4096, 1536]⟩
abbrev S1536x1024 : Shape := ⟨2, ![1536, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S1536x1024, .f32⟩
  | .hbm, ⟨2, _⟩ => ⟨S4096x1024, .f32⟩
  | .hbm, ⟨3, _⟩ => ⟨S4096x1024, .f32⟩
  | .hbm, ⟨4, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DwO.lean ====
abbrev S4096x1536 : Shape := ⟨2, ![4096, 1536]⟩
abbrev S1536x1024 : Shape := ⟨2, ![1536, 1024]⟩
abbrev S4096x1024 : Shape := ⟨2, ![4096, 1024]⟩
abbrev S4096x768 : Shape := ⟨2, ![4096, 768]⟩
abbrev S768x1024 : Shape := ⟨2, ![768, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1536, .f32⟩
  | .hbm, ⟨1, _⟩ => ⟨S1536x1024, .f32⟩
  | .hbm, ⟨2, _⟩ => ⟨S4096x1024, .f32⟩
  | .hbm, ⟨3, _⟩ => ⟨S4096x1536, .bf16⟩
  | .hbm, ⟨4, _⟩ => ⟨S4096x1024, .bf16⟩
  | .hbm, ⟨5, _⟩ => ⟨S1536x1024, .bf16⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S768x1024, .bf16⟩
  | .local _ .vmem, ⟨4, _⟩ => ⟨S768x1024, .bf16⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwORefIdeal.lean ====
abbrev S4096x1536 : Shape := ⟨2, ![4096, 1536]⟩
abbrev S1536x1024 : Shape := ⟨2, ![1536, 1024]⟩
abbrev S4096x1024 : Shape := ⟨2, ![4096, 1024]⟩
abbrev S1024x1536 : Shape := ⟨2, ![1024, 1536]⟩

abbrev nBuf : Space → Nat
  | .hbm => 7
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S1536x1024, .f32⟩
  | .hbm, ⟨2, _⟩ => ⟨S4096x1024, .f32⟩
  | .hbm, ⟨3, _⟩ => ⟨S4096x1024, .f32⟩
  | .hbm, ⟨4, _⟩ => ⟨S1024x1536, .f32⟩
  | .hbm, ⟨5, _⟩ => ⟨S1536x1024, .f32⟩
  | .hbm, ⟨6, _⟩ => ⟨S1536x1024, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== In.lean ====
abbrev S4096x1024 : Shape := ⟨2, ![4096, 1024]⟩
abbrev S1024x2304 : Shape := ⟨2, ![1024, 2304]⟩
abbrev S4096x2304 : Shape := ⟨2, ![4096, 2304]⟩
abbrev S1024x1024 : Shape := ⟨2, ![1024, 1024]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S4096x1024, .bf16⟩
  | .hbm, ⟨3, _⟩ => ⟨S1024x2304, .bf16⟩
  | .hbm, ⟨4, _⟩ => ⟨S4096x2304, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S4096x1024 : Shape := ⟨2, ![4096, 1024]⟩
abbrev S1024x2304 : Shape := ⟨2, ![1024, 2304]⟩
abbrev S4096x2304 : Shape := ⟨2, ![4096, 2304]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S4096x2304, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DwIn.lean ====
abbrev S4096x1024 : Shape := ⟨2, ![4096, 1024]⟩
abbrev S1024x2304 : Shape := ⟨2, ![1024, 2304]⟩
abbrev S4096x2304 : Shape := ⟨2, ![4096, 2304]⟩
abbrev S4096x768 : Shape := ⟨2, ![4096, 768]⟩
abbrev S1024x768 : Shape := ⟨2, ![1024, 768]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S4096x2304, .f32⟩
  | .hbm, ⟨3, _⟩ => ⟨S4096x1024, .bf16⟩
  | .hbm, ⟨4, _⟩ => ⟨S4096x2304, .bf16⟩
  | .hbm, ⟨5, _⟩ => ⟨S1024x2304, .bf16⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S1024x768, .bf16⟩
  | .local _ .vmem, ⟨4, _⟩ => ⟨S1024x768, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S4096x1024 : Shape := ⟨2, ![4096, 1024]⟩
abbrev S1024x2304 : Shape := ⟨2, ![1024, 2304]⟩
abbrev S4096x2304 : Shape := ⟨2, ![4096, 2304]⟩
abbrev S2304x1024 : Shape := ⟨2, ![2304, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S4096x2304, .f32⟩
  | .hbm, ⟨3, _⟩ => ⟨S4096x2304, .f32⟩
  | .hbm, ⟨4, _⟩ => ⟨S2304x1024, .f32⟩
  | .hbm, ⟨5, _⟩ => ⟨S1024x2304, .f32⟩
  | .hbm, ⟨6, _⟩ => ⟨S1024x2304, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Uq.lean ====
abbrev S4096x384 : Shape := ⟨2, ![4096, 384]⟩
abbrev S384x1024 : Shape := ⟨2, ![384, 1024]⟩
abbrev S4096x1024 : Shape := ⟨2, ![4096, 1024]⟩
abbrev S1024x384 : Shape := ⟨2, ![1024, 384]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x384, .f32⟩
  | .hbm, ⟨1, _⟩ => ⟨S384x1024, .f32⟩
  | .hbm, ⟨2, _⟩ => ⟨S4096x384, .bf16⟩
  | .hbm, ⟨3, _⟩ => ⟨S384x1024, .bf16⟩
  | .hbm, ⟨4, _⟩ => ⟨S4096x1024, .f32⟩
  | .local _ .vmem, ⟨0, _⟩ => ⟨S1024x384, .bf16⟩
  | .local _ .vmem, ⟨1, _⟩ => ⟨S1024x384, .bf16⟩
  | .local _ .vmem, ⟨2, _⟩ => ⟨S384x1024, .bf16⟩
  | .local _ .vmem, ⟨3, _⟩ => ⟨S1024x1024, .f32⟩
  | .local _ .vmem, ⟨4, _⟩ => ⟨S1024x1024, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqRefIdeal.lean ====
abbrev S4096x384 : Shape := ⟨2, ![4096, 384]⟩
abbrev S384x1024 : Shape := ⟨2, ![384, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S384x1024, .f32⟩
  | .hbm, ⟨2, _⟩ => ⟨S4096x1024, .f32⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Dqln.lean ====
abbrev S4096x384 : Shape := ⟨2, ![4096, 384]⟩
abbrev S384x1024 : Shape := ⟨2, ![384, 1024]⟩
abbrev S4096x1024 : Shape := ⟨2, ![4096, 1024]⟩
abbrev S1024x1024 : Shape := ⟨2, ![1024, 1024]⟩
abbrev S1024x384 : Shape := ⟨2, ![1024, 384]⟩

abbrev nBuf : Space → Nat
  | .hbm => 6
  | .vmem => 5
  | .smem => 0
  | _ => 0

abbrev bufTy : (tb : Table) → Fin (tcTables nBuf tb) → BufTy
  | .hbm, ⟨0, _⟩ => ⟨S4096x384, .f32⟩
  | .hbm, ⟨1, _⟩ => ⟨S384x1024, .f32⟩
  | .hbm, ⟨2, _⟩ => ⟨S4096x1024, .f32⟩
  | .hbm, ⟨3, _⟩ => ⟨S4096x1024, .bf16⟩
  | .hbm, ⟨4, _⟩ => ⟨S384x1024, .bf16⟩
  | .hbm, ⟨5, _⟩ => ⟨S4096x384, .f32⟩
  | .local _ .vmem, ⟨0, _⟩ => ⟨S1024x1024, .bf16⟩
  | .local _ .vmem, ⟨1, _⟩ => ⟨S1024x1024, .bf16⟩
  | .local _ .vmem, ⟨2, _⟩ => ⟨S384x1024, .bf16⟩
  | .local _ .vmem, ⟨3, _⟩ => ⟨S1024x384, .f32⟩
  | .local _ .vmem, ⟨4, _⟩ => ⟨S1024x384, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DqlnRefIdeal.lean ====
abbrev S4096x384 : Shape := ⟨2, ![4096, 384]⟩
abbrev S384x1024 : Shape := ⟨2, ![384, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S384x1024, .f32⟩
  | .hbm, ⟨2, _⟩ => ⟨S4096x1024, .f32⟩
  | .hbm, ⟨3, _⟩ => ⟨S4096x1024, .f32⟩
  | .hbm, ⟨4, _⟩ => ⟨S4096x384, .f32⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DwUq.lean ====
abbrev S4096x384 : Shape := ⟨2, ![4096, 384]⟩
abbrev S384x1024 : Shape := ⟨2, ![384, 1024]⟩
abbrev S4096x1024 : Shape := ⟨2, ![4096, 1024]⟩

abbrev nBuf : Space → Nat
  | .hbm => 6
  | .vmem => 3
  | .smem => 0
  | _ => 0

abbrev bufTy : (tb : Table) → Fin (tcTables nBuf tb) → BufTy
  | .hbm, ⟨0, _⟩ => ⟨S4096x384, .f32⟩
  | .hbm, ⟨1, _⟩ => ⟨S384x1024, .f32⟩
  | .hbm, ⟨2, _⟩ => ⟨S4096x1024, .f32⟩
  | .hbm, ⟨3, _⟩ => ⟨S4096x384, .bf16⟩
  | .hbm, ⟨4, _⟩ => ⟨S4096x1024, .bf16⟩
  | .hbm, ⟨5, _⟩ => ⟨S384x1024, .bf16⟩
  | .local _ .vmem, ⟨0, _⟩ => ⟨S4096x384, .bf16⟩
  | .local _ .vmem, ⟨1, _⟩ => ⟨S4096x1024, .bf16⟩
  | .local _ .vmem, ⟨2, _⟩ => ⟨S384x1024, .bf16⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwUqRefIdeal.lean ====
abbrev S4096x384 : Shape := ⟨2, ![4096, 384]⟩
abbrev S384x1024 : Shape := ⟨2, ![384, 1024]⟩
abbrev S4096x1024 : Shape := ⟨2, ![4096, 1024]⟩
abbrev S1024x384 : Shape := ⟨2, ![1024, 384]⟩

abbrev nBuf : Space → Nat
  | .hbm => 7
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S384x1024, .f32⟩
  | .hbm, ⟨2, _⟩ => ⟨S4096x1024, .f32⟩
  | .hbm, ⟨3, _⟩ => ⟨S4096x1024, .f32⟩
  | .hbm, ⟨4, _⟩ => ⟨S1024x384, .f32⟩
  | .hbm, ⟨5, _⟩ => ⟨S384x1024, .f32⟩
  | .hbm, ⟨6, _⟩ => ⟨S384x1024, .bf16⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Ukv.lean ====
abbrev S4096x256 : Shape := ⟨2, ![4096, 256]⟩
abbrev S256x2048 : Shape := ⟨2, ![256, 2048]⟩
abbrev S4096x2048 : Shape := ⟨2, ![4096, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x256, .bf16⟩
  | .hbm, ⟨3, _⟩ => ⟨S256x2048, .bf16⟩
  | .hbm, ⟨4, _⟩ => ⟨S4096x2048, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvRefIdeal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Dkvln.lean ====
abbrev S4096x256 : Shape := ⟨2, ![4096, 256]⟩
abbrev S256x2048 : Shape := ⟨2, ![256, 2048]⟩
abbrev S4096x2048 : Shape := ⟨2, ![4096, 2048]⟩
abbrev S1024x2048 : Shape := ⟨2, ![1024, 2048]⟩
abbrev S1024x256 : Shape := ⟨2, ![1024, 256]⟩

abbrev nBuf : Space → Nat
  | .hbm => 6
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | .hbm, ⟨3, _⟩ => ⟨S4096x2048, .bf16⟩
  | .hbm, ⟨4, _⟩ => ⟨S256x2048, .bf16⟩
  | .hbm, ⟨5, _⟩ => ⟨S4096x256, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1024x256, .f32⟩
  | .local _ .vmem, ⟨4, _⟩ => ⟨S1024x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DkvlnRefIdeal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | .hbm, ⟨3, _⟩ => ⟨S4096x2048, .f32⟩
  | .hbm, ⟨4, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DwUkv.lean ====
abbrev S4096x256 : Shape := ⟨2, ![4096, 256]⟩
abbrev S256x2048 : Shape := ⟨2, ![256, 2048]⟩
abbrev S4096x2048 : Shape := ⟨2, ![4096, 2048]⟩
abbrev S4096x1024 : Shape := ⟨2, ![4096, 1024]⟩
abbrev S256x1024 : Shape := ⟨2, ![256, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | .hbm, ⟨3, _⟩ => ⟨S4096x256, .bf16⟩
  | .hbm, ⟨4, _⟩ => ⟨S4096x2048, .bf16⟩
  | .hbm, ⟨5, _⟩ => ⟨S256x2048, .bf16⟩
  | .local _ .vmem, ⟨0, _⟩ => ⟨S4096x256, .bf16⟩
  | .local _ .vmem, ⟨1, _⟩ => ⟨S4096x1024, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUkvRefIdeal.lean ====
abbrev S4096x256 : Shape := ⟨2, ![4096, 256]⟩
abbrev S256x2048 : Shape := ⟨2, ![256, 2048]⟩
abbrev S4096x2048 : Shape := ⟨2, ![4096, 2048]⟩
abbrev S2048x256 : Shape := ⟨2, ![2048, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | .hbm, ⟨3, _⟩ => ⟨S4096x2048, .f32⟩
  | .hbm, ⟨4, _⟩ => ⟨S2048x256, .f32⟩
  | .hbm, ⟨5, _⟩ => ⟨S256x2048, .f32⟩
  | .hbm, ⟨6, _⟩ => ⟨S256x2048, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Gate.lean ====
abbrev S4096x1024 : Shape := ⟨2, ![4096, 1024]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4x1024x1024, .f32⟩
  | .hbm, ⟨2, _⟩ => ⟨S4096x1024, .bf16⟩
  | .hbm, ⟨3, _⟩ => ⟨S4x1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateRefIdeal.lean ====
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1024x1024, .f32⟩
  | .hbm, ⟨2, _⟩ => ⟨S1x1024x1024, .f32⟩
  | .hbm, ⟨3, _⟩ => ⟨S1024x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwGate.lean ====
abbrev S4096x1024 : Shape := ⟨2, ![4096, 1024]⟩
abbrev S1024x1024 : Shape := ⟨2, ![1024, 1024]⟩
abbrev S4x256x1024 : Shape := ⟨3, ![4, 256, 1024]⟩
abbrev S4096x256 : Shape := ⟨2, ![4096, 256]⟩
abbrev S1x256x1024 : Shape := ⟨3, ![1, 256, 1024]⟩
abbrev S256x1024 : Shape := ⟨2, ![256, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S4x256x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S1x256x1024, .bf16⟩
  | .local _ .vmem, ⟨4, _⟩ => ⟨S1x256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGateRefIdeal.lean ====
abbrev S4096x1024 : Shape := ⟨2, ![4096, 1024]⟩
abbrev S1024x1024 : Shape := ⟨2, ![1024, 1024]⟩
abbrev S4x256x1024 : Shape := ⟨3, ![4, 256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S4x256x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dh2.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S1x1024 : Shape := ⟨2, ![1, 1024]⟩
abbrev S8x1024 : Shape := ⟨2, ![8, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S4096x4096, .bf16⟩
  | .hbm, ⟨6, _⟩ => ⟨S1024x4096, .bf16⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== Dh2RefIdeal.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x1024 : Shape := ⟨2, ![8, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | .hbm, ⟨55, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Dh3.lean ====
abbrev S4096x1024 : Shape := ⟨2, ![4096, 1024]⟩
abbrev S1024 : Shape := ⟨1, ![1024]⟩
abbrev S4x1024x1024 : Shape := ⟨3, ![4, 1024, 1024]⟩
abbrev S1x1024 : Shape := ⟨2, ![1, 1024]⟩
abbrev S8x1024 : Shape := ⟨2, ![8, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4x1024x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S4x1024x1024, .bf16⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== Dh3RefIdeal.lean ====
abbrev S4096x1024 : Shape := ⟨2, ![4096, 1024]⟩
abbrev S1024 : Shape := ⟨1, ![1024]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4x1024x1024, .f32⟩
  | .hbm, ⟨3, _⟩ => ⟨S4096x1024, .f32⟩
  | .hbm, ⟨4, _⟩ => ⟨S4096x1024, .f32⟩
  | .hbm, ⟨5, _⟩ => ⟨S1x1024x1024, .f32⟩
  | .hbm, ⟨6, _⟩ => ⟨S1024x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .bf16⟩
  | .hbm, ⟨57, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Dh.lean ====
abbrev S4096x1024 : Shape := ⟨2, ![4096, 1024]⟩
abbrev S1024 : Shape := ⟨1, ![1024]⟩
abbrev S1024x2304 : Shape := ⟨2, ![1024, 2304]⟩
abbrev S4096x2304 : Shape := ⟨2, ![4096, 2304]⟩
abbrev S1x1024 : Shape := ⟨2, ![1, 1024]⟩
abbrev S8x1024 : Shape := ⟨2, ![8, 1024]⟩
abbrev S512x2304 : Shape := ⟨2, ![512, 2304]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2304, .f32⟩
  | .hbm, ⟨3, _⟩ => ⟨S4096x2304, .f32⟩
  | .hbm, ⟨4, _⟩ => ⟨S4096x1024, .f32⟩
  | .hbm, ⟨5, _⟩ => ⟨S4096x2304, .bf16⟩
  | .hbm, ⟨6, _⟩ => ⟨S1024x2304, .bf16⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S8x1024, .f32⟩
  | .local _ .vmem, ⟨0, _⟩ => ⟨S512x2304, .bf16⟩
  | .local _ .vmem, ⟨1, _⟩ => ⟨S512x2304, .bf16⟩
  | .local _ .vmem, ⟨2, _⟩ => ⟨S1024x2304, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== DhRefIdeal.lean ====
abbrev S4096x1024 : Shape := ⟨2, ![4096, 1024]⟩
abbrev S1024 : Shape := ⟨1, ![1024]⟩
abbrev S1024x2304 : Shape := ⟨2, ![1024, 2304]⟩
abbrev S4096x2304 : Shape := ⟨2, ![4096, 2304]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x1024 : Shape := ⟨2, ![8, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2304, .f32⟩
  | .hbm, ⟨3, _⟩ => ⟨S4096x2304, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2304, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | .hbm, ⟨55, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Ple.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S256x1024, .bf16⟩
  | .hbm, ⟨3, _⟩ => ⟨S4096x1024, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleRefIdeal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DwPle.lean ====
abbrev S4096x256 : Shape := ⟨2, ![4096, 256]⟩
abbrev S256x1024 : Shape := ⟨2, ![256, 1024]⟩
abbrev S4096x1024 : Shape := ⟨2, ![4096, 1024]⟩
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 5
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | .hbm, ⟨3, _⟩ => ⟨S4096x1024, .bf16⟩
  | .hbm, ⟨4, _⟩ => ⟨S4x256x256, .bf16⟩
  | .local _ .vmem, ⟨0, _⟩ => ⟨S4096x256, .f32⟩
  | .local _ .vmem, ⟨1, _⟩ => ⟨S4096x256, .bf16⟩
  | .local _ .vmem, ⟨2, _⟩ => ⟨S4096x256, .bf16⟩
  | .local _ .vmem, ⟨3, _⟩ => ⟨S1x256x256, .bf16⟩
  | .local _ .vmem, ⟨4, _⟩ => ⟨S1x256x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwPleRefIdeal.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | .hbm, ⟨3, _⟩ => ⟨S4096x1024, .f32⟩
  | .hbm, ⟨4, _⟩ => ⟨S1024x256, .f32⟩
  | .hbm, ⟨5, _⟩ => ⟨S256x1024, .f32⟩
  | .hbm, ⟨6, _⟩ => ⟨S256x1024, .bf16⟩
  | .hbm, ⟨7, _⟩ => ⟨S256x4x256, .bf16⟩
  | .hbm, ⟨8, _⟩ => ⟨S4x256x256, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Softmax.lean ====
/-
  Causal attention of one head over the reals, and its gradient: the mathematics that both programs compute.
-/
module

public import Idealize.ShloMosaic.PureOps.Ideal.Laws

@[expose] public section

noncomputable section

namespace Cert.Att

open Idealize.ShloMosaic

/-- The scale of the scores, the float that `96 ^ (-1/2)` rounds to. -/
def r0 : ℝ := 3424635 / 33554432

/-- What the programs spell of it. -/
theorem ofBits_scale : Ideal.ofBits .f32 0x3DD105EC#32 = ((r0 : ℝ) : EReal) := by
  simp [Ideal.ofBits, Ideal.ieee, -EReal.coe_mul, r0]; norm_num
theorem ofBits_two : Ideal.ofBits .f32 0x40000000#32 = ((2 : ℝ) : EReal) := by
  simp [Ideal.ofBits, Ideal.ieee, -EReal.coe_mul]; norm_num
theorem ofBits_bot : Ideal.ofBits .f32 0xFF800000#32 = ⊥ := by
  simp [Ideal.ofBits, Ideal.ieee]

/-- A sum of reals, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The arguments of one head: the queries, the keys, the values, and the gradient of the head's output. -/
structure Head where
  q : Fin 4096 → Fin 96 → ℝ
  k : Fin 4096 → Fin 96 → ℝ
  v : Fin 4096 → Fin 64 → ℝ
  c : Fin 4096 → Fin 64 → ℝ

namespace Head
variable (x : Head)

/-- The scores, -/
def sc (i j : Fin 4096) : ℝ := (∑ d, x.q i d * x.k j d) * r0
/-- those a query may look at, the others replaced by minus infinity, -/
def masked (i j : Fin 4096) : EReal := if j ≤ i then (x.sc i j : EReal) else ⊥
/-- the greatest of a row, -/
def top (i : Fin 4096) : ℝ := (Finset.univ.sup (x.masked i)).toReal
/-- the exponentials, -/
def ex (i j : Fin 4096) : ℝ := if j ≤ i then Real.exp (x.sc i j - x.top i) else 0
/-- their sum, -/
def L (i : Fin 4096) : ℝ := ∑ j, x.ex i j
/-- the weights, -/
def P (i j : Fin 4096) : ℝ := x.ex i j / x.L i
/-- the output, -/
def O (i : Fin 4096) (d : Fin 64) : ℝ := ∑ j, x.P i j * x.v j d
/-- the gradient of the weights, -/
def dp (i j : Fin 4096) : ℝ := ∑ d, x.c i d * x.v j d
/-- the sum of a row of the output's gradient times the output, -/
def δ (i : Fin 4096) : ℝ := ∑ d, x.c i d * x.O i d
/-- the gradient of the scores, -/
def ds (i j : Fin 4096) : ℝ := x.P i j * (x.dp i j - x.δ i) * r0
/-- and the three results. -/
def dq (i : Fin 4096) (d : Fin 96) : ℝ := ∑ j, x.ds i j * x.k j d
def dk (j : Fin 4096) (d : Fin 96) : ℝ := ∑ i, x.ds i j * x.q i d
def dv (j : Fin 4096) (d : Fin 64) : ℝ := ∑ i, x.P i j * x.c i d

/-- A row's greatest score is a real: the diagonal is never masked, and there is no other infinity. -/
theorem coe_top (i : Fin 4096) : (x.top i : EReal) = Finset.univ.sup (x.masked i) := by
  apply EReal.coe_toReal
  · apply ne_of_lt
    rw [Finset.sup_lt_iff bot_lt_top]
    intro j _
    unfold masked
    split
    · exact EReal.coe_lt_top _
    · exact bot_lt_top
  · apply ne_of_gt
    refine lt_of_lt_of_le ?_ (Finset.le_sup (Finset.mem_univ i))
    unfold masked
    rw [if_pos le_rfl]
    exact EReal.bot_lt_coe _

theorem ex_nonneg (i j : Fin 4096) : 0 ≤ x.ex i j := by
  unfold ex; split
  · exact (Real.exp_pos _).le
  · exact le_rfl

theorem L_pos (i : Fin 4096) : 0 < x.L i := by
  refine Finset.sum_pos' (fun j _ => x.ex_nonneg i j) ⟨i, Finset.mem_univ _, ?_⟩
  unfold ex
  rw [if_pos le_rfl]
  exact Real.exp_pos _

theorem ex_above {i j : Fin 4096} (h : ¬ j ≤ i) : x.ex i j = 0 := if_neg h
theorem P_above {i j : Fin 4096} (h : ¬ j ≤ i) : x.P i j = 0 := by unfold P; rw [x.ex_above h, zero_div]
theorem ds_above {i j : Fin 4096} (h : ¬ j ≤ i) : x.ds i j = 0 := by unfold ds; rw [x.P_above h, zero_mul, zero_mul]

/-- The logarithm to base 2 of a row's normaliser. -/
def lse (i : Fin 4096) : ℝ := (x.top i + Real.log (x.L i)) / Real.log 2

/-- The weight before masking, as a power of two. -/
theorem weight_eq (i j : Fin 4096) :
    Real.rpow 2 ((∑ d, x.q i d * x.k j d) * (r0 * (Real.log 2)⁻¹) - x.lse i) = Real.exp (x.sc i j - x.top i) / x.L i := by
  have h2 : Real.log 2 ≠ 0 := (Real.log_pos (by norm_num)).ne'
  refine (Real.rpow_def_of_pos (by norm_num : (0 : ℝ) < 2) _).trans ?_
  have : Real.log 2 * ((∑ d, x.q i d * x.k j d) * (r0 * (Real.log 2)⁻¹) - x.lse i) = (x.sc i j - x.top i) - Real.log (x.L i) := by
    unfold lse sc
    field_simp
    ring
  rw [this, Real.exp_sub, Real.exp_log (x.L_pos i)]

theorem P_below {i j : Fin 4096} (h : j ≤ i) : x.P i j = Real.exp (x.sc i j - x.top i) / x.L i := by
  unfold P ex; rw [if_pos h]

/-- The sum of a row's weights times their gradients is `Σ do o`. -/
theorem sum_dp_P (i : Fin 4096) : ∑ j, x.dp i j * x.P i j = x.δ i := by
  unfold dp δ O
  simp only [Finset.sum_mul, Finset.mul_sum]
  rw [Finset.sum_comm]
  exact Finset.sum_congr rfl fun d _ => Finset.sum_congr rfl fun j _ => by ring

/-- The gradient of the scores as the quotient rule writes it. -/
theorem ds_quotient (i j : Fin 4096) :
    (x.dp i j / x.L i + -∑ j', x.dp i j' * (1 / (x.L i * x.L i)) * x.ex i j') * x.ex i j * r0 = x.ds i j := by
  have hL := (x.L_pos i).ne'
  have e : ∑ j', x.dp i j' * (1 / (x.L i * x.L i)) * x.ex i j' = x.δ i / x.L i := by
    rw [← x.sum_dp_P i, Finset.sum_div]
    refine Finset.sum_congr rfl fun j' _ => ?_
    unfold P
    field_simp
  rw [e]
  unfold ds P
  field_simp
  ring

/-! ## The rows padded to 128 columns -/

/-- A row of 96 with 32 zeros. -/
def pad96 (f : Fin 96 → ℝ) (d : Fin 128) : ℝ := if h : d.val < 96 then f ⟨d.val, h⟩ else 0
/-- A row of 64 with 64 zeros. -/
def pad64 (f : Fin 64 → ℝ) (d : Fin 128) : ℝ := if h : d.val < 64 then f ⟨d.val, h⟩ else 0
/-- A row of 64, a one, and 63 zeros. -/
def pad65 (f : Fin 64 → ℝ) (d : Fin 128) : ℝ := if h : d.val < 64 then f ⟨d.val, h⟩ else if d.val = 64 then 1 else 0

theorem sum_pad96 (f g : Fin 96 → ℝ) : ∑ d, pad96 f d * pad96 g d = ∑ d, f d * g d := by
  rw [Fin.sum_univ_add (a := 96) (b := 32)]
  have h2 : ∀ i : Fin 32, pad96 f (Fin.natAdd 96 i) * pad96 g (Fin.natAdd 96 i) = 0 := fun i => by
    have : ¬ (Fin.natAdd 96 i : Fin 128).val < 96 := by simp
    simp [pad96, this]
  have h1 : ∀ i : Fin 96, pad96 f (Fin.castAdd 32 i) * pad96 g (Fin.castAdd 32 i) = f i * g i := fun i => by
    have : (Fin.castAdd 32 i : Fin 128).val < 96 := i.isLt
    simp [pad96]
  simp only [h1, h2, Finset.sum_const_zero, add_zero]

theorem sum_pad64 (f g : Fin 64 → ℝ) : ∑ d, pad64 f d * pad64 g d = ∑ d, f d * g d := by
  rw [Fin.sum_univ_add (a := 64) (b := 64)]
  have h2 : ∀ i : Fin 64, pad64 f (Fin.natAdd 64 i) * pad64 g (Fin.natAdd 64 i) = 0 := fun i => by
    simp [pad64]
  have h1 : ∀ i : Fin 64, pad64 f (Fin.castAdd 64 i) * pad64 g (Fin.castAdd 64 i) = f i * g i := fun i => by
    simp [pad64]
  simp only [h1, h2, Finset.sum_const_zero, add_zero]

theorem sum_pad65 (f g : Fin 64 → ℝ) : ∑ d, pad64 f d * pad65 g d = ∑ d, f d * g d := by
  rw [Fin.sum_univ_add (a := 64) (b := 64)]
  have h2 : ∀ i : Fin 64, pad64 f (Fin.natAdd 64 i) * pad65 g (Fin.natAdd 64 i) = 0 := fun i => by
    simp [pad64]
  have h1 : ∀ i : Fin 64, pad64 f (Fin.castAdd 64 i) * pad65 g (Fin.castAdd 64 i) = f i * g i := fun i => by
    simp [pad64, pad65]
  simp only [h1, h2, Finset.sum_const_zero, add_zero]

end Head

end Cert.Att

end
-- ==== Proof.RefTerm.lean ====
/-
  The reference as few vector functions: the masked scores, the greatest of each row, the exponentials, their sums, and the gradients from these.
-/
module

public import proofs.«01_k».proof.Proof.Gen.ReferenceIdeal.Run

@[expose] public section

set_option maxRecDepth 16384

noncomputable section

namespace Cert.ReferenceIdeal.Att

open Idealize.ShloMosaic Idealize.ShloMosaic.TcCoe Idealize.SL.Sem
open Cert.ReferenceIdeal Cert.ReferenceIdeal.Gen Cert.ReferenceIdeal.Value

variable {F : FTy → Type} [FloatOps F]

/-- Which keys a query may look at. -/
def mask : IVec S8x4096x4096 1 :=
  broadcastInDim S8x4096x4096 ![1, 2] bcast_S4096x4096_S8x4096x4096_1_2
    (cmpi .sle (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- The masked scores. -/
def scores (q k : FVec F S4096x8x96 .f32) : FVec F S8x4096x4096 .f32 :=
  select mask
    (mulf (Host.dotGeneral dot_S4096x8x96_S4096x8x96_S8x4096x4096_2_2_0_0_1_1 none q k)
      (broadcastInDim S8x4096x4096 ![] bcast_S_S8x4096x4096 (constant S_ .f32 0x3DD105EC#32)))
    (broadcastInDim S8x4096x4096 ![] bcast_S_S8x4096x4096 (id (constant S_ .f32 0xFF800000#32)))

/-- The greatest score of each row. -/
def tops (s : FVec F S8x4096x4096 .f32) : FVec F S8x4096 .f32 :=
  Host.reduce FloatOps.maximumf s (constant S_ .f32 0xFF800000#32) reducesTo_S8x4096x4096_S8x4096_d2 h_S_

/-- The same, as the reference takes it. -/
def tops' (t : FVec F S8x4096 .f32) : FVec F S8x4096 .f32 :=
  maximumf (broadcastInDim S8x4096 ![] bcast_S_S8x4096 (constant S_ .f32 0xFF800000#32)) t

/-- The exponentials of the scores less a number of each row. -/
def exps (s : FVec F S8x4096x4096 .f32) (t : FVec F S8x4096 .f32) : FVec F S8x4096x4096 .f32 :=
  Host.exp (subf s (broadcastInDim S8x4096x4096 ![0, 1, 2] bcast_S8x4096x1_S8x4096x4096_0_1_2 (broadcastInDim S8x4096x1 ![0, 1] bcast_S8x4096_S8x4096x1_0_1 t)))

/-- The sum of each row. -/
def sums (e : FVec F S8x4096x4096 .f32) : FVec F S8x4096x1 .f32 :=
  broadcastInDim S8x4096x1 ![0, 1] bcast_S8x4096_S8x4096x1_0_1 (Host.reduceAdd e (constant S_ .f32 0x00000000#32) reducesTo_S8x4096x4096_S8x4096_d2 h_S_)

/-- A matrix over a column of divisors. -/
def over (e : FVec F S8x4096x4096 .f32) (l : FVec F S8x4096x1 .f32) : FVec F S8x4096x4096 .f32 :=
  Host.divf e (broadcastInDim S8x4096x4096 ![0, 1, 2] bcast_S8x4096x1_S8x4096x4096_0_1_2 l)

/-- The output's gradient, heads first. -/
def heads (ct : FVec F S4096x512 .f32) : FVec F S8x64x4096 .f32 :=
  transpose S8x64x4096 [1, 2, 0] (shapeCast _ ct shapeCasts_S4096x512_S4096x8x64) transposes_S4096x8x64_S8x64x4096_1_2_0

/-- The gradient of the weights. -/
def dweights (ct : FVec F S4096x512 .f32) (v : FVec F S4096x8x64 .f32) : FVec F S8x4096x4096 .f32 :=
  Host.dotGeneral dot_S8x64x4096_S4096x8x64_S8x4096x4096_1_2_2_0_0_1 none (heads ct) v

/-- The gradient of the values from the weights. -/
def dvalues (ct : FVec F S4096x512 .f32) (p : FVec F S8x4096x4096 .f32) : FVec F S4096x8x64 .f32 :=
  transpose S4096x8x64 [2, 0, 1] (Host.dotGeneral dot_S8x64x4096_S8x4096x4096_S8x64x4096_2_1_1_2_0_0 none (heads ct) p) transposes_S8x64x4096_S4096x8x64_2_0_1

/-- The gradient of the sums. -/
def dsums (dp e : FVec F S8x4096x4096 .f32) (l : FVec F S8x4096x1 .f32) : FVec F S8x4096 .f32 :=
  Host.reduceAdd
    (Host.negf (shapeCast S8x4096x1
      (Host.reduceAdd
        (mulf (mulf dp (broadcastInDim S8x4096x4096 ![0, 1, 2] bcast_S8x4096x1_S8x4096x4096_0_1_2
          (Host.divf (broadcastInDim S8x4096x1 ![] bcast_S_S8x4096x1 (constant S_ .f32 0x3F800000#32)) (mulf l l)))) e)
        (constant S_ .f32 0x00000000#32) reducesTo_S8x4096x4096_S8x4096_d2 h_S_)
      shapeCasts_S8x4096_S8x4096x1))
    (constant S_ .f32 0x00000000#32) reducesTo_S8x4096x1_S8x4096_d2 h_S_

/-- The gradient of the scores before the mask and the scale. -/
def dscores (dp e : FVec F S8x4096x4096 .f32) (l : FVec F S8x4096x1 .f32) (g : FVec F S8x4096 .f32) : FVec F S8x4096x4096 .f32 :=
  mulf (addf (over dp l) (broadcastInDim S8x4096x4096 ![0, 1] bcast_S8x4096_S8x4096x4096_0_1 g)) e

/-- The gradient of the products of queries and keys. -/
def dproducts (d : FVec F S8x4096x4096 .f32) : FVec F S8x4096x4096 .f32 :=
  mulf (select mask d (broadcastInDim S8x4096x4096 ![] bcast_S_S8x4096x4096 (constant S_ .f32 0x00000000#32)))
    (broadcastInDim S8x4096x4096 ![] bcast_S_S8x4096x4096 (constant S_ .f32 0x3DD105EC#32))

/-- The gradient of the keys, -/
def dkeys (d : FVec F S8x4096x4096 .f32) (q : FVec F S4096x8x96 .f32) : FVec F S4096x8x96 .f32 :=
  transpose S4096x8x96 [1, 0, 2] (Host.dotGeneral dot_S8x4096x4096_S4096x8x96_S8x4096x96_1_0_2_2_0_1 none d q) transposes_S8x4096x96_S4096x8x96_1_0_2

/-- and that of the queries. -/
def dqueries (d : FVec F S8x4096x4096 .f32) (k : FVec F S4096x8x96 .f32) : FVec F S4096x8x96 .f32 :=
  transpose S4096x8x96 [1, 0, 2] (Host.dotGeneral dot_S8x4096x4096_S4096x8x96_S8x4096x96_2_0_1_2_0_1 none d k) transposes_S8x4096x96_S4096x8x96_1_0_2

section
variable (m : (ℓ : Loc nD τ sig) → Buf (Elt F) ℓ) (c : Dev nD)

/-- The exponentials of the run, -/
def runExps : FVec F S8x4096x4096 .f32 :=
  exps (scores (m ((c.tc : Thread nD τ).loc main_arg0)) (m ((c.tc : Thread nD τ).loc main_arg1)))
    (tops' (tops (scores (m ((c.tc : Thread nD τ).loc main_arg0)) (m ((c.tc : Thread nD τ).loc main_arg1)))))
/-- the gradient of its weights, -/
def runDweights : FVec F S8x4096x4096 .f32 := dweights (m ((c.tc : Thread nD τ).loc main_arg3)) (m ((c.tc : Thread nD τ).loc main_arg2))
/-- and that of its products. -/
def runDproducts : FVec F S8x4096x4096 .f32 :=
  dproducts (dscores (runDweights m c) (runExps m c) (sums (runExps m c)) (dsums (runDweights m c) (runExps m c) (sums (runExps m c))))

theorem out0_eq : res_out0 m c = dqueries (runDproducts m c) (m ((c.tc : Thread nD τ).loc main_arg1)) := by
  unfold res_out0 res_main_v65; rfl
theorem out1_eq : res_out1 m c = dkeys (runDproducts m c) (m ((c.tc : Thread nD τ).loc main_arg0)) := by
  unfold res_out1 res_main_v63; rfl
theorem out2_eq : res_out2 m c = dvalues (m ((c.tc : Thread nD τ).loc main_arg3)) (over (runExps m c) (sums (runExps m c))) := by
  unfold res_out2 res_main_v46; rfl

end

end Cert.ReferenceIdeal.Att

end
-- ==== Proof.HostValue.lean ====
/-
  The vector functions of the reference read at an index, over the ideal numbers: each is the real that the mathematics of one head names.
-/
module

public import proofs.«01_k».proof.Proof.Softmax
public import proofs.«01_k».proof.Proof.RefTerm
public import Idealize.ShloMosaic.Lib.Pointwise
public import Idealize.ShloMosaic.Lib.Tactic.CleanTypes

@[expose] public section

set_option maxRecDepth 16384

noncomputable section

namespace Cert.ReferenceIdeal.Att

open Idealize.ShloMosaic Idealize.ShloMosaic.TcCoe Idealize.SL.Sem
open Cert.ReferenceIdeal Cert.ReferenceIdeal.Gen Cert.Att

/-- A choice by the order of two positions. -/
theorem select_le {α : Type} (i j : Fin 4096) (a b : α) :
    Scalar.select (IntOp.cmpi .sle (BitVec.ofNat 32 j.val) (BitVec.ofNat 32 i.val)) a b = if j ≤ i then a else b := by
  have hj := j.isLt
  have hi := i.isLt
  have e : (BitVec.ofNat 32 j.val).sle (BitVec.ofNat 32 i.val) = decide (j ≤ i) := by
    rw [BitVec.sle_eq_decide, BitVec.toInt_ofNat', BitVec.toInt_ofNat']
    simp only [Fin.le_def]
    congr 1
    rw [Int.bmod_def, Int.bmod_def]
    apply propext
    omega
  by_cases h : j ≤ i
  · simp [Scalar.select, IntOp.cmpi, e, h]
  · simp [Scalar.select, IntOp.cmpi, e, h]

/-- A column of the 512, by its head and its place among the head's 64. -/
def ccol (h : Fin 8) (d : Fin 64) : Fin 512 := ⟨64 * h.val + d.val, by omega⟩

variable {x : Fin 8 → Head}
  {q k : FVec Ideal S4096x8x96 .f32} {v : FVec Ideal S4096x8x64 .f32} {ct : FVec Ideal S4096x512 .f32}
  {s e dp : FVec Ideal S8x4096x4096 .f32} {t g : FVec Ideal S8x4096 .f32} {l : FVec Ideal S8x4096x1 .f32}

theorem scores_at (hq : ∀ h i d, q (ix3 i h d) = (((x h).q i d : ℝ) : EReal)) (hk : ∀ h i d, k (ix3 i h d) = (((x h).k i d : ℝ) : EReal))
    (h : Fin 8) (i j : Fin 4096) : scores q k (ix3 h i j) = (x h).masked i j := by
  unfold scores mask
  clean_types
  pointwise
  rw [select_le]
  simp only [hq, hk, ofBits_scale, ← EReal.coe_mul, ← coe_sum]
  unfold Head.masked Head.sc
  split
  · rfl
  · exact ofBits_bot

theorem tops_at (hs : ∀ h i j, s (ix3 h i j) = (x h).masked i j) (h : Fin 8) (i : Fin 4096) :
    tops s (ix2 h i) = (((x h).top i : ℝ) : EReal) := by
  unfold tops
  clean_types
  pointwise
  simp only [hs, ofBits_bot]
  rw [Head.coe_top]
  rfl

theorem tops'_at (ht : ∀ h i, t (ix2 h i) = (((x h).top i : ℝ) : EReal)) (h : Fin 8) (i : Fin 4096) :
    tops' t (ix2 h i) = (((x h).top i : ℝ) : EReal) := by
  unfold tops'
  clean_types
  pointwise
  simp only [ht, ofBits_bot]
  exact max_eq_right bot_le

theorem exps_at (hs : ∀ h i j, s (ix3 h i j) = (x h).masked i j) (ht : ∀ h i, t (ix2 h i) = (((x h).top i : ℝ) : EReal))
    (h : Fin 8) (i j : Fin 4096) : exps s t (ix3 h i j) = (((x h).ex i j : ℝ) : EReal) := by
  unfold exps
  clean_types
  pointwise
  simp only [hs, ht]
  unfold Head.masked Head.ex
  split
  · rw [← EReal.coe_sub]; exact Ideal.exp_coe _
  · rw [EReal.bot_sub]; exact Ideal.exp_bot

theorem sums_at (he : ∀ h i j, e (ix3 h i j) = (((x h).ex i j : ℝ) : EReal)) (h : Fin 8) (i : Fin 4096) (z : Fin 1) :
    sums e (ix3 h i z) = (((x h).L i : ℝ) : EReal) := by
  unfold sums
  clean_types
  pointwise
  simp only [he, ← coe_sum]
  rfl

/-- A real over a positive real. -/
theorem div_real {b : ℝ} (hb : b ≠ 0) (a : ℝ) : Ideal.div (a : EReal) (b : EReal) = ((a / b : ℝ) : EReal) := by
  rw [Ideal.div_coe hb, ← EReal.coe_mul]; congr 1; ring

theorem over_at {f : Fin 8 → Fin 4096 → Fin 4096 → ℝ} (he : ∀ h i j, e (ix3 h i j) = ((f h i j : ℝ) : EReal))
    (hl : ∀ h i z, l (ix3 h i z) = (((x h).L i : ℝ) : EReal)) (h : Fin 8) (i j : Fin 4096) :
    over e l (ix3 h i j) = ((f h i j / (x h).L i : ℝ) : EReal) := by
  unfold over
  clean_types
  pointwise
  simp only [he, hl]
  exact div_real ((x h).L_pos i).ne' _

theorem heads_at (hc : ∀ (h : Fin 8) i (d : Fin 64), ct (ix2 i (ccol h d)) = (((x h).c i d : ℝ) : EReal))
    (h : Fin 8) (d : Fin 64) (i : Fin 4096) : heads ct (ix3 h d i) = (((x h).c i d : ℝ) : EReal) := by
  unfold heads
  clean_types
  pointwise
  rw [← hc]
  exact congrArg (fun z : Fin 512 => ct (ix2 i z)) (Fin.ext (by show h.val * 64 + d.val = 64 * h.val + d.val; omega))

theorem dweights_at (hc : ∀ (h : Fin 8) i (d : Fin 64), ct (ix2 i (ccol h d)) = (((x h).c i d : ℝ) : EReal))
    (hv : ∀ h i d, v (ix3 i h d) = (((x h).v i d : ℝ) : EReal)) (h : Fin 8) (i j : Fin 4096) :
    dweights ct v (ix3 h i j) = (((x h).dp i j : ℝ) : EReal) := by
  unfold dweights
  have hh := heads_at hc
  generalize heads ct = H at hh ⊢
  clean_types
  pointwise
  simp only [hh, hv, ← EReal.coe_mul, ← coe_sum]
  rfl

theorem dvalues_at (hc : ∀ (h : Fin 8) i (d : Fin 64), ct (ix2 i (ccol h d)) = (((x h).c i d : ℝ) : EReal))
    (hp : ∀ h i j, e (ix3 h i j) = (((x h).P i j : ℝ) : EReal)) (h : Fin 8) (j : Fin 4096) (d : Fin 64) :
    dvalues ct e (ix3 j h d) = (((x h).dv j d : ℝ) : EReal) := by
  unfold dvalues
  have hh := heads_at hc
  generalize heads ct = H at hh ⊢
  clean_types
  pointwise
  simp only [hh, hp, ← EReal.coe_mul, ← coe_sum]
  unfold Head.dv
  simp only [mul_comm]

theorem dsums_at (hd : ∀ h i j, dp (ix3 h i j) = (((x h).dp i j : ℝ) : EReal)) (he : ∀ h i j, e (ix3 h i j) = (((x h).ex i j : ℝ) : EReal))
    (hl : ∀ h i z, l (ix3 h i z) = (((x h).L i : ℝ) : EReal)) (h : Fin 8) (i : Fin 4096) :
    dsums dp e l (ix2 h i) = ((-∑ j, (x h).dp i j * (1 / ((x h).L i * (x h).L i)) * (x h).ex i j : ℝ) : EReal) := by
  unfold dsums
  clean_types
  pointwise
  have hL := ((x h).L_pos i).ne'
  have h1 : ((1 : EReal)) = ((1 : ℝ) : EReal) := rfl
  simp only [hd, he, hl, ← EReal.coe_mul, h1, div_real (mul_ne_zero hL hL), ← coe_sum]
  rw [Fin.sum_univ_one, ← EReal.coe_neg]

theorem dscores_at (hd : ∀ h i j, dp (ix3 h i j) = (((x h).dp i j : ℝ) : EReal)) (he : ∀ h i j, e (ix3 h i j) = (((x h).ex i j : ℝ) : EReal))
    (hl : ∀ h i z, l (ix3 h i z) = (((x h).L i : ℝ) : EReal)) (h : Fin 8) (i j : Fin 4096) :
    dproducts (dscores dp e l (dsums dp e l)) (ix3 h i j) = (((x h).ds i j : ℝ) : EReal) := by
  have hg := dsums_at hd he hl
  have ho := over_at hd hl
  unfold dproducts dscores mask
  generalize dsums dp e l = g at hg ⊢
  generalize over dp l = o at ho ⊢
  clean_types
  pointwise
  rw [select_le]
  simp only [hg, ho, he, ofBits_scale, ← EReal.coe_mul, ← EReal.coe_add]
  by_cases hji : j ≤ i
  · rw [if_pos hji, (x h).ds_quotient]
  · rw [if_neg hji, (x h).ds_above hji]; rfl

theorem dkeys_at (hd : ∀ h i j, dp (ix3 h i j) = (((x h).ds i j : ℝ) : EReal)) (hq : ∀ h i d, q (ix3 i h d) = (((x h).q i d : ℝ) : EReal))
    (h : Fin 8) (j : Fin 4096) (d : Fin 96) : dkeys dp q (ix3 j h d) = (((x h).dk j d : ℝ) : EReal) := by
  unfold dkeys
  clean_types
  pointwise
  simp only [hd, hq, ← EReal.coe_mul, ← coe_sum]
  rfl

theorem dqueries_at (hd : ∀ h i j, dp (ix3 h i j) = (((x h).ds i j : ℝ) : EReal)) (hk : ∀ h i d, k (ix3 i h d) = (((x h).k i d : ℝ) : EReal))
    (h : Fin 8) (i : Fin 4096) (d : Fin 96) : dqueries dp k (ix3 i h d) = (((x h).dq i d : ℝ) : EReal) := by
  unfold dqueries
  clean_types
  pointwise
  simp only [hd, hk, ← EReal.coe_mul, ← coe_sum]
  rfl

section
variable (m : (ℓ : Loc nD τ sig) → Buf (Elt Ideal) ℓ) (c : Dev nD)
  (hq : ∀ h i d, m ((c.tc : Thread nD τ).loc main_arg0) (ix3 i h d) = (((x h).q i d : ℝ) : EReal))
  (hk : ∀ h i d, m ((c.tc : Thread nD τ).loc main_arg1) (ix3 i h d) = (((x h).k i d : ℝ) : EReal))
  (hv : ∀ h i d, m ((c.tc : Thread nD τ).loc main_arg2) (ix3 i h d) = (((x h).v i d : ℝ) : EReal))
  (hc : ∀ (h : Fin 8) i (d : Fin 64), m ((c.tc : Thread nD τ).loc main_arg3) (ix2 i (ccol h d)) = (((x h).c i d : ℝ) : EReal))
include hq hk

theorem runExps_at (h : Fin 8) (i j : Fin 4096) : runExps m c (ix3 h i j) = (((x h).ex i j : ℝ) : EReal) :=
  exps_at (scores_at hq hk) (tops'_at (tops_at (scores_at hq hk))) h i j

include hv hc

theorem out2_at (h : Fin 8) (j : Fin 4096) (d : Fin 64) : Value.res_out2 m c (ix3 j h d) = (((x h).dv j d : ℝ) : EReal) := by
  rw [out2_eq]
  exact dvalues_at hc (over_at (runExps_at m c hq hk) (sums_at (runExps_at m c hq hk))) h j d

theorem runDproducts_at (h : Fin 8) (i j : Fin 4096) : runDproducts m c (ix3 h i j) = (((x h).ds i j : ℝ) : EReal) :=
  dscores_at (dweights_at hc hv) (runExps_at m c hq hk) (sums_at (runExps_at m c hq hk)) h i j

theorem out1_at (h : Fin 8) (j : Fin 4096) (d : Fin 96) : Value.res_out1 m c (ix3 j h d) = (((x h).dk j d : ℝ) : EReal) := by
  rw [out1_eq]
  exact dkeys_at (runDproducts_at m c hq hk hv hc) hq h j d

theorem out0_at (h : Fin 8) (i : Fin 4096) (d : Fin 96) : Value.res_out0 m c (ix3 i h d) = (((x h).dq i d : ℝ) : EReal) := by
  rw [out0_eq]
  exact dqueries_at (runDproducts_at m c hq hk hv hc) hk h i d

end

end Cert.ReferenceIdeal.Att

end
-- ==== Proof.Step.lean ====
/-
  The body of the attention's gradient as a sequence of steps. One step takes the 256 query rows that
  start at a given row against a list of key blocks of 256 rows, and adds what the pairs contribute to
  the three gradients. `body_eq` says that the printed body is a sequence of such steps.
-/
module

public import proofs.«01_k».proof.Proof.Gen.KernelIdeal

@[expose] public section

set_option synthInstance.maxSize 4096

noncomputable section

namespace Cert.KernelIdeal.Att

open Idealize.ShloMosaic Idealize.SL.Sem
open Cert.KernelIdeal.Gen

variable {F : FTy → Type} [FloatOps F] [Named F]

/-- The effects of the call's body. -/
abbrev Eff (F : FTy → Type) [FloatOps F] : Type → Type _ := TpuEff nD τ sig (Elt F) Λ₀ .tc

/-- Key block `b` starts at row `256 b` of the keys of the grid point. -/
def kOff (b : Fin 8) : Fin 2 → ℕ := ![256 * b.val, 0]

theorem kOff_inb (b : Fin 8) : ∀ d, kOff b d + S256x128.size d ≤ S2048x128.size d := by
  revert b; decide

/-- The block's rectangle. -/
abbrev kRect (b : Fin 8) : Rect S2048x128 := Rect.unit (s := S2048x128) (kOff b) S256x128.size (kOff_inb b)

/-- A step against key block `b`, and whether the causal mask applies to it. -/
abbrev Sub := Fin 8 × Bool

/-- The products of the scores: `q kᵀ`. -/
def score (q k : FVec F S256x128 .bf16) : FVec F S256x256 .f32 :=
  matmul dot_S256x128_S256x128_S256x256_1_1_0_0_n_n none q k (constant S256x256 .f32 0x00000000#32)

/-- The weights `2 ^ (s c - lse)` from the scores. -/
def weight (lse : FVec F S256x1 .f32) (s : FVec F S256x256 .f32) : FVec F S256x256 .f32 :=
  exp2 (subf (mulf s (broadcast S256x256 (Named.named κ "att_scale_log2" 0x3E16C740#32)))
    (broadcastTo S256x256 lse broadcasts_S256x1_S256x256))

/-- The weights with those above the diagonal replaced by zero. -/
def masked (p : FVec F S256x256 .f32) : FVec F S256x256 .f32 :=
  select (cmpi .sle (iota .tc S256x256 32 [1] iota_S256x256_d1_w32) (iota .tc S256x256 32 [0] iota_S256x256_d0_w32)) p
    (broadcast S256x256 (Scalar.ofBits .f32 0x00000000#32))

/-- The weights of a block, masked where the block is the diagonal one. -/
def weights (lse : FVec F S256x1 .f32) (q k : FVec F S256x128 .bf16) : Bool → FVec F S256x256 .f32
  | true => masked (weight lse (score q k))
  | false => weight lse (score q k)

/-- The gradient of the scores: `p (dp - δ) scale`. -/
def dscore (δ : FVec F S256x1 .f32) (p dp : FVec F S256x256 .f32) : FVec F S256x256 .bf16 :=
  truncf .bf16 (mulf (mulf p (subf dp (broadcastTo S256x256 δ broadcasts_S256x1_S256x256)))
    (broadcast S256x256 (Scalar.ofBits .f32 0x3DD105EC#32))) bitsLt_bf16_f32

/-- What a block adds to the gradient of its values, or of its keys: `wᵀ x`. -/
def addT (w : FVec F S256x256 .bf16) (x : FVec F S256x128 .bf16) (old : FVec F S256x128 .f32) : FVec F S256x128 .f32 :=
  addf old (matmul dot_S256x256_S256x128_S256x128_0_0_1_1_n_n none w x (constant S256x128 .f32 0x00000000#32))

/-- What the blocks add to the gradient of the queries. -/
def addQ (old : FVec F S256x128 .f32) (l : List (FVec F S256x256 .bf16 × FVec F S256x128 .bf16)) : FVec F S256x128 .f32 :=
  addf old (l.foldl (fun acc w => addf acc (matmul dot_S256x256_S256x128_S256x128_1_0_0_1_n_n none w.1 w.2
    (constant S256x128 .f32 0x00000000#32))) (broadcast S256x128 (Scalar.ofBits .f32 0x00000000#32)))

/-- Reads the key blocks listed. -/
def loadSubs (arg : Memref sig .tc .vmem S2048x128 .bf16) :
    List Sub → (List (FVec F S256x128 .bf16) → Prog (Eff F) PUnit) → Prog (Eff F) PUnit
  | [], k => k []
  | b :: l, k => .op (.load arg (kRect b.1).toLoadRect (View.loadsAt_vmem h_S256x128)) fun v =>
      loadSubs arg l fun vs => k (shapeCast S256x128 v shapeCasts_S256x128_S256x128 :: vs)

/-- Adds to the blocks listed of an accumulator, one after the other. -/
def addSubs (arg : Memref sig .tc .vmem S2048x128 .f32) (x : FVec F S256x128 .bf16) :
    List Sub → List (FVec F S256x256 .bf16) → Prog (Eff F) PUnit → Prog (Eff F) PUnit
  | [], _, k => k
  | _ :: _, [], k => k
  | b :: l, w :: ws, k =>
    .op (.load arg (kRect b.1).toLoadRect (View.loadsAt_vmem h_S256x128)) fun old =>
    .op (.load arg (kRect b.1).toLoadRect (View.loadsAt_vmem h_S256x128)) fun _ =>
    .op (.store arg (kRect b.1) (addT w x (shapeCast S256x128 old shapeCasts_S256x128_S256x128)) Finset.univ
      (View.stores_vmem_bits_univ h_S256x128 rfl) (.inl rfl)) fun _ => addSubs arg x l ws k

section
variable (arg2 : Memref sig .tc .vmem S4096x128 .bf16) (arg3 : Memref sig .tc .vmem S2048x128 .bf16)
  (arg4 : Memref sig .tc .vmem S2048x128 .bf16) (arg5 : Memref sig .tc .vmem S4096x128 .f32)
  (arg6 : Memref sig .tc .vmem S4096x128 .f32) (arg7 : Memref sig .tc .vmem S1x4096x128 .f32)
  (arg8 : Memref sig .tc .vmem S4096x128 .f32) (arg9 : Memref sig .tc .vmem S2048x128 .f32)
  (arg10 : Memref sig .tc .vmem S2048x128 .f32)

/-- One step: the 256 query rows at `o2` against the key blocks `subs`. -/
def step (o2 : Fin 2 → ℕ) (h2 : ∀ d, o2 d + S256x128.size d ≤ S4096x128.size d)
    (o3 : Fin 3 → ℕ) (h3 : ∀ d, o3 d + S1x256x128.size d ≤ S1x4096x128.size d) (subs : List Sub) : Prog (Eff F) PUnit :=
  .op (.load arg6 (Rect.unit (s := S4096x128) o2 S256x128.size h2).toLoadRect (View.loadsAt_vmem h_S256x128)) fun doo =>
  .op (.load arg5 (Rect.unit (s := S4096x128) o2 S256x128.size h2).toLoadRect (View.loadsAt_vmem h_S256x128)) fun o =>
  .op (.load arg2 (Rect.unit (s := S4096x128) o2 S256x128.size h2).toLoadRect (View.loadsAt_vmem h_S256x128)) fun q =>
  .op (.load arg7 (Rect.unit (s := S1x4096x128) o3 S1x256x128.size h3).toLoadRect (View.loadsAt_vmem h_S1x256x128)) fun lse =>
  let dof : FVec F S256x128 .f32 := shapeCast S256x128 doo shapeCasts_S256x128_S256x128
  let δ : FVec F S256x1 .f32 := shapeCast S256x1 (multiReduction .add [1] S256
    (mulf dof (shapeCast S256x128 o shapeCasts_S256x128_S256x128)) 0x00000000#32 reduces_S256x128_S256 (.inl rfl) rfl) shapeCasts_S256_S256x1
  let qb : FVec F S256x128 .bf16 := shapeCast S256x128 q shapeCasts_S256x128_S256x128
  let dob : FVec F S256x128 .bf16 := truncf .bf16 dof bitsLt_bf16_f32
  let lse1 : FVec F S256x1 .f32 := extractStridedSlice S256x1 ![0, 0]
    (shapeCast S256x128 lse shapeCasts_S1x256x128_S256x128) slices_S256x128_o0_0_S256x1
  loadSubs arg3 subs fun ks =>
  loadSubs arg4 subs fun vs =>
  let ps := List.zipWith (fun b k => weights lse1 qb k b.2) subs ks
  let ds := List.zipWith (fun p v => dscore δ p (score dob v)) ps vs
  addSubs arg10 dob subs (ps.map fun p => truncf .bf16 p bitsLt_bf16_f32) <|
  addSubs arg9 qb subs ds <|
  .op (.load arg8 (Rect.unit (s := S4096x128) o2 S256x128.size h2).toLoadRect (View.loadsAt_vmem h_S256x128)) fun old =>
  .op (.load arg8 (Rect.unit (s := S4096x128) o2 S256x128.size h2).toLoadRect (View.loadsAt_vmem h_S256x128)) fun _ =>
  .op (.store arg8 (Rect.unit (s := S4096x128) o2 S256x128.size h2)
    (addQ (shapeCast S256x128 old shapeCasts_S256x128_S256x128) (List.zip ds ks)) Finset.univ
    (View.stores_vmem_bits_univ h_S256x128 rfl) (.inl rfl)) fun _ => .ret ⟨⟩

/-- All eight key blocks, none masked. -/
def full : List Sub := [(0, false), (1, false), (2, false), (3, false), (4, false), (5, false), (6, false), (7, false)]

/-- The key blocks that diagonal step `a` meets: those before block `a`, and block `a` masked. -/
def diag : Fin 8 → List Sub
  | 0 => [(0, true)]
  | 1 => [(0, false), (1, true)]
  | 2 => [(0, false), (1, false), (2, true)]
  | 3 => [(0, false), (1, false), (2, false), (3, true)]
  | 4 => [(0, false), (1, false), (2, false), (3, false), (4, true)]
  | 5 => [(0, false), (1, false), (2, false), (3, false), (4, false), (5, true)]
  | 6 => [(0, false), (1, false), (2, false), (3, false), (4, false), (5, false), (6, true)]
  | 7 => [(0, false), (1, false), (2, false), (3, false), (4, false), (5, false), (6, false), (7, true)]

/-- Sets an accumulator of one grid point's keys to zero. -/
def zeroK (arg : Memref sig .tc .vmem S2048x128 .f32) (k : Prog (Eff F) PUnit) : Prog (Eff F) PUnit :=
  .op (.load arg (Rect.unit (s := S2048x128) ![0, 0] S2048x128.size inb_S2048x128_S2048x128_0_0).toLoadRect
    (View.loadsAt_vmem h_S2048x128)) fun _ =>
  .op (.store arg (Rect.unit (s := S2048x128) ![0, 0] S2048x128.size inb_S2048x128_S2048x128_0_0)
    (broadcast S2048x128 (Scalar.ofBits .f32 0x00000000#32)) Finset.univ (View.stores_vmem_bits_univ h_S2048x128 rfl) (.inl rfl))
    fun _ => k

/-- Sets the accumulator of the queries to zero. -/
def zeroQ (arg : Memref sig .tc .vmem S4096x128 .f32) : Prog (Eff F) PUnit :=
  .op (.load arg (Rect.unit (s := S4096x128) ![0, 0] S4096x128.size inb_S4096x128_S4096x128_0_0).toLoadRect
    (View.loadsAt_vmem h_S4096x128)) fun _ =>
  .op (.store arg (Rect.unit (s := S4096x128) ![0, 0] S4096x128.size inb_S4096x128_S4096x128_0_0)
    (broadcast S4096x128 (Scalar.ofBits .f32 0x00000000#32)) Finset.univ (View.stores_vmem_bits_univ h_S4096x128 rfl) (.inl rfl))
    fun _ => .ret ⟨⟩

/-- The condition under which a grid point clears the queries' accumulator. -/
def first (i : grid0.Coords) : BitVec 1 :=
  Scalar.cmpi .ne (Scalar.extui (Scalar.cmpi .eq (BitVec.ofNat 32 (i 1).val) 0#32) : BitVec 32) 0#32

/-- The body: clears, the eight diagonal steps, then the steps of the later query rows. -/
def body (i : grid0.Coords) : Prog (Eff F) PUnit :=
  (if first i = 1#1 then zeroQ arg8 else .ret ⟨⟩) >>= fun _ =>
  zeroK arg9 <| zeroK arg10 <| do
  step arg2 arg3 arg4 arg5 arg6 arg7 arg8 arg9 arg10 (k0_off1 i 0#32) (k0_off1_inb i 0) (k0_off2 i 0#32) (k0_off2_inb i 0) (diag 0)
  step arg2 arg3 arg4 arg5 arg6 arg7 arg8 arg9 arg10 (k0_off1 i 1#32) (k0_off1_inb i 1) (k0_off2 i 1#32) (k0_off2_inb i 1) (diag 1)
  step arg2 arg3 arg4 arg5 arg6 arg7 arg8 arg9 arg10 (k0_off1 i 2#32) (k0_off1_inb i 2) (k0_off2 i 2#32) (k0_off2_inb i 2) (diag 2)
  step arg2 arg3 arg4 arg5 arg6 arg7 arg8 arg9 arg10 (k0_off1 i 3#32) (k0_off1_inb i 3) (k0_off2 i 3#32) (k0_off2_inb i 3) (diag 3)
  step arg2 arg3 arg4 arg5 arg6 arg7 arg8 arg9 arg10 (k0_off1 i 4#32) (k0_off1_inb i 4) (k0_off2 i 4#32) (k0_off2_inb i 4) (diag 4)
  step arg2 arg3 arg4 arg5 arg6 arg7 arg8 arg9 arg10 (k0_off1 i 5#32) (k0_off1_inb i 5) (k0_off2 i 5#32) (k0_off2_inb i 5) (diag 5)
  step arg2 arg3 arg4 arg5 arg6 arg7 arg8 arg9 arg10 (k0_off1 i 6#32) (k0_off1_inb i 6) (k0_off2 i 6#32) (k0_off2_inb i 6) (diag 6)
  step arg2 arg3 arg4 arg5 arg6 arg7 arg8 arg9 arg10 (k0_off1 i 7#32) (k0_off1_inb i 7) (k0_off2 i 7#32) (k0_off2_inb i 7) (diag 7)
  Scf.Loop.for (k0_t1_loop i) (k0_t1_ok i) ⟨⟩ fun t _ =>
    step arg2 arg3 arg4 arg5 arg6 arg7 arg8 arg9 arg10 (k0_off3 i t) (k0_off3_inb i t) (k0_off4 i t) (k0_off4_inb i t) full
  Scf.Loop.for (k0_t2_loop i) (k0_t2_ok i) ⟨⟩ fun t _ =>
    step arg2 arg3 arg4 arg5 arg6 arg7 arg8 arg9 arg10 (k0_off5 i t) (k0_off5_inb i t) (k0_off6 i t) (k0_off6_inb i t) full
  .ret ⟨⟩
end

end Cert.KernelIdeal.Att
-- ==== Proof.StepTriple.lean ====
/-
  What one step of the attention's gradient leaves in the three accumulators, as functions of what the
  nine buffers hold, and the triple that says so.
-/
module

public import proofs.«01_k».proof.Proof.Step
public import proofs.«01_k».proof.Proof.Gen.KernelIdeal.Frame
public import Idealize.ShloMosaic.Lib.VecWindow

@[expose] public section

set_option synthInstance.maxSize 4096

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-! ## Loads and stores of a window -/

section
variable (c : Dev nD) (E : Set ℕ) {s : Shape} {e : EltTy}

/-- A load of a window of an owned memref continues at the window of its contents. -/
theorem wp_load_owns (M : Memref sig .tc .vmem s e) (X : s.Idx → Elt F e) (off size : Fin s.rank → ℕ) (inb : ∀ a, off a + size a ≤ s.size a)
    (hl : M.view.LoadsAt (Rect.unit off size inb).toLoadRect) (k : ((Rect.unit off size inb).shape.Idx → Elt F e) → Prog (Eff F) PUnit)
    (Q : PUnit → sProp 𝕄) :
    (owns (c : Thread nD τ) M fullShare X : sProp 𝕄)
      ⊢ iprop((owns (c : Thread nD τ) M fullShare X -∗ wp frame (wpE (defs₀ (F := F)) Variants.none c none) E (k (VecWindow.window X off size inb)) Q)
        -∗ wp frame (wpE (defs₀ (F := F)) Variants.none c none) E (.op (.load M (Rect.unit off size inb).toLoadRect hl) k) Q) := by
  unfold owns
  iintro ⟨%f, %hf, H⟩
  subst hf
  iintro K
  iapply (wp_load_rect (m := M) (r := Rect.unit off size inb) (hl := hl) (k := k) (S := M.view.set) (f := f) Variants.none (c : Thread nD τ) none E (View.set_slice_subset _ _)) $$ H
  iintro H
  iapply K
  iexists f
  isplitr
  · ipureintro; rfl
  · iexact H

/-- A store of a window of an owned memref leaves the contents with the payload put there. -/
theorem wp_store_owns (M : Memref sig .tc .vmem s e) (X : s.Idx → Elt F e) (off size : Fin s.rank → ℕ) (inb : ∀ a, off a + size a ≤ s.size a)
    (w : (Rect.unit off size inb).shape.Idx → Elt F e) (hx : (M.access (Rect.unit off size inb)).Stores Finset.univ)
    (hm : (Finset.univ : Finset (Rect.unit off size inb).shape.Idx) = Finset.univ ∨ ∀ a, (Rect.unit off size inb).stride a = 1)
    (k : PUnit → Prog (Eff F) PUnit) (Q : PUnit → sProp 𝕄) :
    (owns (c : Thread nD τ) M fullShare X : sProp 𝕄)
      ⊢ iprop((owns (c : Thread nD τ) M fullShare (VecWindow.put X off size w) -∗ wp frame (wpE (defs₀ (F := F)) Variants.none c none) E (k ⟨⟩) Q)
        -∗ wp frame (wpE (defs₀ (F := F)) Variants.none c none) E (.op (.store M (Rect.unit off size inb) w Finset.univ hx hm) k) Q) := by
  unfold owns
  iintro ⟨%f, %hf, H⟩
  subst hf
  iintro K
  iapply (wp_store (m := M) (r := Rect.unit off size inb) (w := w) (Mk := Finset.univ) (hx := hx) (hm := hm) (k := k) (S := M.view.set) (f := f) Variants.none (c : Thread nD τ) none E
    ((View.setOn_subset_set _ _).trans (View.set_slice_subset _ _))) $$ H
  iintro H
  iapply K
  iexists _
  isplitr
  · ipureintro
    exact View.read_writes_cons_put M.view f inb w [] rfl
  · iexact H
end

/-! ## The step's lists -/

/-- The key blocks listed, out of the keys (or values) of the grid point. -/
def blocks (x : Vec F S2048x128 .bf16) (subs : List Sub) : List (FVec F S256x128 .bf16) :=
  subs.map fun b => shapeCast S256x128 (VecWindow.window x (kOff b.1) S256x128.size (kOff_inb b.1)) shapeCasts_S256x128_S256x128

/-- The accumulator after the blocks listed have had their share added. -/
def accumulate (x : FVec F S256x128 .bf16) : List Sub → List (FVec F S256x256 .bf16) → Vec F S2048x128 .f32 → Vec F S2048x128 .f32
  | [], _, a => a
  | _ :: _, [], a => a
  | b :: l, w :: ws, a => accumulate x l ws (VecWindow.put a (kOff b.1) S256x128.size
      (addT w x (shapeCast S256x128 (VecWindow.window a (kOff b.1) S256x128.size (kOff_inb b.1)) shapeCasts_S256x128_S256x128)))

section
variable (c : Dev nD) (E : Set ℕ)

theorem wp_loadSubs (M : Memref sig .tc .vmem S2048x128 .bf16) (x : Vec F S2048x128 .bf16) (Q : PUnit → sProp 𝕄) :
    ∀ (subs : List Sub) (k : List (FVec F S256x128 .bf16) → Prog (Eff F) PUnit),
    (owns (c : Thread nD τ) M fullShare x : sProp 𝕄)
      ⊢ iprop((owns (c : Thread nD τ) M fullShare x -∗ wp frame (wpE (defs₀ (F := F)) Variants.none c none) E (k (blocks x subs)) Q)
        -∗ wp frame (wpE (defs₀ (F := F)) Variants.none c none) E (loadSubs M subs k) Q)
  | [], k => by
    iintro H K
    iapply K
    iexact H
  | b :: l, k => by
    iintro H K
    iapply (wp_load_owns c E M x (kOff b.1) S256x128.size (kOff_inb b.1) (View.loadsAt_vmem h_S256x128)) $$ H
    iintro H
    iapply (wp_loadSubs M x Q l) $$ H
    iexact K

theorem wp_addSubs (M : Memref sig .tc .vmem S2048x128 .f32) (x : FVec F S256x128 .bf16) (k : Prog (Eff F) PUnit) (Q : PUnit → sProp 𝕄) :
    ∀ (subs : List Sub) (ws : List (FVec F S256x256 .bf16)) (a : Vec F S2048x128 .f32),
    (owns (c : Thread nD τ) M fullShare a : sProp 𝕄)
      ⊢ iprop((owns (c : Thread nD τ) M fullShare (accumulate x subs ws a) -∗ wp frame (wpE (defs₀ (F := F)) Variants.none c none) E k Q)
        -∗ wp frame (wpE (defs₀ (F := F)) Variants.none c none) E (addSubs M x subs ws k) Q)
  | [], _, a => by
    iintro H K
    iapply K
    iexact H
  | _ :: _, [], a => by
    iintro H K
    iapply K
    iexact H
  | b :: l, w :: ws, a => by
    iintro H K
    iapply (wp_load_owns c E M a (kOff b.1) S256x128.size (kOff_inb b.1) (View.loadsAt_vmem h_S256x128)) $$ H
    iintro H
    iapply (wp_load_owns c E M a (kOff b.1) S256x128.size (kOff_inb b.1) (View.loadsAt_vmem h_S256x128)) $$ H
    iintro H
    iapply (wp_store_owns c E M a (kOff b.1) S256x128.size (kOff_inb b.1) _ (View.stores_vmem_bits_univ h_S256x128 rfl) (.inl rfl)) $$ H
    iintro H
    iapply (wp_addSubs M x k Q l ws) $$ H
    iexact K
end

/-! ## The step -/

/-- What the six input buffers hold. -/
structure Ins (F : FTy → Type) where
  q : Vec F S4096x128 .bf16
  k : Vec F S2048x128 .bf16
  v : Vec F S2048x128 .bf16
  o : Vec F S4096x128 .f32
  d : Vec F S4096x128 .f32
  l : Vec F S1x4096x128 .f32

/-- What the three accumulators hold. -/
structure Outs (F : FTy → Type) where
  dq : Vec F S4096x128 .f32
  dk : Vec F S2048x128 .f32
  dv : Vec F S2048x128 .f32

/-- Query block `g` starts at row `256 g`. -/
def qOff (g : Fin 16) : Fin 2 → ℕ := ![256 * g.val, 0]
theorem qOff_inb (g : Fin 16) : ∀ d, qOff g d + S256x128.size d ≤ S4096x128.size d := by revert g; decide
/-- The same rows of the logarithms of the normalisers. -/
def lOff (g : Fin 16) : Fin 3 → ℕ := ![0, 256 * g.val, 0]
theorem lOff_inb (g : Fin 16) : ∀ d, lOff g d + S1x256x128.size d ≤ S1x4096x128.size d := by revert g; decide

namespace Ins
variable (x : Ins F) (g : Fin 16)

/-- The rows of query block `g`: of the output's gradient, -/
def dof : FVec F S256x128 .f32 := shapeCast S256x128 (VecWindow.window x.d (qOff g) S256x128.size (qOff_inb g)) shapeCasts_S256x128_S256x128
/-- the same rounded, -/
def dob : FVec F S256x128 .bf16 := truncf .bf16 (x.dof g) bitsLt_bf16_f32
/-- of the sums `Σ do o`, -/
def δ : FVec F S256x1 .f32 := shapeCast S256x1 (multiReduction .add [1] S256
    (mulf (x.dof g) (shapeCast S256x128 (VecWindow.window x.o (qOff g) S256x128.size (qOff_inb g)) shapeCasts_S256x128_S256x128)) 0x00000000#32 reduces_S256x128_S256 (.inl rfl) rfl) shapeCasts_S256_S256x1
/-- of the queries, -/
def qb : FVec F S256x128 .bf16 := shapeCast S256x128 (VecWindow.window x.q (qOff g) S256x128.size (qOff_inb g)) shapeCasts_S256x128_S256x128
/-- and of the logarithms. -/
def lse1 : FVec F S256x1 .f32 := extractStridedSlice S256x1 ![0, 0]
    (shapeCast S256x128 (VecWindow.window x.l (lOff g) S1x256x128.size (lOff_inb g)) shapeCasts_S1x256x128_S256x128) slices_S256x128_o0_0_S256x1

variable (subs : List Sub)
/-- The weights against the blocks listed. -/
def ps : List (FVec F S256x256 .f32) := List.zipWith (fun b k => weights (x.lse1 g) (x.qb g) k b.2) subs (blocks x.k subs)
/-- The gradients of the scores. -/
def ds : List (FVec F S256x256 .bf16) := List.zipWith (fun p v => dscore (x.δ g) p (score (x.dob g) v)) (x.ps g subs) (blocks x.v subs)

/-- The accumulators after query block `g` has met the blocks listed. -/
def after (y : Outs F) : Outs F where
  dv := accumulate (x.dob g) subs ((x.ps g subs).map fun p => truncf .bf16 p bitsLt_bf16_f32) y.dv
  dk := accumulate (x.qb g) subs (x.ds g subs) y.dk
  dq := VecWindow.put y.dq (qOff g) S256x128.size
    (addQ (shapeCast S256x128 (VecWindow.window y.dq (qOff g) S256x128.size (qOff_inb g)) shapeCasts_S256x128_S256x128) (List.zip (x.ds g subs) (blocks x.k subs)))
end Ins

section
variable (c : Dev nD) (E : Set ℕ)
variable (arg2 : Memref sig .tc .vmem S4096x128 .bf16) (arg3 : Memref sig .tc .vmem S2048x128 .bf16)
  (arg4 : Memref sig .tc .vmem S2048x128 .bf16) (arg5 : Memref sig .tc .vmem S4096x128 .f32)
  (arg6 : Memref sig .tc .vmem S4096x128 .f32) (arg7 : Memref sig .tc .vmem S1x4096x128 .f32)
  (arg8 : Memref sig .tc .vmem S4096x128 .f32) (arg9 : Memref sig .tc .vmem S2048x128 .f32)
  (arg10 : Memref sig .tc .vmem S2048x128 .f32)

/-- The nine buffers, at what they hold. -/
def held (x : Ins F) (y : Outs F) : sProp 𝕄 :=
  iprop(owns (c : Thread nD τ) arg2 fullShare x.q ∗ owns (c : Thread nD τ) arg3 fullShare x.k ∗ owns (c : Thread nD τ) arg4 fullShare x.v
    ∗ owns (c : Thread nD τ) arg5 fullShare x.o ∗ owns (c : Thread nD τ) arg6 fullShare x.d ∗ owns (c : Thread nD τ) arg7 fullShare x.l
    ∗ owns (c : Thread nD τ) arg8 fullShare y.dq ∗ owns (c : Thread nD τ) arg9 fullShare y.dk ∗ owns (c : Thread nD τ) arg10 fullShare y.dv)

/-- The triple of a step. -/
theorem wp_step (x : Ins F) (y : Outs F) (g : Fin 16) (subs : List Sub)
    (o2 : Fin 2 → ℕ) (h2 : ∀ d, o2 d + S256x128.size d ≤ S4096x128.size d)
    (o3 : Fin 3 → ℕ) (h3 : ∀ d, o3 d + S1x256x128.size d ≤ S1x4096x128.size d) (e2 : o2 = qOff g) (e3 : o3 = lOff g)
    (Q : PUnit → sProp 𝕄) (hQ : held c arg2 arg3 arg4 arg5 arg6 arg7 arg8 arg9 arg10 x (x.after g subs y) ⊢ Q ⟨⟩) :
    held c arg2 arg3 arg4 arg5 arg6 arg7 arg8 arg9 arg10 x y
      ⊢ wp frame (wpE (defs₀ (F := F)) Variants.none c none) E (step arg2 arg3 arg4 arg5 arg6 arg7 arg8 arg9 arg10 o2 h2 o3 h3 subs) Q := by
  subst e2 e3
  unfold held at hQ ⊢
  unfold step
  iintro ⟨Hq, Hk, Hv, Ho, Hd, Hl, Hdq, Hdk, Hdv⟩
  iapply (wp_load_owns c E arg6 x.d (qOff g) S256x128.size h2 (View.loadsAt_vmem h_S256x128)) $$ Hd
  iintro Hd
  iapply (wp_load_owns c E arg5 x.o (qOff g) S256x128.size h2 (View.loadsAt_vmem h_S256x128)) $$ Ho
  iintro Ho
  iapply (wp_load_owns c E arg2 x.q (qOff g) S256x128.size h2 (View.loadsAt_vmem h_S256x128)) $$ Hq
  iintro Hq
  iapply (wp_load_owns c E arg7 x.l (lOff g) S1x256x128.size h3 (View.loadsAt_vmem h_S1x256x128)) $$ Hl
  iintro Hl
  iapply (wp_loadSubs c E arg3 x.k _ subs) $$ Hk
  iintro Hk
  iapply (wp_loadSubs c E arg4 x.v _ subs) $$ Hv
  iintro Hv
  iapply (wp_addSubs c E arg10 (x.dob g) _ _ subs _ y.dv) $$ Hdv
  iintro Hdv
  iapply (wp_addSubs c E arg9 (x.qb g) _ _ subs _ y.dk) $$ Hdk
  iintro Hdk
  iapply (wp_load_owns c E arg8 y.dq (qOff g) S256x128.size h2 (View.loadsAt_vmem h_S256x128)) $$ Hdq
  iintro Hdq
  iapply (wp_load_owns c E arg8 y.dq (qOff g) S256x128.size h2 (View.loadsAt_vmem h_S256x128)) $$ Hdq
  iintro Hdq
  iapply (wp_store_owns c E arg8 y.dq (qOff g) S256x128.size h2 _ (View.stores_vmem_bits_univ h_S256x128 rfl) (.inl rfl)) $$ Hdq
  iintro Hdq
  rw [wp_ret]
  imodintro
  iapply hQ
  isplitl [Hq]; · iexact Hq
  isplitl [Hk]; · iexact Hk
  isplitl [Hv]; · iexact Hv
  isplitl [Ho]; · iexact Ho
  isplitl [Hd]; · iexact Hd
  isplitl [Hl]; · iexact Hl
  isplitl [Hdq]; · iexact Hdq
  isplitl [Hdk]; · iexact Hdk
  iexact Hdv

end

end Cert.KernelIdeal.Att
-- ==== Proof.BodyEq.lean ====
/-
  The printed body of the attention's gradient is the sequence of steps of `Step`.
-/
module

public import proofs.«01_k».proof.Proof.Step

@[expose] public section

set_option synthInstance.maxSize 4096
set_option maxRecDepth 100000

namespace Cert.KernelIdeal.Att

open Idealize.ShloMosaic Idealize.SL.Sem
open Cert.KernelIdeal.Gen

variable {F : FTy → Type} [FloatOps F] [Named F]

/-- The grid point of head `h` and key tile `t`. -/
def pt (h : Fin 8) (t : Fin 2) : grid0.Coords
  | 0 => h
  | 1 => t

theorem pt_eta (i : grid0.Coords) : i = pt (i 0) (i 1) := by
  funext d; match d with | 0 => rfl | 1 => rfl

set_option maxHeartbeats 0 in
theorem body_eq_zero (h : Fin 8) (arg2 : Memref sig .tc .vmem S4096x128 .bf16) (harg2 : arg2.IsWhole)
    (arg3 : Memref sig .tc .vmem S2048x128 .bf16) (harg3 : arg3.IsWhole) (arg4 : Memref sig .tc .vmem S2048x128 .bf16) (harg4 : arg4.IsWhole)
    (arg5 : Memref sig .tc .vmem S4096x128 .f32) (harg5 : arg5.IsWhole) (arg6 : Memref sig .tc .vmem S4096x128 .f32) (harg6 : arg6.IsWhole)
    (arg7 : Memref sig .tc .vmem S1x4096x128 .f32) (harg7 : arg7.IsWhole) (arg8 : Memref sig .tc .vmem S4096x128 .f32) (harg8 : arg8.IsWhole)
    (arg9 : Memref sig .tc .vmem S2048x128 .f32) (harg9 : arg9.IsWhole) (arg10 : Memref sig .tc .vmem S2048x128 .f32) (harg10 : arg10.IsWhole) :
    cc0_attn_bwd (F := F) (pt h 0) arg2 harg2 arg3 harg3 arg4 harg4 arg5 harg5 arg6 harg6 arg7 harg7 arg8 harg8 arg9 harg9 arg10 harg10
      = body arg2 arg3 arg4 arg5 arg6 arg7 arg8 arg9 arg10 (pt h 0) := by
  rfl

set_option maxHeartbeats 0 in
theorem body_eq_one (h : Fin 8) (arg2 : Memref sig .tc .vmem S4096x128 .bf16) (harg2 : arg2.IsWhole)
    (arg3 : Memref sig .tc .vmem S2048x128 .bf16) (harg3 : arg3.IsWhole) (arg4 : Memref sig .tc .vmem S2048x128 .bf16) (harg4 : arg4.IsWhole)
    (arg5 : Memref sig .tc .vmem S4096x128 .f32) (harg5 : arg5.IsWhole) (arg6 : Memref sig .tc .vmem S4096x128 .f32) (harg6 : arg6.IsWhole)
    (arg7 : Memref sig .tc .vmem S1x4096x128 .f32) (harg7 : arg7.IsWhole) (arg8 : Memref sig .tc .vmem S4096x128 .f32) (harg8 : arg8.IsWhole)
    (arg9 : Memref sig .tc .vmem S2048x128 .f32) (harg9 : arg9.IsWhole) (arg10 : Memref sig .tc .vmem S2048x128 .f32) (harg10 : arg10.IsWhole) :
    cc0_attn_bwd (F := F) (pt h 1) arg2 harg2 arg3 harg3 arg4 harg4 arg5 harg5 arg6 harg6 arg7 harg7 arg8 harg8 arg9 harg9 arg10 harg10
      = body arg2 arg3 arg4 arg5 arg6 arg7 arg8 arg9 arg10 (pt h 1) := by
  rfl

/-- The printed body is the sequence of steps. -/
theorem body_eq (i : grid0.Coords) (arg2 : Memref sig .tc .vmem S4096x128 .bf16) (harg2 : arg2.IsWhole)
    (arg3 : Memref sig .tc .vmem S2048x128 .bf16) (harg3 : arg3.IsWhole) (arg4 : Memref sig .tc .vmem S2048x128 .bf16) (harg4 : arg4.IsWhole)
    (arg5 : Memref sig .tc .vmem S4096x128 .f32) (harg5 : arg5.IsWhole) (arg6 : Memref sig .tc .vmem S4096x128 .f32) (harg6 : arg6.IsWhole)
    (arg7 : Memref sig .tc .vmem S1x4096x128 .f32) (harg7 : arg7.IsWhole) (arg8 : Memref sig .tc .vmem S4096x128 .f32) (harg8 : arg8.IsWhole)
    (arg9 : Memref sig .tc .vmem S2048x128 .f32) (harg9 : arg9.IsWhole) (arg10 : Memref sig .tc .vmem S2048x128 .f32) (harg10 : arg10.IsWhole) :
    cc0_attn_bwd (F := F) i arg2 harg2 arg3 harg3 arg4 harg4 arg5 harg5 arg6 harg6 arg7 harg7 arg8 harg8 arg9 harg9 arg10 harg10
      = body arg2 arg3 arg4 arg5 arg6 arg7 arg8 arg9 arg10 i := by
  have key : ∀ (h : Fin 8) (t : Fin 2), cc0_attn_bwd (F := F) (pt h t) arg2 harg2 arg3 harg3 arg4 harg4 arg5 harg5 arg6 harg6 arg7 harg7 arg8 harg8 arg9 harg9 arg10 harg10
      = body arg2 arg3 arg4 arg5 arg6 arg7 arg8 arg9 arg10 (pt h t) := fun h t =>
    match t with
    | 0 => body_eq_zero h arg2 harg2 arg3 harg3 arg4 harg4 arg5 harg5 arg6 harg6 arg7 harg7 arg8 harg8 arg9 harg9 arg10 harg10
    | 1 => body_eq_one h arg2 harg2 arg3 harg3 arg4 harg4 arg5 harg5 arg6 harg6 arg7 harg7 arg8 harg8 arg9 harg9 arg10 harg10
  rw [pt_eta i]
  exact key (i 0) (i 1)

end Cert.KernelIdeal.Att
-- ==== Proof.BodyTriple.lean ====
/-
  What the call's body leaves in the three accumulators at one grid point, and the triple that says so.
-/
module

public import proofs.«01_k».proof.Proof.StepTriple
public import proofs.«01_k».proof.Proof.BodyEq

@[expose] public section

set_option synthInstance.maxSize 4096
set_option maxRecDepth 16384

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- A put of a whole array leaves the payload. -/
theorem put_full {s : Shape} {α : Type} (x w : s.Idx → α) (off : Fin s.rank → ℕ) (h : ∀ a, off a = 0) : VecWindow.put x off s.size w = w := by
  funext y
  have h' : ∀ a, off a ≤ (y a).val ∧ (y a).val < off a + s.size a := fun a => by have := (y a).isLt; rw [h a]; omega
  show (if h : _ then w (Rect.unitLocal (s := s) (off := off) (size := s.size) y h) else _) = w y
  rw [dif_pos h']
  exact congrArg w (funext fun a => Fin.ext (by show (y a).val - off a = (y a).val; rw [h a]; omega))

/-- The steps of the query rows that the key tile's own keys lie among, -/
def diagSteps (t : Fin 2) : List (Fin 16 × List Sub) :=
  (List.finRange 8).map fun a => (⟨8 * t.val + a.val, by omega⟩, diag a)

/-- and of the later query rows. -/
def lateSteps : Fin 2 → List (Fin 16 × List Sub)
  | 0 => (List.finRange 8).map fun a => (⟨8 + a.val, by omega⟩, full)
  | 1 => []

/-- The accumulators after the steps listed. -/
def runSteps (x : Ins F) (l : List (Fin 16 × List Sub)) (y : Outs F) : Outs F := l.foldl (fun y s => x.after s.1 s.2 y) y

/-- The accumulators of the keys' tile, cleared. -/
def zeroKV : Vec F S2048x128 .f32 := broadcast S2048x128 (Scalar.ofBits .f32 0x00000000#32)
/-- The accumulator of the queries, cleared. -/
def zeroQV : Vec F S4096x128 .f32 := broadcast S4096x128 (Scalar.ofBits .f32 0x00000000#32)

/-- What the first step of key tile `t` starts from, the queries' accumulator holding `dq` when the body is entered. -/
def start : Fin 2 → Vec F S4096x128 .f32 → Outs F
  | 0, _ => ⟨zeroQV, zeroKV, zeroKV⟩
  | 1, dq => ⟨dq, zeroKV, zeroKV⟩

theorem start_dk : ∀ (t : Fin 2) (dq : Vec F S4096x128 .f32), (start t dq).dk = zeroKV
  | 0, _ => rfl
  | 1, _ => rfl
theorem start_dv : ∀ (t : Fin 2) (dq : Vec F S4096x128 .f32), (start t dq).dv = zeroKV
  | 0, _ => rfl
  | 1, _ => rfl

/-- What the body leaves. -/
def result (x : Ins F) (t : Fin 2) (dq : Vec F S4096x128 .f32) : Outs F :=
  runSteps x (lateSteps t) (runSteps x (diagSteps t) (start t dq))

/-! ## The offsets -/

theorem off1_eq : ∀ (h : Fin 8) (t : Fin 2) (a : Fin 8), k0_off1 (pt h t) (BitVec.ofNat 32 a.val) = qOff ⟨8 * t.val + a.val, by omega⟩ := by
  decide +kernel
theorem off2_eq : ∀ (h : Fin 8) (t : Fin 2) (a : Fin 8), k0_off2 (pt h t) (BitVec.ofNat 32 a.val) = lOff ⟨8 * t.val + a.val, by omega⟩ := by
  decide +kernel
theorem trips1_zero : ∀ (h : Fin 8), (k0_t1_loop (pt h 0)).trips = 8 := by decide +kernel
theorem trips1_one : ∀ (h : Fin 8), (k0_t1_loop (pt h 1)).trips = 0 := by decide +kernel
theorem trips2 : ∀ (h : Fin 8) (t : Fin 2), (k0_t2_loop (pt h t)).trips = 0 := by decide +kernel
theorem off3_eq : ∀ (h : Fin 8) (k : Fin (k0_t1_loop (pt h 0)).trips) (hk : 8 + k.val < 16), k0_off3 (pt h 0) k = qOff ⟨8 + k.val, hk⟩ := by
  decide +kernel
theorem off4_eq : ∀ (h : Fin 8) (k : Fin (k0_t1_loop (pt h 0)).trips) (hk : 8 + k.val < 16), k0_off4 (pt h 0) k = lOff ⟨8 + k.val, hk⟩ := by
  decide +kernel

/-! ## The body -/

section
variable (c : Dev nD) (E : Set ℕ)
variable (arg2 : Memref sig .tc .vmem S4096x128 .bf16) (arg3 : Memref sig .tc .vmem S2048x128 .bf16)
  (arg4 : Memref sig .tc .vmem S2048x128 .bf16) (arg5 : Memref sig .tc .vmem S4096x128 .f32)
  (arg6 : Memref sig .tc .vmem S4096x128 .f32) (arg7 : Memref sig .tc .vmem S1x4096x128 .f32)
  (arg8 : Memref sig .tc .vmem S4096x128 .f32) (arg9 : Memref sig .tc .vmem S2048x128 .f32)
  (arg10 : Memref sig .tc .vmem S2048x128 .f32)

theorem wp_zeroK (M : Memref sig .tc .vmem S2048x128 .f32) (a : Vec F S2048x128 .f32) (k : Prog (Eff F) PUnit) (Q : PUnit → sProp 𝕄) :
    (owns (c : Thread nD τ) M fullShare a : sProp 𝕄)
      ⊢ iprop((owns (c : Thread nD τ) M fullShare zeroKV -∗ wp frame (wpE (defs₀ (F := F)) Variants.none c none) E k Q)
        -∗ wp frame (wpE (defs₀ (F := F)) Variants.none c none) E (zeroK M k) Q) := by
  iintro H K
  iapply (wp_load_owns c E M a ![0, 0] S2048x128.size inb_S2048x128_S2048x128_0_0 (View.loadsAt_vmem h_S2048x128)) $$ H
  iintro H
  iapply (wp_store_owns c E M a ![0, 0] S2048x128.size inb_S2048x128_S2048x128_0_0 _ (View.stores_vmem_bits_univ h_S2048x128 rfl) (.inl rfl)) $$ H
  rw [put_full a _ ![0, 0] (by decide)]
  iexact K

theorem wp_zeroQ (M : Memref sig .tc .vmem S4096x128 .f32) (a : Vec F S4096x128 .f32) (Q : PUnit → sProp 𝕄) :
    (owns (c : Thread nD τ) M fullShare a : sProp 𝕄)
      ⊢ iprop((owns (c : Thread nD τ) M fullShare zeroQV -∗ Q ⟨⟩)
        -∗ wp frame (wpE (defs₀ (F := F)) Variants.none c none) E (zeroQ M) Q) := by
  iintro H K
  iapply (wp_load_owns c E M a ![0, 0] S4096x128.size inb_S4096x128_S4096x128_0_0 (View.loadsAt_vmem h_S4096x128)) $$ H
  iintro H
  iapply (wp_store_owns c E M a ![0, 0] S4096x128.size inb_S4096x128_S4096x128_0_0 _ (View.stores_vmem_bits_univ h_S4096x128 rfl) (.inl rfl)) $$ H
  rw [put_full a _ ![0, 0] (by decide)]
  iintro H
  rw [wp_ret]
  imodintro
  iapply K
  iexact H

/-- The clearing of the queries' accumulator, where the point is the head's first. -/
theorem wp_first (h : Fin 8) (t : Fin 2) (a : Vec F S4096x128 .f32) (Q : PUnit → sProp 𝕄) :
    (owns (c : Thread nD τ) arg8 fullShare a : sProp 𝕄)
      ⊢ iprop((owns (c : Thread nD τ) arg8 fullShare (start t a).dq -∗ Q ⟨⟩)
        -∗ wp frame (wpE (defs₀ (F := F)) Variants.none c none) E (if first (pt h t) = 1#1 then zeroQ arg8 else .ret ⟨⟩) Q) := by
  match t with
  | 0 =>
    rw [if_pos (show first (pt h 0) = 1#1 from rfl)]
    exact wp_zeroQ c E arg8 a Q
  | 1 =>
    rw [if_neg (show ¬ first (pt h 1) = 1#1 from by decide +revert)]
    iintro H K
    rw [wp_ret]
    imodintro
    iapply K
    iexact H

/-- A step at the head of a program. -/
theorem wp_step_bind (x : Ins F) (y : Outs F) (g : Fin 16) (subs : List Sub)
    (o2 : Fin 2 → ℕ) (h2 : ∀ d, o2 d + S256x128.size d ≤ S4096x128.size d)
    (o3 : Fin 3 → ℕ) (h3 : ∀ d, o3 d + S1x256x128.size d ≤ S1x4096x128.size d) (e2 : o2 = qOff g) (e3 : o3 = lOff g)
    (k : PUnit → Prog (Eff F) PUnit) (Q : PUnit → sProp 𝕄)
    (hk : held c arg2 arg3 arg4 arg5 arg6 arg7 arg8 arg9 arg10 x (x.after g subs y) ⊢ wp frame (wpE (defs₀ (F := F)) Variants.none c none) E (k ⟨⟩) Q) :
    held c arg2 arg3 arg4 arg5 arg6 arg7 arg8 arg9 arg10 x y
      ⊢ wp frame (wpE (defs₀ (F := F)) Variants.none c none) E (step arg2 arg3 arg4 arg5 arg6 arg7 arg8 arg9 arg10 o2 h2 o3 h3 subs >>= k) Q := by
  rw [wp_bind]
  exact wp_step c E arg2 arg3 arg4 arg5 arg6 arg7 arg8 arg9 arg10 x y g subs o2 h2 o3 h3 e2 e3 _ hk

/-- A diagonal step at the head of a program. -/
theorem wp_diag_bind (h : Fin 8) (t : Fin 2) (x : Ins F) (y : Outs F) (a : Fin 8) (w : BitVec 32) (hw : w = BitVec.ofNat 32 a.val)
    (h2 : ∀ d, k0_off1 (pt h t) w d + S256x128.size d ≤ S4096x128.size d)
    (h3 : ∀ d, k0_off2 (pt h t) w d + S1x256x128.size d ≤ S1x4096x128.size d)
    (k : PUnit → Prog (Eff F) PUnit) (Q : PUnit → sProp 𝕄)
    (hk : held c arg2 arg3 arg4 arg5 arg6 arg7 arg8 arg9 arg10 x (x.after ⟨8 * t.val + a.val, by omega⟩ (diag a) y)
      ⊢ wp frame (wpE (defs₀ (F := F)) Variants.none c none) E (k ⟨⟩) Q) :
    held c arg2 arg3 arg4 arg5 arg6 arg7 arg8 arg9 arg10 x y
      ⊢ wp frame (wpE (defs₀ (F := F)) Variants.none c none) E
        (step arg2 arg3 arg4 arg5 arg6 arg7 arg8 arg9 arg10 (k0_off1 (pt h t) w) h2 (k0_off2 (pt h t) w) h3 (diag a) >>= k) Q := by
  subst hw
  exact wp_step_bind c E arg2 arg3 arg4 arg5 arg6 arg7 arg8 arg9 arg10 x y _ _ _ _ _ _ (off1_eq h t a) (off2_eq h t a) k Q hk

theorem runSteps_take_succ (x : Ins F) (l : List (Fin 16 × List Sub)) (y : Outs F) (n : ℕ) (h : n < l.length) :
    runSteps x (l.take (n + 1)) y = x.after l[n].1 l[n].2 (runSteps x (l.take n) y) := by
  unfold runSteps
  rw [List.take_succ_eq_append_getElem h, List.foldl_append]
  rfl

/-- A loop that makes no trip. -/
theorem for_none (l : Scf.Loop 32) (ok : l.OK) (h : l.trips = 0) (b : Fin l.trips → PUnit → Prog (Eff F) PUnit) (k : PUnit → Prog (Eff F) PUnit) :
    (Scf.Loop.for l ok ⟨⟩ b >>= k) = k ⟨⟩ := by
  have h0 : ∀ n (hn : n = 0) (b : Fin n → PUnit → Prog (Eff F) PUnit), Scf.forFrom b (List.finRange n) ⟨⟩ = .ret ⟨⟩ := by
    intro n hn b; subst hn; rfl
  unfold Scf.Loop.for
  rw [Scf.for_eq, h0 _ h]
  rfl

/-- A loop each of whose trips is a step. -/
theorem wp_steps (l : Scf.Loop 32) (ok : l.OK) (L : List (Fin 16 × List Sub)) (hL : l.trips = L.length) (x : Ins F) (y : Outs F)
    (b : Fin l.trips → PUnit → Prog (Eff F) PUnit) (k : PUnit → Prog (Eff F) PUnit) (Q : PUnit → sProp 𝕄)
    (hb : ∀ (n : Fin l.trips) (y : Outs F), held c arg2 arg3 arg4 arg5 arg6 arg7 arg8 arg9 arg10 x y
      ⊢ wp frame (wpE (defs₀ (F := F)) Variants.none c none) E (b n ⟨⟩)
        (fun _ => held c arg2 arg3 arg4 arg5 arg6 arg7 arg8 arg9 arg10 x (x.after (L[n.val]'(by have := n.isLt; omega)).1 (L[n.val]'(by have := n.isLt; omega)).2 y)))
    (hk : held c arg2 arg3 arg4 arg5 arg6 arg7 arg8 arg9 arg10 x (runSteps x L y) ⊢ wp frame (wpE (defs₀ (F := F)) Variants.none c none) E (k ⟨⟩) Q) :
    held c arg2 arg3 arg4 arg5 arg6 arg7 arg8 arg9 arg10 x y
      ⊢ wp frame (wpE (defs₀ (F := F)) Variants.none c none) E (Scf.Loop.for l ok ⟨⟩ b >>= k) Q := by
  have hF := Scf.wp_for_bind (σ := PUnit.{1}) frame (wpE (defs₀ (F := F)) Variants.none (c : Thread nD τ) none) E
      l.lb l.ub l.st ok ⟨⟩ b
      (fun n _ => held c arg2 arg3 arg4 arg5 arg6 arg7 arg8 arg9 arg10 x (runSteps x (L.take n) y))
      (fun n _ => by
        rw [runSteps_take_succ x L y n.val (by have := n.isLt; have e : l.trips = Scf.trips l.lb l.ub l.st := rfl; omega)]
        exact hb n _) (kk := k) (Q := Q)
  rw [show held c arg2 arg3 arg4 arg5 arg6 arg7 arg8 arg9 arg10 x (runSteps x (L.take 0) y) = held c arg2 arg3 arg4 arg5 arg6 arg7 arg8 arg9 arg10 x y from rfl] at hF
  iintro H
  iapply hF $$ H
  iintro %acc H
  rw [show L.take (Scf.trips l.lb l.ub l.st) = L from List.take_of_length_le (by have e : l.trips = Scf.trips l.lb l.ub l.st := rfl; omega)]
  iapply hk
  iexact H

/-- The loop over the later query rows. -/
theorem wp_late (h : Fin 8) : ∀ (t : Fin 2) (x : Ins F) (y : Outs F) (k : PUnit → Prog (Eff F) PUnit) (Q : PUnit → sProp 𝕄)
    (hk : held c arg2 arg3 arg4 arg5 arg6 arg7 arg8 arg9 arg10 x (runSteps x (lateSteps t) y) ⊢ wp frame (wpE (defs₀ (F := F)) Variants.none c none) E (k ⟨⟩) Q),
    held c arg2 arg3 arg4 arg5 arg6 arg7 arg8 arg9 arg10 x y
      ⊢ wp frame (wpE (defs₀ (F := F)) Variants.none c none) E (Scf.Loop.for (k0_t1_loop (pt h t)) (k0_t1_ok (pt h t)) ⟨⟩ (fun n _ =>
          step arg2 arg3 arg4 arg5 arg6 arg7 arg8 arg9 arg10 (k0_off3 (pt h t) n) (k0_off3_inb (pt h t) n) (k0_off4 (pt h t) n) (k0_off4_inb (pt h t) n) full) >>= k) Q
  | 0, x, y, k, Q, hk => by
    refine wp_steps c E arg2 arg3 arg4 arg5 arg6 arg7 arg8 arg9 arg10 _ _ (lateSteps 0) (trips1_zero h) x y _ k Q (fun n y => ?_) hk
    have hn : 8 + n.val < 16 := by have := n.isLt; have e := trips1_zero h; omega
    refine wp_step c E arg2 arg3 arg4 arg5 arg6 arg7 arg8 arg9 arg10 x y ⟨8 + n.val, hn⟩ full _ _ _ _ (off3_eq h n hn) (off4_eq h n hn) _ ?_
    simp [lateSteps]
  | 1, x, y, k, Q, hk => by
    rw [for_none (k0_t1_loop (pt h 1)) (k0_t1_ok (pt h 1)) (trips1_one h)]
    exact hk

/-- The triple of the body at head `h` and key tile `t`. -/
theorem wp_body (h : Fin 8) (t : Fin 2) (x : Ins F) (y : Outs F) (Q : PUnit → sProp 𝕄)
    (hQ : held c arg2 arg3 arg4 arg5 arg6 arg7 arg8 arg9 arg10 x (result x t y.dq) ⊢ Q ⟨⟩) :
    held c arg2 arg3 arg4 arg5 arg6 arg7 arg8 arg9 arg10 x y
      ⊢ wp frame (wpE (defs₀ (F := F)) Variants.none c none) E (body arg2 arg3 arg4 arg5 arg6 arg7 arg8 arg9 arg10 (pt h t)) Q := by
  have key : held c arg2 arg3 arg4 arg5 arg6 arg7 arg8 arg9 arg10 x (start t y.dq) ⊢ wp frame (wpE (defs₀ (F := F)) Variants.none c none) E (do
      step arg2 arg3 arg4 arg5 arg6 arg7 arg8 arg9 arg10 (k0_off1 (pt h t) 0#32) (k0_off1_inb (pt h t) 0) (k0_off2 (pt h t) 0#32) (k0_off2_inb (pt h t) 0) (diag 0)
      step arg2 arg3 arg4 arg5 arg6 arg7 arg8 arg9 arg10 (k0_off1 (pt h t) 1#32) (k0_off1_inb (pt h t) 1) (k0_off2 (pt h t) 1#32) (k0_off2_inb (pt h t) 1) (diag 1)
      step arg2 arg3 arg4 arg5 arg6 arg7 arg8 arg9 arg10 (k0_off1 (pt h t) 2#32) (k0_off1_inb (pt h t) 2) (k0_off2 (pt h t) 2#32) (k0_off2_inb (pt h t) 2) (diag 2)
      step arg2 arg3 arg4 arg5 arg6 arg7 arg8 arg9 arg10 (k0_off1 (pt h t) 3#32) (k0_off1_inb (pt h t) 3) (k0_off2 (pt h t) 3#32) (k0_off2_inb (pt h t) 3) (diag 3)
      step arg2 arg3 arg4 arg5 arg6 arg7 arg8 arg9 arg10 (k0_off1 (pt h t) 4#32) (k0_off1_inb (pt h t) 4) (k0_off2 (pt h t) 4#32) (k0_off2_inb (pt h t) 4) (diag 4)
      step arg2 arg3 arg4 arg5 arg6 arg7 arg8 arg9 arg10 (k0_off1 (pt h t) 5#32) (k0_off1_inb (pt h t) 5) (k0_off2 (pt h t) 5#32) (k0_off2_inb (pt h t) 5) (diag 5)
      step arg2 arg3 arg4 arg5 arg6 arg7 arg8 arg9 arg10 (k0_off1 (pt h t) 6#32) (k0_off1_inb (pt h t) 6) (k0_off2 (pt h t) 6#32) (k0_off2_inb (pt h t) 6) (diag 6)
      step arg2 arg3 arg4 arg5 arg6 arg7 arg8 arg9 arg10 (k0_off1 (pt h t) 7#32) (k0_off1_inb (pt h t) 7) (k0_off2 (pt h t) 7#32) (k0_off2_inb (pt h t) 7) (diag 7)
      Scf.Loop.for (k0_t1_loop (pt h t)) (k0_t1_ok (pt h t)) ⟨⟩ fun n _ =>
        step arg2 arg3 arg4 arg5 arg6 arg7 arg8 arg9 arg10 (k0_off3 (pt h t) n) (k0_off3_inb (pt h t) n) (k0_off4 (pt h t) n) (k0_off4_inb (pt h t) n) full
      Scf.Loop.for (k0_t2_loop (pt h t)) (k0_t2_ok (pt h t)) ⟨⟩ fun n _ =>
        step arg2 arg3 arg4 arg5 arg6 arg7 arg8 arg9 arg10 (k0_off5 (pt h t) n) (k0_off5_inb (pt h t) n) (k0_off6 (pt h t) n) (k0_off6_inb (pt h t) n) full
      .ret ⟨⟩) Q := by
    refine wp_diag_bind c E arg2 arg3 arg4 arg5 arg6 arg7 arg8 arg9 arg10 h t x _ 0 0#32 rfl _ _ _ Q ?_
    refine wp_diag_bind c E arg2 arg3 arg4 arg5 arg6 arg7 arg8 arg9 arg10 h t x _ 1 1#32 rfl _ _ _ Q ?_
    refine wp_diag_bind c E arg2 arg3 arg4 arg5 arg6 arg7 arg8 arg9 arg10 h t x _ 2 2#32 rfl _ _ _ Q ?_
    refine wp_diag_bind c E arg2 arg3 arg4 arg5 arg6 arg7 arg8 arg9 arg10 h t x _ 3 3#32 rfl _ _ _ Q ?_
    refine wp_diag_bind c E arg2 arg3 arg4 arg5 arg6 arg7 arg8 arg9 arg10 h t x _ 4 4#32 rfl _ _ _ Q ?_
    refine wp_diag_bind c E arg2 arg3 arg4 arg5 arg6 arg7 arg8 arg9 arg10 h t x _ 5 5#32 rfl _ _ _ Q ?_
    refine wp_diag_bind c E arg2 arg3 arg4 arg5 arg6 arg7 arg8 arg9 arg10 h t x _ 6 6#32 rfl _ _ _ Q ?_
    refine wp_diag_bind c E arg2 arg3 arg4 arg5 arg6 arg7 arg8 arg9 arg10 h t x _ 7 7#32 rfl _ _ _ Q ?_
    refine wp_late c E arg2 arg3 arg4 arg5 arg6 arg7 arg8 arg9 arg10 h t x _ _ Q ?_
    rw [for_none (k0_t2_loop (pt h t)) (k0_t2_ok (pt h t)) (trips2 h t)]
    rw [wp_ret]
    iintro H
    imodintro
    iapply hQ
    iexact H
  unfold body
  rw [wp_bind]
  unfold held at key ⊢
  iintro ⟨Hq, Hk, Hv, Ho, Hd, Hl, Hdq, Hdk, Hdv⟩
  iapply (wp_first c E arg8 h t y.dq) $$ Hdq
  iintro Hdq
  iapply (wp_zeroK c E arg9 y.dk) $$ Hdk
  iintro Hdk
  iapply (wp_zeroK c E arg10 y.dv) $$ Hdv
  iintro Hdv
  rw [start_dk, start_dv] at key
  iapply key
  isplitl [Hq]; · iexact Hq
  isplitl [Hk]; · iexact Hk
  isplitl [Hv]; · iexact Hv
  isplitl [Ho]; · iexact Ho
  isplitl [Hd]; · iexact Hd
  isplitl [Hl]; · iexact Hl
  isplitl [Hdq]; · iexact Hdq
  isplitl [Hdk]; · iexact Hdk
  iexact Hdv

end

end Cert.KernelIdeal.Att
-- ==== Proof.Region.lean ====
/-
  The run of the whole program: what the call's arrays hold when it ends, in terms of the body's closed form.
-/
module

public import proofs.«01_k».proof.Proof.BodyTriple
public import Idealize.ShloMosaic.Lib.Claim

@[expose] public section

set_option synthInstance.maxSize 4096
set_option maxRecDepth 16384

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body finds in the six input buffers at point `t`. -/
def insAt (c : Dev nD) (t : Fin cfg0.N) : Ins F where
  q := iblk m c 0 t
  k := iblk m c 1 t
  v := iblk m c 2 t
  o := iblk m c 3 t
  d := iblk m c 4 t
  l := iblk m c 5 t

/-- The point before. -/
def before (t : Fin cfg0.N) : Fin cfg0.N := ⟨t.val - 1, Nat.lt_of_le_of_lt (Nat.sub_le _ _) t.isLt⟩

/-- What the body leaves at point `t`: the queries' accumulator is carried from a head's first point to its second. -/
def outsAt (c : Dev nD) (t : Fin cfg0.N) : Outs F :=
  result (insAt m c t) (grid0.coords t 1) (result (insAt m c (before t)) 0 zeroQV).dq

theorem result_zero (x : Ins F) (a b : Vec F S4096x128 .f32) : result x 0 a = result x 0 b := rfl

theorem coords_one : ∀ t : Fin grid0.N, (grid0.coords t 1).val = t.val % 2 := by decide +kernel

theorem outsAt_even (c : Dev nD) (t : Fin cfg0.N) (h : t.val % 2 = 0) (a : Vec F S4096x128 .f32) :
    outsAt m c t = result (insAt m c t) (grid0.coords t 1) a := by
  have e : grid0.coords t 1 = (0 : Fin 2) := Fin.ext ((coords_one t).trans h)
  unfold outsAt
  rw [e]
  exact result_zero _ _ _

theorem outsAt_even' (c : Dev nD) (t : Fin cfg0.N) (h : t.val % 2 = 0) :
    outsAt m c t = result (insAt m c t) 0 zeroQV := by
  have e : grid0.coords t 1 = (0 : Fin 2) := Fin.ext ((coords_one t).trans h)
  unfold outsAt
  rw [e]
  exact result_zero _ _ _

theorem outsAt_odd (c : Dev nD) (t : Fin cfg0.N) (h : t.val % 2 = 1) :
    outsAt m c t = result (insAt m c t) 1 (outsAt m c (before t)).dq := by
  have e : grid0.coords t 1 = (1 : Fin 2) := Fin.ext ((coords_one t).trans h)
  rw [outsAt_even' m c (before t) (by show (t.val - 1) % 2 = 0; omega)]
  unfold outsAt
  rw [e]

/-- The call's proof data: what the body leaves in each window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t).dq
    | ⟨7, _⟩ => (outsAt m c t).dk
    | ⟨8, _⟩ => (outsAt m c t).dv
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (outsAt m c t).dq := by dsimp only [dats]
theorem after_7 (c : Dev nD) (t : Fin cfg0.N) : (dats m 0 c).after 7 t = (outsAt m c t).dk := by dsimp only [dats]
theorem after_8 (c : Dev nD) (t : Fin cfg0.N) : (dats m 0 c).after 8 t = (outsAt m c t).dv := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- A head's second point finds the queries' accumulator as the first left it. -/
theorem before_6 (c : Dev nD) (t : Fin cfg0.N) (h : t.val % 2 = 1) (d) : (dats m 0 c).before 6 t d = (outsAt m c (before t)).dq := by
  refine ((dats m 0 c).before_out_kept 6 rfl t (by omega) ?_ (fun _ => rfl) (fun _ _ => rfl) d).trans (after_6 m c _)
  have hf := flush0_6 ⟨t.val - 1, Nat.lt_of_le_of_lt (Nat.sub_le _ _) t.isLt⟩
  cases hc : (cfg0.win 6).flush ⟨t.val - 1, Nat.lt_of_le_of_lt (Nat.sub_le _ _) t.isLt⟩ with
  | false => rfl
  | true => exact absurd (hf.mp hc) (by show ¬ (t.val - 1) % 2 = 1; omega)

abbrev ms (w : Fin cfg0.W) (t : Fin cfg0.N) := (cfg0.win w).stage (cfg0.slots t w)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body's triple over what the nine buffers hold, the accumulator `dq` being one that leads to `outsAt`. -/
theorem run_body (c : Dev nD) (t : Fin cfg0.N) (dq : Vec F S4096x128 .f32) (dk dv : Vec F S2048x128 .f32)
    (h : result (insAt m c t) (grid0.coords t 1) dq = outsAt m c t) (K : sProp 𝕄) :
    held (F := F) c (st0_0 t) (st0_1 t) (st0_2 t) (st0_3 t) (st0_4 t) (st0_5 t) (st0_6 t) (st0_7 t) (st0_8 t) (insAt m c t) ⟨dq, dk, dv⟩
      ⊢ iprop((held (F := F) c (st0_0 t) (st0_1 t) (st0_2 t) (st0_3 t) (st0_4 t) (st0_5 t) (st0_6 t) (st0_7 t) (st0_8 t) (insAt m c t) (outsAt m c t) -∗ K)
        -∗ wp frame (wpE (defs₀ (F := F)) Variants.none c none) Set.univ (bodyAt0 t) (fun _ => K)) := by
  unfold bodyAt0
  rw [body_eq, pt_eta (grid0.coords t)]
  have hb := wp_body (F := F) c Set.univ (st0_0 t) (st0_1 t) (st0_2 t) (st0_3 t) (st0_4 t) (st0_5 t) (st0_6 t) (st0_7 t) (st0_8 t)
    (grid0.coords t 0) (grid0.coords t 1) (insAt m c t) ⟨dq, dk, dv⟩
    (fun _ => held (F := F) c (st0_0 t) (st0_1 t) (st0_2 t) (st0_3 t) (st0_4 t) (st0_5 t) (st0_6 t) (st0_7 t) (st0_8 t) (insAt m c t) (outsAt m c t))
    (by rw [show (Outs.mk dq dk dv).dq = dq from rfl, h])
  iintro H HK
  iapply (wp_wand_r frame (wpE (defs₀ (F := F)) Variants.none c none) Set.univ)
  isplitl [H]
  · iapply hb; iexact H
  · iintro %_ H
    iapply HK
    iexact H

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hr : result (insAt m c t) (grid0.coords t 1) ((dats m 0 c).before 6 t d6) = outsAt m c t := by
    rcases Nat.mod_two_eq_zero_or_one t.val with h | h
    · exact (outsAt_even m c t h _).symm
    · rw [before_6 m c t h, outsAt_odd m c t h, show grid0.coords t 1 = (1 : Fin 2) from Fin.ext ((coords_one t).trans h)]
  have hb := fun K => run_body m c t ((dats m 0 c).before 6 t d6) ((dats m 0 c).before 7 t d7) ((dats m 0 c).before 8 t d8) hr K
  simp only [held, insAt] at hb
  iapply hb $$ [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run, and every semaphore counter at zero at the end. -/
theorem run_main : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the arguments are unchanged and the counters are zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Att
-- ==== Proof.KerTerm.lean ====
/-
  The arrays that the kernel's call is given, as vector functions of the arguments: the same masked scores, exponentials and sums that the reference takes.
-/
module

public import proofs.«01_k».proof.Proof.RefTerm
public import proofs.«01_k».proof.Proof.Region
public import Idealize.ShloMosaic.Lib.StableHlo.ReadAt

@[expose] public section

set_option synthInstance.maxSize 4096
set_option maxRecDepth 16384

noncomputable section

namespace Cert.KernelIdeal.Att

open Idealize.ShloMosaic Idealize.ShloMosaic.TcCoe Idealize.SL.Sem
open Cert.KernelIdeal.Gen
open Cert.ReferenceIdeal.Att (scores tops exps sums over)

variable {F : FTy → Type} [FloatOps F] [Named F]
variable (m : (ℓ : Loc nD τ sig) → Buf (Elt F) ℓ) (c : Dev nD)

/-- The masked scores of the run, -/
def runScores : FVec F S8x4096x4096 .f32 := scores (m (c, Proc.devRef .tc main_arg0)) (m (c, Proc.devRef .tc main_arg1))
/-- the greatest of each row, -/
def runTops : FVec F S8x4096 .f32 := tops (runScores m c)
/-- the exponentials, -/
def runExps : FVec F S8x4096x4096 .f32 := exps (runScores m c) (runTops m c)
/-- their sums. -/
def runSums : FVec F S8x4096x1 .f32 := sums (runExps m c)

/-- The logarithm of two. -/
def logTwo : FVec F S_ .f32 := id (Host.log (constant S_ .f32 0x40000000#32))

/-- The logarithm of a row's normaliser over a number, at each of 128 columns, -/
def lseOf (t : FVec F S8x4096 .f32) (l : FVec F S8x4096x1 .f32) (z : FVec F S_ .f32) : FVec F S8x4096x128 .f32 :=
  broadcastInDim S8x4096x128 ![0, 1, 2] bcast_S8x4096x1_S8x4096x128_0_1_2
    (Host.divf (addf (broadcastInDim S8x4096x1 ![0, 1] bcast_S8x4096_S8x4096x1_0_1 t) (Host.log l))
      (broadcastInDim S8x4096x1 ![] bcast_S_S8x4096x1 z))

/-- the output, -/
def outOf (v : FVec F S4096x8x64 .f32) (p : FVec F S8x4096x4096 .f32) : FVec F S4096x512 .f32 :=
  shapeCast S4096x512 (transpose S4096x8x64 [2, 0, 1] (Host.dotGeneral dot_S4096x8x64_S8x4096x4096_S8x64x4096_0_2_2_1_1_0 none v p) transposes_S8x64x4096_S4096x8x64_2_0_1)
    shapeCasts_S4096x8x64_S4096x512

/-- and a row of eight heads of 64 padded to 128. -/
def padded64 (o : FVec F S4096x512 .f32) : FVec F S4096x1024 .f32 :=
  shapeCast S4096x1024
    (pad S4096x8x128 ![0, 0, 0] ![0, 0, 64] ![0, 0, 0] (shapeCast S4096x8x64 o shapeCasts_S4096x512_S4096x8x64) (sitofp FTy.f32 (constantI S_ 32 0#32)) pads_S4096x8x64_S4096x8x128_000_000_0640 h_S_)
    shapeCasts_S4096x8x128_S4096x1024

/-- A query or a key of eight heads of 96 padded to 128, at half the width. -/
def padded96 (q : FVec F S4096x8x96 .f32) : FVec F S4096x1024 .bf16 :=
  truncf .bf16
    (shapeCast S4096x1024
      (pad S4096x8x128 ![0, 0, 0] ![0, 0, 32] ![0, 0, 0] (shapeCast S4096x8x96 (shapeCast S4096x768 q shapeCasts_S4096x8x96_S4096x768) shapeCasts_S4096x768_S4096x8x96)
        (sitofp FTy.f32 (constantI S_ 32 0#32)) pads_S4096x8x96_S4096x8x128_000_000_0320 h_S_)
      shapeCasts_S4096x8x128_S4096x1024) bitsLt_bf16_f32

/-- The values with a column of ones, padded likewise. -/
def padded65 (v : FVec F S4096x8x64 .f32) : FVec F S4096x1024 .bf16 :=
  truncf .bf16
    (shapeCast S4096x1024
      (pad S4096x8x128 ![0, 0, 0] ![0, 0, 63] ![0, 0, 0]
        (shapeCast S4096x8x65
          (shapeCast S4096x520
            (concatenate S4096x8x65 2 [⟨S4096x8x64, v⟩, ⟨S4096x8x1, broadcastInDim S4096x8x1 ![] bcast_S_S4096x8x1 (constant S_ .f32 0x3F800000#32)⟩]
              concatenates_S4096x8x64_S4096x8x1_S4096x8x65_d2) shapeCasts_S4096x8x65_S4096x520) shapeCasts_S4096x520_S4096x8x65)
        (sitofp FTy.f32 (constantI S_ 32 0#32)) pads_S4096x8x65_S4096x8x128_000_000_0630 h_S_)
      shapeCasts_S4096x8x128_S4096x1024) bitsLt_bf16_f32

set_option maxHeartbeats 4000000 in
theorem V_q : V m c main_v33 = padded96 (m (c, Proc.devRef .tc main_arg0)) := by
  unfold V V0
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.cons_append, List.nil_append, List.append_nil]
  after_reads_simp
  all_goals try simp -implicitDefEqProofs only [StableHlo.TRef.toBuf, StableHlo.TRef.ofBuf, cast_cast, cast_eq]
  rfl

set_option maxHeartbeats 4000000 in
theorem V_k : V m c main_v38 = padded96 (m (c, Proc.devRef .tc main_arg1)) := by
  unfold V V0
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.cons_append, List.nil_append, List.append_nil]
  after_reads_simp
  all_goals try simp -implicitDefEqProofs only [StableHlo.TRef.toBuf, StableHlo.TRef.ofBuf, cast_cast, cast_eq]
  rfl

set_option maxHeartbeats 4000000 in
theorem V_v : V m c main_v45 = padded65 (m (c, Proc.devRef .tc main_arg2)) := by
  unfold V V0
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.cons_append, List.nil_append, List.append_nil]
  after_reads_simp
  all_goals try simp -implicitDefEqProofs only [StableHlo.TRef.toBuf, StableHlo.TRef.ofBuf, cast_cast, cast_eq]
  rfl

set_option maxHeartbeats 4000000 in
theorem V_d : V m c main_v51 = padded64 (m (c, Proc.devRef .tc main_arg3)) := by
  unfold V V0
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.cons_append, List.nil_append, List.append_nil]
  after_reads_simp
  all_goals try simp -implicitDefEqProofs only [StableHlo.TRef.toBuf, StableHlo.TRef.ofBuf, cast_cast, cast_eq]
  rfl

set_option maxHeartbeats 4000000 in
theorem V_out : V m c main_v48 = padded64 (outOf (m (c, Proc.devRef .tc main_arg2)) (over (runExps m c) (runSums m c))) := by
  unfold V V0
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.cons_append, List.nil_append, List.append_nil]
  after_reads_simp
  all_goals try simp -implicitDefEqProofs only [StableHlo.TRef.toBuf, StableHlo.TRef.ofBuf, cast_cast, cast_eq]
  rfl

set_option maxHeartbeats 4000000 in
theorem V_lse : V m c main_v52 = lseOf (runTops m c) (runSums m c) logTwo := by
  unfold V V0
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.cons_append, List.nil_append, List.append_nil]
  after_reads_simp
  all_goals try simp -implicitDefEqProofs only [StableHlo.TRef.toBuf, StableHlo.TRef.ofBuf, cast_cast, cast_eq]
  rfl

end Cert.KernelIdeal.Att

end
-- ==== Proof.EntryValue.lean ====
/-
  The arrays that the kernel's call is given, read at an index over the ideal numbers.
-/
module

public import proofs.«01_k».proof.Proof.HostValue
public import proofs.«01_k».proof.Proof.KerTerm

@[expose] public section

set_option synthInstance.maxSize 4096
set_option maxRecDepth 16384

noncomputable section

namespace Cert.KernelIdeal.Att

open Idealize.ShloMosaic Idealize.ShloMosaic.TcCoe Idealize.SL.Sem
open Cert.KernelIdeal.Gen Cert.Att
open Cert.ReferenceIdeal.Att (ccol scores_at tops_at exps_at sums_at over_at div_real)

/-- A column of the 1024, by its head and its place among the head's 128. -/
def col (h : Fin 8) (d : Fin 128) : Fin 1024 := ⟨128 * h.val + d.val, by omega⟩

variable {x : Fin 8 → Head} (m : (ℓ : Loc nD τ sig) → Buf (Elt Ideal) ℓ) (c : Dev nD)
  (hq : ∀ h i d, m (c, Proc.devRef .tc main_arg0) (ix3 i h d) = (((x h).q i d : ℝ) : EReal))
  (hk : ∀ h i d, m (c, Proc.devRef .tc main_arg1) (ix3 i h d) = (((x h).k i d : ℝ) : EReal))
  (hv : ∀ h i d, m (c, Proc.devRef .tc main_arg2) (ix3 i h d) = (((x h).v i d : ℝ) : EReal))
  (hc : ∀ (h : Fin 8) i (d : Fin 64), m (c, Proc.devRef .tc main_arg3) (ix2 i (ccol h d)) = (((x h).c i d : ℝ) : EReal))

theorem logTwo_at : (logTwo : FVec Ideal S_ .f32) ix0 = ((Real.log 2 : ℝ) : EReal) := by
  show Ideal.log (Ideal.ofBits .f32 0x40000000#32) = _
  rw [ofBits_two, Ideal.log_coe, if_neg (by norm_num)]

/-- The zero that a row is padded with. -/
theorem sitofp_zero : (FloatOps.sitofp (F := Ideal) FTy.f32 0#32 : Ideal .f32) = ((0 : ℝ) : EReal) :=
  (by show ((((0#32 : BitVec 32).toInt : ℤ) : ℝ) : EReal) = _; simp)

section
variable (t : FVec Ideal S8x4096 .f32) (l : FVec Ideal S8x4096x1 .f32) (z : FVec Ideal S_ .f32) (h : Fin 8) (i : Fin 4096) (d : Fin 128)

theorem lseOf_at : lseOf t l z (ix3 h i d) = Ideal.div (t (ix2 h i) + Ideal.log (l (ix3 h i 0))) (z ix0) := by
  unfold lseOf
  clean_types
  pointwise

theorem padded96_at (q : FVec Ideal S4096x8x96 .f32) (f : Fin 96 → ℝ) (hq : ∀ e, q (ix3 i h e) = ((f e : ℝ) : EReal)) :
    padded96 q (ix2 i (col h d)) = ((Head.pad96 f d : ℝ) : EReal) := by
  unfold padded96 col
  clean_types
  pointwise
  unfold Head.pad96
  split
  · exact hq _
  · exact sitofp_zero

theorem padded65_at (q : FVec Ideal S4096x8x64 .f32) (f : Fin 64 → ℝ) (hq : ∀ e, q (ix3 i h e) = ((f e : ℝ) : EReal)) :
    padded65 q (ix2 i (col h d)) = ((Head.pad65 f d : ℝ) : EReal) := by
  unfold padded65 col
  clean_types
  pointwise
  unfold Head.pad65
  by_cases h1 : d.val < 64
  · rw [dif_pos (by omega : d.val < 65), dif_pos h1, dif_pos h1]
    exact hq _
  · rw [dif_neg h1]
    by_cases h2 : d.val = 64
    · rw [dif_pos (by omega : d.val < 65), dif_neg h1, if_pos h2]
      rfl
    · rw [dif_neg (by omega : ¬ d.val < 65), if_neg h2]
      exact sitofp_zero

theorem padded64_at (q : FVec Ideal S4096x512 .f32) (f : Fin 64 → ℝ) (hq : ∀ e : Fin 64, q (ix2 i (ccol h e)) = ((f e : ℝ) : EReal)) :
    padded64 q (ix2 i (col h d)) = ((Head.pad64 f d : ℝ) : EReal) := by
  unfold padded64 col
  clean_types
  pointwise
  unfold Head.pad64
  split
  · rw [← hq]
    exact congrArg (fun z : Fin 512 => q (ix2 i z)) (Fin.ext (by show h.val * 64 + d.val = 64 * h.val + d.val; omega))
  · exact sitofp_zero

theorem outOf_at (v : FVec Ideal S4096x8x64 .f32) (p : FVec Ideal S8x4096x4096 .f32) (e : Fin 64) :
    outOf v p (ix2 i (ccol h e)) = ∑ j, v (ix3 j h e) * p (ix3 h i j) := by
  unfold outOf ccol
  clean_types
  pointwise

end

section
include hq hk

theorem runTops_at (h : Fin 8) (i : Fin 4096) : runTops m c (ix2 h i) = (((x h).top i : ℝ) : EReal) :=
  tops_at (scores_at hq hk) h i
theorem runExps_at (h : Fin 8) (i j : Fin 4096) : runExps m c (ix3 h i j) = (((x h).ex i j : ℝ) : EReal) :=
  exps_at (scores_at hq hk) (tops_at (scores_at hq hk)) h i j
theorem runSums_at (h : Fin 8) (i : Fin 4096) (z : Fin 1) : runSums m c (ix3 h i z) = (((x h).L i : ℝ) : EReal) :=
  sums_at (runExps_at m c hq hk) h i z

theorem V_lse_at (h : Fin 8) (i : Fin 4096) (d : Fin 128) : V m c main_v52 (ix3 h i d) = (((x h).lse i : ℝ) : EReal) := by
  refine (congrFun (V_lse m c) _).trans ((lseOf_at _ _ _ h i d).trans ?_)
  rw [runTops_at m c hq hk, runSums_at m c hq hk, logTwo_at, Ideal.log_coe, if_neg (not_le.mpr ((x h).L_pos i)), ← EReal.coe_add, div_real (Real.log_pos (by norm_num)).ne']
  rfl

include hv

theorem V_out_at (h : Fin 8) (i : Fin 4096) (d : Fin 128) :
    V m c main_v48 (ix2 i (col h d)) = ((Head.pad64 ((x h).O i) d : ℝ) : EReal) := by
  refine (congrFun (V_out m c) _).trans (padded64_at h i d _ _ fun e => (outOf_at h i _ _ e).trans ?_)
  simp only [over_at (runExps_at m c hq hk) (runSums_at m c hq hk), hv, ← EReal.coe_mul, ← coe_sum, Head.O, Head.P, mul_comm]

end

include hq in
theorem V_q_at (h : Fin 8) (i : Fin 4096) (d : Fin 128) : V m c main_v33 (ix2 i (col h d)) = ((Head.pad96 ((x h).q i) d : ℝ) : EReal) :=
  (congrFun (V_q m c) _).trans (padded96_at h i d _ _ (hq h i))
include hk in
theorem V_k_at (h : Fin 8) (i : Fin 4096) (d : Fin 128) : V m c main_v38 (ix2 i (col h d)) = ((Head.pad96 ((x h).k i) d : ℝ) : EReal) :=
  (congrFun (V_k m c) _).trans (padded96_at h i d _ _ (hk h i))
include hv in
theorem V_v_at (h : Fin 8) (i : Fin 4096) (d : Fin 128) : V m c main_v45 (ix2 i (col h d)) = ((Head.pad65 ((x h).v i) d : ℝ) : EReal) :=
  (congrFun (V_v m c) _).trans (padded65_at h i d _ _ (hv h i))
include hc in
theorem V_d_at (h : Fin 8) (i : Fin 4096) (d : Fin 128) : V m c main_v51 (ix2 i (col h d)) = ((Head.pad64 ((x h).c i) d : ℝ) : EReal) :=
  (congrFun (V_d m c) _).trans (padded64_at h i d _ _ (hc h i))

end Cert.KernelIdeal.Att

end
-- ==== Proof.StepValue.lean ====
/-
  What one step adds to the accumulators, over the reals.
-/
module

public import proofs.«01_k».proof.Proof.Softmax
public import proofs.«01_k».proof.Proof.BodyTriple
public import Idealize.ShloMosaic.Lib.Pointwise

@[expose] public section

set_option synthInstance.maxSize 4096
set_option maxRecDepth 16384

noncomputable section

namespace Cert.KernelIdeal.Att

open Idealize.ShloMosaic Idealize.SL.Sem
open Cert.KernelIdeal.Gen Cert.Att

/-- Key row `r` of key tile `t`. -/
def key (t : Fin 2) (r : Fin 2048) : Fin 4096 := ⟨2048 * t.val + r.val, by omega⟩
/-- Row `a` of query block `g`. -/
def row (g : Fin 16) (a : Fin 256) : Fin 4096 := ⟨256 * g.val + a.val, by omega⟩
/-- Row `r` of key block `b`. -/
def krow (b : Fin 8) (r : Fin 256) : Fin 2048 := ⟨256 * b.val + r.val, by omega⟩

/-- The six inputs of a grid point hold the head `x`, its keys those of tile `t`. -/
structure Ins.Holds (y : Ins Ideal) (x : Head) (t : Fin 2) : Prop where
  q : ∀ (i : Fin 4096) (d : Fin 128), y.q (ix2 i d) = ((Head.pad96 (x.q i) d : ℝ) : EReal)
  k : ∀ (r : Fin 2048) (d : Fin 128), y.k (ix2 r d) = ((Head.pad96 (x.k (key t r)) d : ℝ) : EReal)
  v : ∀ (r : Fin 2048) (d : Fin 128), y.v (ix2 r d) = ((Head.pad65 (x.v (key t r)) d : ℝ) : EReal)
  o : ∀ (i : Fin 4096) (d : Fin 128), y.o (ix2 i d) = ((Head.pad64 (x.O i) d : ℝ) : EReal)
  d : ∀ (i : Fin 4096) (d : Fin 128), y.d (ix2 i d) = ((Head.pad64 (x.c i) d : ℝ) : EReal)
  l : ∀ (i : Fin 4096) (d : Fin 128), y.l (ix3 0 i d) = ((x.lse i : ℝ) : EReal)

/-! ## The windows at an index -/

section
variable {e : EltTy}

theorem qWindow (a : Vec Ideal S4096x128 e) (g : Fin 16) (i : Fin 256) (d : Fin 128) :
    shapeCast S256x128 (VecWindow.window a (qOff g) S256x128.size (qOff_inb g)) shapeCasts_S256x128_S256x128 (ix2 i d) = a (ix2 (row g i) d) := by
  pointwise
  unfold VecWindow.window
  refine congrArg a (funext fun k => Fin.ext ?_)
  match k with
  | ⟨0, _⟩ => show 256 * g.val + 1 * i.val = 256 * g.val + i.val; omega
  | ⟨1, _⟩ => show 0 + 1 * d.val = d.val; omega

theorem kWindow (a : Vec Ideal S2048x128 e) (b : Fin 8) (i : Fin 256) (d : Fin 128) :
    shapeCast S256x128 (VecWindow.window a (kOff b) S256x128.size (kOff_inb b)) shapeCasts_S256x128_S256x128 (ix2 i d) = a (ix2 (krow b i) d) := by
  pointwise
  unfold VecWindow.window
  refine congrArg a (funext fun k => Fin.ext ?_)
  match k with
  | ⟨0, _⟩ => show 256 * b.val + 1 * i.val = 256 * b.val + i.val; omega
  | ⟨1, _⟩ => show 0 + 1 * d.val = d.val; omega

theorem lWindow (a : Vec Ideal S1x4096x128 e) (g : Fin 16) (i : Fin 256) (d : Fin 128) :
    VecWindow.window a (lOff g) S1x256x128.size (lOff_inb g) (ix3 (0 : Fin 1) i d : S1x256x128.Idx) = a (ix3 0 (row g i) d) := by
  unfold VecWindow.window
  refine congrArg a (funext fun k => Fin.ext ?_)
  match k with
  | ⟨0, _⟩ => rfl
  | ⟨1, _⟩ => show 256 * g.val + 1 * i.val = 256 * g.val + i.val; omega
  | ⟨2, _⟩ => show 0 + 1 * d.val = d.val; omega

theorem first_col (W : Vec Ideal S1x256x128 e) (i : Fin 256) :
    extractStridedSlice S256x1 ![0, 0] (shapeCast S256x128 W shapeCasts_S1x256x128_S256x128) slices_S256x128_o0_0_S256x1 (ix2 i 0) = W (ix3 0 i 0) := by
  pointwise
end

variable {y : Ins Ideal} {x : Head} {t : Fin 2} (h : y.Holds x t) (g : Fin 16)
include h

theorem Ins.Holds.qb (i : Fin 256) (d : Fin 128) : y.qb g (ix2 i d) = ((Head.pad96 (x.q (row g i)) d : ℝ) : EReal) :=
  (qWindow y.q g i d).trans (h.q _ _)
theorem Ins.Holds.dof (i : Fin 256) (d : Fin 128) : y.dof g (ix2 i d) = ((Head.pad64 (x.c (row g i)) d : ℝ) : EReal) :=
  (qWindow y.d g i d).trans (h.d _ _)
theorem Ins.Holds.dob (i : Fin 256) (d : Fin 128) : y.dob g (ix2 i d) = ((Head.pad64 (x.c (row g i)) d : ℝ) : EReal) :=
  h.dof g i d

theorem Ins.Holds.lse1 (i : Fin 256) : y.lse1 g (ix2 i 0) = ((x.lse (row g i) : ℝ) : EReal) := by
  have e := lWindow y.l g i 0
  unfold Ins.lse1
  generalize VecWindow.window y.l (lOff g) S1x256x128.size (lOff_inb g) = W at e
  exact (first_col W i).trans (e.trans (h.l (row g i) 0))

theorem Ins.Holds.δ (i : Fin 256) : y.δ g (ix2 i 0) = ((x.δ (row g i) : ℝ) : EReal) := by
  have e : y.δ g (ix2 i 0) = ∑ d : Fin 128, y.dof g (ix2 i d)
      * shapeCast S256x128 (VecWindow.window y.o (qOff g) S256x128.size (qOff_inb g)) shapeCasts_S256x128_S256x128 (ix2 i d) := by
    unfold Ins.δ
    generalize y.dof g = A
    generalize shapeCast S256x128 (VecWindow.window y.o (qOff g) S256x128.size (qOff_inb g)) shapeCasts_S256x128_S256x128 = B
    pointwise
  rw [e]
  unfold Head.δ
  rw [← Head.sum_pad64, coe_sum]
  refine Finset.sum_congr rfl fun d _ => ?_
  rw [h.dof g i d, qWindow y.o g i d, h.o, EReal.coe_mul]

omit h in
theorem named_scale : Named.named (F := Ideal) κ "att_scale_log2" (φ := .f32) 0x3E16C740#32 = ((r0 * (Real.log 2)⁻¹ : ℝ) : EReal) :=
  IdealRules.named_const.ideal_named_scalar _ _ _ _ rfl

/-- A block of the weights before masking. -/
theorem Ins.Holds.weight (b : Fin 8) (i r : Fin 256) :
    weight (y.lse1 g) (score (y.qb g) (shapeCast S256x128 (VecWindow.window y.k (kOff b) S256x128.size (kOff_inb b)) shapeCasts_S256x128_S256x128)) (ix2 i r)
      = ((Real.exp (x.sc (row g i) (key t (krow b r)) - x.top (row g i)) / x.L (row g i) : ℝ) : EReal) := by
  have hk : ∀ d : Fin 128, shapeCast S256x128 (VecWindow.window y.k (kOff b) S256x128.size (kOff_inb b)) shapeCasts_S256x128_S256x128 (ix2 r d)
      = ((Head.pad96 (x.k (key t (krow b r))) d : ℝ) : EReal) := fun d => (kWindow y.k b r d).trans (h.k _ _)
  have hq := h.qb g i
  have hl := h.lse1 g i
  generalize shapeCast S256x128 (VecWindow.window y.k (kOff b) S256x128.size (kOff_inb b)) shapeCasts_S256x128_S256x128 = K at hk
  generalize y.qb g = Q at hq
  generalize y.lse1 g = l at hl
  pointwise [Att.weight, score]
  simp only [hk, hq, hl, named_scale, ← EReal.coe_mul, ← coe_sum, ← EReal.coe_sub]
  change Ideal.exp2 _ = _
  rw [Ideal.exp2_coe, Head.sum_pad96, Head.weight_eq]

omit h in
/-- A mask bit: whether column `r` of a diagonal block is at or below row `i`. -/
theorem mask_bit (i r : Fin 256) : IntOp.cmpi .sle (BitVec.ofNat 32 r.val) (BitVec.ofNat 32 i.val) = BitVec.ofBool (decide (r ≤ i)) := by
  have e : ∀ n : Fin 256, (BitVec.ofNat 32 n.val).toInt = n.val := fun n => by
    have := n.isLt
    rw [BitVec.toInt_eq_toNat_of_lt, BitVec.toNat_ofNat, Nat.mod_eq_of_lt] <;> (try rw [BitVec.toNat_ofNat, Nat.mod_eq_of_lt]) <;> omega
  unfold IntOp.cmpi
  simp only [BitVec.sle, e, Nat.cast_le]
  rfl

/-- A block that the causal mask leaves alone, or one on the diagonal that is masked. -/
def SubOk (t : Fin 2) (g : Fin 16) (s : Sub) : Prop := if s.2 then 8 * t.val + s.1.val = g.val else 8 * t.val + s.1.val < g.val

theorem Ins.Holds.weights (s : Sub) (hs : SubOk t g s) (i r : Fin 256) :
    weights (y.lse1 g) (y.qb g) (shapeCast S256x128 (VecWindow.window y.k (kOff s.1) S256x128.size (kOff_inb s.1)) shapeCasts_S256x128_S256x128) s.2 (ix2 i r)
      = ((x.P (row g i) (key t (krow s.1 r)) : ℝ) : EReal) := by
  have hw := h.weight g s.1 i r
  obtain ⟨b, msk⟩ := s
  cases msk with
  | false =>
    refine hw.trans ?_
    have hs' : 8 * t.val + b.val < g.val := by simpa [SubOk] using hs
    rw [x.P_below (show key t (krow b r) ≤ row g i from by
      show 2048 * t.val + (256 * b.val + r.val) ≤ 256 * g.val + i.val
      omega)]
  | true =>
    have hs' : 8 * t.val + b.val = g.val := by simpa [SubOk] using hs
    unfold Att.weights
    generalize Att.weight (F := Ideal) _ _ = W at hw
    pointwise [masked]
    rw [mask_bit]
    by_cases hr : r ≤ i
    · rw [x.P_below (show key t (krow b r) ≤ row g i from by
        show 2048 * t.val + (256 * b.val + r.val) ≤ 256 * g.val + i.val
        have : r.val ≤ i.val := hr
        omega)]
      simp only [hr, hw, decide_true, BitVec.ofBool_true]
      rfl
    · rw [x.P_above (show ¬ key t (krow b r) ≤ row g i from by
        show ¬ 2048 * t.val + (256 * b.val + r.val) ≤ 256 * g.val + i.val
        have : ¬ r.val ≤ i.val := hr
        omega)]
      simp only [hr, decide_false, BitVec.ofBool_false]
      rfl

theorem Ins.Holds.dscore (b : Fin 8) (p : FVec Ideal S256x256 .f32) (i r : Fin 256) (hp : p (ix2 i r) = ((x.P (row g i) (key t (krow b r)) : ℝ) : EReal)) :
    dscore (y.δ g) p (score (y.dob g) (shapeCast S256x128 (VecWindow.window y.v (kOff b) S256x128.size (kOff_inb b)) shapeCasts_S256x128_S256x128)) (ix2 i r)
      = ((x.ds (row g i) (key t (krow b r)) : ℝ) : EReal) := by
  have hv : ∀ d : Fin 128, shapeCast S256x128 (VecWindow.window y.v (kOff b) S256x128.size (kOff_inb b)) shapeCasts_S256x128_S256x128 (ix2 r d)
      = ((Head.pad65 (x.v (key t (krow b r))) d : ℝ) : EReal) := fun d => (kWindow y.v b r d).trans (h.v _ _)
  have hd := h.dob g i
  have hδ := h.δ g i
  generalize shapeCast S256x128 (VecWindow.window y.v (kOff b) S256x128.size (kOff_inb b)) shapeCasts_S256x128_S256x128 = K at hv
  generalize y.dob g = Q at hd
  generalize y.δ g = l at hδ
  pointwise [Att.dscore, score]
  simp only [hv, hd, hδ, hp, ofBits_scale, ← EReal.coe_mul, ← coe_sum, ← EReal.coe_sub]
  rw [Head.sum_pad65]
  rfl

end Cert.KernelIdeal.Att

end
-- ==== Proof.StepSum.lean ====
/-
  The accumulators after a list of steps, over the reals: a step adds to every row of the keys' tile its 256 query rows'
  share, and to its query rows the tile's share.
-/
module

public import proofs.«01_k».proof.Proof.StepValue

@[expose] public section

set_option synthInstance.maxSize 4096
set_option maxRecDepth 16384

noncomputable section

namespace Cert.KernelIdeal.Att

open Idealize.ShloMosaic Idealize.SL.Sem
open Cert.KernelIdeal.Gen Cert.Att

/-! ## Sums by blocks -/

theorem sum_krow {M : Type*} [AddCommMonoid M] (f : Fin 2048 → M) : ∑ r, f r = ∑ b, ∑ r, f (krow b r) := by
  rw [← Fintype.sum_prod_type' (f := fun b r => f (krow b r)), ← Equiv.sum_comp (finProdFinEquiv (m := 8) (n := 256)) f]
  refine Finset.sum_congr rfl fun p _ => congrArg f (Fin.ext ?_)
  show p.2.val + 256 * p.1.val = 256 * p.1.val + p.2.val
  omega

theorem sum_row {M : Type*} [AddCommMonoid M] (f : Fin 4096 → M) : ∑ i, f i = ∑ g, ∑ a, f (row g a) := by
  rw [← Fintype.sum_prod_type' (f := fun g a => f (row g a)), ← Equiv.sum_comp (finProdFinEquiv (m := 16) (n := 256)) f]
  refine Finset.sum_congr rfl fun p _ => congrArg f (Fin.ext ?_)
  show p.2.val + 256 * p.1.val = 256 * p.1.val + p.2.val
  omega

theorem sum_key {M : Type*} [AddCommMonoid M] (f : Fin 4096 → M) : ∑ j, f j = ∑ t, ∑ r, f (key t r) := by
  rw [← Fintype.sum_prod_type' (f := fun t r => f (key t r)), ← Equiv.sum_comp (finProdFinEquiv (m := 2) (n := 2048)) f]
  refine Finset.sum_congr rfl fun p _ => congrArg f (Fin.ext ?_)
  show p.2.val + 2048 * p.1.val = 2048 * p.1.val + p.2.val
  omega

/-! ## The accumulators' windows -/

/-- The key block of a row, and the row within it. -/
def kb (r : Fin 2048) : Fin 8 := ⟨r.val / 256, by omega⟩
def kr (r : Fin 2048) : Fin 256 := ⟨r.val % 256, by omega⟩
theorem krow_kb (r : Fin 2048) : krow (kb r) (kr r) = r := Fin.ext (by show 256 * (r.val / 256) + r.val % 256 = r.val; omega)
/-- The query block of a row, and the row within it. -/
def qblk (i : Fin 4096) : Fin 16 := ⟨i.val / 256, by omega⟩
def qrow (i : Fin 4096) : Fin 256 := ⟨i.val % 256, by omega⟩
theorem row_qblk (i : Fin 4096) : row (qblk i) (qrow i) = i := Fin.ext (by show 256 * (i.val / 256) + i.val % 256 = i.val; omega)

theorem put_k (a : Vec Ideal S2048x128 .f32) (b : Fin 8) (w : Vec Ideal S256x128 .f32) (r : Fin 2048) (d : Fin 128) :
    (VecWindow.put a (kOff b) S256x128.size w : Vec Ideal S2048x128 .f32) (ix2 r d) = if kb r = b then w (ix2 (kr r) d) else a (ix2 r d) := by
  unfold VecWindow.put
  have hd := d.isLt
  by_cases hb : kb r = b
  · subst hb
    rw [if_pos rfl, dif_pos (fun k => match k with
      | ⟨0, _⟩ => by show 256 * (r.val / 256) ≤ r.val ∧ r.val < 256 * (r.val / 256) + 256; omega
      | ⟨1, _⟩ => by show 0 ≤ d.val ∧ d.val < 0 + 128; omega)]
    refine congrArg w (funext fun k => Fin.ext ?_)
    match k with
    | ⟨0, _⟩ => show r.val - 256 * (r.val / 256) = r.val % 256; omega
    | ⟨1, _⟩ => show d.val - 0 = d.val; omega
  · rw [if_neg hb, dif_neg]
    intro hall
    have h0 : 256 * b.val ≤ r.val ∧ r.val < 256 * b.val + 256 := hall 0
    exact hb (Fin.ext (by show r.val / 256 = b.val; omega))

theorem put_q (a : Vec Ideal S4096x128 .f32) (g : Fin 16) (w : Vec Ideal S256x128 .f32) (i : Fin 4096) (d : Fin 128) :
    (VecWindow.put a (qOff g) S256x128.size w : Vec Ideal S4096x128 .f32) (ix2 i d) = if qblk i = g then w (ix2 (qrow i) d) else a (ix2 i d) := by
  unfold VecWindow.put
  have hd := d.isLt
  by_cases hb : qblk i = g
  · subst hb
    rw [if_pos rfl, dif_pos (fun k => match k with
      | ⟨0, _⟩ => by show 256 * (i.val / 256) ≤ i.val ∧ i.val < 256 * (i.val / 256) + 256; omega
      | ⟨1, _⟩ => by show 0 ≤ d.val ∧ d.val < 0 + 128; omega)]
    refine congrArg w (funext fun k => Fin.ext ?_)
    match k with
    | ⟨0, _⟩ => show i.val - 256 * (i.val / 256) = i.val % 256; omega
    | ⟨1, _⟩ => show d.val - 0 = d.val; omega
  · rw [if_neg hb, dif_neg]
    intro hall
    have h0 : 256 * g.val ≤ i.val ∧ i.val < 256 * g.val + 256 := hall 0
    exact hb (Fin.ext (by show i.val / 256 = g.val; omega))

theorem addT_apply (w : FVec Ideal S256x256 .bf16) (x : FVec Ideal S256x128 .bf16) (old : FVec Ideal S256x128 .f32) (r : Fin 256) (d : Fin 128) :
    addT w x old (ix2 r d) = (old (ix2 r d) + ∑ i : Fin 256, w (ix2 i r) * x (ix2 i d) : EReal) := by
  pointwise [addT]

theorem addQ_apply (old : FVec Ideal S256x128 .f32) (l : List (FVec Ideal S256x256 .bf16 × FVec Ideal S256x128 .bf16)) (i : Fin 256) (d : Fin 128) :
    addQ old l (ix2 i d) = (old (ix2 i d) + (l.map fun w => (∑ r : Fin 256, w.1 (ix2 i r) * w.2 (ix2 r d) : EReal)).sum : EReal) := by
  have key : ∀ (l : List (FVec Ideal S256x256 .bf16 × FVec Ideal S256x128 .bf16)) (acc : FVec Ideal S256x128 .f32),
      l.foldl (fun acc w => addf acc (matmul dot_S256x256_S256x128_S256x128_1_0_0_1_n_n none w.1 w.2
        (constant S256x128 .f32 0x00000000#32))) acc (ix2 i d)
        = (acc (ix2 i d) + (l.map fun w => (∑ r : Fin 256, w.1 (ix2 i r) * w.2 (ix2 r d) : EReal)).sum : EReal) := by
    intro l
    induction l with
    | nil => intro acc; simp
    | cons w l ih =>
      intro acc
      rw [List.foldl_cons, ih, List.map_cons, List.sum_cons, ← add_assoc]
      congr 1
      pointwise
  unfold addQ
  refine (show addf _ _ (ix2 i d) = (old (ix2 i d) + _ : EReal) from rfl).trans ?_
  rw [key]
  congr 1
  refine (congrArg (· + _) (?_ : _ = (0 : EReal))).trans (zero_add _)
  pointwise

theorem accumulate_apply (x : FVec Ideal S256x128 .bf16) (w : Sub → FVec Ideal S256x256 .bf16) (r : Fin 2048) (d : Fin 128) :
    ∀ (subs : List Sub) (a : Vec Ideal S2048x128 .f32), accumulate x subs (subs.map w) a (ix2 r d)
      = (a (ix2 r d) + (subs.map fun s => (if kb r = s.1 then ∑ i : Fin 256, w s (ix2 i (kr r)) * x (ix2 i d) else 0 : EReal)).sum : EReal)
  | [], a => by simp [accumulate]
  | s :: l, a => by
    rw [List.map_cons]
    unfold accumulate
    rw [accumulate_apply x w r d l, List.map_cons, List.sum_cons, ← add_assoc, put_k]
    congr 1
    by_cases hb : kb r = s.1
    · rw [if_pos hb, if_pos hb, addT_apply, kWindow, ← hb, krow_kb]
    · rw [if_neg hb, if_neg hb, add_zero]

/-! ## One step -/

/-- The blocks listed are those at or before query block `g`, each once. -/
structure Fits (t : Fin 2) (g : Fin 16) (subs : List Sub) : Prop where
  ok : ∀ s ∈ subs, SubOk t g s
  sum : ∀ G : Fin 8 → EReal, (subs.map fun s => G s.1).sum = ∑ b : Fin 8, if 8 * t.val + b.val ≤ g.val then G b else 0

theorem accumulate_holds {t : Fin 2} {g : Fin 16} {subs : List Sub} (hf : Fits t g subs)
    (W : Fin 4096 → Fin 4096 → ℝ) (hW : ∀ i j, ¬ j ≤ i → W i j = 0) (X : Fin 4096 → Fin 128 → ℝ)
    (xb : FVec Ideal S256x128 .bf16) (hx : ∀ i d, xb (ix2 i d) = ((X (row g i) d : ℝ) : EReal))
    (w : Sub → FVec Ideal S256x256 .bf16) (hw : ∀ s, SubOk t g s → ∀ i r, w s (ix2 i r) = ((W (row g i) (key t (krow s.1 r)) : ℝ) : EReal))
    (a : Vec Ideal S2048x128 .f32) (r : Fin 2048) (d : Fin 128) :
    accumulate xb subs (subs.map w) a (ix2 r d) = (a (ix2 r d) + ((∑ i : Fin 256, W (row g i) (key t r) * X (row g i) d : ℝ) : EReal) : EReal) := by
  rw [accumulate_apply]
  congr 1
  obtain ⟨G, hG⟩ : ∃ G : Fin 8 → EReal, ∀ b, G b = if kb r = b then ((∑ i : Fin 256, W (row g i) (key t r) * X (row g i) d : ℝ) : EReal) else 0 :=
    ⟨_, fun _ => rfl⟩
  have e : (subs.map fun s => (if kb r = s.1 then ∑ i : Fin 256, w s (ix2 i (kr r)) * xb (ix2 i d) else 0 : EReal)) = subs.map fun s => G s.1 := by
    refine List.map_congr_left fun s hs => ?_
    rw [hG]
    by_cases hb : kb r = s.1
    · rw [if_pos hb, if_pos hb, coe_sum]
      refine Finset.sum_congr rfl fun i _ => ?_
      rw [hw s (hf.ok s hs), hx, ← hb, krow_kb, EReal.coe_mul]
    · rw [if_neg hb, if_neg hb]
  rw [e, hf.sum, Finset.sum_eq_single (kb r) (fun b _ hb => by rw [hG, if_neg (Ne.symm hb), ite_self]) (fun h => absurd (Finset.mem_univ _) h), hG, if_pos rfl]
  by_cases hg : 8 * t.val + (kb r).val ≤ g.val
  · rw [if_pos hg]
  · rw [if_neg hg, Finset.sum_eq_zero, EReal.coe_zero]
    intro i _
    rw [hW, zero_mul]
    show ¬ 2048 * t.val + r.val ≤ 256 * g.val + i.val
    have h1 : ¬ 8 * t.val + r.val / 256 ≤ g.val := hg
    have := i.isLt
    omega

variable {y : Ins Ideal} {x : Head} {t : Fin 2} (h : y.Holds x t)

theorem Ins.ps_eq (y : Ins Ideal) (g : Fin 16) (subs : List Sub) : y.ps g subs = subs.map fun s =>
    Att.weights (y.lse1 g) (y.qb g) (shapeCast S256x128 (VecWindow.window y.k (kOff s.1) S256x128.size (kOff_inb s.1)) shapeCasts_S256x128_S256x128) s.2 := by
  unfold Ins.ps blocks
  rw [List.zipWith_map_right, List.zipWith_self]

theorem Ins.ds_eq (y : Ins Ideal) (g : Fin 16) (subs : List Sub) : y.ds g subs = subs.map fun s =>
    Att.dscore (y.δ g) (Att.weights (y.lse1 g) (y.qb g) (shapeCast S256x128 (VecWindow.window y.k (kOff s.1) S256x128.size (kOff_inb s.1)) shapeCasts_S256x128_S256x128) s.2)
      (score (y.dob g) (shapeCast S256x128 (VecWindow.window y.v (kOff s.1) S256x128.size (kOff_inb s.1)) shapeCasts_S256x128_S256x128)) := by
  unfold Ins.ds
  rw [Ins.ps_eq]
  unfold blocks
  rw [List.zipWith_map, List.zipWith_self]

include h

theorem Ins.Holds.ds_apply (g : Fin 16) (s : Sub) (hs : SubOk t g s) (i r : Fin 256) :
    Att.dscore (y.δ g) (Att.weights (y.lse1 g) (y.qb g) (shapeCast S256x128 (VecWindow.window y.k (kOff s.1) S256x128.size (kOff_inb s.1)) shapeCasts_S256x128_S256x128) s.2)
      (score (y.dob g) (shapeCast S256x128 (VecWindow.window y.v (kOff s.1) S256x128.size (kOff_inb s.1)) shapeCasts_S256x128_S256x128)) (ix2 i r)
      = ((x.ds (row g i) (key t (krow s.1 r)) : ℝ) : EReal) :=
  h.dscore g s.1 _ i r (h.weights g s hs i r)

theorem Ins.Holds.after_dv {g : Fin 16} {subs : List Sub} (hf : Fits t g subs) (z : Outs Ideal) (r : Fin 2048) (d : Fin 128) :
    (y.after g subs z).dv (ix2 r d) = (z.dv (ix2 r d) + ((∑ i : Fin 256, x.P (row g i) (key t r) * Head.pad64 (x.c (row g i)) d : ℝ) : EReal) : EReal) := by
  show accumulate (y.dob g) subs ((y.ps g subs).map fun p => truncf .bf16 p bitsLt_bf16_f32) z.dv (ix2 r d) = _
  rw [Ins.ps_eq, List.map_map]
  exact accumulate_holds hf x.P (fun _ _ hj => x.P_above hj) (fun i => Head.pad64 (x.c i)) _ (h.dob g) _ (fun s hs i r => h.weights g s hs i r) z.dv r d

theorem Ins.Holds.after_dk {g : Fin 16} {subs : List Sub} (hf : Fits t g subs) (z : Outs Ideal) (r : Fin 2048) (d : Fin 128) :
    (y.after g subs z).dk (ix2 r d) = (z.dk (ix2 r d) + ((∑ i : Fin 256, x.ds (row g i) (key t r) * Head.pad96 (x.q (row g i)) d : ℝ) : EReal) : EReal) := by
  show accumulate (y.qb g) subs (y.ds g subs) z.dk (ix2 r d) = _
  rw [Ins.ds_eq]
  exact accumulate_holds hf x.ds (fun _ _ hj => x.ds_above hj) (fun i => Head.pad96 (x.q i)) _ (h.qb g) _ (fun s hs i r => h.ds_apply g s hs i r) z.dk r d

theorem Ins.Holds.after_dq {g : Fin 16} {subs : List Sub} (hf : Fits t g subs) (z : Outs Ideal) (i : Fin 4096) (d : Fin 128) :
    (y.after g subs z).dq (ix2 i d) = (z.dq (ix2 i d)
      + ((if qblk i = g then ∑ r : Fin 2048, x.ds i (key t r) * Head.pad96 (x.k (key t r)) d else 0 : ℝ) : EReal) : EReal) := by
  show (VecWindow.put z.dq (qOff g) S256x128.size _ : Vec Ideal S4096x128 .f32) (ix2 i d) = _
  rw [put_q]
  by_cases hi : qblk i = g
  · rw [if_pos hi, if_pos hi, addQ_apply, qWindow, ← hi, row_qblk]
    congr 1
    rw [Ins.ds_eq, blocks, List.zip_map', List.map_map]
    have hf' := hf
    rw [← hi] at hf'
    have e : ∀ G : Fin 8 → EReal, (G = fun b => ((∑ r : Fin 256, x.ds i (key t (krow b r)) * Head.pad96 (x.k (key t (krow b r))) d : ℝ) : EReal)) →
        (subs.map fun s => G s.1).sum = ((∑ r : Fin 2048, x.ds i (key t r) * Head.pad96 (x.k (key t r)) d : ℝ) : EReal) := by
      intro G hG
      rw [hf'.sum, sum_krow, coe_sum]
      refine Finset.sum_congr rfl fun b _ => ?_
      rw [hG]
      by_cases hb : 8 * t.val + b.val ≤ (qblk i).val
      · rw [if_pos hb]
      · rw [if_neg hb, Finset.sum_eq_zero, EReal.coe_zero]
        intro r _
        rw [x.ds_above, zero_mul]
        show ¬ 2048 * t.val + (256 * b.val + r.val) ≤ i.val
        have h1 : ¬ 8 * t.val + b.val ≤ i.val / 256 := hb
        have := r.isLt
        omega
    refine Eq.trans (congrArg List.sum (List.map_congr_left fun s hs => ?_)) (e _ rfl)
    show (∑ r : Fin 256, _ * _ : EReal) = _
    rw [coe_sum]
    refine Finset.sum_congr rfl fun r _ => ?_
    rw [EReal.coe_mul]
    have e1 := h.ds_apply (qblk i) s (hf'.ok s hs) (qrow i) r
    rw [row_qblk] at e1
    exact congrArg₂ (fun a b : EReal => a * b) e1 ((kWindow y.k s.1 r d).trans (h.k _ _))
  · rw [if_neg hi, if_neg hi, EReal.coe_zero, add_zero]

/-! ## All steps of a grid point -/

theorem Ins.Holds.run_dv (r : Fin 2048) (d : Fin 128) : ∀ (l : List (Fin 16 × List Sub)) (_ : ∀ s ∈ l, Fits t s.1 s.2) (z : Outs Ideal),
    (runSteps y l z).dv (ix2 r d) = (z.dv (ix2 r d)
      + (((l.map Prod.fst).map fun g => ∑ i : Fin 256, x.P (row g i) (key t r) * Head.pad64 (x.c (row g i)) d).sum : ℝ) : EReal)
  | [], _, z => by simp [runSteps]
  | s :: l, hl, z => by
    show (runSteps y l (y.after s.1 s.2 z)).dv (ix2 r d) = _
    rw [Ins.Holds.run_dv r d l (fun s hs => hl s (List.mem_cons_of_mem _ hs)), h.after_dv (hl s List.mem_cons_self), List.map_cons, List.map_cons, List.sum_cons,
      EReal.coe_add, add_assoc]

theorem Ins.Holds.run_dk (r : Fin 2048) (d : Fin 128) : ∀ (l : List (Fin 16 × List Sub)) (_ : ∀ s ∈ l, Fits t s.1 s.2) (z : Outs Ideal),
    (runSteps y l z).dk (ix2 r d) = (z.dk (ix2 r d)
      + (((l.map Prod.fst).map fun g => ∑ i : Fin 256, x.ds (row g i) (key t r) * Head.pad96 (x.q (row g i)) d).sum : ℝ) : EReal)
  | [], _, z => by simp [runSteps]
  | s :: l, hl, z => by
    show (runSteps y l (y.after s.1 s.2 z)).dk (ix2 r d) = _
    rw [Ins.Holds.run_dk r d l (fun s hs => hl s (List.mem_cons_of_mem _ hs)), h.after_dk (hl s List.mem_cons_self), List.map_cons, List.map_cons, List.sum_cons,
      EReal.coe_add, add_assoc]

theorem Ins.Holds.run_dq (i : Fin 4096) (d : Fin 128) : ∀ (l : List (Fin 16 × List Sub)) (_ : ∀ s ∈ l, Fits t s.1 s.2) (z : Outs Ideal),
    (runSteps y l z).dq (ix2 i d) = (z.dq (ix2 i d)
      + (((l.map Prod.fst).map fun g => if qblk i = g then ∑ r : Fin 2048, x.ds i (key t r) * Head.pad96 (x.k (key t r)) d else 0).sum : ℝ) : EReal)
  | [], _, z => by simp [runSteps]
  | s :: l, hl, z => by
    show (runSteps y l (y.after s.1 s.2 z)).dq (ix2 i d) = _
    rw [Ins.Holds.run_dq i d l (fun s hs => hl s (List.mem_cons_of_mem _ hs)), h.after_dq (hl s List.mem_cons_self), List.map_cons, List.map_cons, List.sum_cons,
      EReal.coe_add, add_assoc]

omit h

/-- The steps of key tile `t`, in order. -/
def steps (t : Fin 2) : List (Fin 16 × List Sub) := diagSteps t ++ lateSteps t

theorem result_eq_run (y : Ins Ideal) (t : Fin 2) (dq : Vec Ideal S4096x128 .f32) : result y t dq = runSteps y (steps t) (start t dq) := by
  unfold result runSteps steps
  rw [List.foldl_append]

instance (t : Fin 2) (g : Fin 16) (s : Sub) : Decidable (SubOk t g s) := by unfold SubOk; infer_instance

theorem diag_ok : ∀ (t : Fin 2) (a : Fin 8), ∀ s ∈ diag a, SubOk t ⟨8 * t.val + a.val, by omega⟩ s := by decide
theorem full_ok : ∀ (a : Fin 8), ∀ s ∈ full, SubOk 0 ⟨8 + a.val, by omega⟩ s := by decide

theorem diag_sum (G : Fin 8 → EReal) : ∀ a : Fin 8, ((diag a).map fun s => G s.1).sum = ∑ b : Fin 8, if b ≤ a then G b else 0 := by
  intro a
  rw [Fin.sum_univ_eight]
  fin_cases a <;> simp [diag, add_assoc] <;> decide

theorem fits_diag (t : Fin 2) (a : Fin 8) : Fits t ⟨8 * t.val + a.val, by omega⟩ (diag a) where
  ok := diag_ok t a
  sum G := by
    rw [diag_sum]
    refine Finset.sum_congr rfl fun b _ => if_congr ?_ rfl rfl
    show b.val ≤ a.val ↔ 8 * t.val + b.val ≤ 8 * t.val + a.val
    omega

theorem fits_full (a : Fin 8) : Fits 0 ⟨8 + a.val, by omega⟩ full where
  ok := full_ok a
  sum G := by
    rw [Fin.sum_univ_eight]
    have h : ∀ b : Fin 8, 8 * (0 : Fin 2).val + b.val ≤ 8 + a.val := fun b => by
      show 8 * 0 + b.val ≤ _
      omega
    simp only [h, if_true]
    simp [full, add_assoc]

theorem fits_steps : ∀ (t : Fin 2), ∀ s ∈ steps t, Fits t s.1 s.2
  | 0, s, hs => by
    rcases List.mem_append.mp hs with hs | hs
    · obtain ⟨a, _, rfl⟩ := List.mem_map.mp hs
      exact fits_diag 0 a
    · obtain ⟨a, _, rfl⟩ := List.mem_map.mp hs
      exact fits_full a
  | 1, s, hs => by
    rcases List.mem_append.mp hs with hs | hs
    · obtain ⟨a, _, rfl⟩ := List.mem_map.mp hs
      exact fits_diag 1 a
    · exact absurd hs List.not_mem_nil

theorem steps_fst_zero : (steps 0).map Prod.fst = List.finRange 16 := by decide
theorem steps_fst_one : (steps 1).map Prod.fst = [8, 9, 10, 11, 12, 13, 14, 15] := by decide

/-- A sum over a key tile's steps of what vanishes on the query blocks before the tile is the sum over all query blocks. -/
theorem sum_steps (f : Fin 16 → ℝ) : ∀ (t : Fin 2), (∀ g : Fin 16, g.val < 8 * t.val → f g = 0) → (((steps t).map Prod.fst).map f).sum = ∑ g, f g
  | 0, _ => by
    rw [steps_fst_zero]
    exact (Fin.sum_univ_def f).symm
  | 1, h => by
    rw [steps_fst_one, Fin.sum_univ_def f, show List.finRange 16 = [0, 1, 2, 3, 4, 5, 6, 7, 8, 9, 10, 11, 12, 13, 14, 15] from by decide]
    simp only [List.map_cons, List.map_nil, List.sum_cons, List.sum_nil]
    rw [h 0 (by decide), h 1 (by decide), h 2 (by decide), h 3 (by decide), h 4 (by decide), h 5 (by decide), h 6 (by decide), h 7 (by decide)]
    simp only [zero_add]

theorem zeroKV_apply (j : S2048x128.Idx) : (zeroKV (F := Ideal)) j = (0 : EReal) := by
  unfold zeroKV
  pointwise
theorem zeroQV_apply (j : S4096x128.Idx) : (zeroQV (F := Ideal)) j = (0 : EReal) := by
  unfold zeroQV
  pointwise

include h

theorem Ins.Holds.result_dv (dq : Vec Ideal S4096x128 .f32) (r : Fin 2048) (d : Fin 128) :
    (result y t dq).dv (ix2 r d) = ((∑ i, x.P i (key t r) * Head.pad64 (x.c i) d : ℝ) : EReal) := by
  rw [result_eq_run, h.run_dv r d _ (fits_steps t), start_dv, zeroKV_apply, zero_add, sum_row, sum_steps]
  intro g hg
  refine Finset.sum_eq_zero fun i _ => ?_
  rw [x.P_above, zero_mul]
  show ¬ 2048 * t.val + r.val ≤ 256 * g.val + i.val
  omega

theorem Ins.Holds.result_dk (dq : Vec Ideal S4096x128 .f32) (r : Fin 2048) (d : Fin 128) :
    (result y t dq).dk (ix2 r d) = ((∑ i, x.ds i (key t r) * Head.pad96 (x.q i) d : ℝ) : EReal) := by
  rw [result_eq_run, h.run_dk r d _ (fits_steps t), start_dk, zeroKV_apply, zero_add, sum_row, sum_steps]
  intro g hg
  refine Finset.sum_eq_zero fun i _ => ?_
  rw [x.ds_above, zero_mul]
  show ¬ 2048 * t.val + r.val ≤ 256 * g.val + i.val
  omega

theorem Ins.Holds.result_dq (dq : Vec Ideal S4096x128 .f32) (i : Fin 4096) (d : Fin 128) :
    (result y t dq).dq (ix2 i d) = ((start t dq).dq (ix2 i d) + ((∑ r, x.ds i (key t r) * Head.pad96 (x.k (key t r)) d : ℝ) : EReal) : EReal) := by
  rw [result_eq_run, h.run_dq i d _ (fits_steps t), sum_steps, Finset.sum_ite_eq, if_pos (Finset.mem_univ _)]
  intro g hg
  by_cases hi : qblk i = g
  · rw [if_pos hi]
    refine Finset.sum_eq_zero fun r _ => ?_
    rw [x.ds_above, zero_mul]
    subst hi
    have : i.val / 256 < 8 * t.val := hg
    show ¬ 2048 * t.val + r.val ≤ i.val
    omega
  · rw [if_neg hi]

omit h in
/-- The two points of a head leave the queries' gradient. -/
theorem dq_both {y' : Ins Ideal} (h0 : y.Holds x 0) (h1 : y'.Holds x 1) (i : Fin 4096) (d : Fin 128) :
    (result y' 1 (result y 0 zeroQV).dq).dq (ix2 i d) = ((∑ j, x.ds i j * Head.pad96 (x.k j) d : ℝ) : EReal) := by
  rw [h1.result_dq]
  show ((result y 0 zeroQV).dq (ix2 i d) + _ : EReal) = _
  rw [h0.result_dq]
  show ((zeroQV (ix2 i d) + _) + _ : EReal) = _
  rw [zeroQV_apply, zero_add, ← EReal.coe_add, sum_key, Fin.sum_univ_two]

end Cert.KernelIdeal.Att

end
-- ==== Proof.Arrays.lean ====
/-
  What the call's three results hold after the run, over the ideal numbers.
-/
module

public import proofs.«01_k».proof.Proof.EntryValue
public import proofs.«01_k».proof.Proof.StepSum
public import Idealize.ShloMosaic.Lib.Pipeline.ValueKit

@[expose] public section

set_option synthInstance.maxSize 4096
set_option maxRecDepth 16384

noncomputable section

namespace Cert.KernelIdeal.Att

open Idealize.ShloMosaic Idealize.ShloMosaic.TcCoe Idealize.SL.Sem
open Idealize.ShloMosaic.Pipeline (Dat Cfg Window)
open Cert.KernelIdeal.Gen Cert.Att
open Cert.ReferenceIdeal.Att (ccol)

/-- A point's head and its half of the keys. -/
def hd (t : Fin cfg0.N) : Fin 8 := ⟨t.val / 2, by have : t.val < 16 := t.isLt; omega⟩
def half (t : Fin cfg0.N) : Fin 2 := ⟨t.val % 2, by omega⟩

theorem idx : ∀ t : Fin grid0.N, win0_0.index t = ![0, t.val / 2] ∧ win0_1.index t = ![t.val % 2, t.val / 2] ∧ win0_2.index t = ![t.val % 2, t.val / 2]
    ∧ win0_3.index t = ![0, t.val / 2] ∧ win0_4.index t = ![0, t.val / 2] ∧ win0_5.index t = ![t.val / 2, 0, 0]
    ∧ win0_6.index t = ![0, t.val / 2] ∧ win0_7.index t = ![t.val % 2, t.val / 2] ∧ win0_8.index t = ![t.val % 2, t.val / 2] := by
  decide +kernel

variable {x : Fin 8 → Head} (m : (ℓ : Loc nD τ sig) → Buf (Elt Ideal) ℓ) (c : Dev nD)

section
variable (t : Fin cfg0.N)
theorem read_q (i : Fin 4096) (d : Fin 128) : iblk m c 0 t (ix2 i d) = V m c main_v33 (ix2 i (col (hd t) d)) := by
  have e := (idx t).1
  blk_ext [iblk, e, col, hd]
theorem read_k (i : Fin 2048) (d : Fin 128) : iblk m c 1 t (ix2 i d) = V m c main_v38 (ix2 (key (half t) i) (col (hd t) d)) := by
  have e := (idx t).2.1
  blk_ext [iblk, e, col, hd, half, key]
theorem read_v (i : Fin 2048) (d : Fin 128) : iblk m c 2 t (ix2 i d) = V m c main_v45 (ix2 (key (half t) i) (col (hd t) d)) := by
  have e := (idx t).2.2.1
  blk_ext [iblk, e, col, hd, half, key]
theorem read_o (i : Fin 4096) (d : Fin 128) : iblk m c 3 t (ix2 i d) = V m c main_v48 (ix2 i (col (hd t) d)) := by
  have e := (idx t).2.2.2.1
  blk_ext [iblk, e, col, hd]
theorem read_d (i : Fin 4096) (d : Fin 128) : iblk m c 4 t (ix2 i d) = V m c main_v51 (ix2 i (col (hd t) d)) := by
  have e := (idx t).2.2.2.2.1
  blk_ext [iblk, e, col, hd]
theorem read_l (i : Fin 4096) (d : Fin 128) : iblk m c 5 t (ix3 0 i d) = V m c main_v52 (ix3 (hd t) i d) := by
  have e := (idx t).2.2.2.2.2.1
  blk_ext [iblk, e, hd]
end

/-- The arguments are the heads' reals. -/
structure Args (x : Fin 8 → Head) : Prop where
  q : ∀ h i d, m (c, Proc.devRef .tc main_arg0) (ix3 i h d) = (((x h).q i d : ℝ) : EReal)
  k : ∀ h i d, m (c, Proc.devRef .tc main_arg1) (ix3 i h d) = (((x h).k i d : ℝ) : EReal)
  v : ∀ h i d, m (c, Proc.devRef .tc main_arg2) (ix3 i h d) = (((x h).v i d : ℝ) : EReal)
  c : ∀ (h : Fin 8) i (d : Fin 64), m (c, Proc.devRef .tc main_arg3) (ix2 i (ccol h d)) = (((x h).c i d : ℝ) : EReal)

variable {m c} (a : Args m c x)
include a

section
variable (t : Fin cfg0.N)
theorem Args.holds_q (i : Fin 4096) (d : Fin 128) : (insAt m c t).q (ix2 i d) = ((Head.pad96 ((x (hd t)).q i) d : ℝ) : EReal) := by
  show iblk m c 0 t (ix2 i d) = _
  rw [read_q]; exact V_q_at m c a.q _ _ _
theorem Args.holds_k (r : Fin 2048) (d : Fin 128) : (insAt m c t).k (ix2 r d) = ((Head.pad96 ((x (hd t)).k (key (half t) r)) d : ℝ) : EReal) := by
  show iblk m c 1 t (ix2 r d) = _
  rw [read_k]; exact V_k_at m c a.k _ _ _
theorem Args.holds_v (r : Fin 2048) (d : Fin 128) : (insAt m c t).v (ix2 r d) = ((Head.pad65 ((x (hd t)).v (key (half t) r)) d : ℝ) : EReal) := by
  show iblk m c 2 t (ix2 r d) = _
  rw [read_v]; exact V_v_at m c a.v _ _ _
theorem Args.holds_o (i : Fin 4096) (d : Fin 128) : (insAt m c t).o (ix2 i d) = ((Head.pad64 ((x (hd t)).O i) d : ℝ) : EReal) := by
  show iblk m c 3 t (ix2 i d) = _
  rw [read_o]; exact V_out_at m c a.q a.k a.v _ _ _
theorem Args.holds_d (i : Fin 4096) (d : Fin 128) : (insAt m c t).d (ix2 i d) = ((Head.pad64 ((x (hd t)).c i) d : ℝ) : EReal) := by
  show iblk m c 4 t (ix2 i d) = _
  rw [read_d]; exact V_d_at m c a.c _ _ _
theorem Args.holds_l (i : Fin 4096) (d : Fin 128) : (insAt m c t).l (ix3 0 i d) = (((x (hd t)).lse i : ℝ) : EReal) := by
  show iblk m c 5 t (ix3 0 i d) = _
  rw [read_l]; exact V_lse_at m c a.q a.k _ _ _

/-- What a point is given. -/
theorem Args.holds : (insAt m c t).Holds (x (hd t)) (half t) :=
  ⟨a.holds_q t, a.holds_k t, a.holds_v t, a.holds_o t, a.holds_d t, a.holds_l t⟩
end

/-- A point's share of the keys' gradient, -/
theorem Args.dk_at (t : Fin cfg0.N) (r : Fin 2048) (d : Fin 128) :
    (outsAt m c t).dk (ix2 r d) = ((∑ i, (x (hd t)).ds i (key (half t) r) * Head.pad96 ((x (hd t)).q i) d : ℝ) : EReal) := by
  have e : grid0.coords t 1 = half t := Fin.ext (coords_one t)
  unfold outsAt
  rw [e]
  exact (a.holds t).result_dk _ r d

/-- of the values', -/
theorem Args.dv_at (t : Fin cfg0.N) (r : Fin 2048) (d : Fin 128) :
    (outsAt m c t).dv (ix2 r d) = ((∑ i, (x (hd t)).P i (key (half t) r) * Head.pad64 ((x (hd t)).c i) d : ℝ) : EReal) := by
  have e : grid0.coords t 1 = half t := Fin.ext (coords_one t)
  unfold outsAt
  rw [e]
  exact (a.holds t).result_dv _ r d

/-- and a head's gradient of the queries at its second point. -/
theorem Args.dq_at (t : Fin cfg0.N) (ht : t.val % 2 = 1) (i : Fin 4096) (d : Fin 128) :
    (outsAt m c t).dq (ix2 i d) = ((∑ j, (x (hd t)).ds i j * Head.pad96 ((x (hd t)).k j) d : ℝ) : EReal) := by
  have e : grid0.coords t 1 = (1 : Fin 2) := Fin.ext ((coords_one t).trans ht)
  have h1 := a.holds t
  have h0 := a.holds (before t)
  have e1 : half t = 1 := Fin.ext ht
  have e0 : half (before t) = 0 := Fin.ext (by show (t.val - 1) % 2 = 0; omega)
  have eh : hd (before t) = hd t := Fin.ext (by show (t.val - 1) / 2 = t.val / 2; omega)
  rw [e1] at h1
  rw [e0, eh] at h0
  unfold outsAt
  rw [e]
  exact dq_both h0 h1 i d

omit a

/-- A padded column's head and its place in the head. -/
def chead (n : Fin 1024) : Fin 8 := ⟨n.val / 128, by omega⟩
def cplace (n : Fin 1024) : Fin 128 := ⟨n.val % 128, by omega⟩
theorem chead_col (h : Fin 8) (d : Fin 128) : chead (col h d) = h := Fin.ext (by show (128 * h.val + d.val) / 128 = h.val; omega)
theorem cplace_col (h : Fin 8) (d : Fin 128) : cplace (col h d) = d := Fin.ext (by show (128 * h.val + d.val) % 128 = d.val; omega)

/-- An array of eight heads of 128 columns. -/
def byHead (f : Fin 8 → Fin 4096 → Fin 128 → ℝ) : FVec Ideal S4096x1024 .f32 := fun y => ((f (chead (y 1)) (y 0) (cplace (y 1)) : ℝ) : EReal)

theorem byHead_col (f : Fin 8 → Fin 4096 → Fin 128 → ℝ) (i : Fin 4096) (h : Fin 8) (d : Fin 128) : byHead f (ix2 i (col h d)) = ((f h i d : ℝ) : EReal) := by
  show ((f (chead (col h d)) i (cplace (col h d)) : ℝ) : EReal) = _
  rw [chead_col, cplace_col]

/-- The queries' gradient as the call leaves it, -/
def dqArr (x : Fin 8 → Head) : FVec Ideal S4096x1024 .f32 := byHead fun h i d => ∑ j, (x h).ds i j * Head.pad96 ((x h).k j) d
/-- the keys', -/
def dkArr (x : Fin 8 → Head) : FVec Ideal S4096x1024 .f32 := byHead fun h j d => ∑ i, (x h).ds i j * Head.pad96 ((x h).q i) d
/-- and the values'. -/
def dvArr (x : Fin 8 → Head) : FVec Ideal S4096x1024 .f32 := byHead fun h j d => ∑ i, (x h).P i j * Head.pad64 ((x h).c i) d

theorem dqArr_col (i : Fin 4096) (h : Fin 8) (d : Fin 128) :
    dqArr x (ix2 i (col h d)) = ((∑ j, (x h).ds i j * Head.pad96 ((x h).k j) d : ℝ) : EReal) :=
  byHead_col (fun h i d => ∑ j, (x h).ds i j * Head.pad96 ((x h).k j) d) i h d
theorem dkArr_col (j : Fin 4096) (h : Fin 8) (d : Fin 128) :
    dkArr x (ix2 j (col h d)) = ((∑ i, (x h).ds i j * Head.pad96 ((x h).q i) d : ℝ) : EReal) :=
  byHead_col (fun h j d => ∑ i, (x h).ds i j * Head.pad96 ((x h).q i) d) j h d
theorem dvArr_col (j : Fin 4096) (h : Fin 8) (d : Fin 128) :
    dvArr x (ix2 j (col h d)) = ((∑ i, (x h).P i j * Head.pad64 ((x h).c i) d : ℝ) : EReal) :=
  byHead_col (fun h j d => ∑ i, (x h).P i j * Head.pad64 ((x h).c i) d) j h d

theorem emb_dq (t : Fin cfg0.N) (y0 : Fin 4096) (y1 : Fin 128) : ((View.whole main_v53_0).slice (win0_6.rect t)).emb (ix2 y0 y1) = ix2 y0 (col (hd t) y1) := by
  have e := (idx t).2.2.2.2.2.2.1
  blk_ext [e, col, hd]
theorem emb_dk (t : Fin cfg0.N) (y0 : Fin 2048) (y1 : Fin 128) : ((View.whole main_v53_1).slice (win0_7.rect t)).emb (ix2 y0 y1) = ix2 (key (half t) y0) (col (hd t) y1) := by
  have e := (idx t).2.2.2.2.2.2.2.1
  blk_ext [e, col, hd, key, half]
theorem emb_dv (t : Fin cfg0.N) (y0 : Fin 2048) (y1 : Fin 128) : ((View.whole main_v53_2).slice (win0_8.rect t)).emb (ix2 y0 y1) = ix2 (key (half t) y0) (col (hd t) y1) := by
  have e := (idx t).2.2.2.2.2.2.2.2
  blk_ext [e, col, hd, key, half]

include a

theorem Args.arr_dq : (dats m 0 c).arrAt 6 cfg0.N = dqArr x := by
  refine (dats m 0 c).arrAt_eq_of_covers 6 _ (by decide +kernel) fun t hf y => ?_
  have ht : t.val % 2 = 1 := (flush0_6 t).mp hf
  blk_simp
  rw [after_6]
  idx_vars y
  rw [emb_dq]
  exact (a.dq_at t ht y0 y1).trans (dqArr_col _ _ _).symm

theorem Args.arr_dk : (dats m 0 c).arrAt 7 cfg0.N = dkArr x := by
  refine (dats m 0 c).arrAt_eq_of_covers 7 _ (by decide +kernel) fun t hf y => ?_
  blk_simp
  rw [after_7]
  idx_vars y
  rw [emb_dk]
  exact (a.dk_at t y0 y1).trans (dkArr_col _ _ _).symm

theorem Args.arr_dv : (dats m 0 c).arrAt 8 cfg0.N = dvArr x := by
  refine (dats m 0 c).arrAt_eq_of_covers 8 _ (by decide +kernel) fun t hf y => ?_
  blk_simp
  rw [after_8]
  idx_vars y
  rw [emb_dv]
  exact (a.dv_at t y0 y1).trans (dvArr_col _ _ _).symm

end Cert.KernelIdeal.Att

end
-- ==== Proof.KerValue.lean ====
/-
  The kernel's run over the ideal numbers: its three results are the heads' gradients.
-/
module

public import proofs.«01_k».proof.Proof.Arrays

@[expose] public section

set_option synthInstance.maxSize 4096
set_option maxRecDepth 16384

noncomputable section

namespace Cert.KernelIdeal.Att

open Idealize.ShloMosaic Idealize.ShloMosaic.TcCoe Idealize.SL.Sem
open Idealize.ShloMosaic.Pipeline (Dat Cfg Window withArrays_arr FramePost afterTail₀)
open Cert.KernelIdeal.Gen Cert.Att

section
variable {F : FTy → Type} [FloatOps F]
/-- The call's array with the padding taken off, for heads of 96, -/
def bare96 (A : FVec F S4096x1024 .f32) : FVec F S4096x8x96 .f32 :=
  shapeCast S4096x8x96 (shapeCast S4096x768 (extractStridedSlice S4096x8x96 ![0, 0, 0] (shapeCast S4096x8x128 A shapeCasts_S4096x1024_S4096x8x128)
    slices_S4096x8x128_S4096x8x96_0_0_0) shapeCasts_S4096x8x96_S4096x768) shapeCasts_S4096x768_S4096x8x96
/-- and of 64. -/
def bare64 (A : FVec F S4096x1024 .f32) : FVec F S4096x8x64 .f32 :=
  shapeCast S4096x8x64 (shapeCast S4096x512 (extractStridedSlice S4096x8x64 ![0, 0, 0] (shapeCast S4096x8x128 A shapeCasts_S4096x1024_S4096x8x128)
    slices_S4096x8x128_S4096x8x64_0_0_0) shapeCasts_S4096x8x64_S4096x512) shapeCasts_S4096x512_S4096x8x64
end

theorem bare96_at (A : FVec Ideal S4096x1024 .f32) (i : Fin 4096) (h : Fin 8) (d : Fin 96) :
    bare96 A (ix3 i h d) = A (ix2 i (col h ⟨d.val, by omega⟩)) := by
  unfold bare96 col
  clean_types
  pointwise
  exact congrArg (fun z : Fin 1024 => A (ix2 i z)) (Fin.ext (by show h.val * 128 + d.val = 128 * h.val + d.val; omega))
theorem bare64_at (A : FVec Ideal S4096x1024 .f32) (i : Fin 4096) (h : Fin 8) (d : Fin 64) :
    bare64 A (ix3 i h d) = A (ix2 i (col h ⟨d.val, by omega⟩)) := by
  unfold bare64 col
  clean_types
  pointwise
  exact congrArg (fun z : Fin 1024 => A (ix2 i z)) (Fin.ext (by show h.val * 128 + d.val = 128 * h.val + d.val; omega))

variable {x : Fin 8 → Head} {m : (ℓ : Loc nD τ sig) → Buf (Elt Ideal) ℓ} {c : Dev nD}

theorem arrInj : Function.Injective (Pipeline.arrRef spec0) := by decide

theorem tail_dq : afterTail₀ cfgs (dats m) 0 (V0 m) [hostOps1] c main_v57 = bare96 (F := Ideal) ((dats m 0 c).arrAt 6 cfg0.N) := by
  unfold afterTail₀
  rw [← withArrays_arr cfg0.spec arrInj c (V0 m c) (fun w => (dats m 0 c).arrAt w cfg0.N) 6]
  generalize Pipeline.withArrays _ c (V0 m c) _ = W
  simp only [hostOps1, List.flatten_cons, List.flatten_nil, List.append_nil]
  after_reads_simp
  rfl

theorem tail_dk : afterTail₀ cfgs (dats m) 0 (V0 m) [hostOps1] c main_v61 = bare96 (F := Ideal) ((dats m 0 c).arrAt 7 cfg0.N) := by
  unfold afterTail₀
  rw [← withArrays_arr cfg0.spec arrInj c (V0 m c) (fun w => (dats m 0 c).arrAt w cfg0.N) 7]
  generalize Pipeline.withArrays _ c (V0 m c) _ = W
  simp only [hostOps1, List.flatten_cons, List.flatten_nil, List.append_nil]
  after_reads_simp
  rfl

theorem tail_dv : afterTail₀ cfgs (dats m) 0 (V0 m) [hostOps1] c main_v65 = bare64 (F := Ideal) ((dats m 0 c).arrAt 8 cfg0.N) := by
  unfold afterTail₀
  rw [← withArrays_arr cfg0.spec arrInj c (V0 m c) (fun w => (dats m 0 c).arrAt w cfg0.N) 8]
  generalize Pipeline.withArrays _ c (V0 m c) _ = W
  simp only [hostOps1, List.flatten_cons, List.flatten_nil, List.append_nil]
  after_reads_simp
  rfl

/-- The gradients of the queries, the keys and the values. -/
def dqOut (x : Fin 8 → Head) : FVec Ideal S4096x8x96 .f32 := fun y => (((x (y 1)).dq (y 0) (y 2) : ℝ) : EReal)
def dkOut (x : Fin 8 → Head) : FVec Ideal S4096x8x96 .f32 := fun y => (((x (y 1)).dk (y 0) (y 2) : ℝ) : EReal)
def dvOut (x : Fin 8 → Head) : FVec Ideal S4096x8x64 .f32 := fun y => (((x (y 1)).dv (y 0) (y 2) : ℝ) : EReal)

theorem bare_dq : bare96 (dqArr x) = dqOut x := by
  funext y
  idx_vars y
  rw [bare96_at, dqArr_col]
  show _ = (((x y1).dq y0 y2 : ℝ) : EReal)
  simp only [Head.pad96, y2.isLt, dif_pos, Head.dq]
theorem bare_dk : bare96 (dkArr x) = dkOut x := by
  funext y
  idx_vars y
  rw [bare96_at, dkArr_col]
  show _ = (((x y1).dk y0 y2 : ℝ) : EReal)
  simp only [Head.pad96, y2.isLt, dif_pos, Head.dk]
theorem bare_dv : bare64 (dvArr x) = dvOut x := by
  funext y
  idx_vars y
  rw [bare64_at, dvArr_col]
  show _ = (((x y1).dv y0 y2 : ℝ) : EReal)
  simp only [Head.pad64, y2.isLt, dif_pos, Head.dv]

/-- From arguments that are reals, every run ends with the three gradients. -/
theorem run_values (m : (ℓ : Loc nD τ sig) → Buf (Elt Ideal) ℓ) (ρ : Dev nD → PrngReg) (x : Dev nD → Fin 8 → Head) (a : ∀ c, Args m c (x c)) :
    θ_run defs (onTc (τ := τ) (main (F := Ideal))) ⟨m, fun _ => 0, ρ⟩ (fun r => ∀ c : Dev nD,
      r.2.mem ((c.tc : Thread nD τ).loc main_v57) = dqOut (x c)
      ∧ r.2.mem ((c.tc : Thread nD τ).loc main_v61) = dkOut (x c)
      ∧ r.2.mem ((c.tc : Thread nD τ).loc main_v65) = dvOut (x c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run_main m ρ)
  have h := h.1 c
  refine ⟨?_, ?_, ?_, ?_, ?_, ?_, ?_⟩
  · rw [h.2 main_v57 (Pipeline.mem_restRefs_of main_v57 (by decide) (by decide)), tail_dq, (a c).arr_dq, bare_dq]
  · rw [h.2 main_v61 (Pipeline.mem_restRefs_of main_v61 (by decide) (by decide)), tail_dk, (a c).arr_dk, bare_dk]
  · rw [h.2 main_v65 (Pipeline.mem_restRefs_of main_v65 (by decide) (by decide)), tail_dv, (a c).arr_dv, bare_dv]
  · exact (h.2 main_arg0 (Pipeline.mem_restRefs_of main_arg0 (by decide) (by decide))).trans (W_main_arg0 m (dats m) c)
  · exact (h.2 main_arg1 (Pipeline.mem_restRefs_of main_arg1 (by decide) (by decide))).trans (W_main_arg1 m (dats m) c)
  · exact (h.2 main_arg2 (Pipeline.mem_restRefs_of main_arg2 (by decide) (by decide))).trans (W_main_arg2 m (dats m) c)
  · exact (h.2 main_arg3 (Pipeline.mem_restRefs_of main_arg3 (by decide) (by decide))).trans (W_main_arg3 m (dats m) c)

end Cert.KernelIdeal.Att

end
-- ==== Proof.Finite.lean ====
/-
  The precondition: no element of the arguments is infinite, so each is a real.
-/
module

public import proofs.«01_k».proof.Defs
public import proofs.«01_k».proof.Proof.KerValue

@[expose] public section

set_option maxRecDepth 16384

noncomputable section

namespace Cert.Proof

open Idealize.ShloMosaic Idealize.ShloMosaic.TcCoe Idealize.SL.Sem Cert.Att
open Cert.ReferenceIdeal.Att (ccol)

instance preFacts : Cert.Pre_finite.Facts where
  bcast_S_S4096x8x96 := by decide
  bcast_S_S4096x8x64 := by decide
  bcast_S_S4096x512 := by decide

/-- An extended real of finite absolute value is a real. -/
theorem coe_of_bit {a : EReal} (h : Ideal.cmp CmpFPredicate.olt (max a (-a)) (Ideal.ofBits .f32 0x7F800000#32) = 1#1) : a = ((a.toReal : ℝ) : EReal) := by
  have htop : Ideal.ofBits .f32 0x7F800000#32 = ⊤ := by simp [Ideal.ofBits, Ideal.ieee]
  rw [htop] at h
  have hlt : max a (-a) < ⊤ := by
    by_contra hn
    simp only [Ideal.cmp, hn] at h
    exact absurd h (by decide)
  refine (EReal.coe_toReal ?_ ?_).symm
  · rintro rfl
    simp at hlt
  · rintro rfl
    simp at hlt

variable {m : (ℓ : Loc Cert.KernelIdeal.nD Cert.KernelIdeal.τ Cert.KernelIdeal.sig) → Buf (Elt Ideal) ℓ}

/-- The heads that the arguments hold. -/
def heads (m : (ℓ : Loc Cert.KernelIdeal.nD Cert.KernelIdeal.τ Cert.KernelIdeal.sig) → Buf (Elt Ideal) ℓ) (c : Dev Cert.KernelIdeal.nD) (h : Fin 8) : Head where
  q i d := (m (c, Proc.devRef .tc Cert.KernelIdeal.main_arg0) (ix3 i h d) : EReal).toReal
  k i d := (m (c, Proc.devRef .tc Cert.KernelIdeal.main_arg1) (ix3 i h d) : EReal).toReal
  v i d := (m (c, Proc.devRef .tc Cert.KernelIdeal.main_arg2) (ix3 i h d) : EReal).toReal
  c i d := (m (c, Proc.devRef .tc Cert.KernelIdeal.main_arg3) (ix2 i (ccol h d)) : EReal).toReal

theorem args (hm : Cert.Pre_KernelIdeal_finite m) (c : Dev Cert.KernelIdeal.nD) : Cert.KernelIdeal.Att.Args m c (heads m c) where
  q h i d := coe_of_bit (congrFun (hm c).1 (ix3 i h d))
  k h i d := coe_of_bit (congrFun (hm c).2.1 (ix3 i h d))
  v h i d := coe_of_bit (congrFun (hm c).2.2.1 (ix3 i h d))
  c h i d := coe_of_bit (congrFun (hm c).2.2.2 (ix2 i (ccol h d)))

end Cert.Proof

end
-- ==== Proof.Mlp.Up.lean ====
/-
  The first product of the feed-forward layer and its squared ReLU: the call `mm_up` block by block, and the reference.
-/
module

public import proofs.«01_k».proof.Defs
public import proofs.«01_k».proof.Proof.Gen.UpIdeal.Value
public import proofs.«01_k».proof.Proof.Gen.UpRefIdeal.Run
public import Idealize.ShloMosaic.Lib.StableHlo.ReadAt
public import Idealize.ShloMosaic.Lib.Pipeline.ValueKit
public import Idealize.ShloMosaic.Lib.Pointwise
public import Idealize.ShloMosaic.Lib.Tactic.CleanTypes

@[expose] public section

set_option synthInstance.maxSize 4096
set_option maxRecDepth 16384

noncomputable section

namespace Cert.UpIdeal.Mlp

open Idealize.ShloMosaic Idealize.ShloMosaic.TcCoe Idealize.SL.Sem
open Idealize.ShloMosaic.Pipeline (Dat Cfg Window)
open Cert.UpIdeal.Gen

/-- The row or column `r` of the block `b` of four. -/
def at4 (b : Fin 4) (r : Fin 1024) : Fin 4096 := ⟨1024 * b.val + r.val, by omega⟩

/-- The product. -/
def out (x : FVec Ideal S4096x1024 .f32) (w : FVec Ideal S1024x4096 .f32) : FVec Ideal S4096x4096 .bf16 := fun y =>
  ∑ k : Fin 1024, (x (ix2 (y 0) k) : EReal) * w (ix2 k (y 1))

/-- Its squared ReLU. -/
def act (x : FVec Ideal S4096x1024 .f32) (w : FVec Ideal S1024x4096 .f32) : FVec Ideal S4096x4096 .bf16 := fun y =>
  max (∑ k : Fin 1024, (x (ix2 (y 0) k) : EReal) * w (ix2 k (y 1))) 0 * max (∑ k : Fin 1024, (x (ix2 (y 0) k) : EReal) * w (ix2 k (y 1))) 0

section
variable {F : FTy → Type} [FloatOps F] (m : (ℓ : Loc nD τ sig) → Buf (Elt F) ℓ) (c : Dev nD)

theorem V_x : V m c main_v0 = truncf .bf16 (m (c, Proc.devRef .tc main_arg0) : FVec F S4096x1024 .f32) bitsLt_bf16_f32 := by
  unfold V
  simp only [hostOps0, List.flatten_cons, List.flatten_nil, List.cons_append, List.nil_append, List.append_nil]
  after_reads_simp
theorem V_w : V m c main_v1 = truncf .bf16 (m (c, Proc.devRef .tc main_arg1) : FVec F S1024x4096 .f32) bitsLt_bf16_f32 := by
  unfold V
  simp only [hostOps0, List.flatten_cons, List.flatten_nil, List.cons_append, List.nil_append, List.append_nil]
  after_reads_simp

end

/-- A point's block of rows and of columns. -/
def rb (t : Fin cfg0.N) : Fin 4 := ⟨t.val / 4, by have : t.val < 16 := t.isLt; omega⟩
def cb (t : Fin cfg0.N) : Fin 4 := ⟨t.val % 4, by omega⟩

theorem idx : ∀ t : Fin grid0.N, win0_0.index t = ![t.val / 4, 0] ∧ win0_1.index t = ![0, t.val % 4] ∧ win0_2.index t = ![t.val / 4, t.val % 4]
    ∧ win0_3.index t = ![t.val / 4, t.val % 4] := by
  decide +kernel

variable (m : (ℓ : Loc nD τ sig) → Buf (Elt Ideal) ℓ) (c : Dev nD)

section
variable (t : Fin cfg0.N) (i k : Fin 1024)
theorem read_x : iblk m c 0 t (ix2 i k) = m (c, Proc.devRef .tc main_arg0) (ix2 (at4 (rb t) i) k) := by
  refine Eq.trans (b := V m c main_v0 (ix2 (at4 (rb t) i) k)) ?_ (congrFun (V_x m c) _)
  have e := (idx t).1
  blk_ext [iblk, e, at4, rb]
theorem read_w : iblk m c 1 t (ix2 k i) = m (c, Proc.devRef .tc main_arg1) (ix2 k (at4 (cb t) i)) := by
  refine Eq.trans (b := V m c main_v1 (ix2 k (at4 (cb t) i))) ?_ (congrFun (V_w m c) _)
  have e := (idx t).2.1
  blk_ext [iblk, e, at4, cb]
theorem emb_out : ((View.whole main_v2_0).slice (win0_2.rect t)).emb (ix2 i k) = ix2 (at4 (rb t) i) (at4 (cb t) k) := by
  have e := (idx t).2.2.1
  blk_ext [e, at4, rb, cb]
theorem emb_act : ((View.whole main_v2_1).slice (win0_3.rect t)).emb (ix2 i k) = ix2 (at4 (rb t) i) (at4 (cb t) k) := by
  have e := (idx t).2.2.2
  blk_ext [e, at4, rb, cb]
end

/-- One block of the call. -/
theorem block_out (x w : Vec Ideal S1024x1024 .bf16) (i j : Fin 1024) :
    out0_2 x w (ix2 i j) = ∑ k : Fin 1024, (x (ix2 i k) : EReal) * w (ix2 k j) := by
  unfold out0_2 k0_pay2 k0_pay1
  simp (disch := decide) only [View.canon_cons_unit_lit', View.ld_unit_lit']
  clean_types
  pointwise
theorem block_act (x w : Vec Ideal S1024x1024 .bf16) (i j : Fin 1024) :
    out0_3 x w (ix2 i j) = max (∑ k : Fin 1024, (x (ix2 i k) : EReal) * w (ix2 k j)) 0 * max (∑ k : Fin 1024, (x (ix2 i k) : EReal) * w (ix2 k j)) 0 := by
  unfold out0_3 k0_pay3 k0_pay1
  simp (disch := decide) only [View.canon_cons_unit_lit', View.ld_unit_lit']
  clean_types
  pointwise

theorem arr_out : (dats m 0 c).arrAt 2 cfg0.N = out (m (c, Proc.devRef .tc main_arg0)) (m (c, Proc.devRef .tc main_arg1)) := by
  refine (dats m 0 c).arrAt_eq_of_covers 2 _ (by decide +kernel) fun t hf y => ?_
  blk_simp
  rw [after0_2]
  idx_vars y
  rw [emb_out]
  refine (block_out _ _ y0 y1).trans ?_
  simp only [read_x, read_w]
  rfl
theorem arr_act : (dats m 0 c).arrAt 3 cfg0.N = act (m (c, Proc.devRef .tc main_arg0)) (m (c, Proc.devRef .tc main_arg1)) := by
  refine (dats m 0 c).arrAt_eq_of_covers 3 _ (by decide +kernel) fun t hf y => ?_
  blk_simp
  rw [after0_3]
  idx_vars y
  rw [emb_act]
  refine (block_act _ _ y0 y1).trans ?_
  simp only [read_x, read_w]
  rfl

end Cert.UpIdeal.Mlp

namespace Cert.UpRefIdeal.Mlp

open Idealize.ShloMosaic Idealize.ShloMosaic.TcCoe Idealize.SL.Sem
open Cert.UpRefIdeal Cert.UpRefIdeal.Gen

variable (x : FVec Ideal S4096x1024 .f32) (w : FVec Ideal S1024x4096 .f32)

/-- The reference's two results. -/
def prod : FVec Ideal S4096x4096 .bf16 :=
  truncf .bf16 (Host.dotGeneral dot_S4096x1024_S1024x4096_S4096x4096_1_0_0_1_n_n none x w) bitsLt_bf16_f32
def sq : FVec Ideal S4096x4096 .bf16 :=
  truncf .bf16 (mulf (maximumf (Host.dotGeneral dot_S4096x1024_S1024x4096_S4096x4096_1_0_0_1_n_n none x w) (broadcastInDim S4096x4096 ![] bcast_S_S4096x4096 (constant S_ .f32 0x00000000#32)))
    (maximumf (Host.dotGeneral dot_S4096x1024_S1024x4096_S4096x4096_1_0_0_1_n_n none x w) (broadcastInDim S4096x4096 ![] bcast_S_S4096x4096 (constant S_ .f32 0x00000000#32)))) bitsLt_bf16_f32

theorem prod_eq : prod x w = Cert.UpIdeal.Mlp.out x w := by
  funext y
  idx_vars y
  unfold prod Cert.UpIdeal.Mlp.out
  clean_types
  pointwise
theorem sq_eq : sq x w = Cert.UpIdeal.Mlp.act x w := by
  funext y
  idx_vars y
  unfold sq Cert.UpIdeal.Mlp.act
  clean_types
  pointwise

end Cert.UpRefIdeal.Mlp

end
-- ==== Proof.Mlp.Da.lean ====
/-
  The gradient of the squared-ReLU product with respect to what enters the squared ReLU: the call `mm_da` block by block, and the reference.
-/
module

public import proofs.«01_k».proof.Defs
public import proofs.«01_k».proof.Proof.Gen.DaIdeal.Value
public import proofs.«01_k».proof.Proof.Gen.DaRefIdeal.Run
public import Idealize.ShloMosaic.Lib.StableHlo.ReadAt
public import Idealize.ShloMosaic.Lib.Pipeline.ValueKit
public import Idealize.ShloMosaic.Lib.Pointwise
public import Idealize.ShloMosaic.Lib.Tactic.CleanTypes

@[expose] public section

set_option synthInstance.maxSize 4096
set_option maxRecDepth 16384

noncomputable section

namespace Cert.DaIdeal.Mlp

open Idealize.ShloMosaic Idealize.ShloMosaic.TcCoe Idealize.SL.Sem
open Idealize.ShloMosaic.Pipeline (Dat Cfg Window)
open Cert.DaIdeal.Gen

/-- The row or column `r` of the block `b` of four. -/
def at4 (b : Fin 4) (r : Fin 1024) : Fin 4096 := ⟨1024 * b.val + r.val, by omega⟩

/-- A product of a row of `ct` with a row of the last layer of `w`, times the slope of the squared ReLU at `a`. -/
def out (a : FVec Ideal S4096x4096 .f32) (w : FVec Ideal S4x4096x1024 .f32) (ct : FVec Ideal S4096x1024 .f32) : FVec Ideal S4096x4096 .bf16 := fun y =>
  (∑ k : Fin 1024, (ct (ix2 (y 0) k) : EReal) * w (ix3 3 (y 1) k)) * (Ideal.ofBits .f32 0x40000000#32 * max (a (ix2 (y 0) (y 1))) (Ideal.ofBits .f32 0x00000000#32))

section
variable {F : FTy → Type} [FloatOps F] (m : (ℓ : Loc nD τ sig) → Buf (Elt F) ℓ) (c : Dev nD)

theorem V_ct : V m c main_v0 = truncf .bf16 (m (c, Proc.devRef .tc main_arg2) : FVec F S4096x1024 .f32) bitsLt_bf16_f32 := by
  unfold V
  simp only [hostOps0, List.flatten_cons, List.flatten_nil, List.cons_append, List.nil_append, List.append_nil]
  after_reads_simp
theorem V_w : V m c main_v1 = truncf .bf16 (m (c, Proc.devRef .tc main_arg1) : FVec F S4x4096x1024 .f32) bitsLt_bf16_f32 := by
  unfold V
  simp only [hostOps0, List.flatten_cons, List.flatten_nil, List.cons_append, List.nil_append, List.append_nil]
  after_reads_simp
theorem V_a : V m c main_v2 = truncf .bf16 (m (c, Proc.devRef .tc main_arg0) : FVec F S4096x4096 .f32) bitsLt_bf16_f32 := by
  unfold V
  simp only [hostOps0, List.flatten_cons, List.flatten_nil, List.cons_append, List.nil_append, List.append_nil]
  after_reads_simp

end

/-- A point's block of rows and of columns. -/
def rb (t : Fin cfg0.N) : Fin 4 := ⟨t.val / 4, by have : t.val < 16 := t.isLt; omega⟩
def cb (t : Fin cfg0.N) : Fin 4 := ⟨t.val % 4, by omega⟩

theorem idx : ∀ t : Fin grid0.N, win0_0.index t = ![t.val / 4, 0] ∧ win0_1.index t = ![3, t.val % 4, 0] ∧ win0_2.index t = ![t.val / 4, t.val % 4]
    ∧ win0_3.index t = ![t.val / 4, t.val % 4] := by
  decide +kernel

variable (m : (ℓ : Loc nD τ sig) → Buf (Elt Ideal) ℓ) (c : Dev nD)

section
variable (t : Fin cfg0.N) (i k : Fin 1024)
theorem read_ct : iblk m c 0 t (ix2 i k) = m (c, Proc.devRef .tc main_arg2) (ix2 (at4 (rb t) i) k) := by
  refine Eq.trans (b := V m c main_v0 (ix2 (at4 (rb t) i) k)) ?_ (congrFun (V_ct m c) _)
  have e := (idx t).1
  blk_ext [iblk, e, at4, rb]
theorem read_w : iblk m c 1 t (ix3 0 i k) = m (c, Proc.devRef .tc main_arg1) (ix3 3 (at4 (cb t) i) k) := by
  refine Eq.trans (b := V m c main_v1 (ix3 3 (at4 (cb t) i) k)) ?_ (congrFun (V_w m c) _)
  have e := (idx t).2.1
  blk_ext [iblk, e, at4, cb]
theorem read_a : iblk m c 2 t (ix2 i k) = m (c, Proc.devRef .tc main_arg0) (ix2 (at4 (rb t) i) (at4 (cb t) k)) := by
  refine Eq.trans (b := V m c main_v2 (ix2 (at4 (rb t) i) (at4 (cb t) k))) ?_ (congrFun (V_a m c) _)
  have e := (idx t).2.2.1
  blk_ext [iblk, e, at4, rb, cb]
theorem emb_out : ((View.whole main_v3).slice (win0_3.rect t)).emb (ix2 i k) = ix2 (at4 (rb t) i) (at4 (cb t) k) := by
  have e := (idx t).2.2.2
  blk_ext [e, at4, rb, cb]
end

/-- One block of the call. -/
theorem block (x : Vec Ideal S1024x1024 .bf16) (w : Vec Ideal S1x1024x1024 .bf16) (a : Vec Ideal S1024x1024 .bf16) (i j : Fin 1024) :
    out0_3 x w a (ix2 i j) = (∑ k : Fin 1024, (x (ix2 i k) : EReal) * w (ix3 0 j k)) * (Ideal.ofBits .f32 0x40000000#32 * max (a (ix2 i j)) (Ideal.ofBits .f32 0x00000000#32)) := by
  unfold out0_3 k0_pay1
  simp (disch := decide) only [View.canon_cons_unit_lit', View.ld_unit_lit']
  clean_types
  pointwise

theorem arr : (dats m 0 c).arrAt 3 cfg0.N = out (m (c, Proc.devRef .tc main_arg0)) (m (c, Proc.devRef .tc main_arg1)) (m (c, Proc.devRef .tc main_arg2)) := by
  refine (dats m 0 c).arrAt_eq_of_covers 3 _ (by decide +kernel) fun t hf y => ?_
  blk_simp
  rw [after0_3]
  idx_vars y
  rw [emb_out]
  refine (block _ _ _ y0 y1).trans ?_
  simp only [read_ct, read_w, read_a]
  rfl

end Cert.DaIdeal.Mlp

namespace Cert.DaRefIdeal.Mlp

open Idealize.ShloMosaic Idealize.ShloMosaic.TcCoe Idealize.SL.Sem
open Cert.DaRefIdeal Cert.DaRefIdeal.Gen

variable (a : FVec Ideal S4096x4096 .f32) (w : FVec Ideal S4x4096x1024 .f32) (ct : FVec Ideal S4096x1024 .f32)

/-- The reference's gradient. -/
def grad : FVec Ideal S4096x4096 .bf16 :=
  truncf .bf16 (select (cmpf .ogt a (broadcastInDim S4096x4096 ![] bcast_S_S4096x4096 (constant S_ .f32 0x00000000#32)))
    (mulf (Host.dotGeneral dot_S4096x1024_S4096x1024_S4096x4096_1_1_0_0_n_n none ct
        (shapeCast _ (extractStridedSlice S1x4096x1024 ![3, 0, 0] w slices_S4x4096x1024_S1x4096x1024_3_0_0) shapeCasts_S1x4096x1024_S4096x1024))
      (mulf (broadcastInDim S4096x4096 ![] bcast_S_S4096x4096 (constant S_ .f32 0x40000000#32))
        (maximumf a (broadcastInDim S4096x4096 ![] bcast_S_S4096x4096 (constant S_ .f32 0x00000000#32)))))
    (broadcastInDim S4096x4096 ![] bcast_S_S4096x4096 (constant S_ .f32 0x00000000#32))) bitsLt_bf16_f32

theorem grad_eq : grad a w ct = Cert.DaIdeal.Mlp.out a w ct := by
  funext y
  idx_vars y
  unfold grad Cert.DaIdeal.Mlp.out
  clean_types
  pointwise
  split
  · rfl
  · rw [max_eq_right (not_lt.mp ‹_›), mul_zero, mul_zero]

end Cert.DaRefIdeal.Mlp

end
-- ==== Proof.Mlp.DwDown.lean ====
/-
  The gradient of the feed-forward layer's second weight: the call `mm_dw_down` chip by chip, and the reference.
-/
module

public import proofs.«01_k».proof.Defs
public import proofs.«01_k».proof.Proof.Gen.DwDownIdeal.Value
public import proofs.«01_k».proof.Proof.Gen.DwDownRefIdeal.Run
public import Idealize.ShloMosaic.Lib.StableHlo.ReadAt
public import Idealize.ShloMosaic.Lib.Pipeline.ValueKit
public import Idealize.ShloMosaic.Lib.Pointwise
public import Idealize.ShloMosaic.Lib.Tactic.CleanTypes

@[expose] public section

set_option synthInstance.maxSize 4096
set_option maxRecDepth 16384

noncomputable section

namespace Cert.DwDownIdeal.Mlp

open Idealize.ShloMosaic Idealize.ShloMosaic.TcCoe Idealize.SL.Sem
open Idealize.ShloMosaic.Pipeline (Dat Cfg Window)
open Cert.DwDownIdeal.Gen

/-- The row or column `r` of the block `b` of four. -/
def at4 (b : Fin 4) (r : Fin 1024) : Fin 4096 := ⟨b.val * 1024 + r.val, by omega⟩

/-- The squared ReLU. -/
def act (a : FVec Ideal S4096x4096 .f32) (i j : Fin 4096) : EReal := max (a (ix2 i j)) 0 * max (a (ix2 i j)) 0

/-- A column of the squared ReLU by a column of `ct`, laid out as the four chips' rows. -/
def out (a : FVec Ideal S4096x4096 .f32) (ct : FVec Ideal S4096x1024 .f32) : FVec Ideal S4x1024x1024 .bf16 := fun y =>
  ∑ s : Fin 4096, act a s (at4 (y 0) (y 1)) * (ct (ix2 s (y 2)) : EReal)

section
variable {F : FTy → Type} [FloatOps F] (m : (ℓ : Loc nD τ sig) → Buf (Elt F) ℓ) (c : Dev nD)

/-- The squared ReLU as the host computes it. -/
def hostAct (a : FVec F S4096x4096 .f32) : FVec F S4096x4096 .bf16 :=
  truncf .bf16 (mulf (maximumf a (broadcastInDim S4096x4096 ![] bcast_S_S4096x4096 (constant S_ .f32 0x00000000#32)))
    (maximumf a (broadcastInDim S4096x4096 ![] bcast_S_S4096x4096 (constant S_ .f32 0x00000000#32)))) bitsLt_bf16_f32

theorem V_f : V m c main_v2 = hostAct (m (c, Proc.devRef .tc main_arg0)) := by
  unfold V
  simp only [hostOps0, hostOps0_1, List.flatten_cons, List.flatten_nil, List.cons_append, List.nil_append, List.append_nil]
  after_reads_simp
  rfl
theorem V_ct : V m c main_v3 = truncf .bf16 (m (c, Proc.devRef .tc main_arg2) : FVec F S4096x1024 .f32) bitsLt_bf16_f32 := by
  unfold V
  simp only [hostOps0, hostOps0_1, List.flatten_cons, List.flatten_nil, List.cons_append, List.nil_append, List.append_nil]
  after_reads_simp

end

theorem hostAct_at (a : FVec Ideal S4096x4096 .f32) (i j : Fin 4096) : hostAct a (ix2 i j) = act a i j := by
  unfold hostAct act
  clean_types
  pointwise

/-- A point's chip. -/
def rb (t : Fin cfg0.N) : Fin 4 := ⟨t.val, t.isLt⟩

theorem idx : ∀ t : Fin grid0.N, win0_0.index t = ![0, t.val] ∧ win0_1.index t = ![0, 0] ∧ win0_2.index t = ![t.val, 0, 0] := by
  decide +kernel

variable (m : (ℓ : Loc nD τ sig) → Buf (Elt Ideal) ℓ) (c : Dev nD)

section
variable (t : Fin cfg0.N) (s : Fin 4096) (i k : Fin 1024)
theorem read_f : iblk m c 0 t (ix2 s i) = act (m (c, Proc.devRef .tc main_arg0)) s (at4 (rb t) i) := by
  refine Eq.trans (b := V m c main_v2 (ix2 s (at4 (rb t) i))) ?_ ((congrFun (V_f m c) _).trans (hostAct_at _ _ _))
  have e := (idx t).1
  blk_ext [iblk, e, at4, rb]
theorem read_ct : iblk m c 1 t (ix2 s i) = m (c, Proc.devRef .tc main_arg2) (ix2 s i) := by
  refine Eq.trans (b := V m c main_v3 (ix2 s i)) ?_ (congrFun (V_ct m c) _)
  have e := (idx t).2.1
  blk_ext [iblk, e]
theorem emb_out : ((View.whole main_v4).slice (win0_2.rect t)).emb (ix3 0 i k) = ix3 (rb t) i k := by
  have e := (idx t).2.2
  blk_ext [e, rb]
end

/-- One block of the call. -/
theorem block (f ct : Vec Ideal S4096x1024 .bf16) (z : Fin 1) (i j : Fin 1024) :
    out0_2 f ct (ix3 z i j) = ∑ s : Fin 4096, (f (ix2 s i) : EReal) * ct (ix2 s j) := by
  unfold out0_2 k0_pay1
  simp (disch := decide) only [View.canon_cons_unit_lit', View.ld_unit_lit']
  clean_types
  pointwise

theorem arr : (dats m 0 c).arrAt 2 cfg0.N = out (m (c, Proc.devRef .tc main_arg0)) (m (c, Proc.devRef .tc main_arg2)) := by
  refine (dats m 0 c).arrAt_eq_of_covers 2 _ (by decide +kernel) fun t hf y => ?_
  blk_simp
  rw [after0_2]
  idx_vars y
  obtain rfl : y0 = 0 := Subsingleton.elim _ _
  rw [emb_out]
  refine (block _ _ 0 y1 y2).trans ?_
  simp only [read_f, read_ct]
  rfl

end Cert.DwDownIdeal.Mlp

namespace Cert.DwDownRefIdeal.Mlp

open Idealize.ShloMosaic Idealize.ShloMosaic.TcCoe Idealize.SL.Sem
open Cert.DwDownRefIdeal Cert.DwDownRefIdeal.Gen

variable (a : FVec Ideal S4096x4096 .f32) (ct : FVec Ideal S4096x1024 .f32)

/-- The reference's gradient. -/
def grad : FVec Ideal S4x1024x1024 .bf16 :=
  shapeCast _ (truncf .bf16 (transpose S4096x1024 [1, 0] (Host.dotGeneral dot_S4096x1024_S4096x4096_S1024x4096_0_0_1_1_n_n none ct
    (mulf (maximumf a (broadcastInDim S4096x4096 ![] bcast_S_S4096x4096 (constant S_ .f32 0x00000000#32)))
      (maximumf a (broadcastInDim S4096x4096 ![] bcast_S_S4096x4096 (constant S_ .f32 0x00000000#32)))))
    transposes_S1024x4096_S4096x1024_1_0) bitsLt_bf16_f32) shapeCasts_S4096x1024_S4x1024x1024

theorem grad_eq : grad a ct = Cert.DwDownIdeal.Mlp.out a ct := by
  funext y
  idx_vars y
  unfold grad Cert.DwDownIdeal.Mlp.out Cert.DwDownIdeal.Mlp.act
  clean_types
  pointwise
  exact Finset.sum_congr rfl fun s _ => mul_comm _ _

end Cert.DwDownRefIdeal.Mlp

end
-- ==== Proof.Mlp.DwUp.lean ====
/-
  The gradient of the feed-forward layer's first weight: the call `mm_dw_up` chip by chip, and the reference.
-/
module

public import proofs.«01_k».proof.Defs
public import proofs.«01_k».proof.Proof.Gen.DwUpIdeal.Value
public import proofs.«01_k».proof.Proof.Gen.DwUpRefIdeal.Run
public import Idealize.ShloMosaic.Lib.StableHlo.ReadAt
public import Idealize.ShloMosaic.Lib.Pipeline.ValueKit
public import Idealize.ShloMosaic.Lib.Pointwise
public import Idealize.ShloMosaic.Lib.Tactic.CleanTypes

@[expose] public section

set_option synthInstance.maxSize 4096
set_option maxRecDepth 16384

noncomputable section

namespace Cert.DwUpIdeal.Mlp

open Idealize.ShloMosaic Idealize.ShloMosaic.TcCoe Idealize.SL.Sem
open Idealize.ShloMosaic.Pipeline (Dat Cfg Window)
open Cert.DwUpIdeal.Gen

/-- The row or column `r` of the block `b` of four. -/
def at4 (b : Fin 4) (r : Fin 1024) : Fin 4096 := ⟨b.val * 1024 + r.val, by omega⟩

/-- A column of `x` by a column of `da`, laid out as the four chips' columns. -/
def out (x : FVec Ideal S4096x1024 .f32) (da : FVec Ideal S4096x4096 .f32) : FVec Ideal S4x1024x1024 .bf16 := fun y =>
  ∑ s : Fin 4096, (x (ix2 s (y 1)) : EReal) * da (ix2 s (at4 (y 0) (y 2)))

section
variable {F : FTy → Type} [FloatOps F] (m : (ℓ : Loc nD τ sig) → Buf (Elt F) ℓ) (c : Dev nD)

theorem V_x : V m c main_v0 = truncf .bf16 (m (c, Proc.devRef .tc main_arg0) : FVec F S4096x1024 .f32) bitsLt_bf16_f32 := by
  unfold V
  simp only [hostOps0, List.flatten_cons, List.flatten_nil, List.cons_append, List.nil_append, List.append_nil]
  after_reads_simp
theorem V_da : V m c main_v1 = truncf .bf16 (m (c, Proc.devRef .tc main_arg2) : FVec F S4096x4096 .f32) bitsLt_bf16_f32 := by
  unfold V
  simp only [hostOps0, List.flatten_cons, List.flatten_nil, List.cons_append, List.nil_append, List.append_nil]
  after_reads_simp

end

/-- A point's chip. -/
def cb (t : Fin cfg0.N) : Fin 4 := ⟨t.val, t.isLt⟩

theorem idx : ∀ t : Fin grid0.N, win0_0.index t = ![0, 0] ∧ win0_1.index t = ![0, t.val] ∧ win0_2.index t = ![t.val, 0, 0] := by
  decide +kernel

variable (m : (ℓ : Loc nD τ sig) → Buf (Elt Ideal) ℓ) (c : Dev nD)

section
variable (t : Fin cfg0.N) (s : Fin 4096) (i k : Fin 1024)
theorem read_x : iblk m c 0 t (ix2 s i) = m (c, Proc.devRef .tc main_arg0) (ix2 s i) := by
  refine Eq.trans (b := V m c main_v0 (ix2 s i)) ?_ (congrFun (V_x m c) _)
  have e := (idx t).1
  blk_ext [iblk, e]
theorem read_da : iblk m c 1 t (ix2 s i) = m (c, Proc.devRef .tc main_arg2) (ix2 s (at4 (cb t) i)) := by
  refine Eq.trans (b := V m c main_v1 (ix2 s (at4 (cb t) i))) ?_ (congrFun (V_da m c) _)
  have e := (idx t).2.1
  blk_ext [iblk, e, at4, cb]
theorem emb_out : ((View.whole main_v2).slice (win0_2.rect t)).emb (ix3 0 i k) = ix3 (cb t) i k := by
  have e := (idx t).2.2
  blk_ext [e, cb]
end

/-- One block of the call. -/
theorem block (x da : Vec Ideal S4096x1024 .bf16) (z : Fin 1) (i j : Fin 1024) :
    out0_2 x da (ix3 z i j) = ∑ s : Fin 4096, (x (ix2 s i) : EReal) * da (ix2 s j) := by
  unfold out0_2 k0_pay1
  simp (disch := decide) only [View.canon_cons_unit_lit', View.ld_unit_lit']
  clean_types
  pointwise

theorem arr : (dats m 0 c).arrAt 2 cfg0.N = out (m (c, Proc.devRef .tc main_arg0)) (m (c, Proc.devRef .tc main_arg2)) := by
  refine (dats m 0 c).arrAt_eq_of_covers 2 _ (by decide +kernel) fun t hf y => ?_
  blk_simp
  rw [after0_2]
  idx_vars y
  obtain rfl : y0 = 0 := Subsingleton.elim _ _
  rw [emb_out]
  refine (block _ _ 0 y1 y2).trans ?_
  simp only [read_x, read_da]
  rfl

end Cert.DwUpIdeal.Mlp

namespace Cert.DwUpRefIdeal.Mlp

open Idealize.ShloMosaic Idealize.ShloMosaic.TcCoe Idealize.SL.Sem
open Cert.DwUpRefIdeal Cert.DwUpRefIdeal.Gen

variable (x : FVec Ideal S4096x1024 .f32) (da : FVec Ideal S4096x4096 .f32)

/-- The reference's gradient. -/
def grad : FVec Ideal S4x1024x1024 .bf16 :=
  transpose S4x1024x1024 [1, 0, 2] (shapeCast _ (truncf .bf16 (transpose S1024x4096 [1, 0] (Host.dotGeneral dot_S4096x4096_S4096x1024_S4096x1024_0_0_1_1_n_n none da x)
    transposes_S4096x1024_S1024x4096_1_0) bitsLt_bf16_f32) shapeCasts_S1024x4096_S1024x4x1024) transposes_S1024x4x1024_S4x1024x1024_1_0_2

theorem grad_eq : grad x da = Cert.DwUpIdeal.Mlp.out x da := by
  funext y
  idx_vars y
  unfold grad Cert.DwUpIdeal.Mlp.out
  clean_types
  pointwise
  exact Finset.sum_congr rfl fun s _ => mul_comm _ _

end Cert.DwUpRefIdeal.Mlp

end
-- ==== Proof.Dense.Down.lean ====
/-
  The second product of the feed-forward layer with the stream added, and the normalised rows: the call `mm_down` block by block, and the reference.
-/
module

public import proofs.«01_k».proof.Defs
public import proofs.«01_k».proof.Proof.Gen.DownIdeal.Value
public import proofs.«01_k».proof.Proof.Gen.DownRefIdeal.Run
public import Idealize.ShloMosaic.Lib.StableHlo.ReadAt
public import Idealize.ShloMosaic.Lib.Pipeline.ValueKit
public import Idealize.ShloMosaic.Lib.Pointwise
public import Idealize.ShloMosaic.Lib.Tactic.CleanTypes

@[expose] public section

set_option synthInstance.maxSize 4096
set_option maxRecDepth 16384

noncomputable section

namespace Cert.DownIdeal.Dense

open Idealize.ShloMosaic Idealize.ShloMosaic.TcCoe Idealize.SL.Sem
open Idealize.ShloMosaic.Pipeline (Dat Cfg Window)
open Cert.DownIdeal.Gen

/-- Row `r` of the block `b` of rows. -/
def row (b : Fin 8) (r : Fin 512) : Fin 4096 := ⟨b.val * 512 + r.val, by omega⟩

/-- The normalised row: its sum of squares by its length and the small constant, and the gain. -/
def normed (s g : Fin 1024 → EReal) (j : Fin 1024) : EReal :=
  s j * Ideal.rsqrt (Ideal.div (∑ k : Fin 1024, s k * s k) (Ideal.ofBits .f32 0x44800000#32) + Ideal.ofBits .f32 0x358637BD#32) * g j

/-- The stream after the product is added. -/
def str (x : FVec Ideal S4096x4096 .f32) (w : FVec Ideal S4x4096x1024 .f32) (ct : FVec Ideal S4096x1024 .f32) (i : Fin 4096) (j : Fin 1024) : EReal :=
  (∑ k : Fin 4096, (x (ix2 i k) : EReal) * w (ix3 3 k j)) + ct (ix2 i j)

/-- The call's two results. -/
def out (x : FVec Ideal S4096x4096 .f32) (w : FVec Ideal S4x4096x1024 .f32) (ct : FVec Ideal S4096x1024 .f32) : FVec Ideal S4096x1024 .f32 := fun y =>
  str x w ct (y 0) (y 1)
def nrm (x : FVec Ideal S4096x4096 .f32) (w : FVec Ideal S4x4096x1024 .f32) (ct : FVec Ideal S4096x1024 .f32) (g : FVec Ideal S1024 .f32) : FVec Ideal S4096x1024 .bf16 := fun y =>
  normed (fun j => str x w ct (y 0) j) (fun j => g (ix1 j)) (y 1)

section
variable {F : FTy → Type} [FloatOps F] (m : (ℓ : Loc nD τ sig) → Buf (Elt F) ℓ) (c : Dev nD)

theorem V_x : V m c main_v0 = truncf .bf16 (m (c, Proc.devRef .tc main_arg0) : FVec F S4096x4096 .f32) bitsLt_bf16_f32 := by
  unfold V
  simp only [hostOps0, List.flatten_cons, List.flatten_nil, List.cons_append, List.nil_append, List.append_nil]
  after_reads_simp
theorem V_w : V m c main_v1 = truncf .bf16 (m (c, Proc.devRef .tc main_arg1) : FVec F S4x4096x1024 .f32) bitsLt_bf16_f32 := by
  unfold V
  simp only [hostOps0, List.flatten_cons, List.flatten_nil, List.cons_append, List.nil_append, List.append_nil]
  after_reads_simp
theorem V_g : V m c main_v2 = shapeCast S1x1024 (m (c, Proc.devRef .tc main_arg3) : FVec F S1024 .f32) shapeCasts_S1024_S1x1024 := by
  unfold V
  simp only [hostOps0, List.flatten_cons, List.flatten_nil, List.cons_append, List.nil_append, List.append_nil]
  after_reads_simp
  rfl

end

theorem gain_at (g : FVec Ideal S1024 .f32) (j : Fin 1024) : shapeCast S1x1024 g shapeCasts_S1024_S1x1024 (ix2 0 j) = g (ix1 j) := by
  pointwise

/-- A point's block of rows. -/
def rb (t : Fin cfg0.N) : Fin 8 := ⟨t.val, t.isLt⟩

theorem idx : ∀ t : Fin grid0.N, win0_0.index t = ![t.val, 0] ∧ win0_1.index t = ![3, 0, 0] ∧ win0_2.index t = ![t.val, 0] ∧ win0_3.index t = ![0, 0]
    ∧ win0_4.index t = ![t.val, 0] ∧ win0_5.index t = ![t.val, 0] := by
  decide +kernel

variable (m : (ℓ : Loc nD τ sig) → Buf (Elt Ideal) ℓ) (c : Dev nD)

section
variable (t : Fin cfg0.N) (i : Fin 512) (j : Fin 1024) (k : Fin 4096)
theorem read_x : iblk m c 0 t (ix2 i k) = m (c, Proc.devRef .tc main_arg0) (ix2 (row (rb t) i) k) := by
  refine Eq.trans (b := V m c main_v0 (ix2 (row (rb t) i) k)) ?_ (congrFun (V_x m c) _)
  have e := (idx t).1
  blk_ext [iblk, e, row, rb]
theorem read_w : iblk m c 1 t (ix3 0 k j) = m (c, Proc.devRef .tc main_arg1) (ix3 3 k j) := by
  refine Eq.trans (b := V m c main_v1 (ix3 3 k j)) ?_ (congrFun (V_w m c) _)
  have e := (idx t).2.1
  blk_ext [iblk, e]
theorem read_ct : iblk m c 2 t (ix2 i j) = m (c, Proc.devRef .tc main_arg2) (ix2 (row (rb t) i) j) := by
  refine Eq.trans (b := V m c main_arg2 (ix2 (row (rb t) i) j)) ?_ (congrFun (V_main_arg2 m c) _)
  have e := (idx t).2.2.1
  blk_ext [iblk, e, row, rb]
theorem read_g : iblk m c 3 t (ix2 0 j) = m (c, Proc.devRef .tc main_arg3) (ix1 j) := by
  refine Eq.trans (b := V m c main_v2 (ix2 0 j)) ?_ ((congrFun (V_g m c) _).trans (gain_at _ j))
  have e := (idx t).2.2.2.1
  blk_ext [iblk, e]
theorem emb_out : ((View.whole main_v3_0).slice (win0_4.rect t)).emb (ix2 i j) = ix2 (row (rb t) i) j := by
  have e := (idx t).2.2.2.2.1
  blk_ext [e, row, rb]
theorem emb_nrm : ((View.whole main_v3_1).slice (win0_5.rect t)).emb (ix2 i j) = ix2 (row (rb t) i) j := by
  have e := (idx t).2.2.2.2.2
  blk_ext [e, row, rb]
end

section
variable (x : Vec Ideal S512x4096 .bf16) (w : Vec Ideal S1x4096x1024 .bf16) (ct : Vec Ideal S512x1024 .f32) (g : Vec Ideal S1x1024 .f32)
/-- One block of the call: the stream, and its normalised rows. -/
theorem pay_out (i : Fin 512) (j : Fin 1024) :
    k0_pay1 x w ct (ix2 i j) = (∑ k : Fin 4096, (x (ix2 i k) : EReal) * w (ix3 0 k j)) + ct (ix2 i j) := by
  unfold k0_pay1
  clean_types
  pointwise
theorem block_out (i : Fin 512) (j : Fin 1024) :
    out0_4 x w ct g (ix2 i j) = (∑ k : Fin 4096, (x (ix2 i k) : EReal) * w (ix3 0 k j)) + ct (ix2 i j) := by
  unfold out0_4
  simp (disch := decide) only [View.canon_cons_unit_lit', View.ld_unit_lit']
  exact pay_out x w ct i j
theorem block_nrm (i : Fin 512) (j : Fin 1024) :
    out0_5 x w ct g (ix2 i j) = normed (fun l => (∑ k : Fin 4096, (x (ix2 i k) : EReal) * w (ix3 0 k l)) + ct (ix2 i l)) (fun l => g (ix2 0 l)) j := by
  unfold out0_5 k0_pay2 normed
  simp (disch := decide) only [View.canon_cons_unit_lit', View.ld_unit_lit']
  simp only [← pay_out x w ct]
  generalize k0_pay1 x w ct = s
  clean_types
  pointwise
end

theorem arr_out : (dats m 0 c).arrAt 4 cfg0.N = out (m (c, Proc.devRef .tc main_arg0)) (m (c, Proc.devRef .tc main_arg1)) (m (c, Proc.devRef .tc main_arg2)) := by
  refine (dats m 0 c).arrAt_eq_of_covers 4 _ (by decide +kernel) fun t hf y => ?_
  blk_simp
  rw [after0_4]
  idx_vars y
  rw [emb_out]
  refine (block_out _ _ _ _ y0 y1).trans ?_
  simp only [read_x, read_w, read_ct]
  rfl
theorem arr_nrm : (dats m 0 c).arrAt 5 cfg0.N = nrm (m (c, Proc.devRef .tc main_arg0)) (m (c, Proc.devRef .tc main_arg1)) (m (c, Proc.devRef .tc main_arg2)) (m (c, Proc.devRef .tc main_arg3)) := by
  refine (dats m 0 c).arrAt_eq_of_covers 5 _ (by decide +kernel) fun t hf y => ?_
  blk_simp
  rw [after0_5]
  idx_vars y
  rw [emb_nrm]
  refine (block_nrm _ _ _ _ y0 y1).trans ?_
  simp only [read_x, read_w, read_ct, read_g]
  rfl

end Cert.DownIdeal.Dense

namespace Cert.DownRefIdeal.Dense

open Idealize.ShloMosaic Idealize.ShloMosaic.TcCoe Idealize.SL.Sem
open Cert.DownRefIdeal Cert.DownRefIdeal.Gen

variable (x : FVec Ideal S4096x4096 .f32) (w : FVec Ideal S4x4096x1024 .f32) (ct : FVec Ideal S4096x1024 .f32) (g : FVec Ideal S1024 .f32)

/-- The reference's stream. -/
def ref : FVec Ideal S4096x1024 .f32 :=
  addf ct (Host.dotGeneral dot_S4096x4096_S4096x1024_S4096x1024_1_0_0_1_n_n none x (shapeCast _ (extractStridedSlice S1x4096x1024 ![3, 0, 0] w slices_S4x4096x1024_S1x4096x1024_3_0_0) shapeCasts_S1x4096x1024_S4096x1024))

/-- The rows of an array normalised, as the reference does it. -/
def rmsnorm (s : FVec Ideal S4096x1024 .f32) (g : FVec Ideal S1024 .f32) : FVec Ideal S4096x1024 .bf16 :=
  truncf .bf16 (mulf (mulf s (broadcastInDim S4096x1024 ![0, 1] bcast_S4096x1_S4096x1024_0_1 (Host.rsqrt (addf (Host.divf (broadcastInDim S4096x1 ![0] bcast_S4096_S4096x1_0 (Host.reduceAdd (mulf s s) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))) bitsLt_bf16_f32

theorem ref_at (i : Fin 4096) (j : Fin 1024) : ref x w ct (ix2 i j) = Cert.DownIdeal.Dense.str x w ct i j := by
  unfold ref Cert.DownIdeal.Dense.str
  clean_types
  pointwise
  exact add_comm _ _
theorem rmsnorm_at (s : FVec Ideal S4096x1024 .f32) (i : Fin 4096) (j : Fin 1024) :
    rmsnorm s g (ix2 i j) = Cert.DownIdeal.Dense.normed (fun l => s (ix2 i l)) (fun l => g (ix1 l)) j := by
  unfold rmsnorm Cert.DownIdeal.Dense.normed
  clean_types
  pointwise
theorem ref_eq : ref x w ct = Cert.DownIdeal.Dense.out x w ct := by
  funext y
  idx_vars y
  exact ref_at x w ct y0 y1
theorem rmsnorm_eq : rmsnorm (ref x w ct) g = Cert.DownIdeal.Dense.nrm x w ct g := by
  funext y
  idx_vars y
  rw [rmsnorm_at]
  simp only [ref_at]
  rfl

end Cert.DownRefIdeal.Dense

end
-- ==== Proof.Dense.O.lean ====
/-
  The mixing product with the stream added, and the normalised rows: the call `mm_o` block by block, and the reference.
-/
module

public import proofs.«01_k».proof.Defs
public import proofs.«01_k».proof.Proof.Gen.OIdeal.Value
public import proofs.«01_k».proof.Proof.Gen.ORefIdeal.Run
public import Idealize.ShloMosaic.Lib.StableHlo.ReadAt
public import Idealize.ShloMosaic.Lib.Pipeline.ValueKit
public import Idealize.ShloMosaic.Lib.Pointwise
public import Idealize.ShloMosaic.Lib.Tactic.CleanTypes

@[expose] public section

set_option synthInstance.maxSize 4096
set_option maxRecDepth 16384

noncomputable section

namespace Cert.OIdeal.Dense

open Idealize.ShloMosaic Idealize.ShloMosaic.TcCoe Idealize.SL.Sem
open Idealize.ShloMosaic.Pipeline (Dat Cfg Window)
open Cert.OIdeal.Gen

/-- Row `r` of the block `b` of rows. -/
def row (b : Fin 8) (r : Fin 512) : Fin 4096 := ⟨b.val * 512 + r.val, by omega⟩

/-- The normalised row: its sum of squares by its length and the small constant, and the gain. -/
def normed (s g : Fin 1024 → EReal) (j : Fin 1024) : EReal :=
  s j * Ideal.rsqrt (Ideal.div (∑ k : Fin 1024, s k * s k) (Ideal.ofBits .f32 0x44800000#32) + Ideal.ofBits .f32 0x358637BD#32) * g j

/-- The stream after the product is added. -/
def str (x : FVec Ideal S4096x1536 .f32) (w : FVec Ideal S1536x1024 .f32) (ct : FVec Ideal S4096x1024 .f32) (i : Fin 4096) (j : Fin 1024) : EReal :=
  (∑ k : Fin 1536, (x (ix2 i k) : EReal) * w (ix2 k j)) + ct (ix2 i j)

/-- The call's two results. -/
def out (x : FVec Ideal S4096x1536 .f32) (w : FVec Ideal S1536x1024 .f32) (ct : FVec Ideal S4096x1024 .f32) : FVec Ideal S4096x1024 .f32 := fun y =>
  str x w ct (y 0) (y 1)
def nrm (x : FVec Ideal S4096x1536 .f32) (w : FVec Ideal S1536x1024 .f32) (ct : FVec Ideal S4096x1024 .f32) (g : FVec Ideal S1024 .f32) : FVec Ideal S4096x1024 .bf16 := fun y =>
  normed (fun j => str x w ct (y 0) j) (fun j => g (ix1 j)) (y 1)

section
variable {F : FTy → Type} [FloatOps F] (m : (ℓ : Loc nD τ sig) → Buf (Elt F) ℓ) (c : Dev nD)

theorem V_x : V m c main_v0 = truncf .bf16 (m (c, Proc.devRef .tc main_arg0) : FVec F S4096x1536 .f32) bitsLt_bf16_f32 := by
  unfold V
  simp only [hostOps0, List.flatten_cons, List.flatten_nil, List.cons_append, List.nil_append, List.append_nil]
  after_reads_simp
theorem V_w : V m c main_v1 = truncf .bf16 (m (c, Proc.devRef .tc main_arg1) : FVec F S1536x1024 .f32) bitsLt_bf16_f32 := by
  unfold V
  simp only [hostOps0, List.flatten_cons, List.flatten_nil, List.cons_append, List.nil_append, List.append_nil]
  after_reads_simp
theorem V_g : V m c main_v2 = shapeCast S1x1024 (m (c, Proc.devRef .tc main_arg3) : FVec F S1024 .f32) shapeCasts_S1024_S1x1024 := by
  unfold V
  simp only [hostOps0, List.flatten_cons, List.flatten_nil, List.cons_append, List.nil_append, List.append_nil]
  after_reads_simp
  rfl

end

theorem gain_at (g : FVec Ideal S1024 .f32) (j : Fin 1024) : shapeCast S1x1024 g shapeCasts_S1024_S1x1024 (ix2 0 j) = g (ix1 j) := by
  pointwise

/-- A point's block of rows. -/
def rb (t : Fin cfg0.N) : Fin 8 := ⟨t.val, t.isLt⟩

theorem idx : ∀ t : Fin grid0.N, win0_0.index t = ![t.val, 0] ∧ win0_1.index t = ![0, 0] ∧ win0_2.index t = ![t.val, 0] ∧ win0_3.index t = ![0, 0]
    ∧ win0_4.index t = ![t.val, 0] ∧ win0_5.index t = ![t.val, 0] := by
  decide +kernel

variable (m : (ℓ : Loc nD τ sig) → Buf (Elt Ideal) ℓ) (c : Dev nD)

section
variable (t : Fin cfg0.N) (i : Fin 512) (j : Fin 1024) (k : Fin 1536)
theorem read_x : iblk m c 0 t (ix2 i k) = m (c, Proc.devRef .tc main_arg0) (ix2 (row (rb t) i) k) := by
  refine Eq.trans (b := V m c main_v0 (ix2 (row (rb t) i) k)) ?_ (congrFun (V_x m c) _)
  have e := (idx t).1
  blk_ext [iblk, e, row, rb]
theorem read_w : iblk m c 1 t (ix2 k j) = m (c, Proc.devRef .tc main_arg1) (ix2 k j) := by
  refine Eq.trans (b := V m c main_v1 (ix2 k j)) ?_ (congrFun (V_w m c) _)
  have e := (idx t).2.1
  blk_ext [iblk, e]
theorem read_ct : iblk m c 2 t (ix2 i j) = m (c, Proc.devRef .tc main_arg2) (ix2 (row (rb t) i) j) := by
  refine Eq.trans (b := V m c main_arg2 (ix2 (row (rb t) i) j)) ?_ (congrFun (V_main_arg2 m c) _)
  have e := (idx t).2.2.1
  blk_ext [iblk, e, row, rb]
theorem read_g : iblk m c 3 t (ix2 0 j) = m (c, Proc.devRef .tc main_arg3) (ix1 j) := by
  refine Eq.trans (b := V m c main_v2 (ix2 0 j)) ?_ ((congrFun (V_g m c) _).trans (gain_at _ j))
  have e := (idx t).2.2.2.1
  blk_ext [iblk, e]
theorem emb_out : ((View.whole main_v3_0).slice (win0_4.rect t)).emb (ix2 i j) = ix2 (row (rb t) i) j := by
  have e := (idx t).2.2.2.2.1
  blk_ext [e, row, rb]
theorem emb_nrm : ((View.whole main_v3_1).slice (win0_5.rect t)).emb (ix2 i j) = ix2 (row (rb t) i) j := by
  have e := (idx t).2.2.2.2.2
  blk_ext [e, row, rb]
end

section
variable (x : Vec Ideal S512x1536 .bf16) (w : Vec Ideal S1536x1024 .bf16) (ct : Vec Ideal S512x1024 .f32) (g : Vec Ideal S1x1024 .f32)
/-- One block of the call: the stream, and its normalised rows. -/
theorem pay_out (i : Fin 512) (j : Fin 1024) :
    k0_pay1 x w ct (ix2 i j) = (∑ k : Fin 1536, (x (ix2 i k) : EReal) * w (ix2 k j)) + ct (ix2 i j) := by
  unfold k0_pay1
  clean_types
  pointwise
theorem block_out (i : Fin 512) (j : Fin 1024) :
    out0_4 x w ct g (ix2 i j) = (∑ k : Fin 1536, (x (ix2 i k) : EReal) * w (ix2 k j)) + ct (ix2 i j) := by
  unfold out0_4
  simp (disch := decide) only [View.canon_cons_unit_lit', View.ld_unit_lit']
  exact pay_out x w ct i j
theorem block_nrm (i : Fin 512) (j : Fin 1024) :
    out0_5 x w ct g (ix2 i j) = normed (fun l => (∑ k : Fin 1536, (x (ix2 i k) : EReal) * w (ix2 k l)) + ct (ix2 i l)) (fun l => g (ix2 0 l)) j := by
  unfold out0_5 k0_pay2 normed
  simp (disch := decide) only [View.canon_cons_unit_lit', View.ld_unit_lit']
  simp only [← pay_out x w ct]
  generalize k0_pay1 x w ct = s
  clean_types
  pointwise
end

theorem arr_out : (dats m 0 c).arrAt 4 cfg0.N = out (m (c, Proc.devRef .tc main_arg0)) (m (c, Proc.devRef .tc main_arg1)) (m (c, Proc.devRef .tc main_arg2)) := by
  refine (dats m 0 c).arrAt_eq_of_covers 4 _ (by decide +kernel) fun t hf y => ?_
  blk_simp
  rw [after0_4]
  idx_vars y
  rw [emb_out]
  refine (block_out _ _ _ _ y0 y1).trans ?_
  simp only [read_x, read_w, read_ct]
  rfl
theorem arr_nrm : (dats m 0 c).arrAt 5 cfg0.N = nrm (m (c, Proc.devRef .tc main_arg0)) (m (c, Proc.devRef .tc main_arg1)) (m (c, Proc.devRef .tc main_arg2)) (m (c, Proc.devRef .tc main_arg3)) := by
  refine (dats m 0 c).arrAt_eq_of_covers 5 _ (by decide +kernel) fun t hf y => ?_
  blk_simp
  rw [after0_5]
  idx_vars y
  rw [emb_nrm]
  refine (block_nrm _ _ _ _ y0 y1).trans ?_
  simp only [read_x, read_w, read_ct, read_g]
  rfl

end Cert.OIdeal.Dense

namespace Cert.ORefIdeal.Dense

open Idealize.ShloMosaic Idealize.ShloMosaic.TcCoe Idealize.SL.Sem
open Cert.ORefIdeal Cert.ORefIdeal.Gen

variable (x : FVec Ideal S4096x1536 .f32) (w : FVec Ideal S1536x1024 .f32) (ct : FVec Ideal S4096x1024 .f32) (g : FVec Ideal S1024 .f32)

/-- The reference's stream. -/
def ref : FVec Ideal S4096x1024 .f32 :=
  addf ct (Host.dotGeneral dot_S4096x1536_S1536x1024_S4096x1024_1_0_0_1_n_n none x w)

/-- The rows of an array normalised, as the reference does it. -/
def rmsnorm (s : FVec Ideal S4096x1024 .f32) (g : FVec Ideal S1024 .f32) : FVec Ideal S4096x1024 .bf16 :=
  truncf .bf16 (mulf (mulf s (broadcastInDim S4096x1024 ![0, 1] bcast_S4096x1_S4096x1024_0_1 (Host.rsqrt (addf (Host.divf (broadcastInDim S4096x1 ![0] bcast_S4096_S4096x1_0 (Host.reduceAdd (mulf s s) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))) bitsLt_bf16_f32

theorem ref_at (i : Fin 4096) (j : Fin 1024) : ref x w ct (ix2 i j) = Cert.OIdeal.Dense.str x w ct i j := by
  unfold ref Cert.OIdeal.Dense.str
  clean_types
  pointwise
  exact add_comm _ _
theorem rmsnorm_at (s : FVec Ideal S4096x1024 .f32) (i : Fin 4096) (j : Fin 1024) :
    rmsnorm s g (ix2 i j) = Cert.OIdeal.Dense.normed (fun l => s (ix2 i l)) (fun l => g (ix1 l)) j := by
  unfold rmsnorm Cert.OIdeal.Dense.normed
  clean_types
  pointwise
theorem ref_eq : ref x w ct = Cert.OIdeal.Dense.out x w ct := by
  funext y
  idx_vars y
  exact ref_at x w ct y0 y1
theorem rmsnorm_eq : rmsnorm (ref x w ct) g = Cert.OIdeal.Dense.nrm x w ct g := by
  funext y
  idx_vars y
  rw [rmsnorm_at]
  simp only [ref_at]
  rfl

end Cert.ORefIdeal.Dense

end
-- ==== Proof.Dense.Dmixed.lean ====
/-
  The gradient of the mixed attention and convolution: the call `mm_dmixed` block by block, and the reference.
-/
module

public import proofs.«01_k».proof.Defs
public import proofs.«01_k».proof.Proof.Gen.DmixedIdeal.Value
public import proofs.«01_k».proof.Proof.Gen.DmixedRefIdeal.Run
public import Idealize.ShloMosaic.Lib.StableHlo.ReadAt
public import Idealize.ShloMosaic.Lib.Pipeline.ValueKit
public import Idealize.ShloMosaic.Lib.Pointwise
public import Idealize.ShloMosaic.Lib.Tactic.CleanTypes

@[expose] public section

set_option synthInstance.maxSize 4096
set_option maxRecDepth 16384

noncomputable section

namespace Cert.DmixedIdeal.Dense

open Idealize.ShloMosaic Idealize.ShloMosaic.TcCoe Idealize.SL.Sem
open Idealize.ShloMosaic.Pipeline (Dat Cfg Window)
open Cert.DmixedIdeal.Gen

/-- Row `r` of the block `b` of rows. -/
def row (b : Fin 4) (r : Fin 1024) : Fin 4096 := ⟨b.val * 1024 + r.val, by omega⟩

/-- Column `r` of the block `b` of columns. -/
def col (b : Fin 2) (r : Fin 768) : Fin 1536 := ⟨b.val * 768 + r.val, by omega⟩

/-- The product. -/
def out (ct : FVec Ideal S4096x1024 .f32) (w : FVec Ideal S1536x1024 .f32) : FVec Ideal S4096x1536 .f32 := fun y =>
  ∑ k : Fin 1024, (ct (ix2 (y 0) k) : EReal) * w (ix2 (y 1) k)

section
variable {F : FTy → Type} [FloatOps F] (m : (ℓ : Loc nD τ sig) → Buf (Elt F) ℓ) (c : Dev nD)

theorem V_a : V m c main_v0 = truncf .bf16 (m (c, Proc.devRef .tc main_arg2) : FVec F S4096x1024 .f32) bitsLt_bf16_f32 := by
  unfold V
  simp only [hostOps0, List.flatten_cons, List.flatten_nil, List.cons_append, List.nil_append, List.append_nil]
  after_reads_simp
theorem V_b : V m c main_v1 = truncf .bf16 (m (c, Proc.devRef .tc main_arg1) : FVec F S1536x1024 .f32) bitsLt_bf16_f32 := by
  unfold V
  simp only [hostOps0, List.flatten_cons, List.flatten_nil, List.cons_append, List.nil_append, List.append_nil]
  after_reads_simp

end

/-- A point's block of rows. -/
def rb (t : Fin cfg0.N) : Fin 4 := ⟨t.val / 2, by have : t.val < 8 := t.isLt; omega⟩
/-- A point's block of columns. -/
def cb (t : Fin cfg0.N) : Fin 2 := ⟨t.val % 2, by have : t.val < 8 := t.isLt; omega⟩

theorem idx : ∀ t : Fin grid0.N, win0_0.index t = ![t.val / 2, 0] ∧ win0_1.index t = ![t.val % 2, 0] ∧ win0_2.index t = ![t.val / 2, t.val % 2] := by
  decide +kernel

variable (m : (ℓ : Loc nD τ sig) → Buf (Elt Ideal) ℓ) (c : Dev nD)

section
variable (t : Fin cfg0.N) (i : Fin 1024) (j : Fin 768) (k : Fin 1024)
theorem read_a : iblk m c 0 t (ix2 i k) = m (c, Proc.devRef .tc main_arg2) (ix2 (row (rb t) i) k) := by
  refine Eq.trans (b := V m c main_v0 (ix2 (row (rb t) i) k)) ?_ (congrFun (V_a m c) _)
  have e := (idx t).1
  blk_ext [iblk, e, row, rb]
theorem read_b : iblk m c 1 t (ix2 j k) = m (c, Proc.devRef .tc main_arg1) (ix2 (col (cb t) j) k) := by
  refine Eq.trans (b := V m c main_v1 (ix2 (col (cb t) j) k)) ?_ (congrFun (V_b m c) _)
  have e := (idx t).2.1
  blk_ext [iblk, e, col, cb]
theorem emb_out : ((View.whole main_v2).slice (win0_2.rect t)).emb (ix2 i j) = ix2 (row (rb t) i) (col (cb t) j) := by
  have e := (idx t).2.2
  blk_ext [e, row, rb, col, cb]
end

/-- One block of the call. -/
theorem block (a : Vec Ideal S1024x1024 .bf16) (b : Vec Ideal S768x1024 .bf16) (i : Fin 1024) (j : Fin 768) :
    out0_2 a b (ix2 i j) = ∑ k : Fin 1024, (a (ix2 i k) : EReal) * b (ix2 j k) := by
  unfold out0_2 k0_pay1
  simp (disch := decide) only [View.canon_cons_unit_lit', View.ld_unit_lit']
  clean_types
  pointwise

theorem arr : (dats m 0 c).arrAt 2 cfg0.N = out (m (c, Proc.devRef .tc main_arg2)) (m (c, Proc.devRef .tc main_arg1)) := by
  refine (dats m 0 c).arrAt_eq_of_covers 2 _ (by decide +kernel) fun t hf y => ?_
  blk_simp
  rw [after0_2]
  idx_vars y
  rw [emb_out]
  refine (block _ _ y0 y1).trans ?_
  simp only [read_a, read_b]
  rfl

end Cert.DmixedIdeal.Dense

namespace Cert.DmixedRefIdeal.Dense

open Idealize.ShloMosaic Idealize.ShloMosaic.TcCoe Idealize.SL.Sem
open Cert.DmixedRefIdeal Cert.DmixedRefIdeal.Gen

variable (ct : FVec Ideal S4096x1024 .f32) (w : FVec Ideal S1536x1024 .f32)

/-- The reference's result. -/
def ref : FVec Ideal S4096x1536 .f32 :=
  Host.dotGeneral dot_S4096x1024_S1536x1024_S4096x1536_1_1_0_0_n_n none ct w

theorem ref_eq : ref ct w = Cert.DmixedIdeal.Dense.out ct w := by
  funext y
  idx_vars y
  unfold ref Cert.DmixedIdeal.Dense.out
  clean_types
  pointwise

end Cert.DmixedRefIdeal.Dense

end
-- ==== Proof.Dense.DwO.lean ====
/-
  The gradient of the mixing weight: the call `mm_dw_o` block by block, and the reference.
-/
module

public import proofs.«01_k».proof.Defs
public import proofs.«01_k».proof.Proof.Gen.DwOIdeal.Value
public import proofs.«01_k».proof.Proof.Gen.DwORefIdeal.Run
public import Idealize.ShloMosaic.Lib.StableHlo.ReadAt
public import Idealize.ShloMosaic.Lib.Pipeline.ValueKit
public import Idealize.ShloMosaic.Lib.Pointwise
public import Idealize.ShloMosaic.Lib.Tactic.CleanTypes

@[expose] public section

set_option synthInstance.maxSize 4096
set_option maxRecDepth 16384

noncomputable section

namespace Cert.DwOIdeal.Dense

open Idealize.ShloMosaic Idealize.ShloMosaic.TcCoe Idealize.SL.Sem
open Idealize.ShloMosaic.Pipeline (Dat Cfg Window)
open Cert.DwOIdeal.Gen

/-- Row `r` of the block `b` of rows. -/
def row (b : Fin 2) (r : Fin 768) : Fin 1536 := ⟨b.val * 768 + r.val, by omega⟩

/-- The product. -/
def out (x : FVec Ideal S4096x1536 .f32) (ct : FVec Ideal S4096x1024 .f32) : FVec Ideal S1536x1024 .bf16 := fun y =>
  ∑ k : Fin 4096, (x (ix2 k (y 0)) : EReal) * ct (ix2 k (y 1))

section
variable {F : FTy → Type} [FloatOps F] (m : (ℓ : Loc nD τ sig) → Buf (Elt F) ℓ) (c : Dev nD)

theorem V_a : V m c main_v0 = truncf .bf16 (m (c, Proc.devRef .tc main_arg0) : FVec F S4096x1536 .f32) bitsLt_bf16_f32 := by
  unfold V
  simp only [hostOps0, List.flatten_cons, List.flatten_nil, List.cons_append, List.nil_append, List.append_nil]
  after_reads_simp
theorem V_b : V m c main_v1 = truncf .bf16 (m (c, Proc.devRef .tc main_arg2) : FVec F S4096x1024 .f32) bitsLt_bf16_f32 := by
  unfold V
  simp only [hostOps0, List.flatten_cons, List.flatten_nil, List.cons_append, List.nil_append, List.append_nil]
  after_reads_simp

end

/-- A point's block of rows. -/
def rb (t : Fin cfg0.N) : Fin 2 := ⟨t.val, by have : t.val < 2 := t.isLt; omega⟩

theorem idx : ∀ t : Fin grid0.N, win0_0.index t = ![0, t.val] ∧ win0_1.index t = ![0, 0] ∧ win0_2.index t = ![t.val, 0] := by
  decide +kernel

variable (m : (ℓ : Loc nD τ sig) → Buf (Elt Ideal) ℓ) (c : Dev nD)

section
variable (t : Fin cfg0.N) (i : Fin 768) (j : Fin 1024) (k : Fin 4096)
theorem read_a : iblk m c 0 t (ix2 k i) = m (c, Proc.devRef .tc main_arg0) (ix2 k (row (rb t) i)) := by
  refine Eq.trans (b := V m c main_v0 (ix2 k (row (rb t) i))) ?_ (congrFun (V_a m c) _)
  have e := (idx t).1
  blk_ext [iblk, e, row, rb]
theorem read_b : iblk m c 1 t (ix2 k j) = m (c, Proc.devRef .tc main_arg2) (ix2 k j) := by
  refine Eq.trans (b := V m c main_v1 (ix2 k j)) ?_ (congrFun (V_b m c) _)
  have e := (idx t).2.1
  blk_ext [iblk, e]
theorem emb_out : ((View.whole main_v2).slice (win0_2.rect t)).emb (ix2 i j) = ix2 (row (rb t) i) j := by
  have e := (idx t).2.2
  blk_ext [e, row, rb]
end

/-- One block of the call. -/
theorem block (a : Vec Ideal S4096x768 .bf16) (b : Vec Ideal S4096x1024 .bf16) (i : Fin 768) (j : Fin 1024) :
    out0_2 a b (ix2 i j) = ∑ k : Fin 4096, (a (ix2 k i) : EReal) * b (ix2 k j) := by
  unfold out0_2 k0_pay1
  simp (disch := decide) only [View.canon_cons_unit_lit', View.ld_unit_lit']
  clean_types
  pointwise

theorem arr : (dats m 0 c).arrAt 2 cfg0.N = out (m (c, Proc.devRef .tc main_arg0)) (m (c, Proc.devRef .tc main_arg2)) := by
  refine (dats m 0 c).arrAt_eq_of_covers 2 _ (by decide +kernel) fun t hf y => ?_
  blk_simp
  rw [after0_2]
  idx_vars y
  rw [emb_out]
  refine (block _ _ y0 y1).trans ?_
  simp only [read_a, read_b]
  rfl

end Cert.DwOIdeal.Dense

namespace Cert.DwORefIdeal.Dense

open Idealize.ShloMosaic Idealize.ShloMosaic.TcCoe Idealize.SL.Sem
open Cert.DwORefIdeal Cert.DwORefIdeal.Gen

variable (x : FVec Ideal S4096x1536 .f32) (ct : FVec Ideal S4096x1024 .f32)

/-- The reference's result. -/
def ref : FVec Ideal S1536x1024 .bf16 :=
  truncf .bf16 (transpose S1536x1024 [1, 0] (Host.dotGeneral dot_S4096x1024_S4096x1536_S1024x1536_0_0_1_1_n_n none ct x) transposes_S1024x1536_S1536x1024_1_0) bitsLt_bf16_f32

theorem ref_eq : ref x ct = Cert.DwOIdeal.Dense.out x ct := by
  funext y
  idx_vars y
  unfold ref Cert.DwOIdeal.Dense.out
  clean_types
  pointwise
  exact Finset.sum_congr rfl fun s _ => mul_comm _ _

end Cert.DwORefIdeal.Dense

end
-- ==== Proof.Dense.In.lean ====
/-
  The first product of a layer: the call `mm_in` block by block, and the reference.
-/
module

public import proofs.«01_k».proof.Defs
public import proofs.«01_k».proof.Proof.Gen.InIdeal.Value
public import proofs.«01_k».proof.Proof.Gen.InRefIdeal.Run
public import Idealize.ShloMosaic.Lib.StableHlo.ReadAt
public import Idealize.ShloMosaic.Lib.Pipeline.ValueKit
public import Idealize.ShloMosaic.Lib.Pointwise
public import Idealize.ShloMosaic.Lib.Tactic.CleanTypes

@[expose] public section

set_option synthInstance.maxSize 4096
set_option maxRecDepth 16384

noncomputable section

namespace Cert.InIdeal.Dense

open Idealize.ShloMosaic Idealize.ShloMosaic.TcCoe Idealize.SL.Sem
open Idealize.ShloMosaic.Pipeline (Dat Cfg Window)
open Cert.InIdeal.Gen

/-- Row `r` of the block `b` of rows. -/
def row (b : Fin 4) (r : Fin 1024) : Fin 4096 := ⟨b.val * 1024 + r.val, by omega⟩

/-- Column `r` of the block `b` of columns. -/
def col (b : Fin 3) (r : Fin 768) : Fin 2304 := ⟨b.val * 768 + r.val, by omega⟩

/-- The product. -/
def out (x : FVec Ideal S4096x1024 .f32) (w : FVec Ideal S1024x2304 .f32) : FVec Ideal S4096x2304 .f32 := fun y =>
  ∑ k : Fin 1024, (x (ix2 (y 0) k) : EReal) * w (ix2 k (y 1))

section
variable {F : FTy → Type} [FloatOps F] (m : (ℓ : Loc nD τ sig) → Buf (Elt F) ℓ) (c : Dev nD)

theorem V_a : V m c main_v0 = truncf .bf16 (m (c, Proc.devRef .tc main_arg0) : FVec F S4096x1024 .f32) bitsLt_bf16_f32 := by
  unfold V
  simp only [hostOps0, List.flatten_cons, List.flatten_nil, List.cons_append, List.nil_append, List.append_nil]
  after_reads_simp
theorem V_b : V m c main_v1 = truncf .bf16 (m (c, Proc.devRef .tc main_arg1) : FVec F S1024x2304 .f32) bitsLt_bf16_f32 := by
  unfold V
  simp only [hostOps0, List.flatten_cons, List.flatten_nil, List.cons_append, List.nil_append, List.append_nil]
  after_reads_simp

end

/-- A point's block of rows. -/
def rb (t : Fin cfg0.N) : Fin 4 := ⟨t.val / 3, by have : t.val < 12 := t.isLt; omega⟩
/-- A point's block of columns. -/
def cb (t : Fin cfg0.N) : Fin 3 := ⟨t.val % 3, by have : t.val < 12 := t.isLt; omega⟩

theorem idx : ∀ t : Fin grid0.N, win0_0.index t = ![t.val / 3, 0] ∧ win0_1.index t = ![0, t.val % 3] ∧ win0_2.index t = ![t.val / 3, t.val % 3] := by
  decide +kernel

variable (m : (ℓ : Loc nD τ sig) → Buf (Elt Ideal) ℓ) (c : Dev nD)

section
variable (t : Fin cfg0.N) (i : Fin 1024) (j : Fin 768) (k : Fin 1024)
theorem read_a : iblk m c 0 t (ix2 i k) = m (c, Proc.devRef .tc main_arg0) (ix2 (row (rb t) i) k) := by
  refine Eq.trans (b := V m c main_v0 (ix2 (row (rb t) i) k)) ?_ (congrFun (V_a m c) _)
  have e := (idx t).1
  blk_ext [iblk, e, row, rb]
theorem read_b : iblk m c 1 t (ix2 k j) = m (c, Proc.devRef .tc main_arg1) (ix2 k (col (cb t) j)) := by
  refine Eq.trans (b := V m c main_v1 (ix2 k (col (cb t) j))) ?_ (congrFun (V_b m c) _)
  have e := (idx t).2.1
  blk_ext [iblk, e, col, cb]
theorem emb_out : ((View.whole main_v2).slice (win0_2.rect t)).emb (ix2 i j) = ix2 (row (rb t) i) (col (cb t) j) := by
  have e := (idx t).2.2
  blk_ext [e, row, rb, col, cb]
end

/-- One block of the call. -/
theorem block (a : Vec Ideal S1024x1024 .bf16) (b : Vec Ideal S1024x768 .bf16) (i : Fin 1024) (j : Fin 768) :
    out0_2 a b (ix2 i j) = ∑ k : Fin 1024, (a (ix2 i k) : EReal) * b (ix2 k j) := by
  unfold out0_2 k0_pay1
  simp (disch := decide) only [View.canon_cons_unit_lit', View.ld_unit_lit']
  clean_types
  pointwise

theorem arr : (dats m 0 c).arrAt 2 cfg0.N = out (m (c, Proc.devRef .tc main_arg0)) (m (c, Proc.devRef .tc main_arg1)) := by
  refine (dats m 0 c).arrAt_eq_of_covers 2 _ (by decide +kernel) fun t hf y => ?_
  blk_simp
  rw [after0_2]
  idx_vars y
  rw [emb_out]
  refine (block _ _ y0 y1).trans ?_
  simp only [read_a, read_b]
  rfl

end Cert.InIdeal.Dense

namespace Cert.InRefIdeal.Dense

open Idealize.ShloMosaic Idealize.ShloMosaic.TcCoe Idealize.SL.Sem
open Cert.InRefIdeal Cert.InRefIdeal.Gen

variable (x : FVec Ideal S4096x1024 .f32) (w : FVec Ideal S1024x2304 .f32)

/-- The reference's result. -/
def ref : FVec Ideal S4096x2304 .f32 :=
  Host.dotGeneral dot_S4096x1024_S1024x2304_S4096x2304_1_0_0_1_n_n none x w

theorem ref_eq : ref x w = Cert.InIdeal.Dense.out x w := by
  funext y
  idx_vars y
  unfold ref Cert.InIdeal.Dense.out
  clean_types
  pointwise

end Cert.InRefIdeal.Dense

end
-- ==== Proof.Dense.DwIn.lean ====
/-
  The gradient of the layer's first weight: the call `mm_dw_in` block by block, and the reference.
-/
module

public import proofs.«01_k».proof.Defs
public import proofs.«01_k».proof.Proof.Gen.DwInIdeal.Value
public import proofs.«01_k».proof.Proof.Gen.DwInRefIdeal.Run
public import Idealize.ShloMosaic.Lib.StableHlo.ReadAt
public import Idealize.ShloMosaic.Lib.Pipeline.ValueKit
public import Idealize.ShloMosaic.Lib.Pointwise
public import Idealize.ShloMosaic.Lib.Tactic.CleanTypes

@[expose] public section

set_option synthInstance.maxSize 4096
set_option maxRecDepth 16384

noncomputable section

namespace Cert.DwInIdeal.Dense

open Idealize.ShloMosaic Idealize.ShloMosaic.TcCoe Idealize.SL.Sem
open Idealize.ShloMosaic.Pipeline (Dat Cfg Window)
open Cert.DwInIdeal.Gen

/-- Column `r` of the block `b` of columns. -/
def col (b : Fin 3) (r : Fin 768) : Fin 2304 := ⟨b.val * 768 + r.val, by omega⟩

/-- The product. -/
def out (x : FVec Ideal S4096x1024 .f32) (ct : FVec Ideal S4096x2304 .f32) : FVec Ideal S1024x2304 .bf16 := fun y =>
  ∑ k : Fin 4096, (x (ix2 k (y 0)) : EReal) * ct (ix2 k (y 1))

section
variable {F : FTy → Type} [FloatOps F] (m : (ℓ : Loc nD τ sig) → Buf (Elt F) ℓ) (c : Dev nD)

theorem V_a : V m c main_v0 = truncf .bf16 (m (c, Proc.devRef .tc main_arg0) : FVec F S4096x1024 .f32) bitsLt_bf16_f32 := by
  unfold V
  simp only [hostOps0, List.flatten_cons, List.flatten_nil, List.cons_append, List.nil_append, List.append_nil]
  after_reads_simp
theorem V_b : V m c main_v1 = truncf .bf16 (m (c, Proc.devRef .tc main_arg2) : FVec F S4096x2304 .f32) bitsLt_bf16_f32 := by
  unfold V
  simp only [hostOps0, List.flatten_cons, List.flatten_nil, List.cons_append, List.nil_append, List.append_nil]
  after_reads_simp

end

/-- A point's block of columns. -/
def cb (t : Fin cfg0.N) : Fin 3 := ⟨t.val, by have : t.val < 3 := t.isLt; omega⟩

theorem idx : ∀ t : Fin grid0.N, win0_0.index t = ![0, 0] ∧ win0_1.index t = ![0, t.val] ∧ win0_2.index t = ![0, t.val] := by
  decide +kernel

variable (m : (ℓ : Loc nD τ sig) → Buf (Elt Ideal) ℓ) (c : Dev nD)

section
variable (t : Fin cfg0.N) (i : Fin 1024) (j : Fin 768) (k : Fin 4096)
theorem read_a : iblk m c 0 t (ix2 k i) = m (c, Proc.devRef .tc main_arg0) (ix2 k i) := by
  refine Eq.trans (b := V m c main_v0 (ix2 k i)) ?_ (congrFun (V_a m c) _)
  have e := (idx t).1
  blk_ext [iblk, e]
theorem read_b : iblk m c 1 t (ix2 k j) = m (c, Proc.devRef .tc main_arg2) (ix2 k (col (cb t) j)) := by
  refine Eq.trans (b := V m c main_v1 (ix2 k (col (cb t) j))) ?_ (congrFun (V_b m c) _)
  have e := (idx t).2.1
  blk_ext [iblk, e, col, cb]
theorem emb_out : ((View.whole main_v2).slice (win0_2.rect t)).emb (ix2 i j) = ix2 i (col (cb t) j) := by
  have e := (idx t).2.2
  blk_ext [e, col, cb]
end

/-- One block of the call. -/
theorem block (a : Vec Ideal S4096x1024 .bf16) (b : Vec Ideal S4096x768 .bf16) (i : Fin 1024) (j : Fin 768) :
    out0_2 a b (ix2 i j) = ∑ k : Fin 4096, (a (ix2 k i) : EReal) * b (ix2 k j) := by
  unfold out0_2 k0_pay1
  simp (disch := decide) only [View.canon_cons_unit_lit', View.ld_unit_lit']
  clean_types
  pointwise

theorem arr : (dats m 0 c).arrAt 2 cfg0.N = out (m (c, Proc.devRef .tc main_arg0)) (m (c, Proc.devRef .tc main_arg2)) := by
  refine (dats m 0 c).arrAt_eq_of_covers 2 _ (by decide +kernel) fun t hf y => ?_
  blk_simp
  rw [after0_2]
  idx_vars y
  rw [emb_out]
  refine (block _ _ y0 y1).trans ?_
  simp only [read_a, read_b]
  rfl

end Cert.DwInIdeal.Dense

namespace Cert.DwInRefIdeal.Dense

open Idealize.ShloMosaic Idealize.ShloMosaic.TcCoe Idealize.SL.Sem
open Cert.DwInRefIdeal Cert.DwInRefIdeal.Gen

variable (x : FVec Ideal S4096x1024 .f32) (ct : FVec Ideal S4096x2304 .f32)

/-- The reference's result. -/
def ref : FVec Ideal S1024x2304 .bf16 :=
  truncf .bf16 (transpose S1024x2304 [1, 0] (Host.dotGeneral dot_S4096x2304_S4096x1024_S2304x1024_0_0_1_1_n_n none ct x) transposes_S2304x1024_S1024x2304_1_0) bitsLt_bf16_f32

theorem ref_eq : ref x ct = Cert.DwInIdeal.Dense.out x ct := by
  funext y
  idx_vars y
  unfold ref Cert.DwInIdeal.Dense.out
  clean_types
  pointwise
  exact Finset.sum_congr rfl fun s _ => mul_comm _ _

end Cert.DwInRefIdeal.Dense

end
-- ==== Proof.Dense.Uq.lean ====
/-
  The product that makes the queries: the call `mm_uq` block by block, and the reference.
-/
module

public import proofs.«01_k».proof.Defs
public import proofs.«01_k».proof.Proof.Gen.UqIdeal.Value
public import proofs.«01_k».proof.Proof.Gen.UqRefIdeal.Run
public import Idealize.ShloMosaic.Lib.StableHlo.ReadAt
public import Idealize.ShloMosaic.Lib.Pipeline.ValueKit
public import Idealize.ShloMosaic.Lib.Pointwise
public import Idealize.ShloMosaic.Lib.Tactic.CleanTypes

@[expose] public section

set_option synthInstance.maxSize 4096
set_option maxRecDepth 16384

noncomputable section

namespace Cert.UqIdeal.Dense

open Idealize.ShloMosaic Idealize.ShloMosaic.TcCoe Idealize.SL.Sem
open Idealize.ShloMosaic.Pipeline (Dat Cfg Window)
open Cert.UqIdeal.Gen

/-- Row `r` of the block `b` of rows. -/
def row (b : Fin 4) (r : Fin 1024) : Fin 4096 := ⟨b.val * 1024 + r.val, by omega⟩

/-- The product. -/
def out (x : FVec Ideal S4096x384 .f32) (w : FVec Ideal S384x1024 .f32) : FVec Ideal S4096x1024 .f32 := fun y =>
  ∑ k : Fin 384, (x (ix2 (y 0) k) : EReal) * w (ix2 k (y 1))

section
variable {F : FTy → Type} [FloatOps F] (m : (ℓ : Loc nD τ sig) → Buf (Elt F) ℓ) (c : Dev nD)

theorem V_a : V m c main_v0 = truncf .bf16 (m (c, Proc.devRef .tc main_arg0) : FVec F S4096x384 .f32) bitsLt_bf16_f32 := by
  unfold V
  simp only [hostOps0, List.flatten_cons, List.flatten_nil, List.cons_append, List.nil_append, List.append_nil]
  after_reads_simp
theorem V_b : V m c main_v1 = truncf .bf16 (m (c, Proc.devRef .tc main_arg1) : FVec F S384x1024 .f32) bitsLt_bf16_f32 := by
  unfold V
  simp only [hostOps0, List.flatten_cons, List.flatten_nil, List.cons_append, List.nil_append, List.append_nil]
  after_reads_simp

end

/-- A point's block of rows. -/
def rb (t : Fin cfg0.N) : Fin 4 := ⟨t.val, by have : t.val < 4 := t.isLt; omega⟩

theorem idx : ∀ t : Fin grid0.N, win0_0.index t = ![t.val, 0] ∧ win0_1.index t = ![0, 0] ∧ win0_2.index t = ![t.val, 0] := by
  decide +kernel

variable (m : (ℓ : Loc nD τ sig) → Buf (Elt Ideal) ℓ) (c : Dev nD)

section
variable (t : Fin cfg0.N) (i : Fin 1024) (j : Fin 1024) (k : Fin 384)
theorem read_a : iblk m c 0 t (ix2 i k) = m (c, Proc.devRef .tc main_arg0) (ix2 (row (rb t) i) k) := by
  refine Eq.trans (b := V m c main_v0 (ix2 (row (rb t) i) k)) ?_ (congrFun (V_a m c) _)
  have e := (idx t).1
  blk_ext [iblk, e, row, rb]
theorem read_b : iblk m c 1 t (ix2 k j) = m (c, Proc.devRef .tc main_arg1) (ix2 k j) := by
  refine Eq.trans (b := V m c main_v1 (ix2 k j)) ?_ (congrFun (V_b m c) _)
  have e := (idx t).2.1
  blk_ext [iblk, e]
theorem emb_out : ((View.whole main_v2).slice (win0_2.rect t)).emb (ix2 i j) = ix2 (row (rb t) i) j := by
  have e := (idx t).2.2
  blk_ext [e, row, rb]
end

/-- One block of the call. -/
theorem block (a : Vec Ideal S1024x384 .bf16) (b : Vec Ideal S384x1024 .bf16) (i : Fin 1024) (j : Fin 1024) :
    out0_2 a b (ix2 i j) = ∑ k : Fin 384, (a (ix2 i k) : EReal) * b (ix2 k j) := by
  unfold out0_2 k0_pay1
  simp (disch := decide) only [View.canon_cons_unit_lit', View.ld_unit_lit']
  clean_types
  pointwise

theorem arr : (dats m 0 c).arrAt 2 cfg0.N = out (m (c, Proc.devRef .tc main_arg0)) (m (c, Proc.devRef .tc main_arg1)) := by
  refine (dats m 0 c).arrAt_eq_of_covers 2 _ (by decide +kernel) fun t hf y => ?_
  blk_simp
  rw [after0_2]
  idx_vars y
  rw [emb_out]
  refine (block _ _ y0 y1).trans ?_
  simp only [read_a, read_b]
  rfl

end Cert.UqIdeal.Dense

namespace Cert.UqRefIdeal.Dense

open Idealize.ShloMosaic Idealize.ShloMosaic.TcCoe Idealize.SL.Sem
open Cert.UqRefIdeal Cert.UqRefIdeal.Gen

variable (x : FVec Ideal S4096x384 .f32) (w : FVec Ideal S384x1024 .f32)

/-- The reference's result. -/
def ref : FVec Ideal S4096x1024 .f32 :=
  Host.dotGeneral dot_S4096x384_S384x1024_S4096x1024_1_0_0_1_n_n none x w

theorem ref_eq : ref x w = Cert.UqIdeal.Dense.out x w := by
  funext y
  idx_vars y
  unfold ref Cert.UqIdeal.Dense.out
  clean_types
  pointwise

end Cert.UqRefIdeal.Dense

end
-- ==== Proof.Dense.Dqln.lean ====
/-
  The gradient of the queries' latent: the call `mm_dqln` block by block, and the reference.
-/
module

public import proofs.«01_k».proof.Defs
public import proofs.«01_k».proof.Proof.Gen.DqlnIdeal.Value
public import proofs.«01_k».proof.Proof.Gen.DqlnRefIdeal.Run
public import Idealize.ShloMosaic.Lib.StableHlo.ReadAt
public import Idealize.ShloMosaic.Lib.Pipeline.ValueKit
public import Idealize.ShloMosaic.Lib.Pointwise
public import Idealize.ShloMosaic.Lib.Tactic.CleanTypes

@[expose] public section

set_option synthInstance.maxSize 4096
set_option maxRecDepth 16384

noncomputable section

namespace Cert.DqlnIdeal.Dense

open Idealize.ShloMosaic Idealize.ShloMosaic.TcCoe Idealize.SL.Sem
open Idealize.ShloMosaic.Pipeline (Dat Cfg Window)
open Cert.DqlnIdeal.Gen

/-- Row `r` of the block `b` of rows. -/
def row (b : Fin 4) (r : Fin 1024) : Fin 4096 := ⟨b.val * 1024 + r.val, by omega⟩

/-- The product. -/
def out (ct : FVec Ideal S4096x1024 .f32) (w : FVec Ideal S384x1024 .f32) : FVec Ideal S4096x384 .f32 := fun y =>
  ∑ k : Fin 1024, (ct (ix2 (y 0) k) : EReal) * w (ix2 (y 1) k)

section
variable {F : FTy → Type} [FloatOps F] (m : (ℓ : Loc nD τ sig) → Buf (Elt F) ℓ) (c : Dev nD)

theorem V_a : V m c main_v0 = truncf .bf16 (m (c, Proc.devRef .tc main_arg2) : FVec F S4096x1024 .f32) bitsLt_bf16_f32 := by
  unfold V
  simp only [hostOps0, List.flatten_cons, List.flatten_nil, List.cons_append, List.nil_append, List.append_nil]
  after_reads_simp
theorem V_b : V m c main_v1 = truncf .bf16 (m (c, Proc.devRef .tc main_arg1) : FVec F S384x1024 .f32) bitsLt_bf16_f32 := by
  unfold V
  simp only [hostOps0, List.flatten_cons, List.flatten_nil, List.cons_append, List.nil_append, List.append_nil]
  after_reads_simp

end

/-- A point's block of rows. -/
def rb (t : Fin cfg0.N) : Fin 4 := ⟨t.val, by have : t.val < 4 := t.isLt; omega⟩

theorem idx : ∀ t : Fin grid0.N, win0_0.index t = ![t.val, 0] ∧ win0_1.index t = ![0, 0] ∧ win0_2.index t = ![t.val, 0] := by
  decide +kernel

variable (m : (ℓ : Loc nD τ sig) → Buf (Elt Ideal) ℓ) (c : Dev nD)

section
variable (t : Fin cfg0.N) (i : Fin 1024) (j : Fin 384) (k : Fin 1024)
theorem read_a : iblk m c 0 t (ix2 i k) = m (c, Proc.devRef .tc main_arg2) (ix2 (row (rb t) i) k) := by
  refine Eq.trans (b := V m c main_v0 (ix2 (row (rb t) i) k)) ?_ (congrFun (V_a m c) _)
  have e := (idx t).1
  blk_ext [iblk, e, row, rb]
theorem read_b : iblk m c 1 t (ix2 j k) = m (c, Proc.devRef .tc main_arg1) (ix2 j k) := by
  refine Eq.trans (b := V m c main_v1 (ix2 j k)) ?_ (congrFun (V_b m c) _)
  have e := (idx t).2.1
  blk_ext [iblk, e]
theorem emb_out : ((View.whole main_v2).slice (win0_2.rect t)).emb (ix2 i j) = ix2 (row (rb t) i) j := by
  have e := (idx t).2.2
  blk_ext [e, row, rb]
end

/-- One block of the call. -/
theorem block (a : Vec Ideal S1024x1024 .bf16) (b : Vec Ideal S384x1024 .bf16) (i : Fin 1024) (j : Fin 384) :
    out0_2 a b (ix2 i j) = ∑ k : Fin 1024, (a (ix2 i k) : EReal) * b (ix2 j k) := by
  unfold out0_2 k0_pay1
  simp (disch := decide) only [View.canon_cons_unit_lit', View.ld_unit_lit']
  clean_types
  pointwise

theorem arr : (dats m 0 c).arrAt 2 cfg0.N = out (m (c, Proc.devRef .tc main_arg2)) (m (c, Proc.devRef .tc main_arg1)) := by
  refine (dats m 0 c).arrAt_eq_of_covers 2 _ (by decide +kernel) fun t hf y => ?_
  blk_simp
  rw [after0_2]
  idx_vars y
  rw [emb_out]
  refine (block _ _ y0 y1).trans ?_
  simp only [read_a, read_b]
  rfl

end Cert.DqlnIdeal.Dense

namespace Cert.DqlnRefIdeal.Dense

open Idealize.ShloMosaic Idealize.ShloMosaic.TcCoe Idealize.SL.Sem
open Cert.DqlnRefIdeal Cert.DqlnRefIdeal.Gen

variable (ct : FVec Ideal S4096x1024 .f32) (w : FVec Ideal S384x1024 .f32)

/-- The reference's result. -/
def ref : FVec Ideal S4096x384 .f32 :=
  Host.dotGeneral dot_S4096x1024_S384x1024_S4096x384_1_1_0_0_n_n none ct w

theorem ref_eq : ref ct w = Cert.DqlnIdeal.Dense.out ct w := by
  funext y
  idx_vars y
  unfold ref Cert.DqlnIdeal.Dense.out
  clean_types
  pointwise

end Cert.DqlnRefIdeal.Dense

end
-- ==== Proof.Dense.DwUq.lean ====
/-
  The gradient of the queries' weight: the call `mm_dw_uq`, one block, and the reference.
-/
module

public import proofs.«01_k».proof.Defs
public import proofs.«01_k».proof.Proof.Gen.DwUqIdeal.Value
public import proofs.«01_k».proof.Proof.Gen.DwUqRefIdeal.Run
public import Idealize.ShloMosaic.Lib.StableHlo.ReadAt
public import Idealize.ShloMosaic.Lib.Pipeline.ValueKit
public import Idealize.ShloMosaic.Lib.Pointwise
public import Idealize.ShloMosaic.Lib.Tactic.CleanTypes

@[expose] public section

set_option synthInstance.maxSize 4096
set_option maxRecDepth 16384

noncomputable section

namespace Cert.DwUqIdeal.Dense

open Idealize.ShloMosaic Idealize.ShloMosaic.TcCoe Idealize.SL.Sem
open Idealize.ShloMosaic.Pipeline (Dat Cfg Window)
open Cert.DwUqIdeal.Gen

/-- The product. -/
def out (x : FVec Ideal S4096x384 .f32) (ct : FVec Ideal S4096x1024 .f32) : FVec Ideal S384x1024 .bf16 := fun y =>
  ∑ k : Fin 4096, (x (ix2 k (y 0)) : EReal) * ct (ix2 k (y 1))

section
variable {F : FTy → Type} [FloatOps F] (m : (ℓ : Loc nD τ sig) → Buf (Elt F) ℓ) (c : Dev nD)

theorem V_a : V m c main_v0 = truncf .bf16 (m (c, Proc.devRef .tc main_arg0) : FVec F S4096x384 .f32) bitsLt_bf16_f32 := by
  unfold V
  simp only [hostOps0, List.flatten_cons, List.flatten_nil, List.cons_append, List.nil_append, List.append_nil]
  after_reads_simp
theorem V_b : V m c main_v1 = truncf .bf16 (m (c, Proc.devRef .tc main_arg2) : FVec F S4096x1024 .f32) bitsLt_bf16_f32 := by
  unfold V
  simp only [hostOps0, List.flatten_cons, List.flatten_nil, List.cons_append, List.nil_append, List.append_nil]
  after_reads_simp

end

theorem idx : ∀ t : Fin grid0.N, win0_0.index t = ![0, 0] ∧ win0_1.index t = ![0, 0] ∧ win0_2.index t = ![0, 0] := by
  decide +kernel

variable (m : (ℓ : Loc nD τ sig) → Buf (Elt Ideal) ℓ) (c : Dev nD)

section
variable (t : Fin cfg0.N) (i : Fin 384) (j : Fin 1024) (k : Fin 4096)
theorem read_a : iblk m c 0 t (ix2 k i) = m (c, Proc.devRef .tc main_arg0) (ix2 k i) := by
  refine Eq.trans (b := V m c main_v0 (ix2 k i)) ?_ (congrFun (V_a m c) _)
  have e := (idx t).1
  blk_ext [iblk, e]
theorem read_b : iblk m c 1 t (ix2 k j) = m (c, Proc.devRef .tc main_arg2) (ix2 k j) := by
  refine Eq.trans (b := V m c main_v1 (ix2 k j)) ?_ (congrFun (V_b m c) _)
  have e := (idx t).2.1
  blk_ext [iblk, e]
theorem emb_out : ((View.whole main_v2).slice (win0_2.rect t)).emb (ix2 i j) = ix2 i j := by
  have e := (idx t).2.2
  blk_ext [e]
end

/-- One block of the call. -/
theorem block (a : Vec Ideal S4096x384 .bf16) (b : Vec Ideal S4096x1024 .bf16) (i : Fin 384) (j : Fin 1024) :
    out0_2 a b (ix2 i j) = ∑ k : Fin 4096, (a (ix2 k i) : EReal) * b (ix2 k j) := by
  unfold out0_2 k0_pay1
  simp (disch := decide) only [View.canon_cons_unit_lit', View.ld_unit_lit']
  clean_types
  pointwise

theorem arr : (dats m 0 c).arrAt 2 cfg0.N = out (m (c, Proc.devRef .tc main_arg0)) (m (c, Proc.devRef .tc main_arg2)) := by
  refine (dats m 0 c).arrAt_eq_of_covers 2 _ (by decide +kernel) fun t hf y => ?_
  blk_simp
  rw [after0_2]
  idx_vars y
  rw [emb_out]
  refine (block _ _ y0 y1).trans ?_
  simp only [read_a, read_b]
  rfl

end Cert.DwUqIdeal.Dense

namespace Cert.DwUqRefIdeal.Dense

open Idealize.ShloMosaic Idealize.ShloMosaic.TcCoe Idealize.SL.Sem
open Cert.DwUqRefIdeal Cert.DwUqRefIdeal.Gen

variable (x : FVec Ideal S4096x384 .f32) (ct : FVec Ideal S4096x1024 .f32)

/-- The reference's result. -/
def ref : FVec Ideal S384x1024 .bf16 :=
  truncf .bf16 (transpose S384x1024 [1, 0] (Host.dotGeneral dot_S4096x1024_S4096x384_S1024x384_0_0_1_1_n_n none ct x) transposes_S1024x384_S384x1024_1_0) bitsLt_bf16_f32

theorem ref_eq : ref x ct = Cert.DwUqIdeal.Dense.out x ct := by
  funext y
  idx_vars y
  unfold ref Cert.DwUqIdeal.Dense.out
  clean_types
  pointwise
  exact Finset.sum_congr rfl fun s _ => mul_comm _ _

end Cert.DwUqRefIdeal.Dense

end
-- ==== Proof.Dense.Ukv.lean ====
/-
  The product that makes the keys and values: the call `mm_ukv` block by block, and the reference.
-/
module

public import proofs.«01_k».proof.Defs
public import proofs.«01_k».proof.Proof.Gen.UkvIdeal.Value
public import proofs.«01_k».proof.Proof.Gen.UkvRefIdeal.Run
public import Idealize.ShloMosaic.Lib.StableHlo.ReadAt
public import Idealize.ShloMosaic.Lib.Pipeline.ValueKit
public import Idealize.ShloMosaic.Lib.Pointwise
public import Idealize.ShloMosaic.Lib.Tactic.CleanTypes

@[expose] public section

set_option synthInstance.maxSize 4096
set_option maxRecDepth 16384

noncomputable section

namespace Cert.UkvIdeal.Dense

open Idealize.ShloMosaic Idealize.ShloMosaic.TcCoe Idealize.SL.Sem
open Idealize.ShloMosaic.Pipeline (Dat Cfg Window)
open Cert.UkvIdeal.Gen

/-- Row `r` of the block `b` of rows. -/
def row (b : Fin 4) (r : Fin 1024) : Fin 4096 := ⟨b.val * 1024 + r.val, by omega⟩

/-- Column `r` of the block `b` of columns. -/
def col (b : Fin 2) (r : Fin 1024) : Fin 2048 := ⟨b.val * 1024 + r.val, by omega⟩

/-- The product. -/
def out (x : FVec Ideal S4096x256 .f32) (w : FVec Ideal S256x2048 .f32) : FVec Ideal S4096x2048 .f32 := fun y =>
  ∑ k : Fin 256, (x (ix2 (y 0) k) : EReal) * w (ix2 k (y 1))

section
variable {F : FTy → Type} [FloatOps F] (m : (ℓ : Loc nD τ sig) → Buf (Elt F) ℓ) (c : Dev nD)

theorem V_a : V m c main_v0 = truncf .bf16 (m (c, Proc.devRef .tc main_arg0) : FVec F S4096x256 .f32) bitsLt_bf16_f32 := by
  unfold V
  simp only [hostOps0, List.flatten_cons, List.flatten_nil, List.cons_append, List.nil_append, List.append_nil]
  after_reads_simp
theorem V_b : V m c main_v1 = truncf .bf16 (m (c, Proc.devRef .tc main_arg1) : FVec F S256x2048 .f32) bitsLt_bf16_f32 := by
  unfold V
  simp only [hostOps0, List.flatten_cons, List.flatten_nil, List.cons_append, List.nil_append, List.append_nil]
  after_reads_simp

end

/-- A point's block of rows. -/
def rb (t : Fin cfg0.N) : Fin 4 := ⟨t.val / 2, by have : t.val < 8 := t.isLt; omega⟩
/-- A point's block of columns. -/
def cb (t : Fin cfg0.N) : Fin 2 := ⟨t.val % 2, by have : t.val < 8 := t.isLt; omega⟩

theorem idx : ∀ t : Fin grid0.N, win0_0.index t = ![t.val / 2, 0] ∧ win0_1.index t = ![0, t.val % 2] ∧ win0_2.index t = ![t.val / 2, t.val % 2] := by
  decide +kernel

variable (m : (ℓ : Loc nD τ sig) → Buf (Elt Ideal) ℓ) (c : Dev nD)

section
variable (t : Fin cfg0.N) (i : Fin 1024) (j : Fin 1024) (k : Fin 256)
theorem read_a : iblk m c 0 t (ix2 i k) = m (c, Proc.devRef .tc main_arg0) (ix2 (row (rb t) i) k) := by
  refine Eq.trans (b := V m c main_v0 (ix2 (row (rb t) i) k)) ?_ (congrFun (V_a m c) _)
  have e := (idx t).1
  blk_ext [iblk, e, row, rb]
theorem read_b : iblk m c 1 t (ix2 k j) = m (c, Proc.devRef .tc main_arg1) (ix2 k (col (cb t) j)) := by
  refine Eq.trans (b := V m c main_v1 (ix2 k (col (cb t) j))) ?_ (congrFun (V_b m c) _)
  have e := (idx t).2.1
  blk_ext [iblk, e, col, cb]
theorem emb_out : ((View.whole main_v2).slice (win0_2.rect t)).emb (ix2 i j) = ix2 (row (rb t) i) (col (cb t) j) := by
  have e := (idx t).2.2
  blk_ext [e, row, rb, col, cb]
end

/-- One block of the call. -/
theorem block (a : Vec Ideal S1024x256 .bf16) (b : Vec Ideal S256x1024 .bf16) (i : Fin 1024) (j : Fin 1024) :
    out0_2 a b (ix2 i j) = ∑ k : Fin 256, (a (ix2 i k) : EReal) * b (ix2 k j) := by
  unfold out0_2 k0_pay1
  simp (disch := decide) only [View.canon_cons_unit_lit', View.ld_unit_lit']
  clean_types
  pointwise

theorem arr : (dats m 0 c).arrAt 2 cfg0.N = out (m (c, Proc.devRef .tc main_arg0)) (m (c, Proc.devRef .tc main_arg1)) := by
  refine (dats m 0 c).arrAt_eq_of_covers 2 _ (by decide +kernel) fun t hf y => ?_
  blk_simp
  rw [after0_2]
  idx_vars y
  rw [emb_out]
  refine (block _ _ y0 y1).trans ?_
  simp only [read_a, read_b]
  rfl

end Cert.UkvIdeal.Dense

namespace Cert.UkvRefIdeal.Dense

open Idealize.ShloMosaic Idealize.ShloMosaic.TcCoe Idealize.SL.Sem
open Cert.UkvRefIdeal Cert.UkvRefIdeal.Gen

variable (x : FVec Ideal S4096x256 .f32) (w : FVec Ideal S256x2048 .f32)

/-- The reference's result. -/
def ref : FVec Ideal S4096x2048 .f32 :=
  Host.dotGeneral dot_S4096x256_S256x2048_S4096x2048_1_0_0_1_n_n none x w

theorem ref_eq : ref x w = Cert.UkvIdeal.Dense.out x w := by
  funext y
  idx_vars y
  unfold ref Cert.UkvIdeal.Dense.out
  clean_types
  pointwise

end Cert.UkvRefIdeal.Dense

end
-- ==== Proof.Dense.Dkvln.lean ====
/-
  The gradient of the latent of keys and values: the call `mm_dkvln` block by block, and the reference.
-/
module

public import proofs.«01_k».proof.Defs
public import proofs.«01_k».proof.Proof.Gen.DkvlnIdeal.Value
public import proofs.«01_k».proof.Proof.Gen.DkvlnRefIdeal.Run
public import Idealize.ShloMosaic.Lib.StableHlo.ReadAt
public import Idealize.ShloMosaic.Lib.Pipeline.ValueKit
public import Idealize.ShloMosaic.Lib.Pointwise
public import Idealize.ShloMosaic.Lib.Tactic.CleanTypes

@[expose] public section

set_option synthInstance.maxSize 4096
set_option maxRecDepth 16384

noncomputable section

namespace Cert.DkvlnIdeal.Dense

open Idealize.ShloMosaic Idealize.ShloMosaic.TcCoe Idealize.SL.Sem
open Idealize.ShloMosaic.Pipeline (Dat Cfg Window)
open Cert.DkvlnIdeal.Gen

/-- Row `r` of the block `b` of rows. -/
def row (b : Fin 4) (r : Fin 1024) : Fin 4096 := ⟨b.val * 1024 + r.val, by omega⟩

/-- The product. -/
def out (ct : FVec Ideal S4096x2048 .f32) (w : FVec Ideal S256x2048 .f32) : FVec Ideal S4096x256 .f32 := fun y =>
  ∑ k : Fin 2048, (ct (ix2 (y 0) k) : EReal) * w (ix2 (y 1) k)

section
variable {F : FTy → Type} [FloatOps F] (m : (ℓ : Loc nD τ sig) → Buf (Elt F) ℓ) (c : Dev nD)

theorem V_a : V m c main_v0 = truncf .bf16 (m (c, Proc.devRef .tc main_arg2) : FVec F S4096x2048 .f32) bitsLt_bf16_f32 := by
  unfold V
  simp only [hostOps0, List.flatten_cons, List.flatten_nil, List.cons_append, List.nil_append, List.append_nil]
  after_reads_simp
theorem V_b : V m c main_v1 = truncf .bf16 (m (c, Proc.devRef .tc main_arg1) : FVec F S256x2048 .f32) bitsLt_bf16_f32 := by
  unfold V
  simp only [hostOps0, List.flatten_cons, List.flatten_nil, List.cons_append, List.nil_append, List.append_nil]
  after_reads_simp

end

/-- A point's block of rows. -/
def rb (t : Fin cfg0.N) : Fin 4 := ⟨t.val, by have : t.val < 4 := t.isLt; omega⟩

theorem idx : ∀ t : Fin grid0.N, win0_0.index t = ![t.val, 0] ∧ win0_1.index t = ![0, 0] ∧ win0_2.index t = ![t.val, 0] := by
  decide +kernel

variable (m : (ℓ : Loc nD τ sig) → Buf (Elt Ideal) ℓ) (c : Dev nD)

section
variable (t : Fin cfg0.N) (i : Fin 1024) (j : Fin 256) (k : Fin 2048)
theorem read_a : iblk m c 0 t (ix2 i k) = m (c, Proc.devRef .tc main_arg2) (ix2 (row (rb t) i) k) := by
  refine Eq.trans (b := V m c main_v0 (ix2 (row (rb t) i) k)) ?_ (congrFun (V_a m c) _)
  have e := (idx t).1
  blk_ext [iblk, e, row, rb]
theorem read_b : iblk m c 1 t (ix2 j k) = m (c, Proc.devRef .tc main_arg1) (ix2 j k) := by
  refine Eq.trans (b := V m c main_v1 (ix2 j k)) ?_ (congrFun (V_b m c) _)
  have e := (idx t).2.1
  blk_ext [iblk, e]
theorem emb_out : ((View.whole main_v2).slice (win0_2.rect t)).emb (ix2 i j) = ix2 (row (rb t) i) j := by
  have e := (idx t).2.2
  blk_ext [e, row, rb]
end

/-- One block of the call. -/
theorem block (a : Vec Ideal S1024x2048 .bf16) (b : Vec Ideal S256x2048 .bf16) (i : Fin 1024) (j : Fin 256) :
    out0_2 a b (ix2 i j) = ∑ k : Fin 2048, (a (ix2 i k) : EReal) * b (ix2 j k) := by
  unfold out0_2 k0_pay1
  simp (disch := decide) only [View.canon_cons_unit_lit', View.ld_unit_lit']
  clean_types
  pointwise

theorem arr : (dats m 0 c).arrAt 2 cfg0.N = out (m (c, Proc.devRef .tc main_arg2)) (m (c, Proc.devRef .tc main_arg1)) := by
  refine (dats m 0 c).arrAt_eq_of_covers 2 _ (by decide +kernel) fun t hf y => ?_
  blk_simp
  rw [after0_2]
  idx_vars y
  rw [emb_out]
  refine (block _ _ y0 y1).trans ?_
  simp only [read_a, read_b]
  rfl

end Cert.DkvlnIdeal.Dense

namespace Cert.DkvlnRefIdeal.Dense

open Idealize.ShloMosaic Idealize.ShloMosaic.TcCoe Idealize.SL.Sem
open Cert.DkvlnRefIdeal Cert.DkvlnRefIdeal.Gen

variable (ct : FVec Ideal S4096x2048 .f32) (w : FVec Ideal S256x2048 .f32)

/-- The reference's result. -/
def ref : FVec Ideal S4096x256 .f32 :=
  Host.dotGeneral dot_S4096x2048_S256x2048_S4096x256_1_1_0_0_n_n none ct w

theorem ref_eq : ref ct w = Cert.DkvlnIdeal.Dense.out ct w := by
  funext y
  idx_vars y
  unfold ref Cert.DkvlnIdeal.Dense.out
  clean_types
  pointwise

end Cert.DkvlnRefIdeal.Dense

end
-- ==== Proof.Dense.DwUkv.lean ====
/-
  The gradient of the weight of keys and values: the call `mm_dw_ukv` block by block, and the reference.
-/
module

public import proofs.«01_k».proof.Defs
public import proofs.«01_k».proof.Proof.Gen.DwUkvIdeal.Value
public import proofs.«01_k».proof.Proof.Gen.DwUkvRefIdeal.Run
public import Idealize.ShloMosaic.Lib.StableHlo.ReadAt
public import Idealize.ShloMosaic.Lib.Pipeline.ValueKit
public import Idealize.ShloMosaic.Lib.Pointwise
public import Idealize.ShloMosaic.Lib.Tactic.CleanTypes

@[expose] public section

set_option synthInstance.maxSize 4096
set_option maxRecDepth 16384

noncomputable section

namespace Cert.DwUkvIdeal.Dense

open Idealize.ShloMosaic Idealize.ShloMosaic.TcCoe Idealize.SL.Sem
open Idealize.ShloMosaic.Pipeline (Dat Cfg Window)
open Cert.DwUkvIdeal.Gen

/-- Column `r` of the block `b` of columns. -/
def col (b : Fin 2) (r : Fin 1024) : Fin 2048 := ⟨b.val * 1024 + r.val, by omega⟩

/-- The product. -/
def out (x : FVec Ideal S4096x256 .f32) (ct : FVec Ideal S4096x2048 .f32) : FVec Ideal S256x2048 .bf16 := fun y =>
  ∑ k : Fin 4096, (x (ix2 k (y 0)) : EReal) * ct (ix2 k (y 1))

section
variable {F : FTy → Type} [FloatOps F] (m : (ℓ : Loc nD τ sig) → Buf (Elt F) ℓ) (c : Dev nD)

theorem V_a : V m c main_v0 = truncf .bf16 (m (c, Proc.devRef .tc main_arg0) : FVec F S4096x256 .f32) bitsLt_bf16_f32 := by
  unfold V
  simp only [hostOps0, List.flatten_cons, List.flatten_nil, List.cons_append, List.nil_append, List.append_nil]
  after_reads_simp
theorem V_b : V m c main_v1 = truncf .bf16 (m (c, Proc.devRef .tc main_arg2) : FVec F S4096x2048 .f32) bitsLt_bf16_f32 := by
  unfold V
  simp only [hostOps0, List.flatten_cons, List.flatten_nil, List.cons_append, List.nil_append, List.append_nil]
  after_reads_simp

end

/-- A point's block of columns. -/
def cb (t : Fin cfg0.N) : Fin 2 := ⟨t.val, by have : t.val < 2 := t.isLt; omega⟩

theorem idx : ∀ t : Fin grid0.N, win0_0.index t = ![0, 0] ∧ win0_1.index t = ![0, t.val] ∧ win0_2.index t = ![0, t.val] := by
  decide +kernel

variable (m : (ℓ : Loc nD τ sig) → Buf (Elt Ideal) ℓ) (c : Dev nD)

section
variable (t : Fin cfg0.N) (i : Fin 256) (j : Fin 1024) (k : Fin 4096)
theorem read_a : iblk m c 0 t (ix2 k i) = m (c, Proc.devRef .tc main_arg0) (ix2 k i) := by
  refine Eq.trans (b := V m c main_v0 (ix2 k i)) ?_ (congrFun (V_a m c) _)
  have e := (idx t).1
  blk_ext [iblk, e]
theorem read_b : iblk m c 1 t (ix2 k j) = m (c, Proc.devRef .tc main_arg2) (ix2 k (col (cb t) j)) := by
  refine Eq.trans (b := V m c main_v1 (ix2 k (col (cb t) j))) ?_ (congrFun (V_b m c) _)
  have e := (idx t).2.1
  blk_ext [iblk, e, col, cb]
theorem emb_out : ((View.whole main_v2).slice (win0_2.rect t)).emb (ix2 i j) = ix2 i (col (cb t) j) := by
  have e := (idx t).2.2
  blk_ext [e, col, cb]
end

/-- One block of the call. -/
theorem block (a : Vec Ideal S4096x256 .bf16) (b : Vec Ideal S4096x1024 .bf16) (i : Fin 256) (j : Fin 1024) :
    out0_2 a b (ix2 i j) = ∑ k : Fin 4096, (a (ix2 k i) : EReal) * b (ix2 k j) := by
  unfold out0_2 k0_pay1
  simp (disch := decide) only [View.canon_cons_unit_lit', View.ld_unit_lit']
  clean_types
  pointwise

theorem arr : (dats m 0 c).arrAt 2 cfg0.N = out (m (c, Proc.devRef .tc main_arg0)) (m (c, Proc.devRef .tc main_arg2)) := by
  refine (dats m 0 c).arrAt_eq_of_covers 2 _ (by decide +kernel) fun t hf y => ?_
  blk_simp
  rw [after0_2]
  idx_vars y
  rw [emb_out]
  refine (block _ _ y0 y1).trans ?_
  simp only [read_a, read_b]
  rfl

end Cert.DwUkvIdeal.Dense

namespace Cert.DwUkvRefIdeal.Dense

open Idealize.ShloMosaic Idealize.ShloMosaic.TcCoe Idealize.SL.Sem
open Cert.DwUkvRefIdeal Cert.DwUkvRefIdeal.Gen

variable (x : FVec Ideal S4096x256 .f32) (ct : FVec Ideal S4096x2048 .f32)

/-- The reference's result. -/
def ref : FVec Ideal S256x2048 .bf16 :=
  truncf .bf16 (transpose S256x2048 [1, 0] (Host.dotGeneral dot_S4096x2048_S4096x256_S2048x256_0_0_1_1_n_n none ct x) transposes_S2048x256_S256x2048_1_0) bitsLt_bf16_f32

theorem ref_eq : ref x ct = Cert.DwUkvIdeal.Dense.out x ct := by
  funext y
  idx_vars y
  unfold ref Cert.DwUkvIdeal.Dense.out
  clean_types
  pointwise
  exact Finset.sum_congr rfl fun s _ => mul_comm _ _

end Cert.DwUkvRefIdeal.Dense

end
-- ==== Proof.Dense.Gate.lean ====
/-
  The product before the gate of the embeddings: the call `mm_ple_gate` block by block, and the reference.
-/
module

public import proofs.«01_k».proof.Defs
public import proofs.«01_k».proof.Proof.Gen.GateIdeal.Value
public import proofs.«01_k».proof.Proof.Gen.GateRefIdeal.Run
public import Idealize.ShloMosaic.Lib.StableHlo.ReadAt
public import Idealize.ShloMosaic.Lib.Pipeline.ValueKit
public import Idealize.ShloMosaic.Lib.Pointwise
public import Idealize.ShloMosaic.Lib.Tactic.CleanTypes

@[expose] public section

set_option synthInstance.maxSize 4096
set_option maxRecDepth 16384

noncomputable section

namespace Cert.GateIdeal.Dense

open Idealize.ShloMosaic Idealize.ShloMosaic.TcCoe Idealize.SL.Sem
open Idealize.ShloMosaic.Pipeline (Dat Cfg Window)
open Cert.GateIdeal.Gen

/-- Row `r` of the block `b` of rows. -/
def row (b : Fin 4) (r : Fin 1024) : Fin 4096 := ⟨b.val * 1024 + r.val, by omega⟩

/-- The product. -/
def out (x : FVec Ideal S4096x1024 .f32) (w : FVec Ideal S4x1024x1024 .f32) : FVec Ideal S4096x1024 .f32 := fun y =>
  ∑ k : Fin 1024, (x (ix2 (y 0) k) : EReal) * w (ix3 3 k (y 1))

section
variable {F : FTy → Type} [FloatOps F] (m : (ℓ : Loc nD τ sig) → Buf (Elt F) ℓ) (c : Dev nD)

theorem V_a : V m c main_v0 = truncf .bf16 (m (c, Proc.devRef .tc main_arg0) : FVec F S4096x1024 .f32) bitsLt_bf16_f32 := by
  unfold V
  simp only [hostOps0, List.flatten_cons, List.flatten_nil, List.cons_append, List.nil_append, List.append_nil]
  after_reads_simp
theorem V_b : V m c main_v1 = truncf .bf16 (m (c, Proc.devRef .tc main_arg1) : FVec F S4x1024x1024 .f32) bitsLt_bf16_f32 := by
  unfold V
  simp only [hostOps0, List.flatten_cons, List.flatten_nil, List.cons_append, List.nil_append, List.append_nil]
  after_reads_simp

end

/-- A point's block of rows. -/
def rb (t : Fin cfg0.N) : Fin 4 := ⟨t.val, by have : t.val < 4 := t.isLt; omega⟩

theorem idx : ∀ t : Fin grid0.N, win0_0.index t = ![t.val, 0] ∧ win0_1.index t = ![3, 0, 0] ∧ win0_2.index t = ![t.val, 0] := by
  decide +kernel

variable (m : (ℓ : Loc nD τ sig) → Buf (Elt Ideal) ℓ) (c : Dev nD)

section
variable (t : Fin cfg0.N) (i : Fin 1024) (j : Fin 1024) (k : Fin 1024)
theorem read_a : iblk m c 0 t (ix2 i k) = m (c, Proc.devRef .tc main_arg0) (ix2 (row (rb t) i) k) := by
  refine Eq.trans (b := V m c main_v0 (ix2 (row (rb t) i) k)) ?_ (congrFun (V_a m c) _)
  have e := (idx t).1
  blk_ext [iblk, e, row, rb]
theorem read_b : iblk m c 1 t (ix3 0 k j) = m (c, Proc.devRef .tc main_arg1) (ix3 3 k j) := by
  refine Eq.trans (b := V m c main_v1 (ix3 3 k j)) ?_ (congrFun (V_b m c) _)
  have e := (idx t).2.1
  blk_ext [iblk, e]
theorem emb_out : ((View.whole main_v2).slice (win0_2.rect t)).emb (ix2 i j) = ix2 (row (rb t) i) j := by
  have e := (idx t).2.2
  blk_ext [e, row, rb]
end

/-- One block of the call. -/
theorem block (a : Vec Ideal S1024x1024 .bf16) (b : Vec Ideal S1x1024x1024 .bf16) (i : Fin 1024) (j : Fin 1024) :
    out0_2 a b (ix2 i j) = ∑ k : Fin 1024, (a (ix2 i k) : EReal) * b (ix3 0 k j) := by
  unfold out0_2 k0_pay1
  simp (disch := decide) only [View.canon_cons_unit_lit', View.ld_unit_lit']
  clean_types
  pointwise

theorem arr : (dats m 0 c).arrAt 2 cfg0.N = out (m (c, Proc.devRef .tc main_arg0)) (m (c, Proc.devRef .tc main_arg1)) := by
  refine (dats m 0 c).arrAt_eq_of_covers 2 _ (by decide +kernel) fun t hf y => ?_
  blk_simp
  rw [after0_2]
  idx_vars y
  rw [emb_out]
  refine (block _ _ y0 y1).trans ?_
  simp only [read_a, read_b]
  rfl

end Cert.GateIdeal.Dense

namespace Cert.GateRefIdeal.Dense

open Idealize.ShloMosaic Idealize.ShloMosaic.TcCoe Idealize.SL.Sem
open Cert.GateRefIdeal Cert.GateRefIdeal.Gen

variable (x : FVec Ideal S4096x1024 .f32) (w : FVec Ideal S4x1024x1024 .f32)

/-- The reference's result. -/
def ref : FVec Ideal S4096x1024 .f32 :=
  Host.dotGeneral dot_S4096x1024_S1024x1024_S4096x1024_1_0_0_1_n_n none x (shapeCast _ (extractStridedSlice S1x1024x1024 ![3, 0, 0] w slices_S4x1024x1024_S1x1024x1024_3_0_0) shapeCasts_S1x1024x1024_S1024x1024)

theorem ref_eq : ref x w = Cert.GateIdeal.Dense.out x w := by
  funext y
  idx_vars y
  unfold ref Cert.GateIdeal.Dense.out
  clean_types
  pointwise

end Cert.GateRefIdeal.Dense

end
-- ==== Proof.Dense.DwGate.lean ====
/-
  The gradient of the gate's weight: the call `mm_dw_ple_gate` chip by chip, and the reference.
-/
module

public import proofs.«01_k».proof.Defs
public import proofs.«01_k».proof.Proof.Gen.DwGateIdeal.Value
public import proofs.«01_k».proof.Proof.Gen.DwGateRefIdeal.Run
public import Idealize.ShloMosaic.Lib.StableHlo.ReadAt
public import Idealize.ShloMosaic.Lib.Pipeline.ValueKit
public import Idealize.ShloMosaic.Lib.Pointwise
public import Idealize.ShloMosaic.Lib.Tactic.CleanTypes

@[expose] public section

set_option synthInstance.maxSize 4096
set_option maxRecDepth 16384

noncomputable section

namespace Cert.DwGateIdeal.Dense

open Idealize.ShloMosaic Idealize.ShloMosaic.TcCoe Idealize.SL.Sem
open Idealize.ShloMosaic.Pipeline (Dat Cfg Window)
open Cert.DwGateIdeal.Gen

/-- Row `r` of the chip `b`. -/
def row (b : Fin 4) (r : Fin 256) : Fin 1024 := ⟨b.val * 256 + r.val, by omega⟩

/-- The product. -/
def out (x : FVec Ideal S4096x1024 .f32) (ct : FVec Ideal S4096x1024 .f32) : FVec Ideal S4x256x1024 .bf16 := fun y =>
  ∑ k : Fin 4096, (x (ix2 k (row (y 0) (y 1))) : EReal) * ct (ix2 k (y 2))

section
variable {F : FTy → Type} [FloatOps F] (m : (ℓ : Loc nD τ sig) → Buf (Elt F) ℓ) (c : Dev nD)

theorem V_a : V m c main_v0 = truncf .bf16 (m (c, Proc.devRef .tc main_arg0) : FVec F S4096x1024 .f32) bitsLt_bf16_f32 := by
  unfold V
  simp only [hostOps0, List.flatten_cons, List.flatten_nil, List.cons_append, List.nil_append, List.append_nil]
  after_reads_simp
theorem V_b : V m c main_v1 = truncf .bf16 (m (c, Proc.devRef .tc main_arg2) : FVec F S4096x1024 .f32) bitsLt_bf16_f32 := by
  unfold V
  simp only [hostOps0, List.flatten_cons, List.flatten_nil, List.cons_append, List.nil_append, List.append_nil]
  after_reads_simp

end

/-- A point's block of rows. -/
def rb (t : Fin cfg0.N) : Fin 4 := ⟨t.val, by have : t.val < 4 := t.isLt; omega⟩

theorem idx : ∀ t : Fin grid0.N, win0_0.index t = ![0, t.val] ∧ win0_1.index t = ![0, 0] ∧ win0_2.index t = ![t.val, 0, 0] := by
  decide +kernel

variable (m : (ℓ : Loc nD τ sig) → Buf (Elt Ideal) ℓ) (c : Dev nD)

section
variable (t : Fin cfg0.N) (i : Fin 256) (j : Fin 1024) (k : Fin 4096)
theorem read_a : iblk m c 0 t (ix2 k i) = m (c, Proc.devRef .tc main_arg0) (ix2 k (row (rb t) i)) := by
  refine Eq.trans (b := V m c main_v0 (ix2 k (row (rb t) i))) ?_ (congrFun (V_a m c) _)
  have e := (idx t).1
  blk_ext [iblk, e, row, rb]
theorem read_b : iblk m c 1 t (ix2 k j) = m (c, Proc.devRef .tc main_arg2) (ix2 k j) := by
  refine Eq.trans (b := V m c main_v1 (ix2 k j)) ?_ (congrFun (V_b m c) _)
  have e := (idx t).2.1
  blk_ext [iblk, e]
theorem emb_out : ((View.whole main_v2).slice (win0_2.rect t)).emb (ix3 0 i j) = ix3 (rb t) i j := by
  have e := (idx t).2.2
  blk_ext [e, rb]
end

/-- One block of the call. -/
theorem block (a : Vec Ideal S4096x256 .bf16) (b : Vec Ideal S4096x1024 .bf16) (z : Fin 1) (i : Fin 256) (j : Fin 1024) :
    out0_2 a b (ix3 z i j) = ∑ k : Fin 4096, (a (ix2 k i) : EReal) * b (ix2 k j) := by
  unfold out0_2 k0_pay1
  simp (disch := decide) only [View.canon_cons_unit_lit', View.ld_unit_lit']
  clean_types
  pointwise

theorem arr : (dats m 0 c).arrAt 2 cfg0.N = out (m (c, Proc.devRef .tc main_arg0)) (m (c, Proc.devRef .tc main_arg2)) := by
  refine (dats m 0 c).arrAt_eq_of_covers 2 _ (by decide +kernel) fun t hf y => ?_
  blk_simp
  rw [after0_2]
  idx_vars y
  obtain rfl : y0 = 0 := Subsingleton.elim _ _
  rw [emb_out]
  refine (block _ _ 0 y1 y2).trans ?_
  simp only [read_a, read_b]
  rfl

end Cert.DwGateIdeal.Dense

namespace Cert.DwGateRefIdeal.Dense

open Idealize.ShloMosaic Idealize.ShloMosaic.TcCoe Idealize.SL.Sem
open Cert.DwGateRefIdeal Cert.DwGateRefIdeal.Gen

variable (x : FVec Ideal S4096x1024 .f32) (ct : FVec Ideal S4096x1024 .f32)

/-- The reference's result. -/
def ref : FVec Ideal S4x256x1024 .bf16 :=
  shapeCast _ (truncf .bf16 (transpose S1024x1024 [1, 0] (Host.dotGeneral dot_S4096x1024_S4096x1024_S1024x1024_0_0_1_1_n_n none ct x) transposes_S1024x1024_S1024x1024_1_0) bitsLt_bf16_f32) shapeCasts_S1024x1024_S4x256x1024

theorem ref_eq : ref x ct = Cert.DwGateIdeal.Dense.out x ct := by
  funext y
  idx_vars y
  unfold ref Cert.DwGateIdeal.Dense.out
  clean_types
  pointwise
  exact Finset.sum_congr rfl fun s _ => mul_comm _ _

end Cert.DwGateRefIdeal.Dense

end
-- ==== Proof.Dense.RmsGrad.lean ====
/-
  The gradient of a normalised row, in the extended reals: the form with the normalised row and the form with the row's sum are one number.
-/
module

public import proofs.«01_k».proof.Defs
public import Idealize.ShloMosaic.Lib.Pointwise

@[expose] public section

noncomputable section

namespace Cert.RmsGrad

open Idealize.ShloMosaic

theorem ofBits_len : Ideal.ofBits .f32 0x44800000#32 = ((1024 : ℝ) : EReal) := by
  simp [Ideal.ofBits, Ideal.ieee, -EReal.coe_mul]; norm_num
theorem ofBits_half : Ideal.ofBits .f32 0xBF000000#32 = ((-(1 / 2) : ℝ) : EReal) := by
  simp [Ideal.ofBits, Ideal.ieee, -EReal.coe_mul]; norm_num
theorem ofBits_eps : ∃ e : ℝ, 0 < e ∧ Ideal.ofBits .f32 0x358637BD#32 = (e : EReal) := by
  refine ⟨(2 ^ 23 + 0x0637BD : ℝ) * (2 : ℝ) ^ (-43 : ℤ), by positivity, ?_⟩
  simp [Ideal.ofBits, Ideal.ieee, -EReal.coe_mul]; norm_num

/-- The mean square of a row and the small constant. -/
def den {n : ℕ} (x : Fin n → EReal) : EReal := Ideal.div (∑ k, x k * x k) (Ideal.ofBits .f32 0x44800000#32) + Ideal.ofBits .f32 0x358637BD#32

theorem sq_nonneg (a : EReal) : 0 ≤ a * a := by
  induction a with
  | bot => simp
  | top => simp
  | coe r => rw [← EReal.coe_mul]; exact_mod_cast mul_self_nonneg r

/-- It is a positive number, or infinite. -/
theorem den_pos {n : ℕ} (x : Fin n → EReal) : 0 < den x := by
  obtain ⟨e, he, hb⟩ := ofBits_eps
  unfold den
  rw [ofBits_len, hb, Ideal.div, if_neg (by norm_num)]
  have h0 : (0 : EReal) ≤ (∑ k, x k * x k) * (((1024 : ℝ) : EReal))⁻¹ :=
    EReal.mul_nonneg (Finset.sum_nonneg fun k _ => sq_nonneg _) (EReal.inv_nonneg_of_nonneg (by norm_num))
  exact lt_of_lt_of_le (by exact_mod_cast he) (le_add_of_nonneg_left h0)

/-- The inverse root is a nonnegative number, and over the mean square it is its own cube. -/
theorem rsqrt_den {d : EReal} (h : 0 < d) : 0 ≤ Ideal.rsqrt d ∧ Ideal.rsqrt d ≠ ⊤
    ∧ Ideal.div (Ideal.rsqrt d) d = Ideal.rsqrt d * Ideal.rsqrt d * Ideal.rsqrt d := by
  induction d with
  | bot => simp at h
  | top => rw [show Ideal.rsqrt ⊤ = 0 from rfl]; simp [Ideal.div]
  | coe r =>
    have hr : 0 < r := by exact_mod_cast h
    have e : Ideal.rsqrt (r : EReal) = (((Real.sqrt r)⁻¹ : ℝ) : EReal) := by
      show (if r < 0 then ⊥ else if r = 0 then ⊤ else (((Real.sqrt r)⁻¹ : ℝ) : EReal)) = _
      rw [if_neg (by linarith), if_neg hr.ne']
    rw [e]
    refine ⟨by exact_mod_cast inv_nonneg.mpr (Real.sqrt_nonneg r), EReal.coe_ne_top _, ?_⟩
    rw [Ideal.div, if_neg (by exact_mod_cast hr.ne'), ← EReal.coe_inv, ← EReal.coe_mul, ← EReal.coe_mul, ← EReal.coe_mul]
    congr 1
    have hs : Real.sqrt r ≠ 0 := (Real.sqrt_pos.mpr hr).ne'
    have hq : r⁻¹ = (Real.sqrt r)⁻¹ * (Real.sqrt r)⁻¹ := by
      rw [← mul_inv, Real.mul_self_sqrt hr.le]
    rw [hq]; ring

theorem sum_mul {n : ℕ} (f : Fin n → EReal) {r : EReal} (h : 0 ≤ r) (ht : r ≠ ⊤) : (∑ k, f k) * r = ∑ k, f k * r := by
  induction n with
  | zero => simp
  | succ n ih => rw [Fin.sum_univ_succ, Fin.sum_univ_succ, EReal.right_distrib_of_nonneg_of_ne_top h ht, ih]

/-- Minus a half, twice. -/
theorem half_twice (q : EReal) : q * ((-(1 / 2) : ℝ) : EReal) + q * ((-(1 / 2) : ℝ) : EReal) = -q := by
  induction q with
  | bot => rw [EReal.bot_mul_coe_of_neg (by norm_num)]; rfl
  | top => rw [EReal.top_mul_coe_of_neg (by norm_num)]; rfl
  | coe r => rw [← EReal.coe_mul, ← EReal.coe_add, ← EReal.coe_neg]; congr 1; ring

/-- The gradient of a normalised row as the call computes it. -/
def grad {n : ℕ} (x d : Fin n → EReal) (j : Fin n) : EReal :=
  Ideal.rsqrt (den x) * (d j - x j * Ideal.rsqrt (den x)
    * Ideal.div (∑ k, d k * (x k * Ideal.rsqrt (den x))) (Ideal.ofBits .f32 0x44800000#32))

/-- The factor of the row in the reference's gradient: through the inverse root and the mean square. -/
def factor {n : ℕ} (x d : Fin n → EReal) : EReal :=
  Ideal.div ((∑ k, x k * d k) * (Ideal.ofBits .f32 0xBF000000#32 * Ideal.div (Ideal.rsqrt (den x)) (den x))) (Ideal.ofBits .f32 0x44800000#32)

theorem grad_eq {n : ℕ} (x d : Fin n → EReal) (j : Fin n) :
    d j * Ideal.rsqrt (den x) + x j * factor x d + factor x d * x j = grad x d j := by
  unfold grad factor
  obtain ⟨h0, ht, hq⟩ := rsqrt_den (den_pos x)
  rw [hq]
  generalize Ideal.rsqrt (den x) = r at h0 ht
  have hs : ∑ k, d k * (x k * r) = (∑ k, x k * d k) * r := by
    rw [sum_mul _ h0 ht]; exact Finset.sum_congr rfl fun k _ => by ac_rfl
  rw [hs, ofBits_len, ofBits_half]
  simp only [Ideal.div, if_neg (show ((1024 : ℝ) : EReal) ≠ 0 by norm_num)]
  generalize (∑ k, x k * d k) = s
  generalize (((1024 : ℝ) : EReal))⁻¹ = u
  rw [sub_eq_add_neg, EReal.left_distrib_of_nonneg_of_ne_top h0 ht, add_assoc]
  have e1 : x j * (s * (((-(1 / 2) : ℝ) : EReal) * (r * r * r)) * u) = (r * (x j * r * (s * r * u))) * ((-(1 / 2) : ℝ) : EReal) := by ac_rfl
  have e2 : s * (((-(1 / 2) : ℝ) : EReal) * (r * r * r)) * u * x j = (r * (x j * r * (s * r * u))) * ((-(1 / 2) : ℝ) : EReal) := by ac_rfl
  rw [e1, e2, half_twice, mul_neg, mul_comm (d j) r]

/-- The sum over the rows, block by block. -/
theorem sum_rows (f : Fin 4096 → EReal) : ∑ i : Fin 4096, f i = ∑ b : Fin 8, ∑ r : Fin 512, f ⟨b.val * 512 + r.val, by omega⟩ := by
  rw [← Fintype.sum_prod_type' (f := fun (b : Fin 8) (r : Fin 512) => f ⟨b.val * 512 + r.val, by omega⟩), ← Equiv.sum_comp (finProdFinEquiv (m := 8) (n := 512)) f]
  exact Finset.sum_congr rfl fun p _ => congrArg f (Fin.ext (by simp [finProdFinEquiv]; omega))

end Cert.RmsGrad

end
-- ==== Proof.Dense.Dh2.lean ====
/-
  The gradient before the normalisation of the feed-forward layer: the call `mm_dh2` block by block, and the reference.
-/
module

public import proofs.«01_k».proof.Defs
public import proofs.«01_k».proof.Proof.Gen.Dh2Ideal.Value
public import proofs.«01_k».proof.Proof.Gen.Dh2RefIdeal.Run
public import proofs.«01_k».proof.Proof.Dense.RmsGrad
public import Idealize.ShloMosaic.Lib.StableHlo.ReadAt
public import Idealize.ShloMosaic.Lib.Pipeline.ValueKit
public import Idealize.ShloMosaic.Lib.Pipeline.Value
public import Idealize.ShloMosaic.Lib.Pointwise
public import Idealize.ShloMosaic.Lib.Tactic
public import Idealize.ShloMosaic.Lib.Tactic.CleanTypes

@[expose] public section

set_option synthInstance.maxSize 4096
set_option maxRecDepth 16384

noncomputable section

namespace Cert.Dh2Ideal.Dense

open Idealize.ShloMosaic Idealize.ShloMosaic.TcCoe Idealize.SL.Sem
open Idealize.ShloMosaic.Pipeline (Dat Cfg Window)
open Cert.Dh2Ideal.Gen Cert.RmsGrad

/-- Row `r` of the block `b` of rows. -/
def row (b : Fin 8) (r : Fin 512) : Fin 4096 := ⟨b.val * 512 + r.val, by omega⟩

section
variable (x : FVec Ideal S4096x1024 .f32) (g : FVec Ideal S1024 .f32) (w : FVec Ideal S1024x4096 .f32) (ct : FVec Ideal S4096x4096 .f32) (res : FVec Ideal S4096x1024 .f32)
/-- The gradient of the normalised rows. -/
def prod (i : Fin 4096) (j : Fin 1024) : EReal := ∑ k : Fin 4096, (ct (ix2 i k) : EReal) * w (ix2 j k)
/-- The gradient of the rows, and what is added to it. -/
def dx : FVec Ideal S4096x1024 .f32 := fun y =>
  grad (fun k => x (ix2 (y 0) k)) (fun k => prod w ct (y 0) k * g (ix1 k)) (y 1) + res (ix2 (y 0) (y 1))
def dxb : FVec Ideal S4096x1024 .bf16 := fun y => dx x g w ct res y
/-- The gradient of the gain, in eight equal rows. -/
def dg : FVec Ideal S8x1024 .f32 := fun y =>
  ∑ i : Fin 4096, prod w ct i (y 1) * (x (ix2 i (y 1)) * Ideal.rsqrt (den fun k => x (ix2 i k)))
end

section
variable {F : FTy → Type} [FloatOps F] (m : (ℓ : Loc nD τ sig) → Buf (Elt F) ℓ) (c : Dev nD)
theorem V_ct : V m c main_v0 = truncf .bf16 (m (c, Proc.devRef .tc main_arg3) : FVec F S4096x4096 .f32) bitsLt_bf16_f32 := by
  unfold V
  simp only [hostOps0, List.flatten_cons, List.flatten_nil, List.cons_append, List.nil_append, List.append_nil]
  after_reads_simp
theorem V_w : V m c main_v1 = truncf .bf16 (m (c, Proc.devRef .tc main_arg2) : FVec F S1024x4096 .f32) bitsLt_bf16_f32 := by
  unfold V
  simp only [hostOps0, List.flatten_cons, List.flatten_nil, List.cons_append, List.nil_append, List.append_nil]
  after_reads_simp
theorem V_g : V m c main_v2 = shapeCast S1x1024 (m (c, Proc.devRef .tc main_arg1) : FVec F S1024 .f32) shapeCasts_S1024_S1x1024 := by
  unfold V
  simp only [hostOps0, List.flatten_cons, List.flatten_nil, List.cons_append, List.nil_append, List.append_nil]
  after_reads_simp
  rfl
end

theorem gain_at (g : FVec Ideal S1024 .f32) (j : Fin 1024) : shapeCast S1x1024 g shapeCasts_S1024_S1x1024 (ix2 0 j) = g (ix1 j) := by
  pointwise

/-! What the body leaves in its buffers, at the first point and at the others. -/
section
variable {F : FTy → Type} [FloatOps F]
theorem hz : (![0, 0] : Fin 2 → Nat) = fun _ => 0 := funext fun a => by fin_cases a <;> rfl
variable (c : Dev nD) (i : grid0.Coords) (a3 : Memref sig .tc .vmem S512x4096 .bf16) (ha3 : a3.IsWhole) (a4 : Memref sig .tc .vmem S1024x4096 .bf16) (ha4 : a4.IsWhole) (a5 : Memref sig .tc .vmem S512x1024 .f32) (ha5 : a5.IsWhole) (a6 : Memref sig .tc .vmem S512x1024 .f32) (ha6 : a6.IsWhole) (a7 : Memref sig .tc .vmem S1x1024 .f32) (ha7 : a7.IsWhole) (a8 : Memref sig .tc .vmem S512x1024 .f32) (ha8 : a8.IsWhole) (a9 : Memref sig .tc .vmem S512x1024 .bf16) (ha9 : a9.IsWhole) (a10 : Memref sig .tc .vmem S8x1024 .f32) (ha10 : a10.IsWhole)
  (x0 : Vec F S512x4096 .bf16) (x1 : Vec F S1024x4096 .bf16) (x2 : Vec F S512x1024 .f32) (x3 : Vec F S512x1024 .f32) (x4 : Vec F S1x1024 .f32)
include ha3 ha4 ha5 ha6 ha7 ha8 ha9 ha10
theorem out_A_5 (hc : cond0_0 i) : out0_A_5 c i a3 ha3 a4 ha4 a5 ha5 a6 ha6 a7 ha7 a8 ha8 a9 ha9 a10 ha10 hc x0 x1 x2 x3 x4 = k0_pay7 x0 x1 x3 x4 x2 := by
  unfold out0_A_5
  rw [View.read_writes_eq_canon _ _ _ (cover0_A_5 c i a3 ha3 a4 ha4 a5 ha5 a6 ha6 a7 ha7 a8 ha8 a9 ha9 a10 ha10 hc x0 x1 x2 x3 x4)]
  unfold kernelRun0_A
  dsimp only
  sl_unfold_words
  rw [View.canon_unit_zero hz]
  simp only [View.readAt_eq_ld, ha3.read_unread, ha4.read_unread, ha5.read_unread, ha6.read_unread, ha7.read_unread, View.ld_unit_zero (S := S512x4096) hz, View.ld_unit_zero (S := S1024x4096) hz, View.ld_unit_zero (S := S512x1024) hz,
    View.ld_unit_zero (S := S1x1024) hz, View.ld_unit_zero (S := S8x1024) hz]
theorem out_A_6 (hc : cond0_0 i) : out0_A_6 c i a3 ha3 a4 ha4 a5 ha5 a6 ha6 a7 ha7 a8 ha8 a9 ha9 a10 ha10 hc x0 x1 x2 x3 x4 = k0_pay8 x0 x1 x3 x4 x2 := by
  unfold out0_A_6
  rw [View.read_writes_eq_canon _ _ _ (cover0_A_6 c i a3 ha3 a4 ha4 a5 ha5 a6 ha6 a7 ha7 a8 ha8 a9 ha9 a10 ha10 hc x0 x1 x2 x3 x4)]
  unfold kernelRun0_A
  dsimp only
  sl_unfold_words
  rw [View.canon_unit_zero hz]
  simp only [View.readAt_eq_ld, ha3.read_unread, ha4.read_unread, ha5.read_unread, ha6.read_unread, ha7.read_unread, View.ld_unit_zero (S := S512x4096) hz, View.ld_unit_zero (S := S1024x4096) hz, View.ld_unit_zero (S := S512x1024) hz,
    View.ld_unit_zero (S := S1x1024) hz, View.ld_unit_zero (S := S8x1024) hz]
theorem out_A_7 (hc : cond0_0 i) : out0_A_7 c i a3 ha3 a4 ha4 a5 ha5 a6 ha6 a7 ha7 a8 ha8 a9 ha9 a10 ha10 hc x0 x1 x2 x3 x4 = k0_pay2 (k0_pay6 x0 x1 x3) (k0_pay1 (F := F)) := by
  unfold out0_A_7
  rw [View.read_writes_eq_canon _ _ _ (cover0_A_7 c i a3 ha3 a4 ha4 a5 ha5 a6 ha6 a7 ha7 a8 ha8 a9 ha9 a10 ha10 hc x0 x1 x2 x3 x4)]
  unfold kernelRun0_A
  dsimp only
  sl_unfold_words
  rw [View.canon_cons_unit_zero (S := S8x1024) hz, View.readCov_unit_zero (S := S8x1024) _ hz]
  simp only [View.readAt_eq_ld, ha3.read_unread, ha4.read_unread, ha5.read_unread, ha6.read_unread, ha7.read_unread, View.ld_unit_zero (S := S512x4096) hz, View.ld_unit_zero (S := S1024x4096) hz, View.ld_unit_zero (S := S512x1024) hz,
    View.ld_unit_zero (S := S1x1024) hz, View.ld_unit_zero (S := S8x1024) hz]
theorem out_B_5 (hc : ¬cond0_0 i) (xo : Vec F S8x1024 .f32) : out0_B_5 c i a3 ha3 a4 ha4 a5 ha5 a6 ha6 a7 ha7 a8 ha8 a9 ha9 a10 ha10 hc x0 x1 x2 x3 x4 xo = k0_pay7 x0 x1 x3 x4 x2 := by
  unfold out0_B_5
  rw [View.read_writes_eq_canon _ _ _ (cover0_B_5 c i a3 ha3 a4 ha4 a5 ha5 a6 ha6 a7 ha7 a8 ha8 a9 ha9 a10 ha10 hc x0 x1 x2 x3 x4 xo)]
  unfold kernelRun0_B
  dsimp only
  sl_unfold_words
  rw [View.canon_unit_zero hz]
  simp only [View.readAt_eq_ld, ha3.read_unread, ha4.read_unread, ha5.read_unread, ha6.read_unread, ha7.read_unread, ha10.read_unread, View.ld_unit_zero (S := S512x4096) hz, View.ld_unit_zero (S := S1024x4096) hz, View.ld_unit_zero (S := S512x1024) hz,
    View.ld_unit_zero (S := S1x1024) hz, View.ld_unit_zero (S := S8x1024) hz]
theorem out_B_6 (hc : ¬cond0_0 i) (xo : Vec F S8x1024 .f32) : out0_B_6 c i a3 ha3 a4 ha4 a5 ha5 a6 ha6 a7 ha7 a8 ha8 a9 ha9 a10 ha10 hc x0 x1 x2 x3 x4 xo = k0_pay8 x0 x1 x3 x4 x2 := by
  unfold out0_B_6
  rw [View.read_writes_eq_canon _ _ _ (cover0_B_6 c i a3 ha3 a4 ha4 a5 ha5 a6 ha6 a7 ha7 a8 ha8 a9 ha9 a10 ha10 hc x0 x1 x2 x3 x4 xo)]
  unfold kernelRun0_B
  dsimp only
  sl_unfold_words
  rw [View.canon_unit_zero hz]
  simp only [View.readAt_eq_ld, ha3.read_unread, ha4.read_unread, ha5.read_unread, ha6.read_unread, ha7.read_unread, ha10.read_unread, View.ld_unit_zero (S := S512x4096) hz, View.ld_unit_zero (S := S1024x4096) hz, View.ld_unit_zero (S := S512x1024) hz,
    View.ld_unit_zero (S := S1x1024) hz, View.ld_unit_zero (S := S8x1024) hz]
theorem out_B_7 (hc : ¬cond0_0 i) (xo : Vec F S8x1024 .f32) : out0_B_7 c i a3 ha3 a4 ha4 a5 ha5 a6 ha6 a7 ha7 a8 ha8 a9 ha9 a10 ha10 hc x0 x1 x2 x3 x4 xo = k0_pay2 (k0_pay6 x0 x1 x3) xo := by
  unfold out0_B_7
  rw [View.read_writes_eq_canon _ _ _ (cover0_B_7 c i a3 ha3 a4 ha4 a5 ha5 a6 ha6 a7 ha7 a8 ha8 a9 ha9 a10 ha10 hc x0 x1 x2 x3 x4 xo)]
  unfold kernelRun0_B
  dsimp only
  sl_unfold_words
  rw [View.canon_unit_zero hz]
  simp only [View.readAt_eq_ld, ha3.read_unread, ha4.read_unread, ha5.read_unread, ha6.read_unread, ha7.read_unread, ha10.read_unread, View.ld_unit_zero (S := S512x4096) hz, View.ld_unit_zero (S := S1024x4096) hz, View.ld_unit_zero (S := S512x1024) hz,
    View.ld_unit_zero (S := S1x1024) hz, View.ld_unit_zero (S := S8x1024) hz]
end

section
variable {F : FTy → Type} [FloatOps F] (m : (ℓ : Loc nD τ sig) → Buf (Elt F) ℓ) (c : Dev nD)
/-- The running sum of the gain's gradient. -/
def acc : (n : ℕ) → n < cfg0.N → Vec F S8x1024 .f32
  | 0, h => k0_pay2 (k0_pay6 (iblk m c 0 ⟨0, h⟩) (iblk m c 1 ⟨0, h⟩) (iblk m c 3 ⟨0, h⟩)) (k0_pay1 (F := F))
  | n + 1, h => k0_pay2 (k0_pay6 (iblk m c 0 ⟨n + 1, h⟩) (iblk m c 1 ⟨n + 1, h⟩) (iblk m c 3 ⟨n + 1, h⟩)) (acc n (Nat.lt_of_succ_lt h))

theorem outs_eq : ∀ (n : ℕ) (h : n < cfg0.N), outsAt0 m c n h
    = (k0_pay7 (iblk m c 0 ⟨n, h⟩) (iblk m c 1 ⟨n, h⟩) (iblk m c 3 ⟨n, h⟩) (iblk m c 4 ⟨n, h⟩) (iblk m c 2 ⟨n, h⟩),
      k0_pay8 (iblk m c 0 ⟨n, h⟩) (iblk m c 1 ⟨n, h⟩) (iblk m c 3 ⟨n, h⟩) (iblk m c 4 ⟨n, h⟩) (iblk m c 2 ⟨n, h⟩), acc m c n h)
  | 0, h => (outsAt0_A m c ⟨0, h⟩ rfl).trans (by rw [out_A_5, out_A_6, out_A_7]; rfl)
  | n + 1, h => by
    have hN : cfg0.N = 8 := N_0
    have hB : ¬(⟨n + 1, h⟩ : Fin cfg0.N).val % 8 = 0 := by dsimp only; omega
    have e := outs_eq n (Nat.lt_of_succ_lt h)
    rw [outsAt0_B m c ⟨n + 1, h⟩ hB, out_B_5, out_B_6, out_B_7]
    show (_, _, k0_pay2 _ (outsAt0 m c n _).2.2) = _
    rw [e]
    rfl
end

/-- A point's block of rows. -/
def rb (t : Fin cfg0.N) : Fin 8 := ⟨t.val, t.isLt⟩

theorem idx : ∀ t : Fin grid0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![t.val, 0] ∧ win0_7.index t = ![0, 0] := by
  decide +kernel

variable (m : (ℓ : Loc nD τ sig) → Buf (Elt Ideal) ℓ) (c : Dev nD)

section
variable (t : Fin cfg0.N) (i : Fin 512) (j : Fin 1024) (k : Fin 4096)
theorem read_ct : iblk m c 0 t (ix2 i k) = m (c, Proc.devRef .tc main_arg3) (ix2 (row (rb t) i) k) := by
  refine Eq.trans (b := V m c main_v0 (ix2 (row (rb t) i) k)) ?_ (congrFun (V_ct m c) _)
  have e := (idx t).1
  blk_ext [iblk, e, row, rb]
theorem read_w : iblk m c 1 t (ix2 j k) = m (c, Proc.devRef .tc main_arg2) (ix2 j k) := by
  refine Eq.trans (b := V m c main_v1 (ix2 j k)) ?_ (congrFun (V_w m c) _)
  have e := (idx t).2.1
  blk_ext [iblk, e]
theorem read_res : iblk m c 2 t (ix2 i j) = m (c, Proc.devRef .tc main_arg4) (ix2 (row (rb t) i) j) := by
  refine Eq.trans (b := V m c main_arg4 (ix2 (row (rb t) i) j)) ?_ (congrFun (V_main_arg4 m c) _)
  have e := (idx t).2.2.1
  blk_ext [iblk, e, row, rb]
theorem read_x : iblk m c 3 t (ix2 i j) = m (c, Proc.devRef .tc main_arg0) (ix2 (row (rb t) i) j) := by
  refine Eq.trans (b := V m c main_arg0 (ix2 (row (rb t) i) j)) ?_ (congrFun (V_main_arg0 m c) _)
  have e := (idx t).2.2.2.1
  blk_ext [iblk, e, row, rb]
theorem read_g : iblk m c 4 t (ix2 0 j) = m (c, Proc.devRef .tc main_arg1) (ix1 j) := by
  refine Eq.trans (b := V m c main_v2 (ix2 0 j)) ?_ ((congrFun (V_g m c) _).trans (gain_at _ j))
  have e := (idx t).2.2.2.2.1
  blk_ext [iblk, e]
theorem emb_dx : ((View.whole main_v3_0).slice (win0_5.rect t)).emb (ix2 i j) = ix2 (row (rb t) i) j := by
  have e := (idx t).2.2.2.2.2.1
  blk_ext [e, row, rb]
theorem emb_dxb : ((View.whole main_v3_1).slice (win0_6.rect t)).emb (ix2 i j) = ix2 (row (rb t) i) j := by
  have e := (idx t).2.2.2.2.2.2.1
  blk_ext [e, row, rb]
theorem emb_dg (a : Fin 8) : ((View.whole main_v3_2).slice (win0_7.rect t)).emb (ix2 a j) = ix2 a j := by
  have e := (idx t).2.2.2.2.2.2.2
  blk_ext [e]
end

section
variable (ct : Vec Ideal S512x4096 .bf16) (w : Vec Ideal S1024x4096 .bf16) (x : Vec Ideal S512x1024 .f32) (g : Vec Ideal S1x1024 .f32) (res : Vec Ideal S512x1024 .f32)
theorem pay_prod (i : Fin 512) (j : Fin 1024) : k0_pay3 ct w (ix2 i j) = ∑ k : Fin 4096, (ct (ix2 i k) : EReal) * w (ix2 j k) := by
  unfold k0_pay3
  clean_types
  pointwise
theorem pay_rinv (i : Fin 512) : k0_pay4 x (ix2 i 0) = Ideal.rsqrt (den fun k => x (ix2 i k)) := by
  unfold k0_pay4 den
  clean_types
  pointwise
theorem pay_xhat (i : Fin 512) (j : Fin 1024) : k0_pay5 x (ix2 i j) = x (ix2 i j) * Ideal.rsqrt (den fun k => x (ix2 i k)) := by
  unfold k0_pay5
  rw [← pay_rinv]
  generalize k0_pay4 x = r
  clean_types
  pointwise
theorem pay_dx (i : Fin 512) (j : Fin 1024) : k0_pay7 ct w x g res (ix2 i j)
    = grad (fun k => x (ix2 i k)) (fun l => (∑ k : Fin 4096, (ct (ix2 i k) : EReal) * w (ix2 l k)) * g (ix2 0 l)) j + res (ix2 i j) := by
  have e : k0_pay7 ct w x g res (ix2 i j) = (k0_pay4 x (ix2 i 0) : EReal) * ((k0_pay3 ct w (ix2 i j) : EReal) * g (ix2 0 j) - k0_pay5 x (ix2 i j)
      * Ideal.div (∑ l : Fin 1024, (k0_pay3 ct w (ix2 i l) : EReal) * g (ix2 0 l) * k0_pay5 x (ix2 i l)) (Ideal.ofBits .f32 0x44800000#32)) + res (ix2 i j) := by
    unfold k0_pay7
    generalize k0_pay3 ct w = p
    generalize k0_pay5 x = h
    generalize k0_pay4 x = r
    clean_types
    pointwise
  rw [e]
  simp only [pay_prod, pay_xhat, pay_rinv]
  rfl
theorem pay_dxb (i : Fin 512) (j : Fin 1024) : k0_pay8 ct w x g res (ix2 i j) = k0_pay7 ct w x g res (ix2 i j) := rfl
theorem pay_part (i : Fin 512) (j : Fin 1024) : k0_pay6 ct w x (ix2 i j)
    = (∑ k : Fin 4096, (ct (ix2 i k) : EReal) * w (ix2 j k)) * (x (ix2 i j) * Ideal.rsqrt (den fun k => x (ix2 i k))) := by
  rw [← pay_prod, ← pay_xhat]
  rfl
theorem pay_add (v : Vec Ideal S512x1024 .f32) (s : Vec Ideal S8x1024 .f32) (a : Fin 8) (j : Fin 1024) :
    k0_pay2 v s (ix2 a j) = (s (ix2 a j) : EReal) + ∑ i : Fin 512, (v (ix2 i j) : EReal) := by
  unfold k0_pay2
  clean_types
  pointwise
theorem pay_zero (a : Fin 8) (j : Fin 1024) : k0_pay1 (F := Ideal) (ix2 a j) = (0 : EReal) := by
  unfold k0_pay1
  clean_types
  pointwise
end

/-- The rows' share of the gain's gradient, for one block of rows. -/
def part (x : FVec Ideal S4096x1024 .f32) (w : FVec Ideal S1024x4096 .f32) (ct : FVec Ideal S4096x4096 .f32) (b : Fin 8) (j : Fin 1024) : EReal :=
  ∑ r : Fin 512, prod w ct (row b r) j * (x (ix2 (row b r) j) * Ideal.rsqrt (den fun k => x (ix2 (row b r) k)))

theorem part_eq (t : Fin cfg0.N) (j : Fin 1024) : ∑ i : Fin 512, (k0_pay6 (iblk m c 0 t) (iblk m c 1 t) (iblk m c 3 t) (ix2 i j) : EReal)
    = part (m (c, Proc.devRef .tc main_arg0)) (m (c, Proc.devRef .tc main_arg2)) (m (c, Proc.devRef .tc main_arg3)) (rb t) j := by
  unfold part prod
  refine Finset.sum_congr rfl fun i _ => (pay_part _ _ _ i j).trans ?_
  simp only [read_ct, read_w, read_x]

theorem acc_at (a : Fin 8) (j : Fin 1024) : ∀ (n : ℕ) (h : n < cfg0.N), (acc m c n h (ix2 a j) : EReal) = ∑ b : Fin (n + 1), part (m (c, Proc.devRef .tc main_arg0)) (m (c, Proc.devRef .tc main_arg2)) (m (c, Proc.devRef .tc main_arg3)) (rb ⟨b.val, by omega⟩) j
  | 0, h => by
    rw [acc, pay_add, pay_zero, part_eq, zero_add, Fin.sum_univ_one]
    rfl
  | n + 1, h => by
    rw [acc, pay_add, part_eq, acc_at a j n, Fin.sum_univ_castSucc (n := n + 1)]
    rfl

/-- After the last point the sum is over all rows. -/
theorem acc_last (a : Fin 8) (j : Fin 1024) (n : ℕ) (h : n < cfg0.N) (e : n = 7) : acc m c n h (ix2 a j) = dg (m (c, Proc.devRef .tc main_arg0)) (m (c, Proc.devRef .tc main_arg2)) (m (c, Proc.devRef .tc main_arg3)) (ix2 a j) := by
  subst e
  refine (acc_at m c a j 7 h).trans ?_
  unfold dg
  rw [sum_rows]
  rfl

theorem arr_dx : (dats m 0 c).arrAt 5 cfg0.N = dx (m (c, Proc.devRef .tc main_arg0)) (m (c, Proc.devRef .tc main_arg1)) (m (c, Proc.devRef .tc main_arg2)) (m (c, Proc.devRef .tc main_arg3)) (m (c, Proc.devRef .tc main_arg4)) := by
  refine (dats m 0 c).arrAt_eq_of_covers 5 _ (by decide +kernel) fun t hf y => ?_
  blk_simp
  rw [after0_5, outs_eq]
  idx_vars y
  rw [emb_dx]
  refine (pay_dx _ _ _ _ _ y0 y1).trans ?_
  simp only [read_ct, read_w, read_x, read_g, read_res]
  rfl
theorem arr_dxb : (dats m 0 c).arrAt 6 cfg0.N = dxb (m (c, Proc.devRef .tc main_arg0)) (m (c, Proc.devRef .tc main_arg1)) (m (c, Proc.devRef .tc main_arg2)) (m (c, Proc.devRef .tc main_arg3)) (m (c, Proc.devRef .tc main_arg4)) := by
  refine (dats m 0 c).arrAt_eq_of_covers 6 _ (by decide +kernel) fun t hf y => ?_
  blk_simp
  rw [after0_6, outs_eq]
  idx_vars y
  rw [emb_dxb]
  refine ((pay_dxb _ _ _ _ _ y0 y1).trans (pay_dx _ _ _ _ _ y0 y1)).trans ?_
  simp only [read_ct, read_w, read_x, read_g, read_res]
  rfl
theorem arr_dg : (dats m 0 c).arrAt 7 cfg0.N = dg (m (c, Proc.devRef .tc main_arg0)) (m (c, Proc.devRef .tc main_arg2)) (m (c, Proc.devRef .tc main_arg3)) := by
  refine (dats m 0 c).arrAt_eq_of_covers 7 _ (by decide +kernel) fun t hf y => ?_
  have h7 : t.val = 7 := by
    have hN : cfg0.N = 8 := N_0
    have h8 := (flush0_7 t).mp hf
    have h9 := t.isLt
    omega
  blk_simp
  rw [after0_7, outs_eq]
  idx_vars y
  rw [emb_dg]
  exact acc_last m c y0 y1 t.val t.isLt h7

end Cert.Dh2Ideal.Dense

namespace Cert.Dh2RefIdeal.Dense

open Idealize.ShloMosaic Idealize.ShloMosaic.TcCoe Idealize.SL.Sem
open Cert.Dh2RefIdeal Cert.Dh2RefIdeal.Gen Cert.RmsGrad

variable (x : FVec Ideal S4096x1024 .f32) (g : FVec Ideal S1024 .f32) (w : FVec Ideal S1024x4096 .f32) (ct : FVec Ideal S4096x4096 .f32) (res : FVec Ideal S4096x1024 .f32)

/-- The reference's steps: the gradient of the normalised rows, the mean square, its inverse root, the rows' factor and the results. -/
def hprod : FVec Ideal S4096x1024 .f32 := Host.dotGeneral dot_S4096x4096_S1024x4096_S4096x1024_1_1_0_0_n_n none ct w
def hlen : FVec Ideal S4096x1 .f32 := broadcastInDim S4096x1 ![] bcast_S_S4096x1 (constant S_ .f32 0x44800000#32)
def hden : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) hlen)
    (broadcastInDim S4096x1 ![] bcast_S_S4096x1 (constant S_ .f32 0x358637BD#32))
def hrinv : FVec Ideal S4096x1 .f32 := Host.rsqrt (hden x)
def hdot (p : FVec Ideal S4096x1024 .f32) : FVec Ideal S4096x1024 .f32 :=
  mulf p (broadcastInDim S4096x1024 ![0, 1] bcast_S1x1024_S4096x1024_0_1 (broadcastInDim S1x1024 ![1] bcast_S1024_S1x1024_1 g))
def hfac (d : FVec Ideal S4096x1024 .f32) (r v : FVec Ideal S4096x1 .f32) : FVec Ideal S4096 .f32 :=
  Host.reduceAdd (Host.divf (mulf (shapeCast _ (Host.reduceAdd (mulf x d) (constant S_ .f32 0x00000000#32) reducesTo_S4096x1024_S4096_d1 h_S_) shapeCasts_S4096_S4096x1)
    (mulf (broadcastInDim S4096x1 ![] bcast_S_S4096x1 (constant S_ .f32 0xBF000000#32)) (Host.divf r v))) hlen) (constant S_ .f32 0x00000000#32) reducesTo_S4096x1_S4096_d1 h_S_
def hdx (d : FVec Ideal S4096x1024 .f32) (r : FVec Ideal S4096x1 .f32) (f : FVec Ideal S4096 .f32) : FVec Ideal S4096x1024 .f32 :=
  addf (addf (addf (mulf d (broadcastInDim S4096x1024 ![0, 1] bcast_S4096x1_S4096x1024_0_1 r)) (mulf x (broadcastInDim S4096x1024 ![0] bcast_S4096_S4096x1024_0 f)))
    (mulf (broadcastInDim S4096x1024 ![0] bcast_S4096_S4096x1024_0 f) x)) res
def hdg (p : FVec Ideal S4096x1024 .f32) (r : FVec Ideal S4096x1 .f32) : FVec Ideal S8x1024 .f32 :=
  broadcastInDim S8x1024 ![1] bcast_S1024_S8x1024_1 (Host.reduceAdd (shapeCast _ (Host.reduceAdd
    (mulf (mulf x (broadcastInDim S4096x1024 ![0, 1] bcast_S4096x1_S4096x1024_0_1 r)) p) (constant S_ .f32 0x00000000#32) reducesTo_S4096x1024_S1024_d0 h_S_) shapeCasts_S1024_S1x1024)
    (constant S_ .f32 0x00000000#32) reducesTo_S1x1024_S1024_d0 h_S_)
def rdx : FVec Ideal S4096x1024 .f32 :=
  hdx x res (hdot g (hprod w ct)) (hrinv x) (hfac x (hdot g (hprod w ct)) (hrinv x) (hden x))

theorem hprod_at (i : Fin 4096) (j : Fin 1024) : hprod w ct (ix2 i j) = Cert.Dh2Ideal.Dense.prod w ct i j := by
  unfold hprod Cert.Dh2Ideal.Dense.prod
  clean_types
  pointwise
theorem hden_at (i : Fin 4096) : hden x (ix2 i 0) = den fun k => x (ix2 i k) := by
  unfold hden hlen den
  clean_types
  pointwise
theorem hrinv_at (i : Fin 4096) : hrinv x (ix2 i 0) = Ideal.rsqrt (den fun k => x (ix2 i k)) := by
  rw [← hden_at]
  rfl
theorem hdot_at (p : FVec Ideal S4096x1024 .f32) (i : Fin 4096) (j : Fin 1024) : hdot g p (ix2 i j) = (p (ix2 i j) : EReal) * g (ix1 j) := by
  unfold hdot
  clean_types
  pointwise
theorem hfac_at (d : FVec Ideal S4096x1024 .f32) (r v : FVec Ideal S4096x1 .f32) (i : Fin 4096) : hfac x d r v (ix1 i)
    = Ideal.div ((∑ k : Fin 1024, (x (ix2 i k) : EReal) * d (ix2 i k)) * (Ideal.ofBits .f32 0xBF000000#32 * Ideal.div (r (ix2 i 0)) (v (ix2 i 0)))) (Ideal.ofBits .f32 0x44800000#32) := by
  unfold hfac hlen
  clean_types
  pointwise
  exact Fin.sum_univ_one _
theorem hdx_at (d : FVec Ideal S4096x1024 .f32) (r : FVec Ideal S4096x1 .f32) (f : FVec Ideal S4096 .f32) (i : Fin 4096) (j : Fin 1024) : hdx x res d r f (ix2 i j)
    = ((d (ix2 i j) : EReal) * r (ix2 i 0) + x (ix2 i j) * f (ix1 i) + f (ix1 i) * x (ix2 i j)) + res (ix2 i j) := by
  unfold hdx
  clean_types
  pointwise
theorem hdg_at (p : FVec Ideal S4096x1024 .f32) (r : FVec Ideal S4096x1 .f32) (a : Fin 8) (j : Fin 1024) : hdg x p r (ix2 a j)
    = ∑ i : Fin 4096, ((x (ix2 i j) : EReal) * r (ix2 i 0)) * p (ix2 i j) := by
  unfold hdg
  clean_types
  pointwise
  exact Fin.sum_univ_one _

theorem dx_eq : rdx x g w ct res = Cert.Dh2Ideal.Dense.dx x g w ct res := by
  funext y
  idx_vars y
  unfold rdx Cert.Dh2Ideal.Dense.dx
  rw [hdx_at, hfac_at]
  simp only [hdot_at, hprod_at, hrinv_at, hden_at]
  exact congrArg (· + res (ix2 y0 y1)) (grad_eq (fun k => x (ix2 y0 k)) (fun k => Cert.Dh2Ideal.Dense.prod w ct y0 k * g (ix1 k)) y1)
theorem dxb_eq : (truncf .bf16 (rdx x g w ct res) bitsLt_bf16_f32 : FVec Ideal S4096x1024 .bf16) = Cert.Dh2Ideal.Dense.dxb x g w ct res := by
  rw [dx_eq]
  rfl
theorem dg_eq : hdg x (hprod w ct) (hrinv x) = Cert.Dh2Ideal.Dense.dg x w ct := by
  funext y
  idx_vars y
  refine (hdg_at x _ _ y0 y1).trans (Finset.sum_congr rfl fun i _ => ?_)
  rw [hprod_at, hrinv_at]
  exact mul_comm _ _

variable (m : (ℓ : Loc nD τ sig) → Buf (Elt Ideal) ℓ) (c : Dev nD)
theorem res_dx : Cert.Dh2RefIdeal.Value.res_out0 m c = Cert.Dh2Ideal.Dense.dx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine Eq.trans ?_ (dx_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
  unfold Cert.Dh2RefIdeal.Value.res_out0 Cert.Dh2RefIdeal.Value.res_main_v38
  rfl
theorem res_dxb : Cert.Dh2RefIdeal.Value.res_out1 m c = Cert.Dh2Ideal.Dense.dxb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine Eq.trans ?_ (dxb_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
  unfold Cert.Dh2RefIdeal.Value.res_out1 Cert.Dh2RefIdeal.Value.res_main_v40
  rfl

end Cert.Dh2RefIdeal.Dense

end
-- ==== Proof.Dense.Dh3.lean ====
/-
  The gradient before the normalisation of the layer's last gate: the call `mm_dh3` block by block, and the reference.
-/
module

public import proofs.«01_k».proof.Defs
public import proofs.«01_k».proof.Proof.Gen.Dh3Ideal.Value
public import proofs.«01_k».proof.Proof.Gen.Dh3RefIdeal.Run
public import proofs.«01_k».proof.Proof.Dense.RmsGrad
public import Idealize.ShloMosaic.Lib.StableHlo.ReadAt
public import Idealize.ShloMosaic.Lib.Pipeline.ValueKit
public import Idealize.ShloMosaic.Lib.Pipeline.Value
public import Idealize.ShloMosaic.Lib.Pointwise
public import Idealize.ShloMosaic.Lib.Tactic
public import Idealize.ShloMosaic.Lib.Tactic.CleanTypes

@[expose] public section

set_option synthInstance.maxSize 4096
set_option maxRecDepth 16384

noncomputable section

namespace Cert.Dh3Ideal.Dense

open Idealize.ShloMosaic Idealize.ShloMosaic.TcCoe Idealize.SL.Sem
open Idealize.ShloMosaic.Pipeline (Dat Cfg Window)
open Cert.Dh3Ideal.Gen Cert.RmsGrad

/-- Row `r` of the block `b` of rows. -/
def row (b : Fin 8) (r : Fin 512) : Fin 4096 := ⟨b.val * 512 + r.val, by omega⟩

section
variable (x : FVec Ideal S4096x1024 .f32) (g : FVec Ideal S1024 .f32) (w : FVec Ideal S4x1024x1024 .f32) (ct : FVec Ideal S4096x1024 .f32) (res : FVec Ideal S4096x1024 .f32)
/-- The gradient of the normalised rows. -/
def prod (i : Fin 4096) (j : Fin 1024) : EReal := ∑ k : Fin 1024, (ct (ix2 i k) : EReal) * w (ix3 3 j k)
/-- The gradient of the rows, and what is added to it. -/
def dx : FVec Ideal S4096x1024 .f32 := fun y =>
  grad (fun k => x (ix2 (y 0) k)) (fun k => prod w ct (y 0) k * g (ix1 k)) (y 1) + res (ix2 (y 0) (y 1))
def dxb : FVec Ideal S4096x1024 .bf16 := fun y => dx x g w ct res y
/-- The gradient of the gain, in eight equal rows. -/
def dg : FVec Ideal S8x1024 .f32 := fun y =>
  ∑ i : Fin 4096, prod w ct i (y 1) * (x (ix2 i (y 1)) * Ideal.rsqrt (den fun k => x (ix2 i k)))
end

section
variable {F : FTy → Type} [FloatOps F] (m : (ℓ : Loc nD τ sig) → Buf (Elt F) ℓ) (c : Dev nD)
theorem V_ct : V m c main_v0 = truncf .bf16 (m (c, Proc.devRef .tc main_arg3) : FVec F S4096x1024 .f32) bitsLt_bf16_f32 := by
  unfold V
  simp only [hostOps0, List.flatten_cons, List.flatten_nil, List.cons_append, List.nil_append, List.append_nil]
  after_reads_simp
theorem V_w : V m c main_v1 = truncf .bf16 (m (c, Proc.devRef .tc main_arg2) : FVec F S4x1024x1024 .f32) bitsLt_bf16_f32 := by
  unfold V
  simp only [hostOps0, List.flatten_cons, List.flatten_nil, List.cons_append, List.nil_append, List.append_nil]
  after_reads_simp
theorem V_g : V m c main_v2 = shapeCast S1x1024 (m (c, Proc.devRef .tc main_arg1) : FVec F S1024 .f32) shapeCasts_S1024_S1x1024 := by
  unfold V
  simp only [hostOps0, List.flatten_cons, List.flatten_nil, List.cons_append, List.nil_append, List.append_nil]
  after_reads_simp
  rfl
end

theorem gain_at (g : FVec Ideal S1024 .f32) (j : Fin 1024) : shapeCast S1x1024 g shapeCasts_S1024_S1x1024 (ix2 0 j) = g (ix1 j) := by
  pointwise

/-! What the body leaves in its buffers, at the first point and at the others. -/
section
variable {F : FTy → Type} [FloatOps F]
theorem hz : (![0, 0] : Fin 2 → Nat) = fun _ => 0 := funext fun a => by fin_cases a <;> rfl
theorem hz3 : (![0, 0, 0] : Fin 3 → Nat) = fun _ => 0 := funext fun a => by fin_cases a <;> rfl
variable (c : Dev nD) (i : grid0.Coords) (a3 : Memref sig .tc .vmem S512x1024 .bf16) (ha3 : a3.IsWhole) (a4 : Memref sig .tc .vmem S1x1024x1024 .bf16) (ha4 : a4.IsWhole) (a5 : Memref sig .tc .vmem S512x1024 .f32) (ha5 : a5.IsWhole) (a6 : Memref sig .tc .vmem S512x1024 .f32) (ha6 : a6.IsWhole) (a7 : Memref sig .tc .vmem S1x1024 .f32) (ha7 : a7.IsWhole) (a8 : Memref sig .tc .vmem S512x1024 .f32) (ha8 : a8.IsWhole) (a9 : Memref sig .tc .vmem S512x1024 .bf16) (ha9 : a9.IsWhole) (a10 : Memref sig .tc .vmem S8x1024 .f32) (ha10 : a10.IsWhole)
  (x0 : Vec F S512x1024 .bf16) (x1 : Vec F S1x1024x1024 .bf16) (x2 : Vec F S512x1024 .f32) (x3 : Vec F S512x1024 .f32) (x4 : Vec F S1x1024 .f32)
include ha3 ha4 ha5 ha6 ha7 ha8 ha9 ha10
theorem out_A_5 (hc : cond0_0 i) : out0_A_5 c i a3 ha3 a4 ha4 a5 ha5 a6 ha6 a7 ha7 a8 ha8 a9 ha9 a10 ha10 hc x0 x1 x2 x3 x4 = k0_pay7 x0 x1 x3 x4 x2 := by
  unfold out0_A_5
  rw [View.read_writes_eq_canon _ _ _ (cover0_A_5 c i a3 ha3 a4 ha4 a5 ha5 a6 ha6 a7 ha7 a8 ha8 a9 ha9 a10 ha10 hc x0 x1 x2 x3 x4)]
  unfold kernelRun0_A
  dsimp only
  sl_unfold_words
  rw [View.canon_unit_zero hz]
  simp only [View.readAt_eq_ld, ha3.read_unread, ha4.read_unread, ha5.read_unread, ha6.read_unread, ha7.read_unread, View.ld_unit_zero (S := S512x1024) hz, View.ld_unit_zero (S := S1x1024x1024) hz3, View.ld_unit_zero (S := S512x1024) hz,
    View.ld_unit_zero (S := S1x1024) hz, View.ld_unit_zero (S := S8x1024) hz]
theorem out_A_6 (hc : cond0_0 i) : out0_A_6 c i a3 ha3 a4 ha4 a5 ha5 a6 ha6 a7 ha7 a8 ha8 a9 ha9 a10 ha10 hc x0 x1 x2 x3 x4 = k0_pay8 x0 x1 x3 x4 x2 := by
  unfold out0_A_6
  rw [View.read_writes_eq_canon _ _ _ (cover0_A_6 c i a3 ha3 a4 ha4 a5 ha5 a6 ha6 a7 ha7 a8 ha8 a9 ha9 a10 ha10 hc x0 x1 x2 x3 x4)]
  unfold kernelRun0_A
  dsimp only
  sl_unfold_words
  rw [View.canon_unit_zero hz]
  simp only [View.readAt_eq_ld, ha3.read_unread, ha4.read_unread, ha5.read_unread, ha6.read_unread, ha7.read_unread, View.ld_unit_zero (S := S512x1024) hz, View.ld_unit_zero (S := S1x1024x1024) hz3, View.ld_unit_zero (S := S512x1024) hz,
    View.ld_unit_zero (S := S1x1024) hz, View.ld_unit_zero (S := S8x1024) hz]
theorem out_A_7 (hc : cond0_0 i) : out0_A_7 c i a3 ha3 a4 ha4 a5 ha5 a6 ha6 a7 ha7 a8 ha8 a9 ha9 a10 ha10 hc x0 x1 x2 x3 x4 = k0_pay2 (k0_pay6 x0 x1 x3) (k0_pay1 (F := F)) := by
  unfold out0_A_7
  rw [View.read_writes_eq_canon _ _ _ (cover0_A_7 c i a3 ha3 a4 ha4 a5 ha5 a6 ha6 a7 ha7 a8 ha8 a9 ha9 a10 ha10 hc x0 x1 x2 x3 x4)]
  unfold kernelRun0_A
  dsimp only
  sl_unfold_words
  rw [View.canon_cons_unit_zero (S := S8x1024) hz, View.readCov_unit_zero (S := S8x1024) _ hz]
  simp only [View.readAt_eq_ld, ha3.read_unread, ha4.read_unread, ha5.read_unread, ha6.read_unread, ha7.read_unread, View.ld_unit_zero (S := S512x1024) hz, View.ld_unit_zero (S := S1x1024x1024) hz3, View.ld_unit_zero (S := S512x1024) hz,
    View.ld_unit_zero (S := S1x1024) hz, View.ld_unit_zero (S := S8x1024) hz]
theorem out_B_5 (hc : ¬cond0_0 i) (xo : Vec F S8x1024 .f32) : out0_B_5 c i a3 ha3 a4 ha4 a5 ha5 a6 ha6 a7 ha7 a8 ha8 a9 ha9 a10 ha10 hc x0 x1 x2 x3 x4 xo = k0_pay7 x0 x1 x3 x4 x2 := by
  unfold out0_B_5
  rw [View.read_writes_eq_canon _ _ _ (cover0_B_5 c i a3 ha3 a4 ha4 a5 ha5 a6 ha6 a7 ha7 a8 ha8 a9 ha9 a10 ha10 hc x0 x1 x2 x3 x4 xo)]
  unfold kernelRun0_B
  dsimp only
  sl_unfold_words
  rw [View.canon_unit_zero hz]
  simp only [View.readAt_eq_ld, ha3.read_unread, ha4.read_unread, ha5.read_unread, ha6.read_unread, ha7.read_unread, ha10.read_unread, View.ld_unit_zero (S := S512x1024) hz, View.ld_unit_zero (S := S1x1024x1024) hz3, View.ld_unit_zero (S := S512x1024) hz,
    View.ld_unit_zero (S := S1x1024) hz, View.ld_unit_zero (S := S8x1024) hz]
theorem out_B_6 (hc : ¬cond0_0 i) (xo : Vec F S8x1024 .f32) : out0_B_6 c i a3 ha3 a4 ha4 a5 ha5 a6 ha6 a7 ha7 a8 ha8 a9 ha9 a10 ha10 hc x0 x1 x2 x3 x4 xo = k0_pay8 x0 x1 x3 x4 x2 := by
  unfold out0_B_6
  rw [View.read_writes_eq_canon _ _ _ (cover0_B_6 c i a3 ha3 a4 ha4 a5 ha5 a6 ha6 a7 ha7 a8 ha8 a9 ha9 a10 ha10 hc x0 x1 x2 x3 x4 xo)]
  unfold kernelRun0_B
  dsimp only
  sl_unfold_words
  rw [View.canon_unit_zero hz]
  simp only [View.readAt_eq_ld, ha3.read_unread, ha4.read_unread, ha5.read_unread, ha6.read_unread, ha7.read_unread, ha10.read_unread, View.ld_unit_zero (S := S512x1024) hz, View.ld_unit_zero (S := S1x1024x1024) hz3, View.ld_unit_zero (S := S512x1024) hz,
    View.ld_unit_zero (S := S1x1024) hz, View.ld_unit_zero (S := S8x1024) hz]
theorem out_B_7 (hc : ¬cond0_0 i) (xo : Vec F S8x1024 .f32) : out0_B_7 c i a3 ha3 a4 ha4 a5 ha5 a6 ha6 a7 ha7 a8 ha8 a9 ha9 a10 ha10 hc x0 x1 x2 x3 x4 xo = k0_pay2 (k0_pay6 x0 x1 x3) xo := by
  unfold out0_B_7
  rw [View.read_writes_eq_canon _ _ _ (cover0_B_7 c i a3 ha3 a4 ha4 a5 ha5 a6 ha6 a7 ha7 a8 ha8 a9 ha9 a10 ha10 hc x0 x1 x2 x3 x4 xo)]
  unfold kernelRun0_B
  dsimp only
  sl_unfold_words
  rw [View.canon_unit_zero hz]
  simp only [View.readAt_eq_ld, ha3.read_unread, ha4.read_unread, ha5.read_unread, ha6.read_unread, ha7.read_unread, ha10.read_unread, View.ld_unit_zero (S := S512x1024) hz, View.ld_unit_zero (S := S1x1024x1024) hz3, View.ld_unit_zero (S := S512x1024) hz,
    View.ld_unit_zero (S := S1x1024) hz, View.ld_unit_zero (S := S8x1024) hz]
end

section
variable {F : FTy → Type} [FloatOps F] (m : (ℓ : Loc nD τ sig) → Buf (Elt F) ℓ) (c : Dev nD)
/-- The running sum of the gain's gradient. -/
def acc : (n : ℕ) → n < cfg0.N → Vec F S8x1024 .f32
  | 0, h => k0_pay2 (k0_pay6 (iblk m c 0 ⟨0, h⟩) (iblk m c 1 ⟨0, h⟩) (iblk m c 3 ⟨0, h⟩)) (k0_pay1 (F := F))
  | n + 1, h => k0_pay2 (k0_pay6 (iblk m c 0 ⟨n + 1, h⟩) (iblk m c 1 ⟨n + 1, h⟩) (iblk m c 3 ⟨n + 1, h⟩)) (acc n (Nat.lt_of_succ_lt h))

theorem outs_eq : ∀ (n : ℕ) (h : n < cfg0.N), outsAt0 m c n h
    = (k0_pay7 (iblk m c 0 ⟨n, h⟩) (iblk m c 1 ⟨n, h⟩) (iblk m c 3 ⟨n, h⟩) (iblk m c 4 ⟨n, h⟩) (iblk m c 2 ⟨n, h⟩),
      k0_pay8 (iblk m c 0 ⟨n, h⟩) (iblk m c 1 ⟨n, h⟩) (iblk m c 3 ⟨n, h⟩) (iblk m c 4 ⟨n, h⟩) (iblk m c 2 ⟨n, h⟩), acc m c n h)
  | 0, h => (outsAt0_A m c ⟨0, h⟩ rfl).trans (by rw [out_A_5, out_A_6, out_A_7]; rfl)
  | n + 1, h => by
    have hN : cfg0.N = 8 := N_0
    have hB : ¬(⟨n + 1, h⟩ : Fin cfg0.N).val % 8 = 0 := by dsimp only; omega
    have e := outs_eq n (Nat.lt_of_succ_lt h)
    rw [outsAt0_B m c ⟨n + 1, h⟩ hB, out_B_5, out_B_6, out_B_7]
    show (_, _, k0_pay2 _ (outsAt0 m c n _).2.2) = _
    rw [e]
    rfl
end

/-- A point's block of rows. -/
def rb (t : Fin cfg0.N) : Fin 8 := ⟨t.val, t.isLt⟩

theorem idx : ∀ t : Fin grid0.N, win0_0.index t = ![t.val, 0] ∧ win0_1.index t = ![3, 0, 0] ∧ win0_2.index t = ![t.val, 0] ∧ win0_3.index t = ![t.val, 0]
    ∧ win0_4.index t = ![0, 0] ∧ win0_5.index t = ![t.val, 0] ∧ win0_6.index t = ![t.val, 0] ∧ win0_7.index t = ![0, 0] := by
  decide +kernel

variable (m : (ℓ : Loc nD τ sig) → Buf (Elt Ideal) ℓ) (c : Dev nD)

section
variable (t : Fin cfg0.N) (i : Fin 512) (j : Fin 1024) (k : Fin 1024)
theorem read_ct : iblk m c 0 t (ix2 i k) = m (c, Proc.devRef .tc main_arg3) (ix2 (row (rb t) i) k) := by
  refine Eq.trans (b := V m c main_v0 (ix2 (row (rb t) i) k)) ?_ (congrFun (V_ct m c) _)
  have e := (idx t).1
  blk_ext [iblk, e, row, rb]
theorem read_w : iblk m c 1 t (ix3 0 j k) = m (c, Proc.devRef .tc main_arg2) (ix3 3 j k) := by
  refine Eq.trans (b := V m c main_v1 (ix3 3 j k)) ?_ (congrFun (V_w m c) _)
  have e := (idx t).2.1
  blk_ext [iblk, e]
theorem read_res : iblk m c 2 t (ix2 i j) = m (c, Proc.devRef .tc main_arg4) (ix2 (row (rb t) i) j) := by
  refine Eq.trans (b := V m c main_arg4 (ix2 (row (rb t) i) j)) ?_ (congrFun (V_main_arg4 m c) _)
  have e := (idx t).2.2.1
  blk_ext [iblk, e, row, rb]
theorem read_x : iblk m c 3 t (ix2 i j) = m (c, Proc.devRef .tc main_arg0) (ix2 (row (rb t) i) j) := by
  refine Eq.trans (b := V m c main_arg0 (ix2 (row (rb t) i) j)) ?_ (congrFun (V_main_arg0 m c) _)
  have e := (idx t).2.2.2.1
  blk_ext [iblk, e, row, rb]
theorem read_g : iblk m c 4 t (ix2 0 j) = m (c, Proc.devRef .tc main_arg1) (ix1 j) := by
  refine Eq.trans (b := V m c main_v2 (ix2 0 j)) ?_ ((congrFun (V_g m c) _).trans (gain_at _ j))
  have e := (idx t).2.2.2.2.1
  blk_ext [iblk, e]
theorem emb_dx : ((View.whole main_v3_0).slice (win0_5.rect t)).emb (ix2 i j) = ix2 (row (rb t) i) j := by
  have e := (idx t).2.2.2.2.2.1
  blk_ext [e, row, rb]
theorem emb_dxb : ((View.whole main_v3_1).slice (win0_6.rect t)).emb (ix2 i j) = ix2 (row (rb t) i) j := by
  have e := (idx t).2.2.2.2.2.2.1
  blk_ext [e, row, rb]
theorem emb_dg (a : Fin 8) : ((View.whole main_v3_2).slice (win0_7.rect t)).emb (ix2 a j) = ix2 a j := by
  have e := (idx t).2.2.2.2.2.2.2
  blk_ext [e]
end

section
variable (ct : Vec Ideal S512x1024 .bf16) (w : Vec Ideal S1x1024x1024 .bf16) (x : Vec Ideal S512x1024 .f32) (g : Vec Ideal S1x1024 .f32) (res : Vec Ideal S512x1024 .f32)
theorem pay_prod (i : Fin 512) (j : Fin 1024) : k0_pay3 ct w (ix2 i j) = ∑ k : Fin 1024, (ct (ix2 i k) : EReal) * w (ix3 0 j k) := by
  unfold k0_pay3
  clean_types
  pointwise
theorem pay_rinv (i : Fin 512) : k0_pay4 x (ix2 i 0) = Ideal.rsqrt (den fun k => x (ix2 i k)) := by
  unfold k0_pay4 den
  clean_types
  pointwise
theorem pay_xhat (i : Fin 512) (j : Fin 1024) : k0_pay5 x (ix2 i j) = x (ix2 i j) * Ideal.rsqrt (den fun k => x (ix2 i k)) := by
  unfold k0_pay5
  rw [← pay_rinv]
  generalize k0_pay4 x = r
  clean_types
  pointwise
theorem pay_dx (i : Fin 512) (j : Fin 1024) : k0_pay7 ct w x g res (ix2 i j)
    = grad (fun k => x (ix2 i k)) (fun l => (∑ k : Fin 1024, (ct (ix2 i k) : EReal) * w (ix3 0 l k)) * g (ix2 0 l)) j + res (ix2 i j) := by
  have e : k0_pay7 ct w x g res (ix2 i j) = (k0_pay4 x (ix2 i 0) : EReal) * ((k0_pay3 ct w (ix2 i j) : EReal) * g (ix2 0 j) - k0_pay5 x (ix2 i j)
      * Ideal.div (∑ l : Fin 1024, (k0_pay3 ct w (ix2 i l) : EReal) * g (ix2 0 l) * k0_pay5 x (ix2 i l)) (Ideal.ofBits .f32 0x44800000#32)) + res (ix2 i j) := by
    unfold k0_pay7
    generalize k0_pay3 ct w = p
    generalize k0_pay5 x = h
    generalize k0_pay4 x = r
    clean_types
    pointwise
  rw [e]
  simp only [pay_prod, pay_xhat, pay_rinv]
  rfl
theorem pay_dxb (i : Fin 512) (j : Fin 1024) : k0_pay8 ct w x g res (ix2 i j) = k0_pay7 ct w x g res (ix2 i j) := rfl
theorem pay_part (i : Fin 512) (j : Fin 1024) : k0_pay6 ct w x (ix2 i j)
    = (∑ k : Fin 1024, (ct (ix2 i k) : EReal) * w (ix3 0 j k)) * (x (ix2 i j) * Ideal.rsqrt (den fun k => x (ix2 i k))) := by
  rw [← pay_prod, ← pay_xhat]
  rfl
theorem pay_add (v : Vec Ideal S512x1024 .f32) (s : Vec Ideal S8x1024 .f32) (a : Fin 8) (j : Fin 1024) :
    k0_pay2 v s (ix2 a j) = (s (ix2 a j) : EReal) + ∑ i : Fin 512, (v (ix2 i j) : EReal) := by
  unfold k0_pay2
  clean_types
  pointwise
theorem pay_zero (a : Fin 8) (j : Fin 1024) : k0_pay1 (F := Ideal) (ix2 a j) = (0 : EReal) := by
  unfold k0_pay1
  clean_types
  pointwise
end

/-- The rows' share of the gain's gradient, for one block of rows. -/
def part (x : FVec Ideal S4096x1024 .f32) (w : FVec Ideal S4x1024x1024 .f32) (ct : FVec Ideal S4096x1024 .f32) (b : Fin 8) (j : Fin 1024) : EReal :=
  ∑ r : Fin 512, prod w ct (row b r) j * (x (ix2 (row b r) j) * Ideal.rsqrt (den fun k => x (ix2 (row b r) k)))

theorem part_eq (t : Fin cfg0.N) (j : Fin 1024) : ∑ i : Fin 512, (k0_pay6 (iblk m c 0 t) (iblk m c 1 t) (iblk m c 3 t) (ix2 i j) : EReal)
    = part (m (c, Proc.devRef .tc main_arg0)) (m (c, Proc.devRef .tc main_arg2)) (m (c, Proc.devRef .tc main_arg3)) (rb t) j := by
  unfold part prod
  refine Finset.sum_congr rfl fun i _ => (pay_part _ _ _ i j).trans ?_
  simp only [read_ct, read_w, read_x]

theorem acc_at (a : Fin 8) (j : Fin 1024) : ∀ (n : ℕ) (h : n < cfg0.N), (acc m c n h (ix2 a j) : EReal) = ∑ b : Fin (n + 1), part (m (c, Proc.devRef .tc main_arg0)) (m (c, Proc.devRef .tc main_arg2)) (m (c, Proc.devRef .tc main_arg3)) (rb ⟨b.val, by omega⟩) j
  | 0, h => by
    rw [acc, pay_add, pay_zero, part_eq, zero_add, Fin.sum_univ_one]
    rfl
  | n + 1, h => by
    rw [acc, pay_add, part_eq, acc_at a j n, Fin.sum_univ_castSucc (n := n + 1)]
    rfl

/-- After the last point the sum is over all rows. -/
theorem acc_last (a : Fin 8) (j : Fin 1024) (n : ℕ) (h : n < cfg0.N) (e : n = 7) : acc m c n h (ix2 a j) = dg (m (c, Proc.devRef .tc main_arg0)) (m (c, Proc.devRef .tc main_arg2)) (m (c, Proc.devRef .tc main_arg3)) (ix2 a j) := by
  subst e
  refine (acc_at m c a j 7 h).trans ?_
  unfold dg
  rw [sum_rows]
  rfl

theorem arr_dx : (dats m 0 c).arrAt 5 cfg0.N = dx (m (c, Proc.devRef .tc main_arg0)) (m (c, Proc.devRef .tc main_arg1)) (m (c, Proc.devRef .tc main_arg2)) (m (c, Proc.devRef .tc main_arg3)) (m (c, Proc.devRef .tc main_arg4)) := by
  refine (dats m 0 c).arrAt_eq_of_covers 5 _ (by decide +kernel) fun t hf y => ?_
  blk_simp
  rw [after0_5, outs_eq]
  idx_vars y
  rw [emb_dx]
  refine (pay_dx _ _ _ _ _ y0 y1).trans ?_
  simp only [read_ct, read_w, read_x, read_g, read_res]
  rfl
theorem arr_dxb : (dats m 0 c).arrAt 6 cfg0.N = dxb (m (c, Proc.devRef .tc main_arg0)) (m (c, Proc.devRef .tc main_arg1)) (m (c, Proc.devRef .tc main_arg2)) (m (c, Proc.devRef .tc main_arg3)) (m (c, Proc.devRef .tc main_arg4)) := by
  refine (dats m 0 c).arrAt_eq_of_covers 6 _ (by decide +kernel) fun t hf y => ?_
  blk_simp
  rw [after0_6, outs_eq]
  idx_vars y
  rw [emb_dxb]
  refine ((pay_dxb _ _ _ _ _ y0 y1).trans (pay_dx _ _ _ _ _ y0 y1)).trans ?_
  simp only [read_ct, read_w, read_x, read_g, read_res]
  rfl
theorem arr_dg : (dats m 0 c).arrAt 7 cfg0.N = dg (m (c, Proc.devRef .tc main_arg0)) (m (c, Proc.devRef .tc main_arg2)) (m (c, Proc.devRef .tc main_arg3)) := by
  refine (dats m 0 c).arrAt_eq_of_covers 7 _ (by decide +kernel) fun t hf y => ?_
  have h7 : t.val = 7 := by
    have hN : cfg0.N = 8 := N_0
    have h8 := (flush0_7 t).mp hf
    have h9 := t.isLt
    omega
  blk_simp
  rw [after0_7, outs_eq]
  idx_vars y
  rw [emb_dg]
  exact acc_last m c y0 y1 t.val t.isLt h7

end Cert.Dh3Ideal.Dense

namespace Cert.Dh3RefIdeal.Dense

open Idealize.ShloMosaic Idealize.ShloMosaic.TcCoe Idealize.SL.Sem
open Cert.Dh3RefIdeal Cert.Dh3RefIdeal.Gen Cert.RmsGrad

variable (x : FVec Ideal S4096x1024 .f32) (g : FVec Ideal S1024 .f32) (w : FVec Ideal S4x1024x1024 .f32) (ct : FVec Ideal S4096x1024 .f32) (res : FVec Ideal S4096x1024 .f32)

/-- The reference's steps: the gradient of the normalised rows, the mean square, its inverse root, the rows' factor and the results. -/
def hprod : FVec Ideal S4096x1024 .f32 := Host.dotGeneral dot_S4096x1024_S1024x1024_S4096x1024_1_1_0_0_n_n none ct (shapeCast _ (extractStridedSlice S1x1024x1024 ![3, 0, 0] w slices_S4x1024x1024_S1x1024x1024_3_0_0) shapeCasts_S1x1024x1024_S1024x1024)
def hlen : FVec Ideal S4096x1 .f32 := broadcastInDim S4096x1 ![] bcast_S_S4096x1 (constant S_ .f32 0x44800000#32)
def hden : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) hlen)
    (broadcastInDim S4096x1 ![] bcast_S_S4096x1 (constant S_ .f32 0x358637BD#32))
def hrinv : FVec Ideal S4096x1 .f32 := Host.rsqrt (hden x)
def hdot (p : FVec Ideal S4096x1024 .f32) : FVec Ideal S4096x1024 .f32 :=
  mulf p (broadcastInDim S4096x1024 ![0, 1] bcast_S1x1024_S4096x1024_0_1 (broadcastInDim S1x1024 ![1] bcast_S1024_S1x1024_1 g))
def hfac (d : FVec Ideal S4096x1024 .f32) (r v : FVec Ideal S4096x1 .f32) : FVec Ideal S4096 .f32 :=
  Host.reduceAdd (Host.divf (mulf (shapeCast _ (Host.reduceAdd (mulf x d) (constant S_ .f32 0x00000000#32) reducesTo_S4096x1024_S4096_d1 h_S_) shapeCasts_S4096_S4096x1)
    (mulf (broadcastInDim S4096x1 ![] bcast_S_S4096x1 (constant S_ .f32 0xBF000000#32)) (Host.divf r v))) hlen) (constant S_ .f32 0x00000000#32) reducesTo_S4096x1_S4096_d1 h_S_
def hdx (d : FVec Ideal S4096x1024 .f32) (r : FVec Ideal S4096x1 .f32) (f : FVec Ideal S4096 .f32) : FVec Ideal S4096x1024 .f32 :=
  addf (addf (addf (mulf d (broadcastInDim S4096x1024 ![0, 1] bcast_S4096x1_S4096x1024_0_1 r)) (mulf x (broadcastInDim S4096x1024 ![0] bcast_S4096_S4096x1024_0 f)))
    (mulf (broadcastInDim S4096x1024 ![0] bcast_S4096_S4096x1024_0 f) x)) res
def hdg (p : FVec Ideal S4096x1024 .f32) (r : FVec Ideal S4096x1 .f32) : FVec Ideal S8x1024 .f32 :=
  broadcastInDim S8x1024 ![1] bcast_S1024_S8x1024_1 (Host.reduceAdd (shapeCast _ (Host.reduceAdd
    (mulf (mulf x (broadcastInDim S4096x1024 ![0, 1] bcast_S4096x1_S4096x1024_0_1 r)) p) (constant S_ .f32 0x00000000#32) reducesTo_S4096x1024_S1024_d0 h_S_) shapeCasts_S1024_S1x1024)
    (constant S_ .f32 0x00000000#32) reducesTo_S1x1024_S1024_d0 h_S_)
def rdx : FVec Ideal S4096x1024 .f32 :=
  hdx x res (hdot g (hprod w ct)) (hrinv x) (hfac x (hdot g (hprod w ct)) (hrinv x) (hden x))

theorem hprod_at (i : Fin 4096) (j : Fin 1024) : hprod w ct (ix2 i j) = Cert.Dh3Ideal.Dense.prod w ct i j := by
  unfold hprod Cert.Dh3Ideal.Dense.prod
  clean_types
  pointwise
theorem hden_at (i : Fin 4096) : hden x (ix2 i 0) = den fun k => x (ix2 i k) := by
  unfold hden hlen den
  clean_types
  pointwise
theorem hrinv_at (i : Fin 4096) : hrinv x (ix2 i 0) = Ideal.rsqrt (den fun k => x (ix2 i k)) := by
  rw [← hden_at]
  rfl
theorem hdot_at (p : FVec Ideal S4096x1024 .f32) (i : Fin 4096) (j : Fin 1024) : hdot g p (ix2 i j) = (p (ix2 i j) : EReal) * g (ix1 j) := by
  unfold hdot
  clean_types
  pointwise
theorem hfac_at (d : FVec Ideal S4096x1024 .f32) (r v : FVec Ideal S4096x1 .f32) (i : Fin 4096) : hfac x d r v (ix1 i)
    = Ideal.div ((∑ k : Fin 1024, (x (ix2 i k) : EReal) * d (ix2 i k)) * (Ideal.ofBits .f32 0xBF000000#32 * Ideal.div (r (ix2 i 0)) (v (ix2 i 0)))) (Ideal.ofBits .f32 0x44800000#32) := by
  unfold hfac hlen
  clean_types
  pointwise
  exact Fin.sum_univ_one _
theorem hdx_at (d : FVec Ideal S4096x1024 .f32) (r : FVec Ideal S4096x1 .f32) (f : FVec Ideal S4096 .f32) (i : Fin 4096) (j : Fin 1024) : hdx x res d r f (ix2 i j)
    = ((d (ix2 i j) : EReal) * r (ix2 i 0) + x (ix2 i j) * f (ix1 i) + f (ix1 i) * x (ix2 i j)) + res (ix2 i j) := by
  unfold hdx
  clean_types
  pointwise
theorem hdg_at (p : FVec Ideal S4096x1024 .f32) (r : FVec Ideal S4096x1 .f32) (a : Fin 8) (j : Fin 1024) : hdg x p r (ix2 a j)
    = ∑ i : Fin 4096, ((x (ix2 i j) : EReal) * r (ix2 i 0)) * p (ix2 i j) := by
  unfold hdg
  clean_types
  pointwise
  exact Fin.sum_univ_one _

theorem dx_eq : rdx x g w ct res = Cert.Dh3Ideal.Dense.dx x g w ct res := by
  funext y
  idx_vars y
  unfold rdx Cert.Dh3Ideal.Dense.dx
  rw [hdx_at, hfac_at]
  simp only [hdot_at, hprod_at, hrinv_at, hden_at]
  exact congrArg (· + res (ix2 y0 y1)) (grad_eq (fun k => x (ix2 y0 k)) (fun k => Cert.Dh3Ideal.Dense.prod w ct y0 k * g (ix1 k)) y1)
theorem dxb_eq : (truncf .bf16 (rdx x g w ct res) bitsLt_bf16_f32 : FVec Ideal S4096x1024 .bf16) = Cert.Dh3Ideal.Dense.dxb x g w ct res := by
  rw [dx_eq]
  rfl
theorem dg_eq : hdg x (hprod w ct) (hrinv x) = Cert.Dh3Ideal.Dense.dg x w ct := by
  funext y
  idx_vars y
  refine (hdg_at x _ _ y0 y1).trans (Finset.sum_congr rfl fun i _ => ?_)
  rw [hprod_at, hrinv_at]
  exact mul_comm _ _

variable (m : (ℓ : Loc nD τ sig) → Buf (Elt Ideal) ℓ) (c : Dev nD)
theorem res_dx : Cert.Dh3RefIdeal.Value.res_out0 m c = Cert.Dh3Ideal.Dense.dx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine Eq.trans ?_ (dx_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
  unfold Cert.Dh3RefIdeal.Value.res_out0 Cert.Dh3RefIdeal.Value.res_main_v40
  rfl
theorem res_dxb : Cert.Dh3RefIdeal.Value.res_out1 m c = Cert.Dh3Ideal.Dense.dxb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine Eq.trans ?_ (dxb_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
  unfold Cert.Dh3RefIdeal.Value.res_out1 Cert.Dh3RefIdeal.Value.res_main_v42
  rfl

end Cert.Dh3RefIdeal.Dense

end
-- ==== Proof.Dense.Dh.lean ====
/-
  The gradient before the normalisation of the attention: the call `mm_dh` block by block, and the reference.
-/
module

public import proofs.«01_k».proof.Defs
public import proofs.«01_k».proof.Proof.Gen.DhIdeal.Value
public import proofs.«01_k».proof.Proof.Gen.DhRefIdeal.Run
public import proofs.«01_k».proof.Proof.Dense.RmsGrad
public import Idealize.ShloMosaic.Lib.StableHlo.ReadAt
public import Idealize.ShloMosaic.Lib.Pipeline.ValueKit
public import Idealize.ShloMosaic.Lib.Pipeline.Value
public import Idealize.ShloMosaic.Lib.Pointwise
public import Idealize.ShloMosaic.Lib.Tactic
public import Idealize.ShloMosaic.Lib.Tactic.CleanTypes

@[expose] public section

set_option synthInstance.maxSize 4096
set_option maxRecDepth 16384

noncomputable section

namespace Cert.DhIdeal.Dense

open Idealize.ShloMosaic Idealize.ShloMosaic.TcCoe Idealize.SL.Sem
open Idealize.ShloMosaic.Pipeline (Dat Cfg Window)
open Cert.DhIdeal.Gen Cert.RmsGrad

/-- Row `r` of the block `b` of rows. -/
def row (b : Fin 8) (r : Fin 512) : Fin 4096 := ⟨b.val * 512 + r.val, by omega⟩

section
variable (x : FVec Ideal S4096x1024 .f32) (g : FVec Ideal S1024 .f32) (w : FVec Ideal S1024x2304 .f32) (ct : FVec Ideal S4096x2304 .f32) (res : FVec Ideal S4096x1024 .f32)
/-- The gradient of the normalised rows. -/
def prod (i : Fin 4096) (j : Fin 1024) : EReal := ∑ k : Fin 2304, (ct (ix2 i k) : EReal) * w (ix2 j k)
/-- The gradient of the rows, and what is added to it. -/
def dx : FVec Ideal S4096x1024 .f32 := fun y =>
  grad (fun k => x (ix2 (y 0) k)) (fun k => prod w ct (y 0) k * g (ix1 k)) (y 1) + res (ix2 (y 0) (y 1))
def dxb : FVec Ideal S4096x1024 .bf16 := fun y => dx x g w ct res y
/-- The gradient of the gain, in eight equal rows. -/
def dg : FVec Ideal S8x1024 .f32 := fun y =>
  ∑ i : Fin 4096, prod w ct i (y 1) * (x (ix2 i (y 1)) * Ideal.rsqrt (den fun k => x (ix2 i k)))
end

section
variable {F : FTy → Type} [FloatOps F] (m : (ℓ : Loc nD τ sig) → Buf (Elt F) ℓ) (c : Dev nD)
theorem V_ct : V m c main_v0 = truncf .bf16 (m (c, Proc.devRef .tc main_arg3) : FVec F S4096x2304 .f32) bitsLt_bf16_f32 := by
  unfold V
  simp only [hostOps0, List.flatten_cons, List.flatten_nil, List.cons_append, List.nil_append, List.append_nil]
  after_reads_simp
theorem V_w : V m c main_v1 = truncf .bf16 (m (c, Proc.devRef .tc main_arg2) : FVec F S1024x2304 .f32) bitsLt_bf16_f32 := by
  unfold V
  simp only [hostOps0, List.flatten_cons, List.flatten_nil, List.cons_append, List.nil_append, List.append_nil]
  after_reads_simp
theorem V_g : V m c main_v2 = shapeCast S1x1024 (m (c, Proc.devRef .tc main_arg1) : FVec F S1024 .f32) shapeCasts_S1024_S1x1024 := by
  unfold V
  simp only [hostOps0, List.flatten_cons, List.flatten_nil, List.cons_append, List.nil_append, List.append_nil]
  after_reads_simp
  rfl
end

theorem gain_at (g : FVec Ideal S1024 .f32) (j : Fin 1024) : shapeCast S1x1024 g shapeCasts_S1024_S1x1024 (ix2 0 j) = g (ix1 j) := by
  pointwise

/-! What the body leaves in its buffers, at the first point and at the others. -/
section
variable {F : FTy → Type} [FloatOps F]
theorem hz : (![0, 0] : Fin 2 → Nat) = fun _ => 0 := funext fun a => by fin_cases a <;> rfl
variable (c : Dev nD) (i : grid0.Coords) (a3 : Memref sig .tc .vmem S512x2304 .bf16) (ha3 : a3.IsWhole) (a4 : Memref sig .tc .vmem S1024x2304 .bf16) (ha4 : a4.IsWhole) (a5 : Memref sig .tc .vmem S512x1024 .f32) (ha5 : a5.IsWhole) (a6 : Memref sig .tc .vmem S512x1024 .f32) (ha6 : a6.IsWhole) (a7 : Memref sig .tc .vmem S1x1024 .f32) (ha7 : a7.IsWhole) (a8 : Memref sig .tc .vmem S512x1024 .f32) (ha8 : a8.IsWhole) (a9 : Memref sig .tc .vmem S512x1024 .bf16) (ha9 : a9.IsWhole) (a10 : Memref sig .tc .vmem S8x1024 .f32) (ha10 : a10.IsWhole)
  (x0 : Vec F S512x2304 .bf16) (x1 : Vec F S1024x2304 .bf16) (x2 : Vec F S512x1024 .f32) (x3 : Vec F S512x1024 .f32) (x4 : Vec F S1x1024 .f32)
include ha3 ha4 ha5 ha6 ha7 ha8 ha9 ha10
theorem out_A_5 (hc : cond0_0 i) : out0_A_5 c i a3 ha3 a4 ha4 a5 ha5 a6 ha6 a7 ha7 a8 ha8 a9 ha9 a10 ha10 hc x0 x1 x2 x3 x4 = k0_pay7 x0 x1 x3 x4 x2 := by
  unfold out0_A_5
  rw [View.read_writes_eq_canon _ _ _ (cover0_A_5 c i a3 ha3 a4 ha4 a5 ha5 a6 ha6 a7 ha7 a8 ha8 a9 ha9 a10 ha10 hc x0 x1 x2 x3 x4)]
  unfold kernelRun0_A
  dsimp only
  sl_unfold_words
  rw [View.canon_unit_zero hz]
  simp only [View.readAt_eq_ld, ha3.read_unread, ha4.read_unread, ha5.read_unread, ha6.read_unread, ha7.read_unread, View.ld_unit_zero (S := S512x2304) hz, View.ld_unit_zero (S := S1024x2304) hz, View.ld_unit_zero (S := S512x1024) hz,
    View.ld_unit_zero (S := S1x1024) hz, View.ld_unit_zero (S := S8x1024) hz]
theorem out_A_6 (hc : cond0_0 i) : out0_A_6 c i a3 ha3 a4 ha4 a5 ha5 a6 ha6 a7 ha7 a8 ha8 a9 ha9 a10 ha10 hc x0 x1 x2 x3 x4 = k0_pay8 x0 x1 x3 x4 x2 := by
  unfold out0_A_6
  rw [View.read_writes_eq_canon _ _ _ (cover0_A_6 c i a3 ha3 a4 ha4 a5 ha5 a6 ha6 a7 ha7 a8 ha8 a9 ha9 a10 ha10 hc x0 x1 x2 x3 x4)]
  unfold kernelRun0_A
  dsimp only
  sl_unfold_words
  rw [View.canon_unit_zero hz]
  simp only [View.readAt_eq_ld, ha3.read_unread, ha4.read_unread, ha5.read_unread, ha6.read_unread, ha7.read_unread, View.ld_unit_zero (S := S512x2304) hz, View.ld_unit_zero (S := S1024x2304) hz, View.ld_unit_zero (S := S512x1024) hz,
    View.ld_unit_zero (S := S1x1024) hz, View.ld_unit_zero (S := S8x1024) hz]
theorem out_A_7 (hc : cond0_0 i) : out0_A_7 c i a3 ha3 a4 ha4 a5 ha5 a6 ha6 a7 ha7 a8 ha8 a9 ha9 a10 ha10 hc x0 x1 x2 x3 x4 = k0_pay2 (k0_pay6 x0 x1 x3) (k0_pay1 (F := F)) := by
  unfold out0_A_7
  rw [View.read_writes_eq_canon _ _ _ (cover0_A_7 c i a3 ha3 a4 ha4 a5 ha5 a6 ha6 a7 ha7 a8 ha8 a9 ha9 a10 ha10 hc x0 x1 x2 x3 x4)]
  unfold kernelRun0_A
  dsimp only
  sl_unfold_words
  rw [View.canon_cons_unit_zero (S := S8x1024) hz, View.readCov_unit_zero (S := S8x1024) _ hz]
  simp only [View.readAt_eq_ld, ha3.read_unread, ha4.read_unread, ha5.read_unread, ha6.read_unread, ha7.read_unread, View.ld_unit_zero (S := S512x2304) hz, View.ld_unit_zero (S := S1024x2304) hz, View.ld_unit_zero (S := S512x1024) hz,
    View.ld_unit_zero (S := S1x1024) hz, View.ld_unit_zero (S := S8x1024) hz]
theorem out_B_5 (hc : ¬cond0_0 i) (xo : Vec F S8x1024 .f32) : out0_B_5 c i a3 ha3 a4 ha4 a5 ha5 a6 ha6 a7 ha7 a8 ha8 a9 ha9 a10 ha10 hc x0 x1 x2 x3 x4 xo = k0_pay7 x0 x1 x3 x4 x2 := by
  unfold out0_B_5
  rw [View.read_writes_eq_canon _ _ _ (cover0_B_5 c i a3 ha3 a4 ha4 a5 ha5 a6 ha6 a7 ha7 a8 ha8 a9 ha9 a10 ha10 hc x0 x1 x2 x3 x4 xo)]
  unfold kernelRun0_B
  dsimp only
  sl_unfold_words
  rw [View.canon_unit_zero hz]
  simp only [View.readAt_eq_ld, ha3.read_unread, ha4.read_unread, ha5.read_unread, ha6.read_unread, ha7.read_unread, ha10.read_unread, View.ld_unit_zero (S := S512x2304) hz, View.ld_unit_zero (S := S1024x2304) hz, View.ld_unit_zero (S := S512x1024) hz,
    View.ld_unit_zero (S := S1x1024) hz, View.ld_unit_zero (S := S8x1024) hz]
theorem out_B_6 (hc : ¬cond0_0 i) (xo : Vec F S8x1024 .f32) : out0_B_6 c i a3 ha3 a4 ha4 a5 ha5 a6 ha6 a7 ha7 a8 ha8 a9 ha9 a10 ha10 hc x0 x1 x2 x3 x4 xo = k0_pay8 x0 x1 x3 x4 x2 := by
  unfold out0_B_6
  rw [View.read_writes_eq_canon _ _ _ (cover0_B_6 c i a3 ha3 a4 ha4 a5 ha5 a6 ha6 a7 ha7 a8 ha8 a9 ha9 a10 ha10 hc x0 x1 x2 x3 x4 xo)]
  unfold kernelRun0_B
  dsimp only
  sl_unfold_words
  rw [View.canon_unit_zero hz]
  simp only [View.readAt_eq_ld, ha3.read_unread, ha4.read_unread, ha5.read_unread, ha6.read_unread, ha7.read_unread, ha10.read_unread, View.ld_unit_zero (S := S512x2304) hz, View.ld_unit_zero (S := S1024x2304) hz, View.ld_unit_zero (S := S512x1024) hz,
    View.ld_unit_zero (S := S1x1024) hz, View.ld_unit_zero (S := S8x1024) hz]
theorem out_B_7 (hc : ¬cond0_0 i) (xo : Vec F S8x1024 .f32) : out0_B_7 c i a3 ha3 a4 ha4 a5 ha5 a6 ha6 a7 ha7 a8 ha8 a9 ha9 a10 ha10 hc x0 x1 x2 x3 x4 xo = k0_pay2 (k0_pay6 x0 x1 x3) xo := by
  unfold out0_B_7
  rw [View.read_writes_eq_canon _ _ _ (cover0_B_7 c i a3 ha3 a4 ha4 a5 ha5 a6 ha6 a7 ha7 a8 ha8 a9 ha9 a10 ha10 hc x0 x1 x2 x3 x4 xo)]
  unfold kernelRun0_B
  dsimp only
  sl_unfold_words
  rw [View.canon_unit_zero hz]
  simp only [View.readAt_eq_ld, ha3.read_unread, ha4.read_unread, ha5.read_unread, ha6.read_unread, ha7.read_unread, ha10.read_unread, View.ld_unit_zero (S := S512x2304) hz, View.ld_unit_zero (S := S1024x2304) hz, View.ld_unit_zero (S := S512x1024) hz,
    View.ld_unit_zero (S := S1x1024) hz, View.ld_unit_zero (S := S8x1024) hz]
end

section
variable {F : FTy → Type} [FloatOps F] (m : (ℓ : Loc nD τ sig) → Buf (Elt F) ℓ) (c : Dev nD)
/-- The running sum of the gain's gradient. -/
def acc : (n : ℕ) → n < cfg0.N → Vec F S8x1024 .f32
  | 0, h => k0_pay2 (k0_pay6 (iblk m c 0 ⟨0, h⟩) (iblk m c 1 ⟨0, h⟩) (iblk m c 3 ⟨0, h⟩)) (k0_pay1 (F := F))
  | n + 1, h => k0_pay2 (k0_pay6 (iblk m c 0 ⟨n + 1, h⟩) (iblk m c 1 ⟨n + 1, h⟩) (iblk m c 3 ⟨n + 1, h⟩)) (acc n (Nat.lt_of_succ_lt h))

theorem outs_eq : ∀ (n : ℕ) (h : n < cfg0.N), outsAt0 m c n h
    = (k0_pay7 (iblk m c 0 ⟨n, h⟩) (iblk m c 1 ⟨n, h⟩) (iblk m c 3 ⟨n, h⟩) (iblk m c 4 ⟨n, h⟩) (iblk m c 2 ⟨n, h⟩),
      k0_pay8 (iblk m c 0 ⟨n, h⟩) (iblk m c 1 ⟨n, h⟩) (iblk m c 3 ⟨n, h⟩) (iblk m c 4 ⟨n, h⟩) (iblk m c 2 ⟨n, h⟩), acc m c n h)
  | 0, h => (outsAt0_A m c ⟨0, h⟩ rfl).trans (by rw [out_A_5, out_A_6, out_A_7]; rfl)
  | n + 1, h => by
    have hN : cfg0.N = 8 := N_0
    have hB : ¬(⟨n + 1, h⟩ : Fin cfg0.N).val % 8 = 0 := by dsimp only; omega
    have e := outs_eq n (Nat.lt_of_succ_lt h)
    rw [outsAt0_B m c ⟨n + 1, h⟩ hB, out_B_5, out_B_6, out_B_7]
    show (_, _, k0_pay2 _ (outsAt0 m c n _).2.2) = _
    rw [e]
    rfl
end

/-- A point's block of rows. -/
def rb (t : Fin cfg0.N) : Fin 8 := ⟨t.val, t.isLt⟩

theorem idx : ∀ t : Fin grid0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![t.val, 0] ∧ win0_7.index t = ![0, 0] := by
  decide +kernel

variable (m : (ℓ : Loc nD τ sig) → Buf (Elt Ideal) ℓ) (c : Dev nD)

section
variable (t : Fin cfg0.N) (i : Fin 512) (j : Fin 1024) (k : Fin 2304)
theorem read_ct : iblk m c 0 t (ix2 i k) = m (c, Proc.devRef .tc main_arg3) (ix2 (row (rb t) i) k) := by
  refine Eq.trans (b := V m c main_v0 (ix2 (row (rb t) i) k)) ?_ (congrFun (V_ct m c) _)
  have e := (idx t).1
  blk_ext [iblk, e, row, rb]
theorem read_w : iblk m c 1 t (ix2 j k) = m (c, Proc.devRef .tc main_arg2) (ix2 j k) := by
  refine Eq.trans (b := V m c main_v1 (ix2 j k)) ?_ (congrFun (V_w m c) _)
  have e := (idx t).2.1
  blk_ext [iblk, e]
theorem read_res : iblk m c 2 t (ix2 i j) = m (c, Proc.devRef .tc main_arg4) (ix2 (row (rb t) i) j) := by
  refine Eq.trans (b := V m c main_arg4 (ix2 (row (rb t) i) j)) ?_ (congrFun (V_main_arg4 m c) _)
  have e := (idx t).2.2.1
  blk_ext [iblk, e, row, rb]
theorem read_x : iblk m c 3 t (ix2 i j) = m (c, Proc.devRef .tc main_arg0) (ix2 (row (rb t) i) j) := by
  refine Eq.trans (b := V m c main_arg0 (ix2 (row (rb t) i) j)) ?_ (congrFun (V_main_arg0 m c) _)
  have e := (idx t).2.2.2.1
  blk_ext [iblk, e, row, rb]
theorem read_g : iblk m c 4 t (ix2 0 j) = m (c, Proc.devRef .tc main_arg1) (ix1 j) := by
  refine Eq.trans (b := V m c main_v2 (ix2 0 j)) ?_ ((congrFun (V_g m c) _).trans (gain_at _ j))
  have e := (idx t).2.2.2.2.1
  blk_ext [iblk, e]
theorem emb_dx : ((View.whole main_v3_0).slice (win0_5.rect t)).emb (ix2 i j) = ix2 (row (rb t) i) j := by
  have e := (idx t).2.2.2.2.2.1
  blk_ext [e, row, rb]
theorem emb_dxb : ((View.whole main_v3_1).slice (win0_6.rect t)).emb (ix2 i j) = ix2 (row (rb t) i) j := by
  have e := (idx t).2.2.2.2.2.2.1
  blk_ext [e, row, rb]
theorem emb_dg (a : Fin 8) : ((View.whole main_v3_2).slice (win0_7.rect t)).emb (ix2 a j) = ix2 a j := by
  have e := (idx t).2.2.2.2.2.2.2
  blk_ext [e]
end

section
variable (ct : Vec Ideal S512x2304 .bf16) (w : Vec Ideal S1024x2304 .bf16) (x : Vec Ideal S512x1024 .f32) (g : Vec Ideal S1x1024 .f32) (res : Vec Ideal S512x1024 .f32)
theorem pay_prod (i : Fin 512) (j : Fin 1024) : k0_pay3 ct w (ix2 i j) = ∑ k : Fin 2304, (ct (ix2 i k) : EReal) * w (ix2 j k) := by
  unfold k0_pay3
  clean_types
  pointwise
theorem pay_rinv (i : Fin 512) : k0_pay4 x (ix2 i 0) = Ideal.rsqrt (den fun k => x (ix2 i k)) := by
  unfold k0_pay4 den
  clean_types
  pointwise
theorem pay_xhat (i : Fin 512) (j : Fin 1024) : k0_pay5 x (ix2 i j) = x (ix2 i j) * Ideal.rsqrt (den fun k => x (ix2 i k)) := by
  unfold k0_pay5
  rw [← pay_rinv]
  generalize k0_pay4 x = r
  clean_types
  pointwise
theorem pay_dx (i : Fin 512) (j : Fin 1024) : k0_pay7 ct w x g res (ix2 i j)
    = grad (fun k => x (ix2 i k)) (fun l => (∑ k : Fin 2304, (ct (ix2 i k) : EReal) * w (ix2 l k)) * g (ix2 0 l)) j + res (ix2 i j) := by
  have e : k0_pay7 ct w x g res (ix2 i j) = (k0_pay4 x (ix2 i 0) : EReal) * ((k0_pay3 ct w (ix2 i j) : EReal) * g (ix2 0 j) - k0_pay5 x (ix2 i j)
      * Ideal.div (∑ l : Fin 1024, (k0_pay3 ct w (ix2 i l) : EReal) * g (ix2 0 l) * k0_pay5 x (ix2 i l)) (Ideal.ofBits .f32 0x44800000#32)) + res (ix2 i j) := by
    unfold k0_pay7
    generalize k0_pay3 ct w = p
    generalize k0_pay5 x = h
    generalize k0_pay4 x = r
    clean_types
    pointwise
  rw [e]
  simp only [pay_prod, pay_xhat, pay_rinv]
  rfl
theorem pay_dxb (i : Fin 512) (j : Fin 1024) : k0_pay8 ct w x g res (ix2 i j) = k0_pay7 ct w x g res (ix2 i j) := rfl
theorem pay_part (i : Fin 512) (j : Fin 1024) : k0_pay6 ct w x (ix2 i j)
    = (∑ k : Fin 2304, (ct (ix2 i k) : EReal) * w (ix2 j k)) * (x (ix2 i j) * Ideal.rsqrt (den fun k => x (ix2 i k))) := by
  rw [← pay_prod, ← pay_xhat]
  rfl
theorem pay_add (v : Vec Ideal S512x1024 .f32) (s : Vec Ideal S8x1024 .f32) (a : Fin 8) (j : Fin 1024) :
    k0_pay2 v s (ix2 a j) = (s (ix2 a j) : EReal) + ∑ i : Fin 512, (v (ix2 i j) : EReal) := by
  unfold k0_pay2
  clean_types
  pointwise
theorem pay_zero (a : Fin 8) (j : Fin 1024) : k0_pay1 (F := Ideal) (ix2 a j) = (0 : EReal) := by
  unfold k0_pay1
  clean_types
  pointwise
end

/-- The rows' share of the gain's gradient, for one block of rows. -/
def part (x : FVec Ideal S4096x1024 .f32) (w : FVec Ideal S1024x2304 .f32) (ct : FVec Ideal S4096x2304 .f32) (b : Fin 8) (j : Fin 1024) : EReal :=
  ∑ r : Fin 512, prod w ct (row b r) j * (x (ix2 (row b r) j) * Ideal.rsqrt (den fun k => x (ix2 (row b r) k)))

theorem part_eq (t : Fin cfg0.N) (j : Fin 1024) : ∑ i : Fin 512, (k0_pay6 (iblk m c 0 t) (iblk m c 1 t) (iblk m c 3 t) (ix2 i j) : EReal)
    = part (m (c, Proc.devRef .tc main_arg0)) (m (c, Proc.devRef .tc main_arg2)) (m (c, Proc.devRef .tc main_arg3)) (rb t) j := by
  unfold part prod
  refine Finset.sum_congr rfl fun i _ => (pay_part _ _ _ i j).trans ?_
  simp only [read_ct, read_w, read_x]

theorem acc_at (a : Fin 8) (j : Fin 1024) : ∀ (n : ℕ) (h : n < cfg0.N), (acc m c n h (ix2 a j) : EReal) = ∑ b : Fin (n + 1), part (m (c, Proc.devRef .tc main_arg0)) (m (c, Proc.devRef .tc main_arg2)) (m (c, Proc.devRef .tc main_arg3)) (rb ⟨b.val, by omega⟩) j
  | 0, h => by
    rw [acc, pay_add, pay_zero, part_eq, zero_add, Fin.sum_univ_one]
    rfl
  | n + 1, h => by
    rw [acc, pay_add, part_eq, acc_at a j n, Fin.sum_univ_castSucc (n := n + 1)]
    rfl

/-- After the last point the sum is over all rows. -/
theorem acc_last (a : Fin 8) (j : Fin 1024) (n : ℕ) (h : n < cfg0.N) (e : n = 7) : acc m c n h (ix2 a j) = dg (m (c, Proc.devRef .tc main_arg0)) (m (c, Proc.devRef .tc main_arg2)) (m (c, Proc.devRef .tc main_arg3)) (ix2 a j) := by
  subst e
  refine (acc_at m c a j 7 h).trans ?_
  unfold dg
  rw [sum_rows]
  rfl

theorem arr_dx : (dats m 0 c).arrAt 5 cfg0.N = dx (m (c, Proc.devRef .tc main_arg0)) (m (c, Proc.devRef .tc main_arg1)) (m (c, Proc.devRef .tc main_arg2)) (m (c, Proc.devRef .tc main_arg3)) (m (c, Proc.devRef .tc main_arg4)) := by
  refine (dats m 0 c).arrAt_eq_of_covers 5 _ (by decide +kernel) fun t hf y => ?_
  blk_simp
  rw [after0_5, outs_eq]
  idx_vars y
  rw [emb_dx]
  refine (pay_dx _ _ _ _ _ y0 y1).trans ?_
  simp only [read_ct, read_w, read_x, read_g, read_res]
  rfl
theorem arr_dxb : (dats m 0 c).arrAt 6 cfg0.N = dxb (m (c, Proc.devRef .tc main_arg0)) (m (c, Proc.devRef .tc main_arg1)) (m (c, Proc.devRef .tc main_arg2)) (m (c, Proc.devRef .tc main_arg3)) (m (c, Proc.devRef .tc main_arg4)) := by
  refine (dats m 0 c).arrAt_eq_of_covers 6 _ (by decide +kernel) fun t hf y => ?_
  blk_simp
  rw [after0_6, outs_eq]
  idx_vars y
  rw [emb_dxb]
  refine ((pay_dxb _ _ _ _ _ y0 y1).trans (pay_dx _ _ _ _ _ y0 y1)).trans ?_
  simp only [read_ct, read_w, read_x, read_g, read_res]
  rfl
theorem arr_dg : (dats m 0 c).arrAt 7 cfg0.N = dg (m (c, Proc.devRef .tc main_arg0)) (m (c, Proc.devRef .tc main_arg2)) (m (c, Proc.devRef .tc main_arg3)) := by
  refine (dats m 0 c).arrAt_eq_of_covers 7 _ (by decide +kernel) fun t hf y => ?_
  have h7 : t.val = 7 := by
    have hN : cfg0.N = 8 := N_0
    have h8 := (flush0_7 t).mp hf
    have h9 := t.isLt
    omega
  blk_simp
  rw [after0_7, outs_eq]
  idx_vars y
  rw [emb_dg]
  exact acc_last m c y0 y1 t.val t.isLt h7

end Cert.DhIdeal.Dense

namespace Cert.DhRefIdeal.Dense

open Idealize.ShloMosaic Idealize.ShloMosaic.TcCoe Idealize.SL.Sem
open Cert.DhRefIdeal Cert.DhRefIdeal.Gen Cert.RmsGrad

variable (x : FVec Ideal S4096x1024 .f32) (g : FVec Ideal S1024 .f32) (w : FVec Ideal S1024x2304 .f32) (ct : FVec Ideal S4096x2304 .f32) (res : FVec Ideal S4096x1024 .f32)

/-- The reference's steps: the gradient of the normalised rows, the mean square, its inverse root, the rows' factor and the results. -/
def hprod : FVec Ideal S4096x1024 .f32 := Host.dotGeneral dot_S4096x2304_S1024x2304_S4096x1024_1_1_0_0_n_n none ct w
def hlen : FVec Ideal S4096x1 .f32 := broadcastInDim S4096x1 ![] bcast_S_S4096x1 (constant S_ .f32 0x44800000#32)
def hden : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) hlen)
    (broadcastInDim S4096x1 ![] bcast_S_S4096x1 (constant S_ .f32 0x358637BD#32))
def hrinv : FVec Ideal S4096x1 .f32 := Host.rsqrt (hden x)
def hdot (p : FVec Ideal S4096x1024 .f32) : FVec Ideal S4096x1024 .f32 :=
  mulf p (broadcastInDim S4096x1024 ![0, 1] bcast_S1x1024_S4096x1024_0_1 (broadcastInDim S1x1024 ![1] bcast_S1024_S1x1024_1 g))
def hfac (d : FVec Ideal S4096x1024 .f32) (r v : FVec Ideal S4096x1 .f32) : FVec Ideal S4096 .f32 :=
  Host.reduceAdd (Host.divf (mulf (shapeCast _ (Host.reduceAdd (mulf x d) (constant S_ .f32 0x00000000#32) reducesTo_S4096x1024_S4096_d1 h_S_) shapeCasts_S4096_S4096x1)
    (mulf (broadcastInDim S4096x1 ![] bcast_S_S4096x1 (constant S_ .f32 0xBF000000#32)) (Host.divf r v))) hlen) (constant S_ .f32 0x00000000#32) reducesTo_S4096x1_S4096_d1 h_S_
def hdx (d : FVec Ideal S4096x1024 .f32) (r : FVec Ideal S4096x1 .f32) (f : FVec Ideal S4096 .f32) : FVec Ideal S4096x1024 .f32 :=
  addf (addf (addf (mulf d (broadcastInDim S4096x1024 ![0, 1] bcast_S4096x1_S4096x1024_0_1 r)) (mulf x (broadcastInDim S4096x1024 ![0] bcast_S4096_S4096x1024_0 f)))
    (mulf (broadcastInDim S4096x1024 ![0] bcast_S4096_S4096x1024_0 f) x)) res
def hdg (p : FVec Ideal S4096x1024 .f32) (r : FVec Ideal S4096x1 .f32) : FVec Ideal S8x1024 .f32 :=
  broadcastInDim S8x1024 ![1] bcast_S1024_S8x1024_1 (Host.reduceAdd (shapeCast _ (Host.reduceAdd
    (mulf (mulf x (broadcastInDim S4096x1024 ![0, 1] bcast_S4096x1_S4096x1024_0_1 r)) p) (constant S_ .f32 0x00000000#32) reducesTo_S4096x1024_S1024_d0 h_S_) shapeCasts_S1024_S1x1024)
    (constant S_ .f32 0x00000000#32) reducesTo_S1x1024_S1024_d0 h_S_)
def rdx : FVec Ideal S4096x1024 .f32 :=
  hdx x res (hdot g (hprod w ct)) (hrinv x) (hfac x (hdot g (hprod w ct)) (hrinv x) (hden x))

theorem hprod_at (i : Fin 4096) (j : Fin 1024) : hprod w ct (ix2 i j) = Cert.DhIdeal.Dense.prod w ct i j := by
  unfold hprod Cert.DhIdeal.Dense.prod
  clean_types
  pointwise
theorem hden_at (i : Fin 4096) : hden x (ix2 i 0) = den fun k => x (ix2 i k) := by
  unfold hden hlen den
  clean_types
  pointwise
theorem hrinv_at (i : Fin 4096) : hrinv x (ix2 i 0) = Ideal.rsqrt (den fun k => x (ix2 i k)) := by
  rw [← hden_at]
  rfl
theorem hdot_at (p : FVec Ideal S4096x1024 .f32) (i : Fin 4096) (j : Fin 1024) : hdot g p (ix2 i j) = (p (ix2 i j) : EReal) * g (ix1 j) := by
  unfold hdot
  clean_types
  pointwise
theorem hfac_at (d : FVec Ideal S4096x1024 .f32) (r v : FVec Ideal S4096x1 .f32) (i : Fin 4096) : hfac x d r v (ix1 i)
    = Ideal.div ((∑ k : Fin 1024, (x (ix2 i k) : EReal) * d (ix2 i k)) * (Ideal.ofBits .f32 0xBF000000#32 * Ideal.div (r (ix2 i 0)) (v (ix2 i 0)))) (Ideal.ofBits .f32 0x44800000#32) := by
  unfold hfac hlen
  clean_types
  pointwise
  exact Fin.sum_univ_one _
theorem hdx_at (d : FVec Ideal S4096x1024 .f32) (r : FVec Ideal S4096x1 .f32) (f : FVec Ideal S4096 .f32) (i : Fin 4096) (j : Fin 1024) : hdx x res d r f (ix2 i j)
    = ((d (ix2 i j) : EReal) * r (ix2 i 0) + x (ix2 i j) * f (ix1 i) + f (ix1 i) * x (ix2 i j)) + res (ix2 i j) := by
  unfold hdx
  clean_types
  pointwise
theorem hdg_at (p : FVec Ideal S4096x1024 .f32) (r : FVec Ideal S4096x1 .f32) (a : Fin 8) (j : Fin 1024) : hdg x p r (ix2 a j)
    = ∑ i : Fin 4096, ((x (ix2 i j) : EReal) * r (ix2 i 0)) * p (ix2 i j) := by
  unfold hdg
  clean_types
  pointwise
  exact Fin.sum_univ_one _

theorem dx_eq : rdx x g w ct res = Cert.DhIdeal.Dense.dx x g w ct res := by
  funext y
  idx_vars y
  unfold rdx Cert.DhIdeal.Dense.dx
  rw [hdx_at, hfac_at]
  simp only [hdot_at, hprod_at, hrinv_at, hden_at]
  exact congrArg (· + res (ix2 y0 y1)) (grad_eq (fun k => x (ix2 y0 k)) (fun k => Cert.DhIdeal.Dense.prod w ct y0 k * g (ix1 k)) y1)
theorem dxb_eq : (truncf .bf16 (rdx x g w ct res) bitsLt_bf16_f32 : FVec Ideal S4096x1024 .bf16) = Cert.DhIdeal.Dense.dxb x g w ct res := by
  rw [dx_eq]
  rfl
theorem dg_eq : hdg x (hprod w ct) (hrinv x) = Cert.DhIdeal.Dense.dg x w ct := by
  funext y
  idx_vars y
  refine (hdg_at x _ _ y0 y1).trans (Finset.sum_congr rfl fun i _ => ?_)
  rw [hprod_at, hrinv_at]
  exact mul_comm _ _

variable (m : (ℓ : Loc nD τ sig) → Buf (Elt Ideal) ℓ) (c : Dev nD)
theorem res_dx : Cert.DhRefIdeal.Value.res_out0 m c = Cert.DhIdeal.Dense.dx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine Eq.trans ?_ (dx_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
  unfold Cert.DhRefIdeal.Value.res_out0 Cert.DhRefIdeal.Value.res_main_v38
  rfl
theorem res_dxb : Cert.DhRefIdeal.Value.res_out1 m c = Cert.DhIdeal.Dense.dxb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine Eq.trans ?_ (dxb_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
  unfold Cert.DhRefIdeal.Value.res_out1 Cert.DhRefIdeal.Value.res_main_v40
  rfl

end Cert.DhRefIdeal.Dense

end
-- ==== Proof.Dense.Ple.lean ====
/-
  The product of the layer's own input: the call `mm_ple` block by block, and the reference.
-/
module

public import proofs.«01_k».proof.Defs
public import proofs.«01_k».proof.Proof.Gen.PleIdeal.Value
public import proofs.«01_k».proof.Proof.Gen.PleRefIdeal.Run
public import Idealize.ShloMosaic.Lib.StableHlo.ReadAt
public import Idealize.ShloMosaic.Lib.Pipeline.ValueKit
public import Idealize.ShloMosaic.Lib.Pointwise
public import Idealize.ShloMosaic.Lib.Tactic.CleanTypes

@[expose] public section

set_option synthInstance.maxSize 4096
set_option maxRecDepth 16256

noncomputable section

namespace Cert.PleIdeal.Dense

open Idealize.ShloMosaic Idealize.ShloMosaic.TcCoe Idealize.SL.Sem
open Idealize.ShloMosaic.Pipeline (Dat Cfg Window)
open Cert.PleIdeal.Gen

/-- Row `r` of the block `b` of rows. -/
def row (b : Fin 4) (r : Fin 1024) : Fin 4096 := ⟨b.val * 1024 + r.val, by omega⟩

/-- The product. -/
def out (x : FVec Ideal S4096x256 .f32) (w : FVec Ideal S256x1024 .f32) : FVec Ideal S4096x1024 .f32 := fun y =>
  ∑ k : Fin 256, (x (ix2 (y 0) k) : EReal) * w (ix2 k (y 1))

section
variable {F : FTy → Type} [FloatOps F] (m : (ℓ : Loc nD τ sig) → Buf (Elt F) ℓ) (c : Dev nD)

theorem V_b : V m c main_v0 = truncf .bf16 (m (c, Proc.devRef .tc main_arg1) : FVec F S256x1024 .f32) bitsLt_bf16_f32 := by
  unfold V
  simp only [hostOps0, List.flatten_cons, List.flatten_nil, List.cons_append, List.nil_append, List.append_nil]
  after_reads_simp

end

/-- A point's block of rows. -/
def rb (t : Fin cfg0.N) : Fin 4 := ⟨t.val, by have : t.val < 4 := t.isLt; omega⟩

theorem idx : ∀ t : Fin grid0.N, win0_0.index t = ![t.val, 0] ∧ win0_1.index t = ![0, 0] ∧ win0_2.index t = ![t.val, 0] := by
  decide +kernel

variable (m : (ℓ : Loc nD τ sig) → Buf (Elt Ideal) ℓ) (c : Dev nD)

section
variable (t : Fin cfg0.N) (i : Fin 1024) (j : Fin 1024) (k : Fin 256)
theorem read_a : iblk m c 0 t (ix2 i k) = m (c, Proc.devRef .tc main_arg0) (ix2 (row (rb t) i) k) := by
  refine Eq.trans (b := V m c main_arg0 (ix2 (row (rb t) i) k)) ?_ (congrFun (V_main_arg0 m c) _)
  have e := (idx t).1
  blk_ext [iblk, e, row, rb]
theorem read_b : iblk m c 1 t (ix2 k j) = m (c, Proc.devRef .tc main_arg1) (ix2 k j) := by
  refine Eq.trans (b := V m c main_v0 (ix2 k j)) ?_ (congrFun (V_b m c) _)
  have e := (idx t).2.1
  blk_ext [iblk, e]
theorem emb_out : ((View.whole main_v1).slice (win0_2.rect t)).emb (ix2 i j) = ix2 (row (rb t) i) j := by
  have e := (idx t).2.2
  blk_ext [e, row, rb]
end

/-- One block of the call. -/
theorem block (a : Vec Ideal S1024x256 .f32) (b : Vec Ideal S256x1024 .bf16) (i : Fin 1024) (j : Fin 1024) :
    out0_2 a b (ix2 i j) = ∑ k : Fin 256, (a (ix2 i k) : EReal) * b (ix2 k j) := by
  unfold out0_2 k0_pay1
  simp (disch := decide) only [View.canon_cons_unit_lit', View.ld_unit_lit']
  clean_types
  pointwise

theorem arr : (dats m 0 c).arrAt 2 cfg0.N = out (m (c, Proc.devRef .tc main_arg0)) (m (c, Proc.devRef .tc main_arg1)) := by
  refine (dats m 0 c).arrAt_eq_of_covers 2 _ (by decide +kernel) fun t hf y => ?_
  blk_simp
  rw [after0_2]
  idx_vars y
  rw [emb_out]
  refine (block _ _ y0 y1).trans ?_
  simp only [read_a, read_b]
  rfl

end Cert.PleIdeal.Dense

namespace Cert.PleRefIdeal.Dense

open Idealize.ShloMosaic Idealize.ShloMosaic.TcCoe Idealize.SL.Sem
open Cert.PleRefIdeal Cert.PleRefIdeal.Gen

variable (x : FVec Ideal S4096x256 .f32) (w : FVec Ideal S256x1024 .f32)

/-- The reference's result. -/
def ref : FVec Ideal S4096x1024 .f32 :=
  Host.dotGeneral dot_S4096x256_S256x1024_S4096x1024_1_0_0_1_n_n none x w

theorem ref_eq : ref x w = Cert.PleIdeal.Dense.out x w := by
  funext y
  idx_vars y
  unfold ref Cert.PleIdeal.Dense.out
  clean_types
  pointwise

end Cert.PleRefIdeal.Dense

end
-- ==== Proof.Dense.DwPle.lean ====
/-
  The gradient of the weight of the layer's own input: the call `mm_dw_ple` chip by chip, and the reference.
-/
module

public import proofs.«01_k».proof.Defs
public import proofs.«01_k».proof.Proof.Gen.DwPleIdeal.Value
public import proofs.«01_k».proof.Proof.Gen.DwPleRefIdeal.Run
public import Idealize.ShloMosaic.Lib.StableHlo.ReadAt
public import Idealize.ShloMosaic.Lib.Pipeline.ValueKit
public import Idealize.ShloMosaic.Lib.Pointwise
public import Idealize.ShloMosaic.Lib.Tactic.CleanTypes

@[expose] public section

set_option synthInstance.maxSize 4096
set_option maxRecDepth 16384

noncomputable section

namespace Cert.DwPleIdeal.Dense

open Idealize.ShloMosaic Idealize.ShloMosaic.TcCoe Idealize.SL.Sem
open Idealize.ShloMosaic.Pipeline (Dat Cfg Window)
open Cert.DwPleIdeal.Gen

/-- The row or column `r` of the block `b` of four. -/
def at4 (b : Fin 4) (r : Fin 256) : Fin 1024 := ⟨b.val * 256 + r.val, by omega⟩

/-- A column of `x` by a column of `da`, laid out as the four chips' columns. -/
def out (x : FVec Ideal S4096x256 .f32) (da : FVec Ideal S4096x1024 .f32) : FVec Ideal S4x256x256 .bf16 := fun y =>
  ∑ s : Fin 4096, (x (ix2 s (y 1)) : EReal) * da (ix2 s (at4 (y 0) (y 2)))

section
variable {F : FTy → Type} [FloatOps F] (m : (ℓ : Loc nD τ sig) → Buf (Elt F) ℓ) (c : Dev nD)

theorem V_da : V m c main_v0 = truncf .bf16 (m (c, Proc.devRef .tc main_arg2) : FVec F S4096x1024 .f32) bitsLt_bf16_f32 := by
  unfold V
  simp only [hostOps0, List.flatten_cons, List.flatten_nil, List.cons_append, List.nil_append, List.append_nil]
  after_reads_simp

end

/-- A point's chip. -/
def cb (t : Fin cfg0.N) : Fin 4 := ⟨t.val, t.isLt⟩

theorem idx : ∀ t : Fin grid0.N, win0_0.index t = ![0, 0] ∧ win0_1.index t = ![0, t.val] ∧ win0_2.index t = ![t.val, 0, 0] := by
  decide +kernel

variable (m : (ℓ : Loc nD τ sig) → Buf (Elt Ideal) ℓ) (c : Dev nD)

section
variable (t : Fin cfg0.N) (s : Fin 4096) (i k : Fin 256)
theorem read_x : iblk m c 0 t (ix2 s i) = m (c, Proc.devRef .tc main_arg0) (ix2 s i) := by
  refine Eq.trans (b := V m c main_arg0 (ix2 s i)) ?_ (congrFun (V_main_arg0 m c) _)
  have e := (idx t).1
  blk_ext [iblk, e]
theorem read_da : iblk m c 1 t (ix2 s i) = m (c, Proc.devRef .tc main_arg2) (ix2 s (at4 (cb t) i)) := by
  refine Eq.trans (b := V m c main_v0 (ix2 s (at4 (cb t) i))) ?_ (congrFun (V_da m c) _)
  have e := (idx t).2.1
  blk_ext [iblk, e, at4, cb]
theorem emb_out : ((View.whole main_v1).slice (win0_2.rect t)).emb (ix3 0 i k) = ix3 (cb t) i k := by
  have e := (idx t).2.2
  blk_ext [e, cb]
end

/-- One block of the call. -/
theorem block (x : Vec Ideal S4096x256 .f32) (da : Vec Ideal S4096x256 .bf16) (z : Fin 1) (i j : Fin 256) :
    out0_2 x da (ix3 z i j) = ∑ s : Fin 4096, (x (ix2 s i) : EReal) * da (ix2 s j) := by
  unfold out0_2 k0_pay1
  simp (disch := decide) only [View.canon_cons_unit_lit', View.ld_unit_lit']
  clean_types
  pointwise

theorem arr : (dats m 0 c).arrAt 2 cfg0.N = out (m (c, Proc.devRef .tc main_arg0)) (m (c, Proc.devRef .tc main_arg2)) := by
  refine (dats m 0 c).arrAt_eq_of_covers 2 _ (by decide +kernel) fun t hf y => ?_
  blk_simp
  rw [after0_2]
  idx_vars y
  obtain rfl : y0 = 0 := Subsingleton.elim _ _
  rw [emb_out]
  refine (block _ _ 0 y1 y2).trans ?_
  simp only [read_x, read_da]
  rfl

end Cert.DwPleIdeal.Dense

namespace Cert.DwPleRefIdeal.Dense

open Idealize.ShloMosaic Idealize.ShloMosaic.TcCoe Idealize.SL.Sem
open Cert.DwPleRefIdeal Cert.DwPleRefIdeal.Gen

variable (x : FVec Ideal S4096x256 .f32) (da : FVec Ideal S4096x1024 .f32)

/-- The reference's gradient. -/
def ref : FVec Ideal S4x256x256 .bf16 :=
  transpose S4x256x256 [1, 0, 2] (shapeCast _ (truncf .bf16 (transpose S256x1024 [1, 0] (Host.dotGeneral dot_S4096x1024_S4096x256_S1024x256_0_0_1_1_n_n none da x)
    transposes_S1024x256_S256x1024_1_0) bitsLt_bf16_f32) shapeCasts_S256x1024_S256x4x256) transposes_S256x4x256_S4x256x256_1_0_2

theorem ref_eq : ref x da = Cert.DwPleIdeal.Dense.out x da := by
  funext y
  idx_vars y
  unfold ref Cert.DwPleIdeal.Dense.out
  clean_types
  pointwise
  exact Finset.sum_congr rfl fun s _ => mul_comm _ _

end Cert.DwPleRefIdeal.Dense

end
-- ==== Proof.lean ====
/- The claims about the gradient of the causal attention and about the products of the layers.
   Attention: the kernel's frames are in Proof.Word.Region and Proof.Region; the value claim in Proof.KerValue (what the kernel leaves),
   Proof.HostValue (what the reference leaves) and Proof.Finite (the precondition). Products: Proof.Mlp
   and Proof.Dense, a module for each call. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Word.Region
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.Da
public import proofs.«01_k».proof.Proof.Gen.Da.Frame
public import proofs.«01_k».proof.Proof.Gen.DaIdeal
public import proofs.«01_k».proof.Proof.Gen.DaIdeal.Frame
public import proofs.«01_k».proof.Proof.Gen.DaIdeal.Value
public import proofs.«01_k».proof.Proof.Gen.DaRefIdeal
public import proofs.«01_k».proof.Proof.Gen.DaRefIdeal.Run
public import proofs.«01_k».proof.Proof.Gen.DwDown
public import proofs.«01_k».proof.Proof.Gen.DwDown.Frame
public import proofs.«01_k».proof.Proof.Gen.DwDownIdeal
public import proofs.«01_k».proof.Proof.Gen.DwDownIdeal.Frame
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DwUp
public import proofs.«01_k».proof.Proof.Gen.DwUp.Frame
public import proofs.«01_k».proof.Proof.Gen.DwUpIdeal
public import proofs.«01_k».proof.Proof.Gen.DwUpIdeal.Frame
public import proofs.«01_k».proof.Proof.Gen.DwUpIdeal.Value
public import proofs.«01_k».proof.Proof.Gen.DwUpRefIdeal
public import proofs.«01_k».proof.Proof.Gen.DwUpRefIdeal.Run
public import proofs.«01_k».proof.Proof.Finite
public import Idealize.ShloMosaic.Adequacy
public import Idealize.ShloMosaic.Init
public import proofs.«01_k».proof.Proof.Mlp.Up
public import proofs.«01_k».proof.Proof.Mlp.Da
public import proofs.«01_k».proof.Proof.Mlp.DwDown
public import proofs.«01_k».proof.Proof.Mlp.DwUp
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.O
public import proofs.«01_k».proof.Proof.Gen.O.Frame
public import proofs.«01_k».proof.Proof.Gen.OIdeal
public import proofs.«01_k».proof.Proof.Gen.OIdeal.Frame
public import proofs.«01_k».proof.Proof.Gen.OIdeal.Value
public import proofs.«01_k».proof.Proof.Gen.ORefIdeal
public import proofs.«01_k».proof.Proof.Gen.ORefIdeal.Run
public import proofs.«01_k».proof.Proof.Gen.Dmixed
public import proofs.«01_k».proof.Proof.Gen.Dmixed.Frame
public import proofs.«01_k».proof.Proof.Gen.DmixedIdeal
public import proofs.«01_k».proof.Proof.Gen.DmixedIdeal.Frame
public import proofs.«01_k».proof.Proof.Gen.DmixedIdeal.Value
public import proofs.«01_k».proof.Proof.Gen.DmixedRefIdeal
public import proofs.«01_k».proof.Proof.Gen.DmixedRefIdeal.Run
public import proofs.«01_k».proof.Proof.Gen.DwO
public import proofs.«01_k».proof.Proof.Gen.DwO.Frame
public import proofs.«01_k».proof.Proof.Gen.DwOIdeal
public import proofs.«01_k».proof.Proof.Gen.DwOIdeal.Frame
public import proofs.«01_k».proof.Proof.Gen.DwOIdeal.Value
public import proofs.«01_k».proof.Proof.Gen.DwORefIdeal
public import proofs.«01_k».proof.Proof.Gen.DwORefIdeal.Run
public import proofs.«01_k».proof.Proof.Gen.In
public import proofs.«01_k».proof.Proof.Gen.In.Frame
public import proofs.«01_k».proof.Proof.Gen.InIdeal
public import proofs.«01_k».proof.Proof.Gen.InIdeal.Frame
public import proofs.«01_k».proof.Proof.Gen.InIdeal.Value
public import proofs.«01_k».proof.Proof.Gen.InRefIdeal
public import proofs.«01_k».proof.Proof.Gen.InRefIdeal.Run
public import proofs.«01_k».proof.Proof.Gen.DwIn
public import proofs.«01_k».proof.Proof.Gen.DwIn.Frame
public import proofs.«01_k».proof.Proof.Gen.DwInIdeal
public import proofs.«01_k».proof.Proof.Gen.DwInIdeal.Frame
public import proofs.«01_k».proof.Proof.Gen.DwInIdeal.Value
public import proofs.«01_k».proof.Proof.Gen.DwInRefIdeal
public import proofs.«01_k».proof.Proof.Gen.DwInRefIdeal.Run
public import proofs.«01_k».proof.Proof.Gen.Uq
public import proofs.«01_k».proof.Proof.Gen.Uq.Frame
public import proofs.«01_k».proof.Proof.Gen.UqIdeal
public import proofs.«01_k».proof.Proof.Gen.UqIdeal.Frame
public import proofs.«01_k».proof.Proof.Gen.UqIdeal.Value
public import proofs.«01_k».proof.Proof.Gen.UqRefIdeal
public import proofs.«01_k».proof.Proof.Gen.UqRefIdeal.Run
public import proofs.«01_k».proof.Proof.Gen.Dqln
public import proofs.«01_k».proof.Proof.Gen.Dqln.Frame
public import proofs.«01_k».proof.Proof.Gen.DqlnIdeal
public import proofs.«01_k».proof.Proof.Gen.DqlnIdeal.Frame
public import proofs.«01_k».proof.Proof.Gen.DqlnIdeal.Value
public import proofs.«01_k».proof.Proof.Gen.DqlnRefIdeal
public import proofs.«01_k».proof.Proof.Gen.DqlnRefIdeal.Run
public import proofs.«01_k».proof.Proof.Gen.DwUq
public import proofs.«01_k».proof.Proof.Gen.DwUq.Frame
public import proofs.«01_k».proof.Proof.Gen.DwUqIdeal
public import proofs.«01_k».proof.Proof.Gen.DwUqIdeal.Frame
public import proofs.«01_k».proof.Proof.Gen.DwUqIdeal.Value
public import proofs.«01_k».proof.Proof.Gen.DwUqRefIdeal
public import proofs.«01_k».proof.Proof.Gen.DwUqRefIdeal.Run
public import proofs.«01_k».proof.Proof.Gen.Ukv
public import proofs.«01_k».proof.Proof.Gen.Ukv.Frame
public import proofs.«01_k».proof.Proof.Gen.UkvIdeal
public import proofs.«01_k».proof.Proof.Gen.UkvIdeal.Frame
public import proofs.«01_k».proof.Proof.Gen.UkvIdeal.Value
public import proofs.«01_k».proof.Proof.Gen.UkvRefIdeal
public import proofs.«01_k».proof.Proof.Gen.UkvRefIdeal.Run
public import proofs.«01_k».proof.Proof.Gen.Dkvln
public import proofs.«01_k».proof.Proof.Gen.Dkvln.Frame
public import proofs.«01_k».proof.Proof.Gen.DkvlnIdeal
public import proofs.«01_k».proof.Proof.Gen.DkvlnIdeal.Frame
public import proofs.«01_k».proof.Proof.Gen.DkvlnIdeal.Value
public import proofs.«01_k».proof.Proof.Gen.DkvlnRefIdeal
public import proofs.«01_k».proof.Proof.Gen.DkvlnRefIdeal.Run
public import proofs.«01_k».proof.Proof.Gen.DwUkv
public import proofs.«01_k».proof.Proof.Gen.DwUkv.Frame
public import proofs.«01_k».proof.Proof.Gen.DwUkvIdeal
public import proofs.«01_k».proof.Proof.Gen.DwUkvIdeal.Frame
public import proofs.«01_k».proof.Proof.Gen.DwUkvIdeal.Value
public import proofs.«01_k».proof.Proof.Gen.DwUkvRefIdeal
public import proofs.«01_k».proof.Proof.Gen.DwUkvRefIdeal.Run
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.DwGate
public import proofs.«01_k».proof.Proof.Gen.DwGate.Frame
public import proofs.«01_k».proof.Proof.Gen.DwGateIdeal
public import proofs.«01_k».proof.Proof.Gen.DwGateIdeal.Frame
public import proofs.«01_k».proof.Proof.Gen.DwGateIdeal.Value
public import proofs.«01_k».proof.Proof.Gen.DwGateRefIdeal
public import proofs.«01_k».proof.Proof.Gen.DwGateRefIdeal.Run
public import proofs.«01_k».proof.Proof.Dense.Down
public import proofs.«01_k».proof.Proof.Dense.O
public import proofs.«01_k».proof.Proof.Dense.Dmixed
public import proofs.«01_k».proof.Proof.Dense.DwO
public import proofs.«01_k».proof.Proof.Dense.In
public import proofs.«01_k».proof.Proof.Dense.DwIn
public import proofs.«01_k».proof.Proof.Dense.Uq
public import proofs.«01_k».proof.Proof.Dense.Dqln
public import proofs.«01_k».proof.Proof.Dense.DwUq
public import proofs.«01_k».proof.Proof.Dense.Ukv
public import proofs.«01_k».proof.Proof.Dense.Dkvln
public import proofs.«01_k».proof.Proof.Dense.DwUkv
public import proofs.«01_k».proof.Proof.Dense.Gate
public import proofs.«01_k».proof.Proof.Dense.DwGate
public import proofs.«01_k».proof.Proof.Gen.Dh2
public import proofs.«01_k».proof.Proof.Gen.Dh2.Frame
public import proofs.«01_k».proof.Proof.Gen.Dh2Ideal
public import proofs.«01_k».proof.Proof.Gen.Dh2Ideal.Frame
public import proofs.«01_k».proof.Proof.Gen.Dh2Ideal.Value
public import proofs.«01_k».proof.Proof.Gen.Dh2RefIdeal
public import proofs.«01_k».proof.Proof.Gen.Dh2RefIdeal.Run
public import proofs.«01_k».proof.Proof.Gen.Dh3
public import proofs.«01_k».proof.Proof.Gen.Dh3.Frame
public import proofs.«01_k».proof.Proof.Gen.Dh3Ideal
public import proofs.«01_k».proof.Proof.Gen.Dh3Ideal.Frame
public import proofs.«01_k».proof.Proof.Gen.Dh3Ideal.Value
public import proofs.«01_k».proof.Proof.Gen.Dh3RefIdeal
public import proofs.«01_k».proof.Proof.Gen.Dh3RefIdeal.Run
public import proofs.«01_k».proof.Proof.Gen.Dh
public import proofs.«01_k».proof.Proof.Gen.Dh.Frame
public import proofs.«01_k».proof.Proof.Gen.DhIdeal
public import proofs.«01_k».proof.Proof.Gen.DhIdeal.Frame
public import proofs.«01_k».proof.Proof.Gen.DhIdeal.Value
public import proofs.«01_k».proof.Proof.Gen.DhRefIdeal
public import proofs.«01_k».proof.Proof.Gen.DhRefIdeal.Run
public import proofs.«01_k».proof.Proof.Dense.Dh2
public import proofs.«01_k».proof.Proof.Dense.Dh3
public import proofs.«01_k».proof.Proof.Dense.Dh
public import proofs.«01_k».proof.Proof.Gen.Ple
public import proofs.«01_k».proof.Proof.Gen.Ple.Frame
public import proofs.«01_k».proof.Proof.Gen.PleIdeal
public import proofs.«01_k».proof.Proof.Gen.PleIdeal.Frame
public import proofs.«01_k».proof.Proof.Gen.PleIdeal.Value
public import proofs.«01_k».proof.Proof.Gen.PleRefIdeal
public import proofs.«01_k».proof.Proof.Gen.PleRefIdeal.Run
public import proofs.«01_k».proof.Proof.Gen.DwPle
public import proofs.«01_k».proof.Proof.Gen.DwPle.Frame
public import proofs.«01_k».proof.Proof.Gen.DwPleIdeal
public import proofs.«01_k».proof.Proof.Gen.DwPleIdeal.Frame
public import proofs.«01_k».proof.Proof.Gen.DwPleIdeal.Value
public import proofs.«01_k».proof.Proof.Gen.DwPleRefIdeal
public import proofs.«01_k».proof.Proof.Gen.DwPleRefIdeal.Run
public import proofs.«01_k».proof.Proof.Dense.Ple
public import proofs.«01_k».proof.Proof.Dense.DwPle

@[expose] public section

noncomputable section

namespace Cert.Proof

open Idealize.ShloMosaic Idealize.SL.Sem Cert.Kernel

theorem frame_kernel : Cert.quiescent_Kernel := fun m ρ _ => Cert.Kernel.Att.frame m ρ

theorem frame_kernelIdeal : Cert.quiescent_KernelIdeal := fun m ρ _ => Cert.KernelIdeal.Att.frame m ρ

theorem frame_referenceIdeal : Cert.quiescent_ReferenceIdeal := fun m ρ _ =>
  (θ_run Cert.ReferenceIdeal.defs _ _).mono
    (fun r h => ⟨fun c => ⟨(h c).2.2.2.1, (h c).2.2.2.2.1, (h c).2.2.2.2.2.1, (h c).2.2.2.2.2.2⟩,
      sem_eq_zero_of_no_sems (by decide) r.2⟩)
    (Cert.ReferenceIdeal.Value.run m ρ)

/-- The one named constant of the kernel: the scale of the scores, to base 2. -/
theorem preserves_kernel : Cert.preserves_Kernel_KernelIdeal :=
  IdealRules.named_const.statement Cert.KernelIdeal.κ "att_scale_log2" .f32 0x3E16C740#32 _ rfl

/-- From finite arguments both programs end with the gradients of the heads' attention. -/
theorem algebraic : Cert.algebraic_KernelIdeal_ReferenceIdeal_pre_finite := by
  intro m g m' g' hm ha
  have a := args hm
  refine ⟨fun c => Cert.KernelIdeal.Att.dqOut (heads m c), fun c => Cert.KernelIdeal.Att.dkOut (heads m c), fun c => Cert.KernelIdeal.Att.dvOut (heads m c),
    Cert.KernelIdeal.Att.run_values m g (heads m) a, (θ_run Cert.ReferenceIdeal.defs _ _).mono (fun r h c => ?_) (Cert.ReferenceIdeal.Value.run m' g')⟩
  have hq : ∀ h i d, m' ((c.tc : Thread Cert.ReferenceIdeal.nD Cert.ReferenceIdeal.τ).loc Cert.ReferenceIdeal.main_arg0) (ix3 i h d) = (((heads m c h).q i d : ℝ) : EReal) :=
    fun h i d => (congrFun (ha c).1 _).trans ((a c).q h i d)
  have hk : ∀ h i d, m' ((c.tc : Thread Cert.ReferenceIdeal.nD Cert.ReferenceIdeal.τ).loc Cert.ReferenceIdeal.main_arg1) (ix3 i h d) = (((heads m c h).k i d : ℝ) : EReal) :=
    fun h i d => (congrFun (ha c).2.1 _).trans ((a c).k h i d)
  have hv : ∀ h i d, m' ((c.tc : Thread Cert.ReferenceIdeal.nD Cert.ReferenceIdeal.τ).loc Cert.ReferenceIdeal.main_arg2) (ix3 i h d) = (((heads m c h).v i d : ℝ) : EReal) :=
    fun h i d => (congrFun (ha c).2.2.1 _).trans ((a c).v h i d)
  have hc : ∀ h i d, m' ((c.tc : Thread Cert.ReferenceIdeal.nD Cert.ReferenceIdeal.τ).loc Cert.ReferenceIdeal.main_arg3) (ix2 i (Cert.ReferenceIdeal.Att.ccol h d)) = (((heads m c h).c i d : ℝ) : EReal) :=
    fun h i d => (congrFun (ha c).2.2.2 _).trans ((a c).c h i d)
  have h0 : Cert.ReferenceIdeal.Value.res_out0 m' c = Cert.KernelIdeal.Att.dqOut (heads m c) := by
    funext y
    idx_vars y
    exact Cert.ReferenceIdeal.Att.out0_at m' c hq hk hv hc y1 y0 y2
  have h1 : Cert.ReferenceIdeal.Value.res_out1 m' c = Cert.KernelIdeal.Att.dkOut (heads m c) := by
    funext y
    idx_vars y
    exact Cert.ReferenceIdeal.Att.out1_at m' c hq hk hv hc y1 y0 y2
  have h2 : Cert.ReferenceIdeal.Value.res_out2 m' c = Cert.KernelIdeal.Att.dvOut (heads m c) := by
    funext y
    idx_vars y
    exact Cert.ReferenceIdeal.Att.out2_at m' c hq hk hv hc y1 y0 y2
  exact ⟨(h c).1.trans h0, (h c).2.1.trans h1, (h c).2.2.1.trans h2, (h c).2.2.2⟩

/-! The four products of the feed-forward layer: their programs run whole, and each call and its reference compute one function of the arguments. -/

theorem frame_Up : Cert.quiescent_Up := fun m ρ _ => Cert.Up.Gen.frame m ρ
theorem frame_UpIdeal : Cert.quiescent_UpIdeal := fun m ρ _ => Cert.UpIdeal.Gen.frame m ρ
theorem frame_UpRefIdeal : Cert.quiescent_UpRefIdeal := fun m ρ _ =>
  (θ_run Cert.UpRefIdeal.defs _ _).mono (fun r h => ⟨fun c => ⟨(h c).2.2.1, (h c).2.2.2⟩, sem_eq_zero_of_no_sems (by decide) r.2⟩) (Cert.UpRefIdeal.Value.run m ρ)

theorem frame_Da : Cert.quiescent_Da := fun m ρ _ => Cert.Da.Gen.frame m ρ
theorem frame_DaIdeal : Cert.quiescent_DaIdeal := fun m ρ _ => Cert.DaIdeal.Gen.frame m ρ
theorem frame_DaRefIdeal : Cert.quiescent_DaRefIdeal := fun m ρ _ =>
  (θ_run Cert.DaRefIdeal.defs _ _).mono (fun r h => ⟨fun c => ⟨(h c).2.1, (h c).2.2.1, (h c).2.2.2⟩, sem_eq_zero_of_no_sems (by decide) r.2⟩) (Cert.DaRefIdeal.Value.run m ρ)

theorem frame_DwDown : Cert.quiescent_DwDown := fun m ρ _ => Cert.DwDown.Gen.frame m ρ
theorem frame_DwDownIdeal : Cert.quiescent_DwDownIdeal := fun m ρ _ => Cert.DwDownIdeal.Gen.frame m ρ
theorem frame_DwDownRefIdeal : Cert.quiescent_DwDownRefIdeal := fun m ρ _ =>
  (θ_run Cert.DwDownRefIdeal.defs _ _).mono (fun r h => ⟨fun c => ⟨(h c).2.1, (h c).2.2.1, (h c).2.2.2⟩, sem_eq_zero_of_no_sems (by decide) r.2⟩) (Cert.DwDownRefIdeal.Value.run m ρ)

theorem frame_DwUp : Cert.quiescent_DwUp := fun m ρ _ => Cert.DwUp.Gen.frame m ρ
theorem frame_DwUpIdeal : Cert.quiescent_DwUpIdeal := fun m ρ _ => Cert.DwUpIdeal.Gen.frame m ρ
theorem frame_DwUpRefIdeal : Cert.quiescent_DwUpRefIdeal := fun m ρ _ =>
  (θ_run Cert.DwUpRefIdeal.defs _ _).mono (fun r h => ⟨fun c => ⟨(h c).2.1, (h c).2.2.1, (h c).2.2.2⟩, sem_eq_zero_of_no_sems (by decide) r.2⟩) (Cert.DwUpRefIdeal.Value.run m ρ)

theorem algebraic_Up : Cert.algebraic_UpIdeal_UpRefIdeal := by
  intro m g m' g' _ ha
  refine ⟨fun c => Cert.UpIdeal.Mlp.out (m (c, Proc.devRef .tc Cert.UpIdeal.main_arg0)) (m (c, Proc.devRef .tc Cert.UpIdeal.main_arg1)),
    fun c => Cert.UpIdeal.Mlp.act (m (c, Proc.devRef .tc Cert.UpIdeal.main_arg0)) (m (c, Proc.devRef .tc Cert.UpIdeal.main_arg1)),
    (θ_run Cert.UpIdeal.defs _ _).mono (fun r h c => ⟨(h c).1.trans (Cert.UpIdeal.Mlp.arr_out m c), (h c).2.1.trans (Cert.UpIdeal.Mlp.arr_act m c), (h c).2.2⟩) (Cert.UpIdeal.Value.run_blocks m g),
    (θ_run Cert.UpRefIdeal.defs _ _).mono (fun r h c => ?_) (Cert.UpRefIdeal.Value.run m' g')⟩
  have h0 := (h c).1
  have h1 := (h c).2.1
  rw [(ha c).1, (ha c).2] at h0 h1
  exact ⟨h0.trans (Cert.UpRefIdeal.Mlp.prod_eq _ _), h1.trans (Cert.UpRefIdeal.Mlp.sq_eq _ _), (h c).2.2⟩

theorem algebraic_Da : Cert.algebraic_DaIdeal_DaRefIdeal := by
  intro m g m' g' _ ha
  refine ⟨fun c => Cert.DaIdeal.Mlp.out (m (c, Proc.devRef .tc Cert.DaIdeal.main_arg0)) (m (c, Proc.devRef .tc Cert.DaIdeal.main_arg1)) (m (c, Proc.devRef .tc Cert.DaIdeal.main_arg2)),
    (θ_run Cert.DaIdeal.defs _ _).mono (fun r h c => ⟨(h c).1.trans (Cert.DaIdeal.Mlp.arr m c), (h c).2⟩) (Cert.DaIdeal.Value.run_blocks m g),
    (θ_run Cert.DaRefIdeal.defs _ _).mono (fun r h c => ?_) (Cert.DaRefIdeal.Value.run m' g')⟩
  have h0 := (h c).1
  rw [(ha c).1, (ha c).2.1, (ha c).2.2] at h0
  exact ⟨h0.trans (Cert.DaRefIdeal.Mlp.grad_eq _ _ _), (h c).2⟩

theorem algebraic_DwDown : Cert.algebraic_DwDownIdeal_DwDownRefIdeal := by
  intro m g m' g' _ ha
  refine ⟨fun c => Cert.DwDownIdeal.Mlp.out (m (c, Proc.devRef .tc Cert.DwDownIdeal.main_arg0)) (m (c, Proc.devRef .tc Cert.DwDownIdeal.main_arg2)),
    (θ_run Cert.DwDownIdeal.defs _ _).mono (fun r h c => ⟨(h c).1.trans (Cert.DwDownIdeal.Mlp.arr m c), (h c).2⟩) (Cert.DwDownIdeal.Value.run_blocks m g),
    (θ_run Cert.DwDownRefIdeal.defs _ _).mono (fun r h c => ?_) (Cert.DwDownRefIdeal.Value.run m' g')⟩
  have h0 := (h c).1
  rw [(ha c).1, (ha c).2.2] at h0
  exact ⟨h0.trans (Cert.DwDownRefIdeal.Mlp.grad_eq _ _), (h c).2⟩

theorem algebraic_DwUp : Cert.algebraic_DwUpIdeal_DwUpRefIdeal := by
  intro m g m' g' _ ha
  refine ⟨fun c => Cert.DwUpIdeal.Mlp.out (m (c, Proc.devRef .tc Cert.DwUpIdeal.main_arg0)) (m (c, Proc.devRef .tc Cert.DwUpIdeal.main_arg2)),
    (θ_run Cert.DwUpIdeal.defs _ _).mono (fun r h c => ⟨(h c).1.trans (Cert.DwUpIdeal.Mlp.arr m c), (h c).2⟩) (Cert.DwUpIdeal.Value.run_blocks m g),
    (θ_run Cert.DwUpRefIdeal.defs _ _).mono (fun r h c => ?_) (Cert.DwUpRefIdeal.Value.run m' g')⟩
  have h0 := (h c).1
  rw [(ha c).1, (ha c).2.2] at h0
  exact ⟨h0.trans (Cert.DwUpRefIdeal.Mlp.grad_eq _ _), (h c).2⟩

/-! The other products: the same, each call against the product it stands for. -/

theorem frame_Down : Cert.quiescent_Down := fun m ρ _ => Cert.Down.Gen.frame m ρ
theorem frame_DownIdeal : Cert.quiescent_DownIdeal := fun m ρ _ => Cert.DownIdeal.Gen.frame m ρ
theorem frame_DownRefIdeal : Cert.quiescent_DownRefIdeal := fun m ρ _ =>
  (θ_run Cert.DownRefIdeal.defs _ _).mono (fun r h => ⟨fun c => ⟨(h c).2.2.1, (h c).2.2.2.1, (h c).2.2.2.2.1, (h c).2.2.2.2.2⟩, sem_eq_zero_of_no_sems (by decide) r.2⟩) (Cert.DownRefIdeal.Value.run m ρ)

theorem frame_O : Cert.quiescent_O := fun m ρ _ => Cert.O.Gen.frame m ρ
theorem frame_OIdeal : Cert.quiescent_OIdeal := fun m ρ _ => Cert.OIdeal.Gen.frame m ρ
theorem frame_ORefIdeal : Cert.quiescent_ORefIdeal := fun m ρ _ =>
  (θ_run Cert.ORefIdeal.defs _ _).mono (fun r h => ⟨fun c => ⟨(h c).2.2.1, (h c).2.2.2.1, (h c).2.2.2.2.1, (h c).2.2.2.2.2⟩, sem_eq_zero_of_no_sems (by decide) r.2⟩) (Cert.ORefIdeal.Value.run m ρ)

theorem frame_Dmixed : Cert.quiescent_Dmixed := fun m ρ _ => Cert.Dmixed.Gen.frame m ρ
theorem frame_DmixedIdeal : Cert.quiescent_DmixedIdeal := fun m ρ _ => Cert.DmixedIdeal.Gen.frame m ρ
theorem frame_DmixedRefIdeal : Cert.quiescent_DmixedRefIdeal := fun m ρ _ =>
  (θ_run Cert.DmixedRefIdeal.defs _ _).mono (fun r h => ⟨fun c => ⟨(h c).2.1, (h c).2.2.1, (h c).2.2.2⟩, sem_eq_zero_of_no_sems (by decide) r.2⟩) (Cert.DmixedRefIdeal.Value.run m ρ)

theorem frame_DwO : Cert.quiescent_DwO := fun m ρ _ => Cert.DwO.Gen.frame m ρ
theorem frame_DwOIdeal : Cert.quiescent_DwOIdeal := fun m ρ _ => Cert.DwOIdeal.Gen.frame m ρ
theorem frame_DwORefIdeal : Cert.quiescent_DwORefIdeal := fun m ρ _ =>
  (θ_run Cert.DwORefIdeal.defs _ _).mono (fun r h => ⟨fun c => ⟨(h c).2.1, (h c).2.2.1, (h c).2.2.2⟩, sem_eq_zero_of_no_sems (by decide) r.2⟩) (Cert.DwORefIdeal.Value.run m ρ)

theorem frame_In : Cert.quiescent_In := fun m ρ _ => Cert.In.Gen.frame m ρ
theorem frame_InIdeal : Cert.quiescent_InIdeal := fun m ρ _ => Cert.InIdeal.Gen.frame m ρ
theorem frame_InRefIdeal : Cert.quiescent_InRefIdeal := fun m ρ _ =>
  (θ_run Cert.InRefIdeal.defs _ _).mono (fun r h => ⟨fun c => ⟨(h c).2.1, (h c).2.2⟩, sem_eq_zero_of_no_sems (by decide) r.2⟩) (Cert.InRefIdeal.Value.run m ρ)

theorem frame_DwIn : Cert.quiescent_DwIn := fun m ρ _ => Cert.DwIn.Gen.frame m ρ
theorem frame_DwInIdeal : Cert.quiescent_DwInIdeal := fun m ρ _ => Cert.DwInIdeal.Gen.frame m ρ
theorem frame_DwInRefIdeal : Cert.quiescent_DwInRefIdeal := fun m ρ _ =>
  (θ_run Cert.DwInRefIdeal.defs _ _).mono (fun r h => ⟨fun c => ⟨(h c).2.1, (h c).2.2.1, (h c).2.2.2⟩, sem_eq_zero_of_no_sems (by decide) r.2⟩) (Cert.DwInRefIdeal.Value.run m ρ)

theorem frame_Uq : Cert.quiescent_Uq := fun m ρ _ => Cert.Uq.Gen.frame m ρ
theorem frame_UqIdeal : Cert.quiescent_UqIdeal := fun m ρ _ => Cert.UqIdeal.Gen.frame m ρ
theorem frame_UqRefIdeal : Cert.quiescent_UqRefIdeal := fun m ρ _ =>
  (θ_run Cert.UqRefIdeal.defs _ _).mono (fun r h => ⟨fun c => ⟨(h c).2.1, (h c).2.2⟩, sem_eq_zero_of_no_sems (by decide) r.2⟩) (Cert.UqRefIdeal.Value.run m ρ)

theorem frame_Dqln : Cert.quiescent_Dqln := fun m ρ _ => Cert.Dqln.Gen.frame m ρ
theorem frame_DqlnIdeal : Cert.quiescent_DqlnIdeal := fun m ρ _ => Cert.DqlnIdeal.Gen.frame m ρ
theorem frame_DqlnRefIdeal : Cert.quiescent_DqlnRefIdeal := fun m ρ _ =>
  (θ_run Cert.DqlnRefIdeal.defs _ _).mono (fun r h => ⟨fun c => ⟨(h c).2.1, (h c).2.2.1, (h c).2.2.2⟩, sem_eq_zero_of_no_sems (by decide) r.2⟩) (Cert.DqlnRefIdeal.Value.run m ρ)

theorem frame_DwUq : Cert.quiescent_DwUq := fun m ρ _ => Cert.DwUq.Gen.frame m ρ
theorem frame_DwUqIdeal : Cert.quiescent_DwUqIdeal := fun m ρ _ => Cert.DwUqIdeal.Gen.frame m ρ
theorem frame_DwUqRefIdeal : Cert.quiescent_DwUqRefIdeal := fun m ρ _ =>
  (θ_run Cert.DwUqRefIdeal.defs _ _).mono (fun r h => ⟨fun c => ⟨(h c).2.1, (h c).2.2.1, (h c).2.2.2⟩, sem_eq_zero_of_no_sems (by decide) r.2⟩) (Cert.DwUqRefIdeal.Value.run m ρ)

theorem frame_Ukv : Cert.quiescent_Ukv := fun m ρ _ => Cert.Ukv.Gen.frame m ρ
theorem frame_UkvIdeal : Cert.quiescent_UkvIdeal := fun m ρ _ => Cert.UkvIdeal.Gen.frame m ρ
theorem frame_UkvRefIdeal : Cert.quiescent_UkvRefIdeal := fun m ρ _ =>
  (θ_run Cert.UkvRefIdeal.defs _ _).mono (fun r h => ⟨fun c => ⟨(h c).2.1, (h c).2.2⟩, sem_eq_zero_of_no_sems (by decide) r.2⟩) (Cert.UkvRefIdeal.Value.run m ρ)

theorem frame_Dkvln : Cert.quiescent_Dkvln := fun m ρ _ => Cert.Dkvln.Gen.frame m ρ
theorem frame_DkvlnIdeal : Cert.quiescent_DkvlnIdeal := fun m ρ _ => Cert.DkvlnIdeal.Gen.frame m ρ
theorem frame_DkvlnRefIdeal : Cert.quiescent_DkvlnRefIdeal := fun m ρ _ =>
  (θ_run Cert.DkvlnRefIdeal.defs _ _).mono (fun r h => ⟨fun c => ⟨(h c).2.1, (h c).2.2.1, (h c).2.2.2⟩, sem_eq_zero_of_no_sems (by decide) r.2⟩) (Cert.DkvlnRefIdeal.Value.run m ρ)

theorem frame_DwUkv : Cert.quiescent_DwUkv := fun m ρ _ => Cert.DwUkv.Gen.frame m ρ
theorem frame_DwUkvIdeal : Cert.quiescent_DwUkvIdeal := fun m ρ _ => Cert.DwUkvIdeal.Gen.frame m ρ
theorem frame_DwUkvRefIdeal : Cert.quiescent_DwUkvRefIdeal := fun m ρ _ =>
  (θ_run Cert.DwUkvRefIdeal.defs _ _).mono (fun r h => ⟨fun c => ⟨(h c).2.1, (h c).2.2.1, (h c).2.2.2⟩, sem_eq_zero_of_no_sems (by decide) r.2⟩) (Cert.DwUkvRefIdeal.Value.run m ρ)

theorem frame_Gate : Cert.quiescent_Gate := fun m ρ _ => Cert.Gate.Gen.frame m ρ
theorem frame_GateIdeal : Cert.quiescent_GateIdeal := fun m ρ _ => Cert.GateIdeal.Gen.frame m ρ
theorem frame_GateRefIdeal : Cert.quiescent_GateRefIdeal := fun m ρ _ =>
  (θ_run Cert.GateRefIdeal.defs _ _).mono (fun r h => ⟨fun c => ⟨(h c).2.1, (h c).2.2⟩, sem_eq_zero_of_no_sems (by decide) r.2⟩) (Cert.GateRefIdeal.Value.run m ρ)

theorem frame_DwGate : Cert.quiescent_DwGate := fun m ρ _ => Cert.DwGate.Gen.frame m ρ
theorem frame_DwGateIdeal : Cert.quiescent_DwGateIdeal := fun m ρ _ => Cert.DwGateIdeal.Gen.frame m ρ
theorem frame_DwGateRefIdeal : Cert.quiescent_DwGateRefIdeal := fun m ρ _ =>
  (θ_run Cert.DwGateRefIdeal.defs _ _).mono (fun r h => ⟨fun c => ⟨(h c).2.1, (h c).2.2.1, (h c).2.2.2⟩, sem_eq_zero_of_no_sems (by decide) r.2⟩) (Cert.DwGateRefIdeal.Value.run m ρ)

theorem algebraic_Down : Cert.algebraic_DownIdeal_DownRefIdeal := by
  intro m g m' g' _ ha
  refine ⟨fun c => Cert.DownIdeal.Dense.out (m (c, Proc.devRef .tc Cert.DownIdeal.main_arg0)) (m (c, Proc.devRef .tc Cert.DownIdeal.main_arg1)) (m (c, Proc.devRef .tc Cert.DownIdeal.main_arg2)),
    fun c => Cert.DownIdeal.Dense.nrm (m (c, Proc.devRef .tc Cert.DownIdeal.main_arg0)) (m (c, Proc.devRef .tc Cert.DownIdeal.main_arg1)) (m (c, Proc.devRef .tc Cert.DownIdeal.main_arg2)) (m (c, Proc.devRef .tc Cert.DownIdeal.main_arg3)),
    (θ_run Cert.DownIdeal.defs _ _).mono (fun r h c => ⟨(h c).1.trans (Cert.DownIdeal.Dense.arr_out m c), (h c).2.1.trans (Cert.DownIdeal.Dense.arr_nrm m c), (h c).2.2⟩) (Cert.DownIdeal.Value.run_blocks m g),
    (θ_run Cert.DownRefIdeal.defs _ _).mono (fun r h c => ?_) (Cert.DownRefIdeal.Value.run m' g')⟩
  have h0 := (h c).1
  have h1 := (h c).2.1
  rw [(ha c).1, (ha c).2.1, (ha c).2.2.1] at h0
  rw [(ha c).1, (ha c).2.1, (ha c).2.2.1, (ha c).2.2.2] at h1
  exact ⟨h0.trans (Cert.DownRefIdeal.Dense.ref_eq _ _ _), h1.trans (Cert.DownRefIdeal.Dense.rmsnorm_eq _ _ _ _), (h c).2.2⟩

theorem algebraic_O : Cert.algebraic_OIdeal_ORefIdeal := by
  intro m g m' g' _ ha
  refine ⟨fun c => Cert.OIdeal.Dense.out (m (c, Proc.devRef .tc Cert.OIdeal.main_arg0)) (m (c, Proc.devRef .tc Cert.OIdeal.main_arg1)) (m (c, Proc.devRef .tc Cert.OIdeal.main_arg2)),
    fun c => Cert.OIdeal.Dense.nrm (m (c, Proc.devRef .tc Cert.OIdeal.main_arg0)) (m (c, Proc.devRef .tc Cert.OIdeal.main_arg1)) (m (c, Proc.devRef .tc Cert.OIdeal.main_arg2)) (m (c, Proc.devRef .tc Cert.OIdeal.main_arg3)),
    (θ_run Cert.OIdeal.defs _ _).mono (fun r h c => ⟨(h c).1.trans (Cert.OIdeal.Dense.arr_out m c), (h c).2.1.trans (Cert.OIdeal.Dense.arr_nrm m c), (h c).2.2⟩) (Cert.OIdeal.Value.run_blocks m g),
    (θ_run Cert.ORefIdeal.defs _ _).mono (fun r h c => ?_) (Cert.ORefIdeal.Value.run m' g')⟩
  have h0 := (h c).1
  have h1 := (h c).2.1
  rw [(ha c).1, (ha c).2.1, (ha c).2.2.1] at h0
  rw [(ha c).1, (ha c).2.1, (ha c).2.2.1, (ha c).2.2.2] at h1
  exact ⟨h0.trans (Cert.ORefIdeal.Dense.ref_eq _ _ _), h1.trans (Cert.ORefIdeal.Dense.rmsnorm_eq _ _ _ _), (h c).2.2⟩

theorem algebraic_Dmixed : Cert.algebraic_DmixedIdeal_DmixedRefIdeal := by
  intro m g m' g' _ ha
  refine ⟨fun c => Cert.DmixedIdeal.Dense.out (m (c, Proc.devRef .tc Cert.DmixedIdeal.main_arg2)) (m (c, Proc.devRef .tc Cert.DmixedIdeal.main_arg1)),
    (θ_run Cert.DmixedIdeal.defs _ _).mono (fun r h c => ⟨(h c).1.trans (Cert.DmixedIdeal.Dense.arr m c), (h c).2⟩) (Cert.DmixedIdeal.Value.run_blocks m g),
    (θ_run Cert.DmixedRefIdeal.defs _ _).mono (fun r h c => ?_) (Cert.DmixedRefIdeal.Value.run m' g')⟩
  have h0 := (h c).1
  rw [(ha c).2.1, (ha c).2.2] at h0
  exact ⟨h0.trans (Cert.DmixedRefIdeal.Dense.ref_eq _ _), (h c).2⟩

theorem algebraic_DwO : Cert.algebraic_DwOIdeal_DwORefIdeal := by
  intro m g m' g' _ ha
  refine ⟨fun c => Cert.DwOIdeal.Dense.out (m (c, Proc.devRef .tc Cert.DwOIdeal.main_arg0)) (m (c, Proc.devRef .tc Cert.DwOIdeal.main_arg2)),
    (θ_run Cert.DwOIdeal.defs _ _).mono (fun r h c => ⟨(h c).1.trans (Cert.DwOIdeal.Dense.arr m c), (h c).2⟩) (Cert.DwOIdeal.Value.run_blocks m g),
    (θ_run Cert.DwORefIdeal.defs _ _).mono (fun r h c => ?_) (Cert.DwORefIdeal.Value.run m' g')⟩
  have h0 := (h c).1
  rw [(ha c).1, (ha c).2.2] at h0
  exact ⟨h0.trans (Cert.DwORefIdeal.Dense.ref_eq _ _), (h c).2⟩

theorem algebraic_In : Cert.algebraic_InIdeal_InRefIdeal := by
  intro m g m' g' _ ha
  refine ⟨fun c => Cert.InIdeal.Dense.out (m (c, Proc.devRef .tc Cert.InIdeal.main_arg0)) (m (c, Proc.devRef .tc Cert.InIdeal.main_arg1)),
    (θ_run Cert.InIdeal.defs _ _).mono (fun r h c => ⟨(h c).1.trans (Cert.InIdeal.Dense.arr m c), (h c).2⟩) (Cert.InIdeal.Value.run_blocks m g),
    (θ_run Cert.InRefIdeal.defs _ _).mono (fun r h c => ?_) (Cert.InRefIdeal.Value.run m' g')⟩
  have h0 := (h c).1
  rw [(ha c).1, (ha c).2] at h0
  exact ⟨h0.trans (Cert.InRefIdeal.Dense.ref_eq _ _), (h c).2⟩

theorem algebraic_DwIn : Cert.algebraic_DwInIdeal_DwInRefIdeal := by
  intro m g m' g' _ ha
  refine ⟨fun c => Cert.DwInIdeal.Dense.out (m (c, Proc.devRef .tc Cert.DwInIdeal.main_arg0)) (m (c, Proc.devRef .tc Cert.DwInIdeal.main_arg2)),
    (θ_run Cert.DwInIdeal.defs _ _).mono (fun r h c => ⟨(h c).1.trans (Cert.DwInIdeal.Dense.arr m c), (h c).2⟩) (Cert.DwInIdeal.Value.run_blocks m g),
    (θ_run Cert.DwInRefIdeal.defs _ _).mono (fun r h c => ?_) (Cert.DwInRefIdeal.Value.run m' g')⟩
  have h0 := (h c).1
  rw [(ha c).1, (ha c).2.2] at h0
  exact ⟨h0.trans (Cert.DwInRefIdeal.Dense.ref_eq _ _), (h c).2⟩

theorem algebraic_Uq : Cert.algebraic_UqIdeal_UqRefIdeal := by
  intro m g m' g' _ ha
  refine ⟨fun c => Cert.UqIdeal.Dense.out (m (c, Proc.devRef .tc Cert.UqIdeal.main_arg0)) (m (c, Proc.devRef .tc Cert.UqIdeal.main_arg1)),
    (θ_run Cert.UqIdeal.defs _ _).mono (fun r h c => ⟨(h c).1.trans (Cert.UqIdeal.Dense.arr m c), (h c).2⟩) (Cert.UqIdeal.Value.run_blocks m g),
    (θ_run Cert.UqRefIdeal.defs _ _).mono (fun r h c => ?_) (Cert.UqRefIdeal.Value.run m' g')⟩
  have h0 := (h c).1
  rw [(ha c).1, (ha c).2] at h0
  exact ⟨h0.trans (Cert.UqRefIdeal.Dense.ref_eq _ _), (h c).2⟩

theorem algebraic_Dqln : Cert.algebraic_DqlnIdeal_DqlnRefIdeal := by
  intro m g m' g' _ ha
  refine ⟨fun c => Cert.DqlnIdeal.Dense.out (m (c, Proc.devRef .tc Cert.DqlnIdeal.main_arg2)) (m (c, Proc.devRef .tc Cert.DqlnIdeal.main_arg1)),
    (θ_run Cert.DqlnIdeal.defs _ _).mono (fun r h c => ⟨(h c).1.trans (Cert.DqlnIdeal.Dense.arr m c), (h c).2⟩) (Cert.DqlnIdeal.Value.run_blocks m g),
    (θ_run Cert.DqlnRefIdeal.defs _ _).mono (fun r h c => ?_) (Cert.DqlnRefIdeal.Value.run m' g')⟩
  have h0 := (h c).1
  rw [(ha c).2.1, (ha c).2.2] at h0
  exact ⟨h0.trans (Cert.DqlnRefIdeal.Dense.ref_eq _ _), (h c).2⟩

theorem algebraic_DwUq : Cert.algebraic_DwUqIdeal_DwUqRefIdeal := by
  intro m g m' g' _ ha
  refine ⟨fun c => Cert.DwUqIdeal.Dense.out (m (c, Proc.devRef .tc Cert.DwUqIdeal.main_arg0)) (m (c, Proc.devRef .tc Cert.DwUqIdeal.main_arg2)),
    (θ_run Cert.DwUqIdeal.defs _ _).mono (fun r h c => ⟨(h c).1.trans (Cert.DwUqIdeal.Dense.arr m c), (h c).2⟩) (Cert.DwUqIdeal.Value.run_blocks m g),
    (θ_run Cert.DwUqRefIdeal.defs _ _).mono (fun r h c => ?_) (Cert.DwUqRefIdeal.Value.run m' g')⟩
  have h0 := (h c).1
  rw [(ha c).1, (ha c).2.2] at h0
  exact ⟨h0.trans (Cert.DwUqRefIdeal.Dense.ref_eq _ _), (h c).2⟩

theorem algebraic_Ukv : Cert.algebraic_UkvIdeal_UkvRefIdeal := by
  intro m g m' g' _ ha
  refine ⟨fun c => Cert.UkvIdeal.Dense.out (m (c, Proc.devRef .tc Cert.UkvIdeal.main_arg0)) (m (c, Proc.devRef .tc Cert.UkvIdeal.main_arg1)),
    (θ_run Cert.UkvIdeal.defs _ _).mono (fun r h c => ⟨(h c).1.trans (Cert.UkvIdeal.Dense.arr m c), (h c).2⟩) (Cert.UkvIdeal.Value.run_blocks m g),
    (θ_run Cert.UkvRefIdeal.defs _ _).mono (fun r h c => ?_) (Cert.UkvRefIdeal.Value.run m' g')⟩
  have h0 := (h c).1
  rw [(ha c).1, (ha c).2] at h0
  exact ⟨h0.trans (Cert.UkvRefIdeal.Dense.ref_eq _ _), (h c).2⟩

theorem algebraic_Dkvln : Cert.algebraic_DkvlnIdeal_DkvlnRefIdeal := by
  intro m g m' g' _ ha
  refine ⟨fun c => Cert.DkvlnIdeal.Dense.out (m (c, Proc.devRef .tc Cert.DkvlnIdeal.main_arg2)) (m (c, Proc.devRef .tc Cert.DkvlnIdeal.main_arg1)),
    (θ_run Cert.DkvlnIdeal.defs _ _).mono (fun r h c => ⟨(h c).1.trans (Cert.DkvlnIdeal.Dense.arr m c), (h c).2⟩) (Cert.DkvlnIdeal.Value.run_blocks m g),
    (θ_run Cert.DkvlnRefIdeal.defs _ _).mono (fun r h c => ?_) (Cert.DkvlnRefIdeal.Value.run m' g')⟩
  have h0 := (h c).1
  rw [(ha c).2.1, (ha c).2.2] at h0
  exact ⟨h0.trans (Cert.DkvlnRefIdeal.Dense.ref_eq _ _), (h c).2⟩

theorem algebraic_DwUkv : Cert.algebraic_DwUkvIdeal_DwUkvRefIdeal := by
  intro m g m' g' _ ha
  refine ⟨fun c => Cert.DwUkvIdeal.Dense.out (m (c, Proc.devRef .tc Cert.DwUkvIdeal.main_arg0)) (m (c, Proc.devRef .tc Cert.DwUkvIdeal.main_arg2)),
    (θ_run Cert.DwUkvIdeal.defs _ _).mono (fun r h c => ⟨(h c).1.trans (Cert.DwUkvIdeal.Dense.arr m c), (h c).2⟩) (Cert.DwUkvIdeal.Value.run_blocks m g),
    (θ_run Cert.DwUkvRefIdeal.defs _ _).mono (fun r h c => ?_) (Cert.DwUkvRefIdeal.Value.run m' g')⟩
  have h0 := (h c).1
  rw [(ha c).1, (ha c).2.2] at h0
  exact ⟨h0.trans (Cert.DwUkvRefIdeal.Dense.ref_eq _ _), (h c).2⟩

theorem algebraic_Gate : Cert.algebraic_GateIdeal_GateRefIdeal := by
  intro m g m' g' _ ha
  refine ⟨fun c => Cert.GateIdeal.Dense.out (m (c, Proc.devRef .tc Cert.GateIdeal.main_arg0)) (m (c, Proc.devRef .tc Cert.GateIdeal.main_arg1)),
    (θ_run Cert.GateIdeal.defs _ _).mono (fun r h c => ⟨(h c).1.trans (Cert.GateIdeal.Dense.arr m c), (h c).2⟩) (Cert.GateIdeal.Value.run_blocks m g),
    (θ_run Cert.GateRefIdeal.defs _ _).mono (fun r h c => ?_) (Cert.GateRefIdeal.Value.run m' g')⟩
  have h0 := (h c).1
  rw [(ha c).1, (ha c).2] at h0
  exact ⟨h0.trans (Cert.GateRefIdeal.Dense.ref_eq _ _), (h c).2⟩

theorem algebraic_DwGate : Cert.algebraic_DwGateIdeal_DwGateRefIdeal := by
  intro m g m' g' _ ha
  refine ⟨fun c => Cert.DwGateIdeal.Dense.out (m (c, Proc.devRef .tc Cert.DwGateIdeal.main_arg0)) (m (c, Proc.devRef .tc Cert.DwGateIdeal.main_arg2)),
    (θ_run Cert.DwGateIdeal.defs _ _).mono (fun r h c => ⟨(h c).1.trans (Cert.DwGateIdeal.Dense.arr m c), (h c).2⟩) (Cert.DwGateIdeal.Value.run_blocks m g),
    (θ_run Cert.DwGateRefIdeal.defs _ _).mono (fun r h c => ?_) (Cert.DwGateRefIdeal.Value.run m' g')⟩
  have h0 := (h c).1
  rw [(ha c).1, (ha c).2.2] at h0
  exact ⟨h0.trans (Cert.DwGateRefIdeal.Dense.ref_eq _ _), (h c).2⟩

/-! The gradients before the normalisations: three results each. -/

theorem frame_Dh2 : Cert.quiescent_Dh2 := fun m ρ _ => Cert.Dh2.Gen.frame m ρ
theorem frame_Dh2Ideal : Cert.quiescent_Dh2Ideal := fun m ρ _ => Cert.Dh2Ideal.Gen.frame m ρ
theorem frame_Dh2RefIdeal : Cert.quiescent_Dh2RefIdeal := fun m ρ _ =>
  (θ_run Cert.Dh2RefIdeal.defs _ _).mono (fun r h => ⟨fun c => ⟨(h c).2.2.2.1, (h c).2.2.2.2.1, (h c).2.2.2.2.2.1, (h c).2.2.2.2.2.2.1, (h c).2.2.2.2.2.2.2⟩, sem_eq_zero_of_no_sems (by decide) r.2⟩) (Cert.Dh2RefIdeal.Value.run m ρ)

theorem frame_Dh3 : Cert.quiescent_Dh3 := fun m ρ _ => Cert.Dh3.Gen.frame m ρ
theorem frame_Dh3Ideal : Cert.quiescent_Dh3Ideal := fun m ρ _ => Cert.Dh3Ideal.Gen.frame m ρ
theorem frame_Dh3RefIdeal : Cert.quiescent_Dh3RefIdeal := fun m ρ _ =>
  (θ_run Cert.Dh3RefIdeal.defs _ _).mono (fun r h => ⟨fun c => ⟨(h c).2.2.2.1, (h c).2.2.2.2.1, (h c).2.2.2.2.2.1, (h c).2.2.2.2.2.2.1, (h c).2.2.2.2.2.2.2⟩, sem_eq_zero_of_no_sems (by decide) r.2⟩) (Cert.Dh3RefIdeal.Value.run m ρ)

theorem frame_Dh : Cert.quiescent_Dh := fun m ρ _ => Cert.Dh.Gen.frame m ρ
theorem frame_DhIdeal : Cert.quiescent_DhIdeal := fun m ρ _ => Cert.DhIdeal.Gen.frame m ρ
theorem frame_DhRefIdeal : Cert.quiescent_DhRefIdeal := fun m ρ _ =>
  (θ_run Cert.DhRefIdeal.defs _ _).mono (fun r h => ⟨fun c => ⟨(h c).2.2.2.1, (h c).2.2.2.2.1, (h c).2.2.2.2.2.1, (h c).2.2.2.2.2.2.1, (h c).2.2.2.2.2.2.2⟩, sem_eq_zero_of_no_sems (by decide) r.2⟩) (Cert.DhRefIdeal.Value.run m ρ)

theorem algebraic_Dh2 : Cert.algebraic_Dh2Ideal_Dh2RefIdeal := by
  intro m g m' g' _ ha
  refine ⟨fun c => Cert.Dh2Ideal.Dense.dx (m (c, Proc.devRef .tc Cert.Dh2Ideal.main_arg0)) (m (c, Proc.devRef .tc Cert.Dh2Ideal.main_arg1)) (m (c, Proc.devRef .tc Cert.Dh2Ideal.main_arg2)) (m (c, Proc.devRef .tc Cert.Dh2Ideal.main_arg3)) (m (c, Proc.devRef .tc Cert.Dh2Ideal.main_arg4)),
    fun c => Cert.Dh2Ideal.Dense.dxb (m (c, Proc.devRef .tc Cert.Dh2Ideal.main_arg0)) (m (c, Proc.devRef .tc Cert.Dh2Ideal.main_arg1)) (m (c, Proc.devRef .tc Cert.Dh2Ideal.main_arg2)) (m (c, Proc.devRef .tc Cert.Dh2Ideal.main_arg3)) (m (c, Proc.devRef .tc Cert.Dh2Ideal.main_arg4)),
    fun c => Cert.Dh2Ideal.Dense.dg (m (c, Proc.devRef .tc Cert.Dh2Ideal.main_arg0)) (m (c, Proc.devRef .tc Cert.Dh2Ideal.main_arg2)) (m (c, Proc.devRef .tc Cert.Dh2Ideal.main_arg3)),
    (θ_run Cert.Dh2Ideal.defs _ _).mono (fun r h c => ⟨(h c).1.trans (Cert.Dh2Ideal.Dense.arr_dx m c), (h c).2.1.trans (Cert.Dh2Ideal.Dense.arr_dxb m c), (h c).2.2.1.trans (Cert.Dh2Ideal.Dense.arr_dg m c), (h c).2.2.2⟩) (Cert.Dh2Ideal.Value.run_blocks m g),
    (θ_run Cert.Dh2RefIdeal.defs _ _).mono (fun r h c => ?_) (Cert.Dh2RefIdeal.Value.run m' g')⟩
  have h0 := (h c).1.trans (Cert.Dh2RefIdeal.Dense.res_dx m' c)
  have h1 := (h c).2.1.trans (Cert.Dh2RefIdeal.Dense.res_dxb m' c)
  have h2 := (h c).2.2.1
  rw [(ha c).1, (ha c).2.1, (ha c).2.2.1, (ha c).2.2.2.1, (ha c).2.2.2.2] at h0 h1
  rw [(ha c).1, (ha c).2.2.1, (ha c).2.2.2.1] at h2
  exact ⟨h0, h1, h2.trans (Cert.Dh2RefIdeal.Dense.dg_eq _ _ _), (h c).2.2.2⟩

theorem algebraic_Dh3 : Cert.algebraic_Dh3Ideal_Dh3RefIdeal := by
  intro m g m' g' _ ha
  refine ⟨fun c => Cert.Dh3Ideal.Dense.dx (m (c, Proc.devRef .tc Cert.Dh3Ideal.main_arg0)) (m (c, Proc.devRef .tc Cert.Dh3Ideal.main_arg1)) (m (c, Proc.devRef .tc Cert.Dh3Ideal.main_arg2)) (m (c, Proc.devRef .tc Cert.Dh3Ideal.main_arg3)) (m (c, Proc.devRef .tc Cert.Dh3Ideal.main_arg4)),
    fun c => Cert.Dh3Ideal.Dense.dxb (m (c, Proc.devRef .tc Cert.Dh3Ideal.main_arg0)) (m (c, Proc.devRef .tc Cert.Dh3Ideal.main_arg1)) (m (c, Proc.devRef .tc Cert.Dh3Ideal.main_arg2)) (m (c, Proc.devRef .tc Cert.Dh3Ideal.main_arg3)) (m (c, Proc.devRef .tc Cert.Dh3Ideal.main_arg4)),
    fun c => Cert.Dh3Ideal.Dense.dg (m (c, Proc.devRef .tc Cert.Dh3Ideal.main_arg0)) (m (c, Proc.devRef .tc Cert.Dh3Ideal.main_arg2)) (m (c, Proc.devRef .tc Cert.Dh3Ideal.main_arg3)),
    (θ_run Cert.Dh3Ideal.defs _ _).mono (fun r h c => ⟨(h c).1.trans (Cert.Dh3Ideal.Dense.arr_dx m c), (h c).2.1.trans (Cert.Dh3Ideal.Dense.arr_dxb m c), (h c).2.2.1.trans (Cert.Dh3Ideal.Dense.arr_dg m c), (h c).2.2.2⟩) (Cert.Dh3Ideal.Value.run_blocks m g),
    (θ_run Cert.Dh3RefIdeal.defs _ _).mono (fun r h c => ?_) (Cert.Dh3RefIdeal.Value.run m' g')⟩
  have h0 := (h c).1.trans (Cert.Dh3RefIdeal.Dense.res_dx m' c)
  have h1 := (h c).2.1.trans (Cert.Dh3RefIdeal.Dense.res_dxb m' c)
  have h2 := (h c).2.2.1
  rw [(ha c).1, (ha c).2.1, (ha c).2.2.1, (ha c).2.2.2.1, (ha c).2.2.2.2] at h0 h1
  rw [(ha c).1, (ha c).2.2.1, (ha c).2.2.2.1] at h2
  exact ⟨h0, h1, h2.trans (Cert.Dh3RefIdeal.Dense.dg_eq _ _ _), (h c).2.2.2⟩

theorem algebraic_Dh : Cert.algebraic_DhIdeal_DhRefIdeal := by
  intro m g m' g' _ ha
  refine ⟨fun c => Cert.DhIdeal.Dense.dx (m (c, Proc.devRef .tc Cert.DhIdeal.main_arg0)) (m (c, Proc.devRef .tc Cert.DhIdeal.main_arg1)) (m (c, Proc.devRef .tc Cert.DhIdeal.main_arg2)) (m (c, Proc.devRef .tc Cert.DhIdeal.main_arg3)) (m (c, Proc.devRef .tc Cert.DhIdeal.main_arg4)),
    fun c => Cert.DhIdeal.Dense.dxb (m (c, Proc.devRef .tc Cert.DhIdeal.main_arg0)) (m (c, Proc.devRef .tc Cert.DhIdeal.main_arg1)) (m (c, Proc.devRef .tc Cert.DhIdeal.main_arg2)) (m (c, Proc.devRef .tc Cert.DhIdeal.main_arg3)) (m (c, Proc.devRef .tc Cert.DhIdeal.main_arg4)),
    fun c => Cert.DhIdeal.Dense.dg (m (c, Proc.devRef .tc Cert.DhIdeal.main_arg0)) (m (c, Proc.devRef .tc Cert.DhIdeal.main_arg2)) (m (c, Proc.devRef .tc Cert.DhIdeal.main_arg3)),
    (θ_run Cert.DhIdeal.defs _ _).mono (fun r h c => ⟨(h c).1.trans (Cert.DhIdeal.Dense.arr_dx m c), (h c).2.1.trans (Cert.DhIdeal.Dense.arr_dxb m c), (h c).2.2.1.trans (Cert.DhIdeal.Dense.arr_dg m c), (h c).2.2.2⟩) (Cert.DhIdeal.Value.run_blocks m g),
    (θ_run Cert.DhRefIdeal.defs _ _).mono (fun r h c => ?_) (Cert.DhRefIdeal.Value.run m' g')⟩
  have h0 := (h c).1.trans (Cert.DhRefIdeal.Dense.res_dx m' c)
  have h1 := (h c).2.1.trans (Cert.DhRefIdeal.Dense.res_dxb m' c)
  have h2 := (h c).2.2.1
  rw [(ha c).1, (ha c).2.1, (ha c).2.2.1, (ha c).2.2.2.1, (ha c).2.2.2.2] at h0 h1
  rw [(ha c).1, (ha c).2.2.1, (ha c).2.2.2.1] at h2
  exact ⟨h0, h1, h2.trans (Cert.DhRefIdeal.Dense.dg_eq _ _ _), (h c).2.2.2⟩

/-! The products of the layer's own input. -/

theorem frame_Ple : Cert.quiescent_Ple := fun m ρ _ => Cert.Ple.Gen.frame m ρ
theorem frame_PleIdeal : Cert.quiescent_PleIdeal := fun m ρ _ => Cert.PleIdeal.Gen.frame m ρ
theorem frame_PleRefIdeal : Cert.quiescent_PleRefIdeal := fun m ρ _ =>
  (θ_run Cert.PleRefIdeal.defs _ _).mono (fun r h => ⟨fun c => ⟨(h c).2.1, (h c).2.2⟩, sem_eq_zero_of_no_sems (by decide) r.2⟩) (Cert.PleRefIdeal.Value.run m ρ)

theorem frame_DwPle : Cert.quiescent_DwPle := fun m ρ _ => Cert.DwPle.Gen.frame m ρ
theorem frame_DwPleIdeal : Cert.quiescent_DwPleIdeal := fun m ρ _ => Cert.DwPleIdeal.Gen.frame m ρ
theorem frame_DwPleRefIdeal : Cert.quiescent_DwPleRefIdeal := fun m ρ _ =>
  (θ_run Cert.DwPleRefIdeal.defs _ _).mono (fun r h => ⟨fun c => ⟨(h c).2.1, (h c).2.2.1, (h c).2.2.2⟩, sem_eq_zero_of_no_sems (by decide) r.2⟩) (Cert.DwPleRefIdeal.Value.run m ρ)

theorem algebraic_Ple : Cert.algebraic_PleIdeal_PleRefIdeal := by
  intro m g m' g' _ ha
  refine ⟨fun c => Cert.PleIdeal.Dense.out (m (c, Proc.devRef .tc Cert.PleIdeal.main_arg0)) (m (c, Proc.devRef .tc Cert.PleIdeal.main_arg1)),
    (θ_run Cert.PleIdeal.defs _ _).mono (fun r h c => ⟨(h c).1.trans (Cert.PleIdeal.Dense.arr m c), (h c).2⟩) (Cert.PleIdeal.Value.run_blocks m g),
    (θ_run Cert.PleRefIdeal.defs _ _).mono (fun r h c => ?_) (Cert.PleRefIdeal.Value.run m' g')⟩
  have h0 := (h c).1
  rw [(ha c).1, (ha c).2] at h0
  exact ⟨h0.trans (Cert.PleRefIdeal.Dense.ref_eq _ _), (h c).2⟩

theorem algebraic_DwPle : Cert.algebraic_DwPleIdeal_DwPleRefIdeal := by
  intro m g m' g' _ ha
  refine ⟨fun c => Cert.DwPleIdeal.Dense.out (m (c, Proc.devRef .tc Cert.DwPleIdeal.main_arg0)) (m (c, Proc.devRef .tc Cert.DwPleIdeal.main_arg2)),
    (θ_run Cert.DwPleIdeal.defs _ _).mono (fun r h c => ⟨(h c).1.trans (Cert.DwPleIdeal.Dense.arr m c), (h c).2⟩) (Cert.DwPleIdeal.Value.run_blocks m g),
    (θ_run Cert.DwPleRefIdeal.defs _ _).mono (fun r h c => ?_) (Cert.DwPleRefIdeal.Value.run m' g')⟩
  have h0 := (h c).1
  rw [(ha c).1, (ha c).2.2] at h0
  exact ⟨h0.trans (Cert.DwPleRefIdeal.Dense.ref_eq _ _), (h c).2⟩

theorem claim : Cert.Claim := ⟨Cert.Kernel.Gen.facts, Cert.KernelIdeal.Gen.facts, Cert.ReferenceIdeal.Gen.facts,
  Cert.Up.Gen.facts, Cert.UpIdeal.Gen.facts, Cert.UpRefIdeal.Gen.facts,
  Cert.Da.Gen.facts, Cert.DaIdeal.Gen.facts, Cert.DaRefIdeal.Gen.facts,
  Cert.DwDown.Gen.facts, Cert.DwDownIdeal.Gen.facts, Cert.DwDownRefIdeal.Gen.facts,
  Cert.DwUp.Gen.facts, Cert.DwUpIdeal.Gen.facts, Cert.DwUpRefIdeal.Gen.facts,
  Cert.Down.Gen.facts, Cert.DownIdeal.Gen.facts, Cert.DownRefIdeal.Gen.facts,
  Cert.O.Gen.facts, Cert.OIdeal.Gen.facts, Cert.ORefIdeal.Gen.facts,
  Cert.Dmixed.Gen.facts, Cert.DmixedIdeal.Gen.facts, Cert.DmixedRefIdeal.Gen.facts,
  Cert.DwO.Gen.facts, Cert.DwOIdeal.Gen.facts, Cert.DwORefIdeal.Gen.facts,
  Cert.In.Gen.facts, Cert.InIdeal.Gen.facts, Cert.InRefIdeal.Gen.facts,
  Cert.DwIn.Gen.facts, Cert.DwInIdeal.Gen.facts, Cert.DwInRefIdeal.Gen.facts,
  Cert.Uq.Gen.facts, Cert.UqIdeal.Gen.facts, Cert.UqRefIdeal.Gen.facts,
  Cert.Dqln.Gen.facts, Cert.DqlnIdeal.Gen.facts, Cert.DqlnRefIdeal.Gen.facts,
  Cert.DwUq.Gen.facts, Cert.DwUqIdeal.Gen.facts, Cert.DwUqRefIdeal.Gen.facts,
  Cert.Ukv.Gen.facts, Cert.UkvIdeal.Gen.facts, Cert.UkvRefIdeal.Gen.facts,
  Cert.Dkvln.Gen.facts, Cert.DkvlnIdeal.Gen.facts, Cert.DkvlnRefIdeal.Gen.facts,
  Cert.DwUkv.Gen.facts, Cert.DwUkvIdeal.Gen.facts, Cert.DwUkvRefIdeal.Gen.facts,
  Cert.Gate.Gen.facts, Cert.GateIdeal.Gen.facts, Cert.GateRefIdeal.Gen.facts,
  Cert.DwGate.Gen.facts, Cert.DwGateIdeal.Gen.facts, Cert.DwGateRefIdeal.Gen.facts,
  Cert.Dh2.Gen.facts, Cert.Dh2Ideal.Gen.facts, Cert.Dh2RefIdeal.Gen.facts,
  Cert.Dh3.Gen.facts, Cert.Dh3Ideal.Gen.facts, Cert.Dh3RefIdeal.Gen.facts,
  Cert.Dh.Gen.facts, Cert.DhIdeal.Gen.facts, Cert.DhRefIdeal.Gen.facts,
  Cert.Ple.Gen.facts, Cert.PleIdeal.Gen.facts, Cert.PleRefIdeal.Gen.facts,
  Cert.DwPle.Gen.facts, Cert.DwPleIdeal.Gen.facts, Cert.DwPleRefIdeal.Gen.facts, preFacts,
  frame_kernel, frame_kernelIdeal, fun m ρ _ => frame_kernelIdeal m ρ trivial, frame_referenceIdeal, fun m ρ _ => frame_referenceIdeal m ρ trivial,
  frame_Up, frame_UpIdeal, frame_UpRefIdeal,
  frame_Da, frame_DaIdeal, frame_DaRefIdeal,
  frame_DwDown, frame_DwDownIdeal, frame_DwDownRefIdeal,
  frame_DwUp, frame_DwUpIdeal, frame_DwUpRefIdeal,
  frame_Down, frame_DownIdeal, frame_DownRefIdeal,
  frame_O, frame_OIdeal, frame_ORefIdeal,
  frame_Dmixed, frame_DmixedIdeal, frame_DmixedRefIdeal,
  frame_DwO, frame_DwOIdeal, frame_DwORefIdeal,
  frame_In, frame_InIdeal, frame_InRefIdeal,
  frame_DwIn, frame_DwInIdeal, frame_DwInRefIdeal,
  frame_Uq, frame_UqIdeal, frame_UqRefIdeal,
  frame_Dqln, frame_DqlnIdeal, frame_DqlnRefIdeal,
  frame_DwUq, frame_DwUqIdeal, frame_DwUqRefIdeal,
  frame_Ukv, frame_UkvIdeal, frame_UkvRefIdeal,
  frame_Dkvln, frame_DkvlnIdeal, frame_DkvlnRefIdeal,
  frame_DwUkv, frame_DwUkvIdeal, frame_DwUkvRefIdeal,
  frame_Gate, frame_GateIdeal, frame_GateRefIdeal,
  frame_DwGate, frame_DwGateIdeal, frame_DwGateRefIdeal,
  frame_Dh2, frame_Dh2Ideal, frame_Dh2RefIdeal,
  frame_Dh3, frame_Dh3Ideal, frame_Dh3RefIdeal,
  frame_Dh, frame_DhIdeal, frame_DhRefIdeal,
  frame_Ple, frame_PleIdeal, frame_PleRefIdeal,
  frame_DwPle, frame_DwPleIdeal, frame_DwPleRefIdeal,
  preserves_kernel, algebraic, trivial, algebraic_Up, trivial, algebraic_Da, trivial, algebraic_DwDown, trivial, algebraic_DwUp,
  trivial, algebraic_Down, trivial, algebraic_O, trivial, algebraic_Dmixed, trivial, algebraic_DwO,
  trivial, algebraic_In, trivial, algebraic_DwIn, trivial, algebraic_Uq, trivial, algebraic_Dqln,
  trivial, algebraic_DwUq, trivial, algebraic_Ukv, trivial, algebraic_Dkvln, trivial, algebraic_DwUkv,
  trivial, algebraic_Gate, trivial, algebraic_DwGate,
  trivial, algebraic_Dh2, trivial, algebraic_Dh3, trivial, algebraic_Dh,
  trivial, algebraic_Ple, trivial, algebraic_DwPle⟩

end Cert.Proof

end
